-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_laid_out [hPre_laid_out : Cert.Pre_laid_out.Facts] (m : (ℓ : Loc Cert.KernelIdeal.nD Cert.KernelIdeal.τ Cert.KernelIdeal.sig) → Buf (Elt Ideal) ℓ) : Prop :=
  ∀ c : Dev Cert.KernelIdeal.nD,
    (Cert.Pre_laid_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_laid_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_laid_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_laid_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_laid_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.1 = (fun _ => 1#1)
    ∧ (Cert.Pre_laid_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.1 = (fun _ => 1#1)
    ∧ (Cert.Pre_laid_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.1 = (fun _ => 1#1)
    ∧ (Cert.Pre_laid_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_laid_out [hPre_laid_out : Cert.Pre_laid_out.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_laid_out.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_laid_out.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_laid_out.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_laid_out.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_laid_out.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.1 = (fun _ => 1#1)
    ∧ (Cert.Pre_laid_out.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.1 = (fun _ => 1#1)
    ∧ (Cert.Pre_laid_out.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.1 = (fun _ => 1#1)
    ∧ (Cert.Pre_laid_out.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_KvPrep (m : (ℓ : Loc Cert.KvPrep.nD Cert.KvPrep.τ Cert.KvPrep.sig) → Buf (Elt Bits) ℓ) : Prop :=
  True

def Pre_KvPrepIdeal (m : (ℓ : Loc Cert.KvPrepIdeal.nD Cert.KvPrepIdeal.τ Cert.KvPrepIdeal.sig) → Buf (Elt Ideal) ℓ) : Prop :=
  True

def Pre_KvPrepIdeal_finite_keys [hPre_finite_keys : Cert.Pre_finite_keys.Facts] (m : (ℓ : Loc Cert.KvPrepIdeal.nD Cert.KvPrepIdeal.τ Cert.KvPrepIdeal.sig) → Buf (Elt Ideal) ℓ) : Prop :=
  ∀ c : Dev Cert.KvPrepIdeal.nD,
    (Cert.Pre_finite_keys.fn (F := Ideal) (m ((c.tc : Thread Cert.KvPrepIdeal.nD Cert.KvPrepIdeal.τ).loc Cert.KvPrepIdeal.main_arg0)) (m ((c.tc : Thread Cert.KvPrepIdeal.nD Cert.KvPrepIdeal.τ).loc Cert.KvPrepIdeal.main_arg1)) (m ((c.tc : Thread Cert.KvPrepIdeal.nD Cert.KvPrepIdeal.τ).loc Cert.KvPrepIdeal.main_arg2)) (m ((c.tc : Thread Cert.KvPrepIdeal.nD Cert.KvPrepIdeal.τ).loc Cert.KvPrepIdeal.main_arg3))) = (fun _ => 1#1)

def Pre_KvReferenceIdeal (m : (ℓ : Loc Cert.KvReferenceIdeal.nD Cert.KvReferenceIdeal.τ Cert.KvReferenceIdeal.sig) → Buf (Elt Ideal) ℓ) : Prop :=
  True

def Pre_KvReferenceIdeal_finite_keys [hPre_finite_keys : Cert.Pre_finite_keys.Facts] (m : (ℓ : Loc Cert.KvReferenceIdeal.nD Cert.KvReferenceIdeal.τ Cert.KvReferenceIdeal.sig) → Buf (Elt Ideal) ℓ) : Prop :=
  ∀ c : Dev Cert.KvReferenceIdeal.nD,
    (Cert.Pre_finite_keys.fn (F := Ideal) (m ((c.tc : Thread Cert.KvReferenceIdeal.nD Cert.KvReferenceIdeal.τ).loc Cert.KvReferenceIdeal.main_arg0)) (m ((c.tc : Thread Cert.KvReferenceIdeal.nD Cert.KvReferenceIdeal.τ).loc Cert.KvReferenceIdeal.main_arg1)) (m ((c.tc : Thread Cert.KvReferenceIdeal.nD Cert.KvReferenceIdeal.τ).loc Cert.KvReferenceIdeal.main_arg2)) (m ((c.tc : Thread Cert.KvReferenceIdeal.nD Cert.KvReferenceIdeal.τ).loc Cert.KvReferenceIdeal.main_arg3))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_finite_scans [hPre_finite_scans : Cert.Pre_finite_scans.Facts] (m : (ℓ : Loc Cert.PostIdeal.nD Cert.PostIdeal.τ Cert.PostIdeal.sig) → Buf (Elt Ideal) ℓ) : Prop :=
  ∀ c : Dev Cert.PostIdeal.nD,
    (Cert.Pre_finite_scans.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11))).1 = (fun _ => 1#1)
    ∧ (Cert.Pre_finite_scans.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11))).2 = (fun _ => 1#1)

def Pre_PostReferenceIdeal (m : (ℓ : Loc Cert.PostReferenceIdeal.nD Cert.PostReferenceIdeal.τ Cert.PostReferenceIdeal.sig) → Buf (Elt Ideal) ℓ) : Prop :=
  True

def Pre_PostReferenceIdeal_finite_scans [hPre_finite_scans : Cert.Pre_finite_scans.Facts] (m : (ℓ : Loc Cert.PostReferenceIdeal.nD Cert.PostReferenceIdeal.τ Cert.PostReferenceIdeal.sig) → Buf (Elt Ideal) ℓ) : Prop :=
  ∀ c : Dev Cert.PostReferenceIdeal.nD,
    (Cert.Pre_finite_scans.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4)) (m ((c.tc : Thread Cert.PostReferenceIdeal.nD Cert.PostReferenceIdeal.τ).loc Cert.PostReferenceIdeal.main_arg5)) (m ((c.tc : Thread Cert.PostReferenceIdeal.nD Cert.PostReferenceIdeal.τ).loc Cert.PostReferenceIdeal.main_arg6)) (m ((c.tc : Thread Cert.PostReferenceIdeal.nD Cert.PostReferenceIdeal.τ).loc Cert.PostReferenceIdeal.main_arg7)) (m ((c.tc : Thread Cert.PostReferenceIdeal.nD Cert.PostReferenceIdeal.τ).loc Cert.PostReferenceIdeal.main_arg8)) (m ((c.tc : Thread Cert.PostReferenceIdeal.nD Cert.PostReferenceIdeal.τ).loc Cert.PostReferenceIdeal.main_arg9)) (m ((c.tc : Thread Cert.PostReferenceIdeal.nD Cert.PostReferenceIdeal.τ).loc Cert.PostReferenceIdeal.main_arg10)) (m ((c.tc : Thread Cert.PostReferenceIdeal.nD Cert.PostReferenceIdeal.τ).loc Cert.PostReferenceIdeal.main_arg11))).1 = (fun _ => 1#1)
    ∧ (Cert.Pre_finite_scans.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4)) (m ((c.tc : Thread Cert.PostReferenceIdeal.nD Cert.PostReferenceIdeal.τ).loc Cert.PostReferenceIdeal.main_arg5)) (m ((c.tc : Thread Cert.PostReferenceIdeal.nD Cert.PostReferenceIdeal.τ).loc Cert.PostReferenceIdeal.main_arg6)) (m ((c.tc : Thread Cert.PostReferenceIdeal.nD Cert.PostReferenceIdeal.τ).loc Cert.PostReferenceIdeal.main_arg7)) (m ((c.tc : Thread Cert.PostReferenceIdeal.nD Cert.PostReferenceIdeal.τ).loc Cert.PostReferenceIdeal.main_arg8)) (m ((c.tc : Thread Cert.PostReferenceIdeal.nD Cert.PostReferenceIdeal.τ).loc Cert.PostReferenceIdeal.main_arg9)) (m ((c.tc : Thread Cert.PostReferenceIdeal.nD Cert.PostReferenceIdeal.τ).loc Cert.PostReferenceIdeal.main_arg10)) (m ((c.tc : Thread Cert.PostReferenceIdeal.nD Cert.PostReferenceIdeal.τ).loc Cert.PostReferenceIdeal.main_arg11))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_laid_out [hKernelIdeal : Cert.KernelIdeal.Facts] [hPre_laid_out : Cert.Pre_laid_out.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_laid_out m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_laid_out [hReferenceIdeal : Cert.ReferenceIdeal.Facts] [hPre_laid_out : Cert.Pre_laid_out.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_laid_out m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def quiescent_KvPrep [hKvPrep : Cert.KvPrep.Facts] : Prop :=
  ∀ (m : (ℓ : Loc Cert.KvPrep.nD Cert.KvPrep.τ Cert.KvPrep.sig) → Buf (Elt Bits) ℓ) (g : Dev Cert.KvPrep.nD → PrngReg), Pre_KvPrep m →
    θ_run (Cert.KvPrep.defs (F := Bits)) (onTc (τ := Cert.KvPrep.τ) (Cert.KvPrep.main (F := Bits))) ⟨m, fun _ => 0, g⟩ (fun r => (∀ c : Dev Cert.KvPrep.nD,
      r.2.mem ((c.tc : Thread Cert.KvPrep.nD Cert.KvPrep.τ).loc Cert.KvPrep.main_arg0) = m ((c.tc : Thread Cert.KvPrep.nD Cert.KvPrep.τ).loc Cert.KvPrep.main_arg0)
      ∧ r.2.mem ((c.tc : Thread Cert.KvPrep.nD Cert.KvPrep.τ).loc Cert.KvPrep.main_arg1) = m ((c.tc : Thread Cert.KvPrep.nD Cert.KvPrep.τ).loc Cert.KvPrep.main_arg1)
      ∧ r.2.mem ((c.tc : Thread Cert.KvPrep.nD Cert.KvPrep.τ).loc Cert.KvPrep.main_arg2) = m ((c.tc : Thread Cert.KvPrep.nD Cert.KvPrep.τ).loc Cert.KvPrep.main_arg2)
      ∧ r.2.mem ((c.tc : Thread Cert.KvPrep.nD Cert.KvPrep.τ).loc Cert.KvPrep.main_arg3) = m ((c.tc : Thread Cert.KvPrep.nD Cert.KvPrep.τ).loc Cert.KvPrep.main_arg3))
      ∧ r.2.sem = fun _ => 0)

def quiescent_KvPrepIdeal [hKvPrepIdeal : Cert.KvPrepIdeal.Facts] : Prop :=
  ∀ (m : (ℓ : Loc Cert.KvPrepIdeal.nD Cert.KvPrepIdeal.τ Cert.KvPrepIdeal.sig) → Buf (Elt Ideal) ℓ) (g : Dev Cert.KvPrepIdeal.nD → PrngReg), Pre_KvPrepIdeal m →
    θ_run (Cert.KvPrepIdeal.defs (F := Ideal)) (onTc (τ := Cert.KvPrepIdeal.τ) (Cert.KvPrepIdeal.main (F := Ideal))) ⟨m, fun _ => 0, g⟩ (fun r => (∀ c : Dev Cert.KvPrepIdeal.nD,
      r.2.mem ((c.tc : Thread Cert.KvPrepIdeal.nD Cert.KvPrepIdeal.τ).loc Cert.KvPrepIdeal.main_arg0) = m ((c.tc : Thread Cert.KvPrepIdeal.nD Cert.KvPrepIdeal.τ).loc Cert.KvPrepIdeal.main_arg0)
      ∧ r.2.mem ((c.tc : Thread Cert.KvPrepIdeal.nD Cert.KvPrepIdeal.τ).loc Cert.KvPrepIdeal.main_arg1) = m ((c.tc : Thread Cert.KvPrepIdeal.nD Cert.KvPrepIdeal.τ).loc Cert.KvPrepIdeal.main_arg1)
      ∧ r.2.mem ((c.tc : Thread Cert.KvPrepIdeal.nD Cert.KvPrepIdeal.τ).loc Cert.KvPrepIdeal.main_arg2) = m ((c.tc : Thread Cert.KvPrepIdeal.nD Cert.KvPrepIdeal.τ).loc Cert.KvPrepIdeal.main_arg2)
      ∧ r.2.mem ((c.tc : Thread Cert.KvPrepIdeal.nD Cert.KvPrepIdeal.τ).loc Cert.KvPrepIdeal.main_arg3) = m ((c.tc : Thread Cert.KvPrepIdeal.nD Cert.KvPrepIdeal.τ).loc Cert.KvPrepIdeal.main_arg3))
      ∧ r.2.sem = fun _ => 0)

def quiescent_KvPrepIdeal_pre_finite_keys [hKvPrepIdeal : Cert.KvPrepIdeal.Facts] [hPre_finite_keys : Cert.Pre_finite_keys.Facts] : Prop :=
  ∀ (m : (ℓ : Loc Cert.KvPrepIdeal.nD Cert.KvPrepIdeal.τ Cert.KvPrepIdeal.sig) → Buf (Elt Ideal) ℓ) (g : Dev Cert.KvPrepIdeal.nD → PrngReg), Pre_KvPrepIdeal_finite_keys m →
    θ_run (Cert.KvPrepIdeal.defs (F := Ideal)) (onTc (τ := Cert.KvPrepIdeal.τ) (Cert.KvPrepIdeal.main (F := Ideal))) ⟨m, fun _ => 0, g⟩ (fun r => (∀ c : Dev Cert.KvPrepIdeal.nD,
      r.2.mem ((c.tc : Thread Cert.KvPrepIdeal.nD Cert.KvPrepIdeal.τ).loc Cert.KvPrepIdeal.main_arg0) = m ((c.tc : Thread Cert.KvPrepIdeal.nD Cert.KvPrepIdeal.τ).loc Cert.KvPrepIdeal.main_arg0)
      ∧ r.2.mem ((c.tc : Thread Cert.KvPrepIdeal.nD Cert.KvPrepIdeal.τ).loc Cert.KvPrepIdeal.main_arg1) = m ((c.tc : Thread Cert.KvPrepIdeal.nD Cert.KvPrepIdeal.τ).loc Cert.KvPrepIdeal.main_arg1)
      ∧ r.2.mem ((c.tc : Thread Cert.KvPrepIdeal.nD Cert.KvPrepIdeal.τ).loc Cert.KvPrepIdeal.main_arg2) = m ((c.tc : Thread Cert.KvPrepIdeal.nD Cert.KvPrepIdeal.τ).loc Cert.KvPrepIdeal.main_arg2)
      ∧ r.2.mem ((c.tc : Thread Cert.KvPrepIdeal.nD Cert.KvPrepIdeal.τ).loc Cert.KvPrepIdeal.main_arg3) = m ((c.tc : Thread Cert.KvPrepIdeal.nD Cert.KvPrepIdeal.τ).loc Cert.KvPrepIdeal.main_arg3))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2)
      ∧ r.2.mem ((c.tc : Thread Cert.KvReferenceIdeal.nD Cert.KvReferenceIdeal.τ).loc Cert.KvReferenceIdeal.main_arg3) = m ((c.tc : Thread Cert.KvReferenceIdeal.nD Cert.KvReferenceIdeal.τ).loc Cert.KvReferenceIdeal.main_arg3))
      ∧ r.2.sem = fun _ => 0)

def quiescent_KvReferenceIdeal_pre_finite_keys [hKvReferenceIdeal : Cert.KvReferenceIdeal.Facts] [hPre_finite_keys : Cert.Pre_finite_keys.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal_finite_keys m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2)
      ∧ r.2.mem ((c.tc : Thread Cert.KvReferenceIdeal.nD Cert.KvReferenceIdeal.τ).loc Cert.KvReferenceIdeal.main_arg3) = m ((c.tc : Thread Cert.KvReferenceIdeal.nD Cert.KvReferenceIdeal.τ).loc Cert.KvReferenceIdeal.main_arg3))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ r.2.sem = fun _ => 0)

def quiescent_PostIdeal_pre_finite_scans [hPostIdeal : Cert.PostIdeal.Facts] [hPre_finite_scans : Cert.Pre_finite_scans.Facts] : Prop :=
  ∀ (m : (ℓ : Loc Cert.PostIdeal.nD Cert.PostIdeal.τ Cert.PostIdeal.sig) → Buf (Elt Ideal) ℓ) (g : Dev Cert.PostIdeal.nD → PrngReg), Pre_PostIdeal_finite_scans m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8)
      ∧ r.2.mem ((c.tc : Thread Cert.PostReferenceIdeal.nD Cert.PostReferenceIdeal.τ).loc Cert.PostReferenceIdeal.main_arg9) = m ((c.tc : Thread Cert.PostReferenceIdeal.nD Cert.PostReferenceIdeal.τ).loc Cert.PostReferenceIdeal.main_arg9)
      ∧ r.2.mem ((c.tc : Thread Cert.PostReferenceIdeal.nD Cert.PostReferenceIdeal.τ).loc Cert.PostReferenceIdeal.main_arg10) = m ((c.tc : Thread Cert.PostReferenceIdeal.nD Cert.PostReferenceIdeal.τ).loc Cert.PostReferenceIdeal.main_arg10)
      ∧ r.2.mem ((c.tc : Thread Cert.PostReferenceIdeal.nD Cert.PostReferenceIdeal.τ).loc Cert.PostReferenceIdeal.main_arg11) = m ((c.tc : Thread Cert.PostReferenceIdeal.nD Cert.PostReferenceIdeal.τ).loc Cert.PostReferenceIdeal.main_arg11))
      ∧ r.2.sem = fun _ => 0)

def quiescent_PostReferenceIdeal_pre_finite_scans [hPostReferenceIdeal : Cert.PostReferenceIdeal.Facts] [hPre_finite_scans : Cert.Pre_finite_scans.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal_finite_scans m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8)
      ∧ r.2.mem ((c.tc : Thread Cert.PostReferenceIdeal.nD Cert.PostReferenceIdeal.τ).loc Cert.PostReferenceIdeal.main_arg9) = m ((c.tc : Thread Cert.PostReferenceIdeal.nD Cert.PostReferenceIdeal.τ).loc Cert.PostReferenceIdeal.main_arg9)
      ∧ r.2.mem ((c.tc : Thread Cert.PostReferenceIdeal.nD Cert.PostReferenceIdeal.τ).loc Cert.PostReferenceIdeal.main_arg10) = m ((c.tc : Thread Cert.PostReferenceIdeal.nD Cert.PostReferenceIdeal.τ).loc Cert.PostReferenceIdeal.main_arg10)
      ∧ r.2.mem ((c.tc : Thread Cert.PostReferenceIdeal.nD Cert.PostReferenceIdeal.τ).loc Cert.PostReferenceIdeal.main_arg11) = m ((c.tc : Thread Cert.PostReferenceIdeal.nD Cert.PostReferenceIdeal.τ).loc Cert.PostReferenceIdeal.main_arg11))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)

def algebraic_KernelIdeal_ReferenceIdeal_pre_laid_out [hKernelIdeal : Cert.KernelIdeal.Facts] [hReferenceIdeal : Cert.ReferenceIdeal.Facts] [hPre_laid_out : Cert.Pre_laid_out.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_laid_out m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v19_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v30) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v17) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def preserves_KvPrep_KvPrepIdeal : Prop :=
  IdealRules.named_const.Statement Cert.KvPrepIdeal.κ "mask" .f32 0xF149F2CA#32 ⊥

def algebraic_KvPrepIdeal_KvReferenceIdeal_pre_finite_keys [hKvPrepIdeal : Cert.KvPrepIdeal.Facts] [hKvReferenceIdeal : Cert.KvReferenceIdeal.Facts] [hPre_finite_keys : Cert.Pre_finite_keys.Facts] : Prop :=
  ∀ (m : (ℓ : Loc Cert.KvPrepIdeal.nD Cert.KvPrepIdeal.τ Cert.KvPrepIdeal.sig) → Buf (Elt Ideal) ℓ) (g : Dev Cert.KvPrepIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvPrepIdeal_finite_keys m →
    (∀ c : Dev Cert.KvPrepIdeal.nD,
      m' ((c.tc : Thread Cert.KvReferenceIdeal.nD Cert.KvReferenceIdeal.τ).loc Cert.KvReferenceIdeal.main_arg0) = m ((c.tc : Thread Cert.KvPrepIdeal.nD Cert.KvPrepIdeal.τ).loc Cert.KvPrepIdeal.main_arg0)
      ∧ m' ((c.tc : Thread Cert.KvReferenceIdeal.nD Cert.KvReferenceIdeal.τ).loc Cert.KvReferenceIdeal.main_arg1) = m ((c.tc : Thread Cert.KvPrepIdeal.nD Cert.KvPrepIdeal.τ).loc Cert.KvPrepIdeal.main_arg1)
      ∧ m' ((c.tc : Thread Cert.KvReferenceIdeal.nD Cert.KvReferenceIdeal.τ).loc Cert.KvReferenceIdeal.main_arg2) = m ((c.tc : Thread Cert.KvPrepIdeal.nD Cert.KvPrepIdeal.τ).loc Cert.KvPrepIdeal.main_arg2)
      ∧ m' ((c.tc : Thread Cert.KvReferenceIdeal.nD Cert.KvReferenceIdeal.τ).loc Cert.KvReferenceIdeal.main_arg3) = m ((c.tc : Thread Cert.KvPrepIdeal.nD Cert.KvPrepIdeal.τ).loc Cert.KvPrepIdeal.main_arg3)) →
    ∃ (v0 : (c : Dev Cert.KvPrepIdeal.nD) → Buf (Elt Ideal) ((c.tc : Thread Cert.KvPrepIdeal.nD Cert.KvPrepIdeal.τ).loc Cert.KvPrepIdeal.main_v19_0)) (v1 : (c : Dev Cert.KvPrepIdeal.nD) → Buf (Elt Ideal) ((c.tc : Thread Cert.KvPrepIdeal.nD Cert.KvPrepIdeal.τ).loc Cert.KvPrepIdeal.main_v19_1)),
      θ_run (Cert.KvPrepIdeal.defs (F := Ideal)) (onTc (τ := Cert.KvPrepIdeal.τ) (Cert.KvPrepIdeal.main (F := Ideal))) ⟨m, fun _ => 0, g⟩ (fun r => ∀ c : Dev Cert.KvPrepIdeal.nD,
          r.2.mem ((c.tc : Thread Cert.KvPrepIdeal.nD Cert.KvPrepIdeal.τ).loc Cert.KvPrepIdeal.main_v19_0) = v0 c
          ∧ r.2.mem ((c.tc : Thread Cert.KvPrepIdeal.nD Cert.KvPrepIdeal.τ).loc Cert.KvPrepIdeal.main_v19_1) = v1 c
          ∧ r.2.mem ((c.tc : Thread Cert.KvPrepIdeal.nD Cert.KvPrepIdeal.τ).loc Cert.KvPrepIdeal.main_arg0) = m ((c.tc : Thread Cert.KvPrepIdeal.nD Cert.KvPrepIdeal.τ).loc Cert.KvPrepIdeal.main_arg0)
          ∧ r.2.mem ((c.tc : Thread Cert.KvPrepIdeal.nD Cert.KvPrepIdeal.τ).loc Cert.KvPrepIdeal.main_arg1) = m ((c.tc : Thread Cert.KvPrepIdeal.nD Cert.KvPrepIdeal.τ).loc Cert.KvPrepIdeal.main_arg1)
          ∧ r.2.mem ((c.tc : Thread Cert.KvPrepIdeal.nD Cert.KvPrepIdeal.τ).loc Cert.KvPrepIdeal.main_arg2) = m ((c.tc : Thread Cert.KvPrepIdeal.nD Cert.KvPrepIdeal.τ).loc Cert.KvPrepIdeal.main_arg2)
          ∧ r.2.mem ((c.tc : Thread Cert.KvPrepIdeal.nD Cert.KvPrepIdeal.τ).loc Cert.KvPrepIdeal.main_arg3) = m ((c.tc : Thread Cert.KvPrepIdeal.nD Cert.KvPrepIdeal.τ).loc Cert.KvPrepIdeal.main_arg3))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v51) = v0 c
          ∧ r.2.mem ((c.tc : Thread Cert.KvReferenceIdeal.nD Cert.KvReferenceIdeal.τ).loc Cert.KvReferenceIdeal.main_v52) = v1 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1)
          ∧ r.2.mem ((c.tc : Thread Cert.KvReferenceIdeal.nD Cert.KvReferenceIdeal.τ).loc Cert.KvReferenceIdeal.main_arg2) = m' ((c.tc : Thread Cert.KvReferenceIdeal.nD Cert.KvReferenceIdeal.τ).loc Cert.KvReferenceIdeal.main_arg2)
          ∧ r.2.mem ((c.tc : Thread Cert.KvReferenceIdeal.nD Cert.KvReferenceIdeal.τ).loc Cert.KvReferenceIdeal.main_arg3) = m' ((c.tc : Thread Cert.KvReferenceIdeal.nD Cert.KvReferenceIdeal.τ).loc Cert.KvReferenceIdeal.main_arg3))

def preserves_Post_PostIdeal : Prop :=
  True

def algebraic_PostIdeal_PostReferenceIdeal_pre_finite_scans [hPostIdeal : Cert.PostIdeal.Facts] [hPostReferenceIdeal : Cert.PostReferenceIdeal.Facts] [hPre_finite_scans : Cert.Pre_finite_scans.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal_finite_scans m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)
      ∧ m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7)
      ∧ m' ((c.tc : Thread Cert.PostReferenceIdeal.nD Cert.PostReferenceIdeal.τ).loc Cert.PostReferenceIdeal.main_arg8) = m ((c.tc : Thread Cert.PostIdeal.nD Cert.PostIdeal.τ).loc Cert.PostIdeal.main_arg8)
      ∧ m' ((c.tc : Thread Cert.PostReferenceIdeal.nD Cert.PostReferenceIdeal.τ).loc Cert.PostReferenceIdeal.main_arg9) = m ((c.tc : Thread Cert.PostIdeal.nD Cert.PostIdeal.τ).loc Cert.PostIdeal.main_arg9)
      ∧ m' ((c.tc : Thread Cert.PostReferenceIdeal.nD Cert.PostReferenceIdeal.τ).loc Cert.PostReferenceIdeal.main_arg10) = m ((c.tc : Thread Cert.PostIdeal.nD Cert.PostIdeal.τ).loc Cert.PostIdeal.main_arg10)
      ∧ m' ((c.tc : Thread Cert.PostReferenceIdeal.nD Cert.PostReferenceIdeal.τ).loc Cert.PostReferenceIdeal.main_arg11) = m ((c.tc : Thread Cert.PostIdeal.nD Cert.PostIdeal.τ).loc Cert.PostIdeal.main_arg11)) →
    ∃ (v0 : (c : Dev Cert.PostIdeal.nD) → Buf (Elt Ideal) ((c.tc : Thread Cert.PostIdeal.nD Cert.PostIdeal.τ).loc Cert.PostIdeal.main_v0)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v60) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8)
          ∧ r.2.mem ((c.tc : Thread Cert.PostReferenceIdeal.nD Cert.PostReferenceIdeal.τ).loc Cert.PostReferenceIdeal.main_arg9) = m' ((c.tc : Thread Cert.PostReferenceIdeal.nD Cert.PostReferenceIdeal.τ).loc Cert.PostReferenceIdeal.main_arg9)
          ∧ r.2.mem ((c.tc : Thread Cert.PostReferenceIdeal.nD Cert.PostReferenceIdeal.τ).loc Cert.PostReferenceIdeal.main_arg10) = m' ((c.tc : Thread Cert.PostReferenceIdeal.nD Cert.PostReferenceIdeal.τ).loc Cert.PostReferenceIdeal.main_arg10)
          ∧ r.2.mem ((c.tc : Thread Cert.PostReferenceIdeal.nD Cert.PostReferenceIdeal.τ).loc Cert.PostReferenceIdeal.main_arg11) = m' ((c.tc : Thread Cert.PostReferenceIdeal.nD Cert.PostReferenceIdeal.τ).loc Cert.PostReferenceIdeal.main_arg11))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hInProj : Cert.InProj.Facts) (hInProjIdeal : Cert.InProjIdeal.Facts) (hInProjReferenceIdeal : Cert.InProjReferenceIdeal.Facts) (hKvPrep : Cert.KvPrep.Facts) (hKvPrepIdeal : Cert.KvPrepIdeal.Facts) (hKvReferenceIdeal : Cert.KvReferenceIdeal.Facts) (hPost : Cert.Post.Facts) (hPostIdeal : Cert.PostIdeal.Facts) (hPostReferenceIdeal : Cert.PostReferenceIdeal.Facts) (hPre_laid_out : Cert.Pre_laid_out.Facts) (hPre_finite_keys : Cert.Pre_finite_keys.Facts) (hPre_finite_scans : Cert.Pre_finite_scans.Facts),
    quiescent_Kernel (hKernel := hKernel)
    ∧ quiescent_KernelIdeal (hKernelIdeal := hKernelIdeal)
    ∧ quiescent_KernelIdeal_pre_laid_out (hKernelIdeal := hKernelIdeal) (hPre_laid_out := hPre_laid_out)
    ∧ quiescent_ReferenceIdeal (hReferenceIdeal := hReferenceIdeal)
    ∧ quiescent_ReferenceIdeal_pre_laid_out (hReferenceIdeal := hReferenceIdeal) (hPre_laid_out := hPre_laid_out)
    ∧ quiescent_Ffn (hFfn := hFfn)
    ∧ quiescent_FfnIdeal (hFfnIdeal := hFfnIdeal)
    ∧ quiescent_FfnReferenceIdeal (hFfnReferenceIdeal := hFfnReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_KvPrep (hKvPrep := hKvPrep)
    ∧ quiescent_KvPrepIdeal (hKvPrepIdeal := hKvPrepIdeal)
    ∧ quiescent_KvPrepIdeal_pre_finite_keys (hKvPrepIdeal := hKvPrepIdeal) (hPre_finite_keys := hPre_finite_keys)
    ∧ quiescent_KvReferenceIdeal (hKvReferenceIdeal := hKvReferenceIdeal)
    ∧ quiescent_KvReferenceIdeal_pre_finite_keys (hKvReferenceIdeal := hKvReferenceIdeal) (hPre_finite_keys := hPre_finite_keys)
    ∧ quiescent_Post (hPost := hPost)
    ∧ quiescent_PostIdeal (hPostIdeal := hPostIdeal)
    ∧ quiescent_PostIdeal_pre_finite_scans (hPostIdeal := hPostIdeal) (hPre_finite_scans := hPre_finite_scans)
    ∧ quiescent_PostReferenceIdeal (hPostReferenceIdeal := hPostReferenceIdeal)
    ∧ quiescent_PostReferenceIdeal_pre_finite_scans (hPostReferenceIdeal := hPostReferenceIdeal) (hPre_finite_scans := hPre_finite_scans)
    ∧ preserves_Kernel_KernelIdeal
    ∧ algebraic_KernelIdeal_ReferenceIdeal_pre_laid_out (hKernelIdeal := hKernelIdeal) (hReferenceIdeal := hReferenceIdeal) (hPre_laid_out := hPre_laid_out)
    ∧ preserves_Ffn_FfnIdeal
    ∧ algebraic_FfnIdeal_FfnReferenceIdeal (hFfnIdeal := hFfnIdeal) (hFfnReferenceIdeal := hFfnReferenceIdeal)
    ∧ preserves_InProj_InProjIdeal
    ∧ algebraic_InProjIdeal_InProjReferenceIdeal (hInProjIdeal := hInProjIdeal) (hInProjReferenceIdeal := hInProjReferenceIdeal)
    ∧ preserves_KvPrep_KvPrepIdeal
    ∧ algebraic_KvPrepIdeal_KvReferenceIdeal_pre_finite_keys (hKvPrepIdeal := hKvPrepIdeal) (hKvReferenceIdeal := hKvReferenceIdeal) (hPre_finite_keys := hPre_finite_keys)
    ∧ preserves_Post_PostIdeal
    ∧ algebraic_PostIdeal_PostReferenceIdeal_pre_finite_scans (hPostIdeal := hPostIdeal) (hPostReferenceIdeal := hPostReferenceIdeal) (hPre_finite_scans := hPre_finite_scans)
-- ==== Pre_finite_keys.lean ====
abbrev S4x4608x4864 : Shape := ⟨3, ![4, 4608, 4864]⟩
abbrev S4224x2x16 : Shape := ⟨3, ![4224, 2, 16]⟩
abbrev S64 : Shape := ⟨1, ![64]⟩
abbrev S4x4224x128 : Shape := ⟨3, ![4, 4224, 128]⟩
abbrev S_ : Shape := ⟨0, ![]⟩

class Facts : Prop where
  slices_S4x4608x4864_S4x4224x128_0_384_4608 : S4x4608x4864.Slices ![0, 384, 4608] S4x4224x128
  bcast_S_S4x4224x128 : S_.BroadcastsInDim S4x4224x128 (![] : Fin 0 → Fin S4x4224x128.rank)

variable [Facts]

def fn {F : FTy → Type} [FloatOps F] (main_arg0 : FVec F S4x4608x4864 .f32) (main_arg1 : FVec F S4224x2x16 .f32) (main_arg2 : FVec F S4224x2x16 .f32) (main_arg3 : FVec F S64 .f32) : IVec S4x4224x128 1 :=
  let main_v0 : FVec F S4x4224x128 .f32 := (extractStridedSlice S4x4224x128 ![0, 384, 4608] · slices_S4x4608x4864_S4x4224x128_0_384_4608) main_arg0
  let main_v1 : FVec F S4x4224x128 .f32 := Host.absf main_v0
  let main_cst : FVec F S_ .f32 := constant S_ .f32 0x7F800000#32
  let main_v2 : FVec F S4x4224x128 .f32 := broadcastInDim S4x4224x128 ![] bcast_S_S4x4224x128 main_cst
  let main_v3 : IVec S4x4224x128 1 := cmpf .olt main_v1 main_v2
  main_v3
-- ==== Pre_finite_scans.lean ====
abbrev S4x4096x512 : Shape := ⟨3, ![4, 4096, 512]⟩
abbrev S4x4608x4864 : Shape := ⟨3, ![4, 4608, 4864]⟩
abbrev S4x4096x1024 : Shape := ⟨3, ![4, 4096, 1024]⟩
abbrev S1x512 : Shape := ⟨2, ![1, 512]⟩
abbrev S512x1024 : Shape := ⟨2, ![512, 1024]⟩
abbrev S1024x1024 : Shape := ⟨2, ![1024, 1024]⟩
abbrev S_ : Shape := ⟨0, ![]⟩

class Facts : Prop where
  bitsLt_bf16_f32 : FTy.bits .bf16 < FTy.bits .f32
  bcast_S_S4x4096x512 : S_.BroadcastsInDim S4x4096x512 (![] : Fin 0 → Fin S4x4096x512.rank)

variable [Facts]

def fn {F : FTy → Type} [FloatOps F] (main_arg0 : FVec F S4x4096x512 .bf16) (main_arg1 : FVec F S4x4096x512 .bf16) (main_arg2 : FVec F S4x4096x512 .bf16) (main_arg3 : FVec F S4x4096x512 .bf16) (main_arg4 : FVec F S4x4096x512 .bf16) (main_arg5 : FVec F S4x4608x4864 .f32) (main_arg6 : FVec F S4x4096x1024 .f32) (main_arg7 : FVec F S1x512 .f32) (main_arg8 : FVec F S1x512 .f32) (main_arg9 : FVec F S512x1024 .bf16) (main_arg10 : FVec F S512x1024 .bf16) (main_arg11 : FVec F S1024x1024 .bf16) : IVec S4x4096x512 1 × IVec S4x4096x512 1 :=
  let main_v0 : FVec F S4x4096x512 .f32 := (extf .f32 · bitsLt_bf16_f32) main_arg0
  let main_v1 : FVec F S4x4096x512 .f32 := Host.absf main_v0
  let main_cst : FVec F S_ .f32 := constant S_ .f32 0x7F800000#32
  let main_v2 : FVec F S4x4096x512 .f32 := broadcastInDim S4x4096x512 ![] bcast_S_S4x4096x512 main_cst
  let main_v3 : IVec S4x4096x512 1 := cmpf .olt main_v1 main_v2
  let main_v4 : FVec F S4x4096x512 .f32 := (extf .f32 · bitsLt_bf16_f32) main_arg1
  let main_v5 : FVec F S4x4096x512 .f32 := Host.absf main_v4
  let main_cst_0 : FVec F S_ .f32 := constant S_ .f32 0x7F800000#32
  let main_v6 : FVec F S4x4096x512 .f32 := broadcastInDim S4x4096x512 ![] bcast_S_S4x4096x512 main_cst_0
  let main_v7 : IVec S4x4096x512 1 := cmpf .olt main_v5 main_v6
  (main_v3, main_v7)
-- ==== Pre_laid_out.lean ====
abbrev S4x4608x4864 : Shape := ⟨3, ![4, 4608, 4864]⟩
abbrev S2x2048 : Shape := ⟨2, ![2, 2048]⟩
abbrev S1x1024 : Shape := ⟨2, ![1, 1024]⟩
abbrev S128x1024 : Shape := ⟨2, ![128, 1024]⟩
abbrev S256x512 : Shape := ⟨2, ![256, 512]⟩
abbrev S1x512 : Shape := ⟨2, ![1, 512]⟩
abbrev S4096x2x16 : Shape := ⟨3, ![4096, 2, 16]⟩
abbrev S64 : Shape := ⟨1, ![64]⟩
abbrev S4x2x4224x128 : Shape := ⟨4, ![4, 2, 4224, 128]⟩
abbrev S4x2x4224x1 : Shape := ⟨4, ![4, 2, 4224, 1]⟩
abbrev S4x4096x512 : Shape := ⟨3, ![4, 4096, 512]⟩
abbrev S_ : Shape := ⟨0, ![]⟩
abbrev S4x2x4224x64 : Shape := ⟨4, ![4, 2, 4224, 64]⟩
abbrev S4x2x112x1 : Shape := ⟨4, ![4, 2, 112, 1]⟩
abbrev S4x2x4112x1 : Shape := ⟨4, ![4, 2, 4112, 1]⟩

class Facts : Prop where
  slices_S4x2x4224x128_S4x2x4224x1_0_0_0_64 : S4x2x4224x128.Slices ![0, 0, 0, 64] S4x2x4224x1
  bitsLt_bf16_f32 : FTy.bits .bf16 < FTy.bits .f32
  slices_S4x4608x4864_S4x4096x512_0_512_4096 : S4x4608x4864.Slices ![0, 512, 4096] S4x4096x512
  bcast_S_S4x4096x512 : S_.BroadcastsInDim S4x4096x512 (![] : Fin 0 → Fin S4x4096x512.rank)
  bcast_S_S4096x2x16 : S_.BroadcastsInDim S4096x2x16 (![] : Fin 0 → Fin S4096x2x16.rank)
  bcast_S_S64 : S_.BroadcastsInDim S64 (![] : Fin 0 → Fin S64.rank)
  slices_S4x2x4224x128_S4x2x4224x64_0_0_0_0 : S4x2x4224x128.Slices ![0, 0, 0, 0] S4x2x4224x64
  bcast_S_S4x2x4224x64 : S_.BroadcastsInDim S4x2x4224x64 (![] : Fin 0 → Fin S4x2x4224x64.rank)
  slices_S4x2x4224x1_S4x2x112x1_0_0_0_0 : S4x2x4224x1.Slices ![0, 0, 0, 0] S4x2x112x1
  bcast_S_S4x2x112x1 : S_.BroadcastsInDim S4x2x112x1 (![] : Fin 0 → Fin S4x2x112x1.rank)
  slices_S4x2x4224x1_S4x2x4112x1_0_0_112_0 : S4x2x4224x1.Slices ![0, 0, 112, 0] S4x2x4112x1
  bcast_S_S4x2x4112x1 : S_.BroadcastsInDim S4x2x4112x1 (![] : Fin 0 → Fin S4x2x4112x1.rank)
  slices_S4x2x4224x128_S4x2x4112x1_0_0_112_64 : S4x2x4224x128.Slices ![0, 0, 112, 64] S4x2x4112x1

variable [Facts]

def fn_part1 {F : FTy → Type} [FloatOps F] (main_arg14 : FVec F S4x2x4224x128 .bf16) (main_v1 : FVec F S4x2x4224x1 .f32) (main_v5 : IVec S4x4096x512 1) (main_v8 : IVec S4096x2x16 1) (main_v11 : IVec S4096x2x16 1) (main_v14 : IVec S64 1) (main_v17 : FVec F S4x2x4224x64 .f32) (main_v18 : FVec F S4x2x4224x64 .f32) : IVec S4x4096x512 1 × IVec S4096x2x16 1 × IVec S4096x2x16 1 × IVec S64 1 × IVec S4x2x4224x64 1 × IVec S4x2x112x1 1 × IVec S4x2x4112x1 1 × IVec S4x2x4112x1 1 :=
  let main_v19 : IVec S4x2x4224x64 1 := cmpf .olt main_v17 main_v18
  let main_v20 : FVec F S4x2x112x1 .f32 := (extractStridedSlice S4x2x112x1 ![0, 0, 0, 0] · slices_S4x2x4224x1_S4x2x112x1_0_0_0_0) main_v1
  let main_cst_4 : FVec F S_ .f32 := constant S_ .f32 0xFF800000#32
  let main_v21 : FVec F S4x2x112x1 .f32 := broadcastInDim S4x2x112x1 ![] bcast_S_S4x2x112x1 main_cst_4
  let main_v22 : IVec S4x2x112x1 1 := cmpf .oeq main_v20 main_v21
  let main_v23 : FVec F S4x2x4112x1 .f32 := (extractStridedSlice S4x2x4112x1 ![0, 0, 112, 0] · slices_S4x2x4224x1_S4x2x4112x1_0_0_112_0) main_v1
  let main_cst_5 : FVec F S_ .f32 := constant S_ .f32 0x00000000#32
  let main_v24 : FVec F S4x2x4112x1 .f32 := broadcastInDim S4x2x4112x1 ![] bcast_S_S4x2x4112x1 main_cst_5
  let main_v25 : IVec S4x2x4112x1 1 := cmpf .oeq main_v23 main_v24
  let main_v26 : FVec F S4x2x4112x1 .bf16 := (extractStridedSlice S4x2x4112x1 ![0, 0, 112, 64] · slices_S4x2x4224x128_S4x2x4112x1_0_0_112_64) main_arg14
  let main_v27 : FVec F S4x2x4112x1 .f32 := (extf .f32 · bitsLt_bf16_f32) main_v26
  let main_cst_6 : FVec F S_ .f32 := constant S_ .f32 0x3F800000#32
  let main_v28 : FVec F S4x2x4112x1 .f32 := broadcastInDim S4x2x4112x1 ![] bcast_S_S4x2x4112x1 main_cst_6
  let main_v29 : IVec S4x2x4112x1 1 := cmpf .oeq main_v27 main_v28
  (main_v5, main_v8, main_v11, main_v14, main_v19, main_v22, main_v25, main_v29)

def fn {F : FTy → Type} [FloatOps F] (main_arg0 : FVec F S4x4608x4864 .f32) (main_arg1 : FVec F S2x2048 .f32) (main_arg2 : FVec F S1x1024 .f32) (main_arg3 : FVec F S128x1024 .f32) (main_arg4 : FVec F S1x1024 .f32) (main_arg5 : FVec F S128x1024 .f32) (main_arg6 : FVec F S256x512 .f32) (main_arg7 : FVec F S1x512 .f32) (main_arg8 : FVec F S1x512 .f32) (main_arg9 : FVec F S1x512 .f32) (main_arg10 : FVec F S4096x2x16 .f32) (main_arg11 : FVec F S4096x2x16 .f32) (main_arg12 : FVec F S64 .f32) (main_arg13 : FVec F S4x2x4224x128 .bf16) (main_arg14 : FVec F S4x2x4224x128 .bf16) : IVec S4x4096x512 1 × IVec S4096x2x16 1 × IVec S4096x2x16 1 × IVec S64 1 × IVec S4x2x4224x64 1 × IVec S4x2x112x1 1 × IVec S4x2x4112x1 1 × IVec S4x2x4112x1 1 :=
  let main_v0 : FVec F S4x2x4224x1 .bf16 := (extractStridedSlice S4x2x4224x1 ![0, 0, 0, 64] · slices_S4x2x4224x128_S4x2x4224x1_0_0_0_64) main_arg13
  let main_v1 : FVec F S4x2x4224x1 .f32 := (extf .f32 · bitsLt_bf16_f32) main_v0
  let main_v2 : FVec F S4x4096x512 .f32 := (extractStridedSlice S4x4096x512 ![0, 512, 4096] · slices_S4x4608x4864_S4x4096x512_0_512_4096) main_arg0
  let main_v3 : FVec F S4x4096x512 .f32 := Host.absf main_v2
  let main_cst : FVec F S_ .f32 := constant S_ .f32 0x7F800000#32
  let main_v4 : FVec F S4x4096x512 .f32 := broadcastInDim S4x4096x512 ![] bcast_S_S4x4096x512 main_cst
  let main_v5 : IVec S4x4096x512 1 := cmpf .olt main_v3 main_v4
  let main_v6 : FVec F S4096x2x16 .f32 := Host.absf main_arg10
  let main_cst_0 : FVec F S_ .f32 := constant S_ .f32 0x7F800000#32
  let main_v7 : FVec F S4096x2x16 .f32 := broadcastInDim S4096x2x16 ![] bcast_S_S4096x2x16 main_cst_0
  let main_v8 : IVec S4096x2x16 1 := cmpf .olt main_v6 main_v7
  let main_v9 : FVec F S4096x2x16 .f32 := Host.absf main_arg11
  let main_cst_1 : FVec F S_ .f32 := constant S_ .f32 0x7F800000#32
  let main_v10 : FVec F S4096x2x16 .f32 := broadcastInDim S4096x2x16 ![] bcast_S_S4096x2x16 main_cst_1
  let main_v11 : IVec S4096x2x16 1 := cmpf .olt main_v9 main_v10
  let main_v12 : FVec F S64 .f32 := Host.absf main_arg12
  let main_cst_2 : FVec F S_ .f32 := constant S_ .f32 0x7F800000#32
  let main_v13 : FVec F S64 .f32 := broadcastInDim S64 ![] bcast_S_S64 main_cst_2
  let main_v14 : IVec S64 1 := cmpf .olt main_v12 main_v13
  let main_v15 : FVec F S4x2x4224x64 .bf16 := (extractStridedSlice S4x2x4224x64 ![0, 0, 0, 0] · slices_S4x2x4224x128_S4x2x4224x64_0_0_0_0) main_arg13
  let main_v16 : FVec F S4x2x4224x64 .f32 := (extf .f32 · bitsLt_bf16_f32) main_v15
  let main_v17 : FVec F S4x2x4224x64 .f32 := Host.absf main_v16
  let main_cst_3 : FVec F S_ .f32 := constant S_ .f32 0x7F800000#32
  let main_v18 : FVec F S4x2x4224x64 .f32 := broadcastInDim S4x2x4224x64 ![] bcast_S_S4x2x4224x64 main_cst_3
  fn_part1 (F := F) main_arg14 main_v1 main_v5 main_v8 main_v11 main_v14 main_v17 main_v18
-- ==== Kernel.lean ====
abbrev S4x4608x4864 : Shape := ⟨3, ![4, 4608, 4864]⟩
abbrev S2x2048 : Shape := ⟨2, ![2, 2048]⟩
abbrev S1x1024 : Shape := ⟨2, ![1, 1024]⟩
abbrev S128x1024 : Shape := ⟨2, ![128, 1024]⟩
abbrev S256x512 : Shape := ⟨2, ![256, 512]⟩
abbrev S1x512 : Shape := ⟨2, ![1, 512]⟩
abbrev S4096x2x16 : Shape := ⟨3, ![4096, 2, 16]⟩
abbrev S64 : Shape := ⟨1, ![64]⟩
abbrev S4x2x4224x128 : Shape := ⟨4, ![4, 2, 4224, 128]⟩
abbrev S4096x2x1x16 : Shape := ⟨4, ![4096, 2, 1, 16]⟩
abbrev S4096x2x2x16 : Shape := ⟨4, ![4096, 2, 2, 16]⟩
abbrev S4096x64 : Shape := ⟨2, ![4096, 64]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S4x4096x512 : Shape := ⟨3, ![4, 4096, 512]⟩
abbrev S1x128x2048 : Shape := ⟨3, ![1, 128, 2048]⟩
abbrev S1x8x2048 : Shape := ⟨3, ![1, 8, 2048]⟩
abbrev S1x256x256 : Shape := ⟨3, ![1, 256, 256]⟩
abbrev S256x128 : Shape := ⟨2, ![256, 128]⟩
abbrev S1x1x4224x128 : Shape := ⟨4, ![1, 1, 4224, 128]⟩
abbrev S1x128x512 : Shape := ⟨3, ![1, 128, 512]⟩
abbrev S2x4x128x128 : Shape := ⟨4, ![2, 4, 128, 128]⟩
abbrev S2x6x2x4x128x128 : Shape := ⟨6, ![2, 6, 2, 4, 128, 128]⟩
abbrev S2x2x4x128x128 : Shape := ⟨5, ![2, 2, 4, 128, 128]⟩
abbrev S2x2x1x512 : Shape := ⟨4, ![2, 2, 1, 512]⟩
abbrev S1x1x1x512 : Shape := ⟨4, ![1, 1, 1, 512]⟩
abbrev S1x1x128x128 : Shape := ⟨4, ![1, 1, 128, 128]⟩
abbrev S128x128 : Shape := ⟨2, ![128, 128]⟩
abbrev S1x1x2048 : Shape := ⟨3, ![1, 1, 2048]⟩
abbrev S1x2048 : Shape := ⟨2, ![1, 2048]⟩
abbrev S128x2048 : Shape := ⟨2, ![128, 2048]⟩
abbrev S1x1x1x1x128x128 : Shape := ⟨6, ![1, 1, 1, 1, 128, 128]⟩
abbrev S1x1x1x128x128 : Shape := ⟨5, ![1, 1, 1, 128, 128]⟩
abbrev S256x256 : Shape := ⟨2, ![256, 256]⟩
abbrev S64x128 : Shape := ⟨2, ![64, 128]⟩
abbrev S1x256x128 : Shape := ⟨3, ![1, 256, 128]⟩
abbrev S128x1 : Shape := ⟨2, ![128, 1]⟩
abbrev S4224x128 : Shape := ⟨2, ![4224, 128]⟩
abbrev S256x4224 : Shape := ⟨2, ![256, 4224]⟩
abbrev S128x512 : Shape := ⟨2, ![128, 512]⟩
abbrev S256 : Shape := ⟨1, ![256]⟩
abbrev S256x1 : Shape := ⟨2, ![256, 1]⟩
abbrev S1x64x128 : Shape := ⟨3, ![1, 64, 128]⟩
abbrev S128x256 : Shape := ⟨2, ![128, 256]⟩
abbrev S64x512 : Shape := ⟨2, ![64, 512]⟩
abbrev S128 : Shape := ⟨1, ![128]⟩

abbrev nBuf : Space → Nat
  | .hbm => 39
  | .vmem => 46
  | .smem => 0
  | _ => 0

abbrev bufTy : (tb : Table) → Fin (tcTables nBuf tb) → BufTy
  | .hbm, ⟨0, _⟩ => ⟨S4x4608x4864, .f32⟩
  | .hbm, ⟨1, _⟩ => ⟨S2x2048, .f32⟩
  | .hbm, ⟨2, _⟩ => ⟨S1x1024, .f32⟩
  | .hbm, ⟨3, _⟩ => ⟨S128x1024, .f32⟩
  | .hbm, ⟨4, _⟩ => ⟨S1x1024, .f32⟩
  | .hbm, ⟨5, _⟩ => ⟨S128x1024, .f32⟩
  | .hbm, ⟨6, _⟩ => ⟨S256x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S4096x2x16, .f32⟩
  | .hbm, ⟨11, _⟩ => ⟨S4096x2x16, .f32⟩
  | .hbm, ⟨12, _⟩ => ⟨S64, .f32⟩
  | .hbm, ⟨13, _⟩ => ⟨S4x2x4224x128, .bf16⟩
  | .hbm, ⟨14, _⟩ => ⟨S4x2x4224x128, .bf16⟩
  | .hbm, ⟨15, _⟩ => ⟨S4096x2x1x16, .f32⟩
  | .hbm, ⟨16, _⟩ => ⟨S4096x2x1x16, .f32⟩
  | .hbm, ⟨17, _⟩ => ⟨S4096x2x2x16, .f32⟩
  | .hbm, ⟨18, _⟩ => ⟨S4096x64, .f32⟩
  | .hbm, ⟨19, _⟩ => ⟨S4096x2x16, .f32⟩
  | .hbm, ⟨20, _⟩ => ⟨S4096x2x1x16, .f32⟩
  | .hbm, ⟨21, _⟩ => ⟨S4096x2x1x16, .f32⟩
  | .hbm, ⟨22, _⟩ => ⟨S4096x2x2x16, .f32⟩
  | .hbm, ⟨23, _⟩ => ⟨S4096x64, .f32⟩
  | .hbm, ⟨24, _⟩ => ⟨S1x64, .f32⟩
  | .hbm, ⟨25, _⟩ => ⟨S1x1x1x64, .f32⟩
  | .hbm, ⟨26, _⟩ => ⟨S1x1x2x64, .f32⟩
  | .hbm, ⟨27, _⟩ => ⟨S1x128, .f32⟩
  | .hbm, ⟨28, _⟩ => ⟨S1x4096x1x64, .f32⟩
  | .hbm, ⟨29, _⟩ => ⟨S1x4096x2x64, .f32⟩
  | .hbm, ⟨30, _⟩ => ⟨S4096x128, .f32⟩
  | .hbm, ⟨31, _⟩ => ⟨S1x4096x1x64, .f32⟩
  | .hbm, ⟨32, _⟩ => ⟨S1x4096x2x64, .f32⟩
  | .hbm, ⟨33, _⟩ => ⟨S4096x128, .f32⟩
  | .hbm, ⟨34, _⟩ => ⟨S4x4096x512, .bf16⟩
  | .hbm, ⟨35, _⟩ => ⟨S4x4096x512, .bf16⟩
  | .hbm, ⟨36, _⟩ => ⟨S4x4096x512, .bf16⟩
  | .hbm, ⟨37, _⟩ => ⟨S4x4096x512, .bf16⟩
  | .hbm, ⟨38, _⟩ => ⟨S4x4096x512, .bf16⟩
  | .local _ .vmem, ⟨0, _⟩ => ⟨S1x128x2048, .f32⟩
  | .local _ .vmem, ⟨1, _⟩ => ⟨S1x128x2048, .f32⟩
  | .local _ .vmem, ⟨2, _⟩ => ⟨S1x8x2048, .f32⟩
  | .local _ .vmem, ⟨3, _⟩ => ⟨S1x8x2048, .f32⟩
  | .local _ .vmem, ⟨4, _⟩ => ⟨S1x8x2048, .f32⟩
  | .local _ .vmem, ⟨5, _⟩ => ⟨S1x8x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x8x2048, .f32⟩
  | .local _ .vmem, ⟨9, _⟩ => ⟨S1x8x2048, .f32⟩
  | .local _ .vmem, ⟨10, _⟩ => ⟨S1x8x2048, .f32⟩
  | .local _ .vmem, ⟨11, _⟩ => ⟨S1x8x2048, .f32⟩
  | .local _ .vmem, ⟨12, _⟩ => ⟨S2x2048, .f32⟩
  | .local _ .vmem, ⟨13, _⟩ => ⟨S1x1024, .f32⟩
  | .local _ .vmem, ⟨14, _⟩ => ⟨S128x1024, .f32⟩
  | .local _ .vmem, ⟨15, _⟩ => ⟨S1x1024, .f32⟩
  | .local _ .vmem, ⟨16, _⟩ => ⟨S128x1024, .f32⟩
  | .local _ .vmem, ⟨17, _⟩ => ⟨S256x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x256x256, .f32⟩
  | .local _ .vmem, ⟨22, _⟩ => ⟨S1x256x256, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S1x128, .f32⟩
  | .local _ .vmem, ⟨28, _⟩ => ⟨S1x1x4224x128, .bf16⟩
  | .local _ .vmem, ⟨29, _⟩ => ⟨S1x1x4224x128, .bf16⟩
  | .local _ .vmem, ⟨30, _⟩ => ⟨S1x1x4224x128, .bf16⟩
  | .local _ .vmem, ⟨31, _⟩ => ⟨S1x1x4224x128, .bf16⟩
  | .local _ .vmem, ⟨32, _⟩ => ⟨S1x128x512, .bf16⟩
  | .local _ .vmem, ⟨33, _⟩ => ⟨S1x128x512, .bf16⟩
  | .local _ .vmem, ⟨34, _⟩ => ⟨S1x128x512, .bf16⟩
  | .local _ .vmem, ⟨35, _⟩ => ⟨S1x128x512, .bf16⟩
  | .local _ .vmem, ⟨36, _⟩ => ⟨S1x128x512, .bf16⟩
  | .local _ .vmem, ⟨37, _⟩ => ⟨S1x128x512, .bf16⟩
  | .local _ .vmem, ⟨38, _⟩ => ⟨S1x128x512, .bf16⟩
  | .local _ .vmem, ⟨39, _⟩ => ⟨S1x128x512, .bf16⟩
  | .local _ .vmem, ⟨40, _⟩ => ⟨S1x256x256, .bf16⟩
  | .local _ .vmem, ⟨41, _⟩ => ⟨S1x256x256, .bf16⟩
  | .local _ .vmem, ⟨42, _⟩ => ⟨S2x4x128x128, .f32⟩
  | .local _ .vmem, ⟨43, _⟩ => ⟨S2x6x2x4x128x128, .bf16⟩
  | .local _ .vmem, ⟨44, _⟩ => ⟨S2x2x4x128x128, .f32⟩
  | .local _ .vmem, ⟨45, _⟩ => ⟨S2x2x1x512, .f32⟩
  | _, _ => ⟨S4x4608x4864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19_0 : Ref sig .tc := ⟨.hbm, 34, rfl⟩
abbrev main_v19_1 : Ref sig .tc := ⟨.hbm, 35, rfl⟩
abbrev main_v19_2 : Ref sig .tc := ⟨.hbm, 36, rfl⟩
abbrev main_v19_3 : Ref sig .tc := ⟨.hbm, 37, rfl⟩
abbrev main_v19_4 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_stg24_0 : Ref sig .tc := ⟨.vmem, 38, rfl⟩
abbrev cc0_stg24_1 : Ref sig .tc := ⟨.vmem, 39, rfl⟩
abbrev cc0_stg25_0 : Ref sig .tc := ⟨.vmem, 40, rfl⟩
abbrev cc0_stg25_1 : Ref sig .tc := ⟨.vmem, 41, rfl⟩
abbrev cc0_scratch0 : Ref sig .tc := ⟨.vmem, 42, rfl⟩
abbrev cc0_scratch1 : Ref sig .tc := ⟨.vmem, 43, rfl⟩
abbrev cc0_scratch2 : Ref sig .tc := ⟨.vmem, 44, rfl⟩
abbrev cc0_scratch3 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37
abbrev cc0_sem24_0 : DmaSem sig := 38
abbrev cc0_sem24_1 : DmaSem sig := 39
abbrev cc0_sem25_0 : DmaSem sig := 40
abbrev cc0_sem25_1 : DmaSem sig := 41

abbrev nD : Nat := 1
abbrev τ : Topo := Topo.v7x

variable {F : FTy → Type} [FloatOps F]

abbrev grid0 : Pipeline.Grid := ⟨2, ![4, 34], ![false, false]⟩

def k0_cond4 (i : grid0.Coords) : BitVec 1 :=
  let arg1 : BitVec 32 := BitVec.ofNat 32 (i 1).val
  let c2_i32_3011 : BitVec 32 := 2#32
  let v5096 : BitVec 1 := Scalar.cmpi .sge arg1 c2_i32_3011
  let v5097 : BitVec 32 := Scalar.extui v5096
  let c0_i32_3012 : BitVec 32 := 0#32
  let v5098 : BitVec 1 := Scalar.cmpi .ne v5097 c0_i32_3012
  v5098

def k0_cond5 (i : grid0.Coords) : BitVec 1 :=
  let arg1 : BitVec 32 := BitVec.ofNat 32 (i 1).val
  let c1_i32_3013 : BitVec 32 := 1#32
  let v5099 : BitVec 1 := Scalar.cmpi .sge arg1 c1_i32_3013
  let c32_i32_3014 : BitVec 32 := 32#32
  let v5100 : BitVec 1 := Scalar.cmpi .sle arg1 c32_i32_3014
  let v5101 : BitVec 1 := Scalar.andi v5099 v5100
  let v5102 : BitVec 32 := Scalar.extui v5101
  let c0_i32_3015 : BitVec 32 := 0#32
  let v5103 : BitVec 1 := Scalar.cmpi .ne v5102 c0_i32_3015
  v5103

def k0_cond3 (i : grid0.Coords) : BitVec 1 :=
  let arg1 : BitVec 32 := BitVec.ofNat 32 (i 1).val
  let c1_i32_3008 : BitVec 32 := 1#32
  let v5091 : BitVec 1 := Scalar.cmpi .sge arg1 c1_i32_3008
  let c32_i32_3009 : BitVec 32 := 32#32
  let v5092 : BitVec 1 := Scalar.cmpi .sle arg1 c32_i32_3009
  let v5093 : BitVec 1 := Scalar.andi v5091 v5092
  let v5094 : BitVec 32 := Scalar.extui v5093
  let c0_i32_3010 : BitVec 32 := 0#32
  let v5095 : BitVec 1 := Scalar.cmpi .ne v5094 c0_i32_3010
  v5095

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.minsi arg1 c32_i32
  let c3_i32 : BitVec 32 := 3#32
  let v1 : BitVec 32 := Scalar.addi v0 c3_i32
  let c1_i32 : BitVec 32 := 1#32
  let c0_i32 : BitVec 32 := 0#32
  ![arg0.toNat, v1.toNat, c1_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.minsi arg1 c32_i32
  let c3_i32 : BitVec 32 := 3#32
  let v1 : BitVec 32 := Scalar.addi v0 c3_i32
  let c16_i32 : BitVec 32 := 16#32
  let v2 : BitVec 32 := Scalar.muli v1 c16_i32
  let c1_i32 : BitVec 32 := 1#32
  let v3 : BitVec 32 := Scalar.subi v2 c1_i32
  let c1_i32_0 : BitVec 32 := 1#32
  let c0_i32 : BitVec 32 := 0#32
  ![arg0.toNat, v3.toNat, c1_i32_0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.minsi arg1 c32_i32
  let c3_i32 : BitVec 32 := 3#32
  let v1 : BitVec 32 := Scalar.addi v0 c3_i32
  let c1_i32 : BitVec 32 := 1#32
  let v2 : BitVec 32 := Scalar.addi v1 c1_i32
  let c16_i32 : BitVec 32 := 16#32
  let v3 : BitVec 32 := Scalar.muli v2 c16_i32
  let c575_i32 : BitVec 32 := 575#32
  let v4 : BitVec 32 := Scalar.minsi v3 c575_i32
  let c1_i32_0 : BitVec 32 := 1#32
  let c0_i32 : BitVec 32 := 0#32
  ![arg0.toNat, v4.toNat, c1_i32_0.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let v1 : BitVec 32 := Scalar.maxsi v0 c0_i32
  let c3_i32 : BitVec 32 := 3#32
  let v2 : BitVec 32 := Scalar.addi v1 c3_i32
  let c1_i32 : BitVec 32 := 1#32
  let c0_i32_0 : BitVec 32 := 0#32
  ![arg0.toNat, v2.toNat, c1_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let v1 : BitVec 32 := Scalar.maxsi v0 c0_i32
  let c3_i32 : BitVec 32 := 3#32
  let v2 : BitVec 32 := Scalar.addi v1 c3_i32
  let c16_i32 : BitVec 32 := 16#32
  let v3 : BitVec 32 := Scalar.muli v2 c16_i32
  let c1_i32 : BitVec 32 := 1#32
  let v4 : BitVec 32 := Scalar.subi v3 c1_i32
  let c1_i32_0 : BitVec 32 := 1#32
  let c0_i32_1 : BitVec 32 := 0#32
  ![arg0.toNat, v4.toNat, c1_i32_0.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let v1 : BitVec 32 := Scalar.maxsi v0 c0_i32
  let c3_i32 : BitVec 32 := 3#32
  let v2 : BitVec 32 := Scalar.addi v1 c3_i32
  let c1_i32 : BitVec 32 := 1#32
  let v3 : BitVec 32 := Scalar.addi v2 c1_i32
  let c16_i32 : BitVec 32 := 16#32
  let v4 : BitVec 32 := Scalar.muli v3 c16_i32
  let c575_i32 : BitVec 32 := 575#32
  let v5 : BitVec 32 := Scalar.minsi v4 c575_i32
  let c1_i32_0 : BitVec 32 := 1#32
  let c0_i32_1 : BitVec 32 := 0#32
  ![arg0.toNat, v5.toNat, c1_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c2_i32 : BitVec 32 := 2#32
  let v11 : BitVec 32 := Scalar.addi v10 c2_i32
  let c31_i32_3 : BitVec 32 := 31#32
  let v12 : BitVec 32 := Scalar.minsi arg1 c31_i32_3
  let c16_i32_4 : BitVec 32 := 16#32
  let v13 : BitVec 32 := Scalar.divsi v12 c16_i32_4
  let c0_i32_5 : BitVec 32 := 0#32
  let v14 : BitVec 1 := Scalar.cmpi .sgt v12 c0_i32_5
  let v15 : BitVec 32 := Scalar.extui v14
  let c0_i32_6 : BitVec 32 := 0#32
  let v16 : BitVec 1 := Scalar.cmpi .slt v12 c0_i32_6
  let v17 : BitVec 32 := Scalar.extui v16
  let v18 : BitVec 32 := Scalar.subi v15 v17
  let c0_i32_7 : BitVec 32 := 0#32
  let v19 : BitVec 1 := Scalar.cmpi .sgt c16_i32_4 c0_i32_7
  let v20 : BitVec 32 := Scalar.extui v19
  let c0_i32_8 : BitVec 32 := 0#32
  let v21 : BitVec 1 := Scalar.cmpi .slt c16_i32_4 c0_i32_8
  let v22 : BitVec 32 := Scalar.extui v21
  let v23 : BitVec 32 := Scalar.subi v20 v22
  let v24 : BitVec 1 := Scalar.cmpi .ne v18 v23
  let v25 : BitVec 32 := Scalar.remsi v12 c16_i32_4
  let c0_i32_9 : BitVec 32 := 0#32
  let v26 : BitVec 1 := Scalar.cmpi .ne v25 c0_i32_9
  let v27 : BitVec 1 := Scalar.andi v24 v26
  let c1_i32_10 : BitVec 32 := 1#32
  let v28 : BitVec 32 := Scalar.subi v13 c1_i32_10
  let v29 : BitVec 32 := Scalar.select v27 v28 v13
  let c16_i32_11 : BitVec 32 := 16#32
  let v30 : BitVec 32 := Scalar.addi v29 c16_i32_11
  let c0_i32_12 : BitVec 32 := 0#32
  ![arg0.toNat, v11.toNat, v30.toNat]

def cc0_transform_16 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_17 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![arg0.toNat, v17.toNat, c0_i32_4.toNat, c0_i32_5.toNat]

def cc0_transform_20 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![arg0.toNat, v17.toNat, c0_i32_4.toNat, c0_i32_5.toNat]

def cc0_transform_21 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_22 (i : grid0.Coords) : Fin 3 → Nat :=
  let arg0 : BitVec 32 := BitVec.ofNat 32 (i 0).val
  let arg1 : BitVec 32 := BitVec.ofNat 32 (i 1).val
  let c33_i32 : BitVec 32 := 33#32
  let v0 : BitVec 32 := Scalar.subi c33_i32 arg1
  let c1_i32 : BitVec 32 := 1#32
  let v1 : BitVec 32 := Scalar.subi v0 c1_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![arg0.toNat, v3.toNat, c0_i32_0.toNat]

def cc0_transform_23 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  ![arg0.toNat, v2.toNat, c0_i32_0.toNat]

def cc0_transform_24 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  ![arg0.toNat, v2.toNat, c0_i32_0.toNat]

def cc0_transform_25 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c16_i32 : BitVec 32 := 16#32
  let c0_i32 : BitVec 32 := 0#32
  let v1 : BitVec 1 := Scalar.cmpi .eq c16_i32 c0_i32
  let c1_i32 : BitVec 32 := 1#32
  let v2 : BitVec 32 := Scalar.select v1 c1_i32 c16_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c31_i32_3 : BitVec 32 := 31#32
  let v11 : BitVec 32 := Scalar.minsi arg1 c31_i32_3
  let c16_i32_4 : BitVec 32 := 16#32
  let v12 : BitVec 32 := Scalar.divsi v11 c16_i32_4
  let c0_i32_5 : BitVec 32 := 0#32
  let v13 : BitVec 1 := Scalar.cmpi .sgt v11 c0_i32_5
  let v14 : BitVec 32 := Scalar.extui v13
  let c0_i32_6 : BitVec 32 := 0#32
  let v15 : BitVec 1 := Scalar.cmpi .slt v11 c0_i32_6
  let v16 : BitVec 32 := Scalar.extui v15
  let v17 : BitVec 32 := Scalar.subi v14 v16
  let c0_i32_7 : BitVec 32 := 0#32
  let v18 : BitVec 1 := Scalar.cmpi .sgt c16_i32_4 c0_i32_7
  let v19 : BitVec 32 := Scalar.extui v18
  let c0_i32_8 : BitVec 32 := 0#32
  let v20 : BitVec 1 := Scalar.cmpi .slt c16_i32_4 c0_i32_8
  let v21 : BitVec 32 := Scalar.extui v20
  let v22 : BitVec 32 := Scalar.subi v19 v21
  let v23 : BitVec 1 := Scalar.cmpi .ne v17 v22
  let v24 : BitVec 32 := Scalar.remsi v11 c16_i32_4
  let c0_i32_9 : BitVec 32 := 0#32
  let v25 : BitVec 1 := Scalar.cmpi .ne v24 c0_i32_9
  let v26 : BitVec 1 := Scalar.andi v23 v25
  let c1_i32_10 : BitVec 32 := 1#32
  let v27 : BitVec 32 := Scalar.subi v12 c1_i32_10
  let v28 : BitVec 32 := Scalar.select v26 v27 v12
  let c0_i32_11 : BitVec 32 := 0#32
  ![arg0.toNat, v10.toNat, v28.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x1x4224x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1x4224x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x128x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x128x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x128x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x128x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x256x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== KernelIdeal.lean ====
variable {F : FTy → Type} [FloatOps F] [Named F]
def κ : String → Option EReal := fun
  | "qscale" => some (((1 / 8) * (Real.log 2)⁻¹ : ℝ) : EReal)
  | _ => none
-- ==== ReferenceIdeal.lean ====
abbrev S4x4608x4864 : Shape := ⟨3, ![4, 4608, 4864]⟩
abbrev S2x2048 : Shape := ⟨2, ![2, 2048]⟩
abbrev S1x1024 : Shape := ⟨2, ![1, 1024]⟩
abbrev S128x1024 : Shape := ⟨2, ![128, 1024]⟩
abbrev S256x512 : Shape := ⟨2, ![256, 512]⟩
abbrev S1x512 : Shape := ⟨2, ![1, 512]⟩
abbrev S4096x2x16 : Shape := ⟨3, ![4096, 2, 16]⟩
abbrev S64 : Shape := ⟨1, ![64]⟩
abbrev S4x2x4224x128 : Shape := ⟨4, ![4, 2, 4224, 128]⟩
abbrev S4x4096x512 : Shape := ⟨3, ![4, 4096, 512]⟩
abbrev S4x4096x8x64 : Shape := ⟨4, ![4, 4096, 8, 64]⟩
abbrev S_ : Shape := ⟨0, ![]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S4x4096x8x2x2x16 : Shape := ⟨6, ![4, 4096, 8, 2, 2, 16]⟩
abbrev S4x4096x8x2x1x16 : Shape := ⟨6, ![4, 4096, 8, 2, 1, 16]⟩
abbrev S4x4096x8x2x16 : Shape := ⟨5, ![4, 4096, 8, 2, 16]⟩
abbrev S1x4096x1x2x16 : Shape := ⟨5, ![1, 4096, 1, 2, 16]⟩
abbrev S4x4096x2x4x64 : Shape := ⟨5, ![4, 4096, 2, 4, 64]⟩
abbrev S4x2x4112x64 : Shape := ⟨4, ![4, 2, 4112, 64]⟩
abbrev S4x2x4112x4096x4 : Shape := ⟨5, ![4, 2, 4112, 4096, 4]⟩
abbrev S4x2x4x4096x4112 : Shape := ⟨5, ![4, 2, 4, 4096, 4112]⟩
abbrev S4x2x4x4096 : Shape := ⟨4, ![4, 2, 4, 4096]⟩
abbrev S4x2x4x4096x1 : Shape := ⟨5, ![4, 2, 4, 4096, 1]⟩
abbrev S4x2x64x4x4096 : Shape := ⟨5, ![4, 2, 64, 4, 4096]⟩

abbrev nBuf : Space → Nat
  | .hbm => 81
  | .vmem => 0
  | .smem => 0
  | _ => 0

abbrev bufTy : (tb : Table) → Fin (tcTables nBuf tb) → BufTy
  | .hbm, ⟨0, _⟩ => ⟨S4x4608x4864, .f32⟩
  | .hbm, ⟨1, _⟩ => ⟨S2x2048, .f32⟩
  | .hbm, ⟨2, _⟩ => ⟨S1x1024, .f32⟩
  | .hbm, ⟨3, _⟩ => ⟨S128x1024, .f32⟩
  | .hbm, ⟨4, _⟩ => ⟨S1x1024, .f32⟩
  | .hbm, ⟨5, _⟩ => ⟨S128x1024, .f32⟩
  | .hbm, ⟨6, _⟩ => ⟨S256x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S4096x2x16, .f32⟩
  | .hbm, ⟨11, _⟩ => ⟨S4096x2x16, .f32⟩
  | .hbm, ⟨12, _⟩ => ⟨S64, .f32⟩
  | .hbm, ⟨13, _⟩ => ⟨S4x2x4224x128, .bf16⟩
  | .hbm, ⟨14, _⟩ => ⟨S4x2x4224x128, .bf16⟩
  | .hbm, ⟨15, _⟩ => ⟨S4x4096x512, .f32⟩
  | .hbm, ⟨16, _⟩ => ⟨S4x4096x8x64, .f32⟩
  | .hbm, ⟨17, _⟩ => ⟨S4x4096x8x64, .f32⟩
  | .hbm, ⟨18, _⟩ => ⟨S_, .f32⟩
  | .hbm, ⟨19, _⟩ => ⟨S4x4096x8, .f32⟩
  | .hbm, ⟨20, _⟩ => ⟨S4x4096x8x1, .f32⟩
  | .hbm, ⟨21, _⟩ => ⟨S_, .f32⟩
  | .hbm, ⟨22, _⟩ => ⟨S4x4096x8x1, .f32⟩
  | .hbm, ⟨23, _⟩ => ⟨S4x4096x8x1, .f32⟩
  | .hbm, ⟨24, _⟩ => ⟨S_, .f32⟩
  | .hbm, ⟨25, _⟩ => ⟨S4x4096x8x1, .f32⟩
  | .hbm, ⟨26, _⟩ => ⟨S4x4096x8x1, .f32⟩
  | .hbm, ⟨27, _⟩ => ⟨S4x4096x8x1, .f32⟩
  | .hbm, ⟨28, _⟩ => ⟨S4x4096x8x64, .f32⟩
  | .hbm, ⟨29, _⟩ => ⟨S4x4096x8x64, .f32⟩
  | .hbm, ⟨30, _⟩ => ⟨S1x1x1x64, .f32⟩
  | .hbm, ⟨31, _⟩ => ⟨S4x4096x8x64, .f32⟩
  | .hbm, ⟨32, _⟩ => ⟨S4x4096x8x64, .f32⟩
  | .hbm, ⟨33, _⟩ => ⟨S4x4096x8x2x2x16, .f32⟩
  | .hbm, ⟨34, _⟩ => ⟨S4x4096x8x2x1x16, .f32⟩
  | .hbm, ⟨35, _⟩ => ⟨S4x4096x8x2x16, .f32⟩
  | .hbm, ⟨36, _⟩ => ⟨S4x4096x8x2x1x16, .f32⟩
  | .hbm, ⟨37, _⟩ => ⟨S4x4096x8x2x16, .f32⟩
  | .hbm, ⟨38, _⟩ => ⟨S1x4096x1x2x16, .f32⟩
  | .hbm, ⟨39, _⟩ => ⟨S1x4096x1x2x16, .f32⟩
  | .hbm, ⟨40, _⟩ => ⟨S4x4096x8x2x16, .f32⟩
  | .hbm, ⟨41, _⟩ => ⟨S4x4096x8x2x16, .f32⟩
  | .hbm, ⟨42, _⟩ => ⟨S4x4096x8x2x16, .f32⟩
  | .hbm, ⟨43, _⟩ => ⟨S4x4096x8x2x16, .f32⟩
  | .hbm, ⟨44, _⟩ => ⟨S4x4096x8x2x16, .f32⟩
  | .hbm, ⟨45, _⟩ => ⟨S4x4096x8x2x16, .f32⟩
  | .hbm, ⟨46, _⟩ => ⟨S4x4096x8x2x16, .f32⟩
  | .hbm, ⟨47, _⟩ => ⟨S4x4096x8x2x16, .f32⟩
  | .hbm, ⟨48, _⟩ => ⟨S4x4096x8x2x16, .f32⟩
  | .hbm, ⟨49, _⟩ => ⟨S4x4096x8x2x16, .f32⟩
  | .hbm, ⟨50, _⟩ => ⟨S4x4096x8x2x1x16, .f32⟩
  | .hbm, ⟨51, _⟩ => ⟨S4x4096x8x2x1x16, .f32⟩
  | .hbm, ⟨52, _⟩ => ⟨S4x4096x8x2x2x16, .f32⟩
  | .hbm, ⟨53, _⟩ => ⟨S4x4096x2x4x64, .f32⟩
  | .hbm, ⟨54, _⟩ => ⟨S_, .f32⟩
  | .hbm, ⟨55, _⟩ => ⟨S4x4096x2x4x64, .f32⟩
  | .hbm, ⟨56, _⟩ => ⟨S4x4096x2x4x64, .f32⟩
  | .hbm, ⟨57, _⟩ => ⟨S4x2x4112x64, .bf16⟩
  | .hbm, ⟨58, _⟩ => ⟨S4x2x4112x64, .f32⟩
  | .hbm, ⟨59, _⟩ => ⟨S4x2x4112x64, .bf16⟩
  | .hbm, ⟨60, _⟩ => ⟨S4x2x4112x64, .f32⟩
  | .hbm, ⟨61, _⟩ => ⟨S4x2x4112x4096x4, .f32⟩
  | .hbm, ⟨62, _⟩ => ⟨S4x2x4x4096x4112, .f32⟩
  | .hbm, ⟨63, _⟩ => ⟨S_, .f32⟩
  | .hbm, ⟨64, _⟩ => ⟨S4x2x4x4096, .f32⟩
  | .hbm, ⟨65, _⟩ => ⟨S_, .f32⟩
  | .hbm, ⟨66, _⟩ => ⟨S4x2x4x4096, .f32⟩
  | .hbm, ⟨67, _⟩ => ⟨S4x2x4x4096, .f32⟩
  | .hbm, ⟨68, _⟩ => ⟨S4x2x4x4096x1, .f32⟩
  | .hbm, ⟨69, _⟩ => ⟨S4x2x4x4096x4112, .f32⟩
  | .hbm, ⟨70, _⟩ => ⟨S4x2x4x4096x4112, .f32⟩
  | .hbm, ⟨71, _⟩ => ⟨S4x2x4x4096x4112, .f32⟩
  | .hbm, ⟨72, _⟩ => ⟨S_, .f32⟩
  | .hbm, ⟨73, _⟩ => ⟨S4x2x4x4096, .f32⟩
  | .hbm, ⟨74, _⟩ => ⟨S4x2x4x4096x1, .f32⟩
  | .hbm, ⟨75, _⟩ => ⟨S4x2x4x4096x4112, .f32⟩
  | .hbm, ⟨76, _⟩ => ⟨S4x2x4x4096x4112, .f32⟩
  | .hbm, ⟨77, _⟩ => ⟨S4x2x64x4x4096, .f32⟩
  | .hbm, ⟨78, _⟩ => ⟨S4x4096x2x4x64, .f32⟩
  | .hbm, ⟨79, _⟩ => ⟨S4x4096x512, .f32⟩
  | .hbm, ⟨80, _⟩ => ⟨S4x4096x512, .bf16⟩
  | _, _ => ⟨S4x4608x4864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_2 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_3 : Ref sig .tc := ⟨.hbm, 63, rfl⟩
abbrev main_v44 : Ref sig .tc := ⟨.hbm, 64, rfl⟩
abbrev main_cst_4 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_5 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Ffn.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S1024x1024 : Shape := ⟨2, ![1024, 1024]⟩
abbrev S1024 : Shape := ⟨1, ![1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S1x1024, .f32⟩
  | .hbm, ⟨5, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S16384x1024 : Shape := ⟨2, ![16384, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x4096, .bf16⟩
  | .hbm, ⟨3, _⟩ => ⟨S4096x1024, .bf16⟩
  | .hbm, ⟨4, _⟩ => ⟨S1x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S1024x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S4096x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== InProj.lean ====
abbrev S512x1024 : Shape := ⟨2, ![512, 1024]⟩
abbrev S4x4096x1024 : Shape := ⟨3, ![4, 4096, 1024]⟩
abbrev S1x1024 : Shape := ⟨2, ![1, 1024]⟩
abbrev S1024x4864 : Shape := ⟨2, ![1024, 4864]⟩
abbrev S4x4608x4864 : Shape := ⟨3, ![4, 4608, 4864]⟩
abbrev S1x512x1024 : Shape := ⟨3, ![1, 512, 1024]⟩
abbrev S1x512x4864 : Shape := ⟨3, ![1, 512, 4864]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩
abbrev S256x4864 : Shape := ⟨2, ![256, 4864]⟩
abbrev S1x256x4864 : Shape := ⟨3, ![1, 256, 4864]⟩

abbrev nBuf : Space → Nat
  | .hbm => 5
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S4x4096x1024, .f32⟩
  | .hbm, ⟨2, _⟩ => ⟨S1x1024, .f32⟩
  | .hbm, ⟨3, _⟩ => ⟨S1024x4864, .bf16⟩
  | .hbm, ⟨4, _⟩ => ⟨S4x4608x4864, .f32⟩
  | .local _ .vmem, ⟨0, _⟩ => ⟨S512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x1024, .f32⟩
  | .local _ .vmem, ⟨4, _⟩ => ⟨S1024x4864, .bf16⟩
  | .local _ .vmem, ⟨5, _⟩ => ⟨S1x512x4864, .f32⟩
  | .local _ .vmem, ⟨6, _⟩ => ⟨S1x512x4864, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4864 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x4864 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjReferenceIdeal.lean ====
abbrev S512x1024 : Shape := ⟨2, ![512, 1024]⟩
abbrev S4x4096x1024 : Shape := ⟨3, ![4, 4096, 1024]⟩
abbrev S1x1024 : Shape := ⟨2, ![1, 1024]⟩
abbrev S1024x4864 : Shape := ⟨2, ![1024, 4864]⟩
abbrev S1x512x1024 : Shape := ⟨3, ![1, 512, 1024]⟩
abbrev S4x512x1024 : Shape := ⟨3, ![4, 512, 1024]⟩
abbrev S4x4608x1024 : Shape := ⟨3, ![4, 4608, 1024]⟩
abbrev S_ : Shape := ⟨0, ![]⟩
abbrev S4x4608 : Shape := ⟨2, ![4, 4608]⟩
abbrev S4x4608x1 : Shape := ⟨3, ![4, 4608, 1]⟩
abbrev S1x1x1024 : Shape := ⟨3, ![1, 1, 1024]⟩
abbrev S4x4608x4864 : Shape := ⟨3, ![4, 4608, 4864]⟩

abbrev nBuf : Space → Nat
  | .hbm => 25
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S4x4096x1024, .f32⟩
  | .hbm, ⟨2, _⟩ => ⟨S1x1024, .f32⟩
  | .hbm, ⟨3, _⟩ => ⟨S1024x4864, .bf16⟩
  | .hbm, ⟨4, _⟩ => ⟨S1x512x1024, .f32⟩
  | .hbm, ⟨5, _⟩ => ⟨S4x512x1024, .f32⟩
  | .hbm, ⟨6, _⟩ => ⟨S4x4608x1024, .f32⟩
  | .hbm, ⟨7, _⟩ => ⟨S4x4608x1024, .f32⟩
  | .hbm, ⟨8, _⟩ => ⟨S_, .f32⟩
  | .hbm, ⟨9, _⟩ => ⟨S4x4608, .f32⟩
  | .hbm, ⟨10, _⟩ => ⟨S4x4608x1, .f32⟩
  | .hbm, ⟨11, _⟩ => ⟨S_, .f32⟩
  | .hbm, ⟨12, _⟩ => ⟨S4x4608x1, .f32⟩
  | .hbm, ⟨13, _⟩ => ⟨S4x4608x1, .f32⟩
  | .hbm, ⟨14, _⟩ => ⟨S_, .f32⟩
  | .hbm, ⟨15, _⟩ => ⟨S4x4608x1, .f32⟩
  | .hbm, ⟨16, _⟩ => ⟨S4x4608x1, .f32⟩
  | .hbm, ⟨17, _⟩ => ⟨S4x4608x1, .f32⟩
  | .hbm, ⟨18, _⟩ => ⟨S4x4608x1024, .f32⟩
  | .hbm, ⟨19, _⟩ => ⟨S4x4608x1024, .f32⟩
  | .hbm, ⟨20, _⟩ => ⟨S1x1x1024, .f32⟩
  | .hbm, ⟨21, _⟩ => ⟨S4x4608x1024, .f32⟩
  | .hbm, ⟨22, _⟩ => ⟨S4x4608x1024, .f32⟩
  | .hbm, ⟨23, _⟩ => ⟨S1024x4864, .f32⟩
  | .hbm, ⟨24, _⟩ => ⟨S4x4608x4864, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== KvPrep.lean ====
abbrev S4x4608x4864 : Shape := ⟨3, ![4, 4608, 4864]⟩
abbrev S4224x2x16 : Shape := ⟨3, ![4224, 2, 16]⟩
abbrev S64 : Shape := ⟨1, ![64]⟩
abbrev S4224x2x1x16 : Shape := ⟨4, ![4224, 2, 1, 16]⟩
abbrev S4224x2x2x16 : Shape := ⟨4, ![4224, 2, 2, 16]⟩
abbrev S4224x64 : Shape := ⟨2, ![4224, 64]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S1x4224x1x64 : Shape := ⟨4, ![1, 4224, 1, 64]⟩
abbrev S1x4224x2x64 : Shape := ⟨4, ![1, 4224, 2, 64]⟩
abbrev S4224x128 : Shape := ⟨2, ![4224, 128]⟩
abbrev S4x2x4224x128 : Shape := ⟨4, ![4, 2, 4224, 128]⟩
abbrev S1x384x128 : Shape := ⟨3, ![1, 384, 128]⟩
abbrev S384x128 : Shape := ⟨2, ![384, 128]⟩
abbrev S1x2x384x128 : Shape := ⟨4, ![1, 2, 384, 128]⟩
abbrev S128x128 : Shape := ⟨2, ![128, 128]⟩
abbrev S1x1x384x128 : Shape := ⟨4, ![1, 1, 384, 128]⟩

abbrev nBuf : Space → Nat
  | .hbm => 25
  | .vmem => 13
  | .smem => 0
  | _ => 0

abbrev bufTy : (tb : Table) → Fin (tcTables nBuf tb) → BufTy
  | .hbm, ⟨0, _⟩ => ⟨S4x4608x4864, .f32⟩
  | .hbm, ⟨1, _⟩ => ⟨S4224x2x16, .f32⟩
  | .hbm, ⟨2, _⟩ => ⟨S4224x2x16, .f32⟩
  | .hbm, ⟨3, _⟩ => ⟨S64, .f32⟩
  | .hbm, ⟨4, _⟩ => ⟨S4224x2x1x16, .f32⟩
  | .hbm, ⟨5, _⟩ => ⟨S4224x2x1x16, .f32⟩
  | .hbm, ⟨6, _⟩ => ⟨S4224x2x2x16, .f32⟩
  | .hbm, ⟨7, _⟩ => ⟨S4224x64, .f32⟩
  | .hbm, ⟨8, _⟩ => ⟨S4224x2x16, .f32⟩
  | .hbm, ⟨9, _⟩ => ⟨S4224x2x1x16, .f32⟩
  | .hbm, ⟨10, _⟩ => ⟨S4224x2x1x16, .f32⟩
  | .hbm, ⟨11, _⟩ => ⟨S4224x2x2x16, .f32⟩
  | .hbm, ⟨12, _⟩ => ⟨S4224x64, .f32⟩
  | .hbm, ⟨13, _⟩ => ⟨S1x64, .f32⟩
  | .hbm, ⟨14, _⟩ => ⟨S1x1x1x64, .f32⟩
  | .hbm, ⟨15, _⟩ => ⟨S1x1x2x64, .f32⟩
  | .hbm, ⟨16, _⟩ => ⟨S1x128, .f32⟩
  | .hbm, ⟨17, _⟩ => ⟨S1x4224x1x64, .f32⟩
  | .hbm, ⟨18, _⟩ => ⟨S1x4224x2x64, .f32⟩
  | .hbm, ⟨19, _⟩ => ⟨S4224x128, .f32⟩
  | .hbm, ⟨20, _⟩ => ⟨S1x4224x1x64, .f32⟩
  | .hbm, ⟨21, _⟩ => ⟨S1x4224x2x64, .f32⟩
  | .hbm, ⟨22, _⟩ => ⟨S4224x128, .f32⟩
  | .hbm, ⟨23, _⟩ => ⟨S4x2x4224x128, .bf16⟩
  | .hbm, ⟨24, _⟩ => ⟨S4x2x4224x128, .bf16⟩
  | .local _ .vmem, ⟨0, _⟩ => ⟨S1x384x128, .f32⟩
  | .local _ .vmem, ⟨1, _⟩ => ⟨S1x384x128, .f32⟩
  | .local _ .vmem, ⟨2, _⟩ => ⟨S1x384x128, .f32⟩
  | .local _ .vmem, ⟨3, _⟩ => ⟨S1x384x128, .f32⟩
  | .local _ .vmem, ⟨4, _⟩ => ⟨S384x128, .f32⟩
  | .local _ .vmem, ⟨5, _⟩ => ⟨S384x128, .f32⟩
  | .local _ .vmem, ⟨6, _⟩ => ⟨S384x128, .f32⟩
  | .local _ .vmem, ⟨7, _⟩ => ⟨S384x128, .f32⟩
  | .local _ .vmem, ⟨8, _⟩ => ⟨S1x128, .f32⟩
  | .local _ .vmem, ⟨9, _⟩ => ⟨S1x2x384x128, .bf16⟩
  | .local _ .vmem, ⟨10, _⟩ => ⟨S1x2x384x128, .bf16⟩
  | .local _ .vmem, ⟨11, _⟩ => ⟨S1x2x384x128, .bf16⟩
  | .local _ .vmem, ⟨12, _⟩ => ⟨S1x2x384x128, .bf16⟩
  | _, _ => ⟨S4x4608x4864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19_0 : Ref sig .tc := ⟨.hbm, 23, rfl⟩
abbrev main_v19_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c36_i32 : BitVec 32 := 36#32
  let c0_i32 : BitVec 32 := 0#32
  ![arg0.toNat, v0.toNat, c36_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c37_i32 : BitVec 32 := 37#32
  let c0_i32 : BitVec 32 := 0#32
  ![arg0.toNat, v0.toNat, c37_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2x384x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x384x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KvPrepIdeal.lean ====
variable {F : FTy → Type} [FloatOps F] [Named F]
def κ : String → Option EReal := fun
  | "mask" => some ⊥
  | _ => none
-- ==== KvReferenceIdeal.lean ====
abbrev S4x4608x4864 : Shape := ⟨3, ![4, 4608, 4864]⟩
abbrev S4224x2x16 : Shape := ⟨3, ![4224, 2, 16]⟩
abbrev S64 : Shape := ⟨1, ![64]⟩
abbrev S4x4224x128 : Shape := ⟨3, ![4, 4224, 128]⟩
abbrev S4x4224x2x64 : Shape := ⟨4, ![4, 4224, 2, 64]⟩
abbrev S_ : Shape := ⟨0, ![]⟩
abbrev S4x4224x2 : Shape := ⟨3, ![4, 4224, 2]⟩
abbrev S4x4224x2x1 : Shape := ⟨4, ![4, 4224, 2, 1]⟩
abbrev S1x1x1x64 : Shape := ⟨4, ![1, 1, 1, 64]⟩
abbrev S4x4224x2x2x2x16 : Shape := ⟨6, ![4, 4224, 2, 2, 2, 16]⟩
abbrev S4x4224x2x2x1x16 : Shape := ⟨6, ![4, 4224, 2, 2, 1, 16]⟩
abbrev S4x4224x2x2x16 : Shape := ⟨5, ![4, 4224, 2, 2, 16]⟩
abbrev S1x4224x1x2x16 : Shape := ⟨5, ![1, 4224, 1, 2, 16]⟩
abbrev S4x2x4224x64 : Shape := ⟨4, ![4, 2, 4224, 64]⟩
abbrev S4224 : Shape := ⟨1, ![4224]⟩
abbrev S1x1x4224x1 : Shape := ⟨4, ![1, 1, 4224, 1]⟩
abbrev S4x2x4224x1 : Shape := ⟨4, ![4, 2, 4224, 1]⟩
abbrev S4x2x4224x63 : Shape := ⟨4, ![4, 2, 4224, 63]⟩
abbrev S4x2x4224x128 : Shape := ⟨4, ![4, 2, 4224, 128]⟩

abbrev nBuf : Space → Nat
  | .hbm => 67
  | .vmem => 0
  | .smem => 0
  | _ => 0

abbrev bufTy : (tb : Table) → Fin (tcTables nBuf tb) → BufTy
  | .hbm, ⟨0, _⟩ => ⟨S4x4608x4864, .f32⟩
  | .hbm, ⟨1, _⟩ => ⟨S4224x2x16, .f32⟩
  | .hbm, ⟨2, _⟩ => ⟨S4224x2x16, .f32⟩
  | .hbm, ⟨3, _⟩ => ⟨S64, .f32⟩
  | .hbm, ⟨4, _⟩ => ⟨S4x4224x128, .f32⟩
  | .hbm, ⟨5, _⟩ => ⟨S4x4224x2x64, .f32⟩
  | .hbm, ⟨6, _⟩ => ⟨S4x4224x2x64, .f32⟩
  | .hbm, ⟨7, _⟩ => ⟨S_, .f32⟩
  | .hbm, ⟨8, _⟩ => ⟨S4x4224x2, .f32⟩
  | .hbm, ⟨9, _⟩ => ⟨S4x4224x2x1, .f32⟩
  | .hbm, ⟨10, _⟩ => ⟨S_, .f32⟩
  | .hbm, ⟨11, _⟩ => ⟨S4x4224x2x1, .f32⟩
  | .hbm, ⟨12, _⟩ => ⟨S4x4224x2x1, .f32⟩
  | .hbm, ⟨13, _⟩ => ⟨S_, .f32⟩
  | .hbm, ⟨14, _⟩ => ⟨S4x4224x2x1, .f32⟩
  | .hbm, ⟨15, _⟩ => ⟨S4x4224x2x1, .f32⟩
  | .hbm, ⟨16, _⟩ => ⟨S4x4224x2x1, .f32⟩
  | .hbm, ⟨17, _⟩ => ⟨S4x4224x2x64, .f32⟩
  | .hbm, ⟨18, _⟩ => ⟨S4x4224x2x64, .f32⟩
  | .hbm, ⟨19, _⟩ => ⟨S1x1x1x64, .f32⟩
  | .hbm, ⟨20, _⟩ => ⟨S4x4224x2x64, .f32⟩
  | .hbm, ⟨21, _⟩ => ⟨S4x4224x2x64, .f32⟩
  | .hbm, ⟨22, _⟩ => ⟨S4x4224x2x2x2x16, .f32⟩
  | .hbm, ⟨23, _⟩ => ⟨S4x4224x2x2x1x16, .f32⟩
  | .hbm, ⟨24, _⟩ => ⟨S4x4224x2x2x16, .f32⟩
  | .hbm, ⟨25, _⟩ => ⟨S4x4224x2x2x1x16, .f32⟩
  | .hbm, ⟨26, _⟩ => ⟨S4x4224x2x2x16, .f32⟩
  | .hbm, ⟨27, _⟩ => ⟨S1x4224x1x2x16, .f32⟩
  | .hbm, ⟨28, _⟩ => ⟨S1x4224x1x2x16, .f32⟩
  | .hbm, ⟨29, _⟩ => ⟨S4x4224x2x2x16, .f32⟩
  | .hbm, ⟨30, _⟩ => ⟨S4x4224x2x2x16, .f32⟩
  | .hbm, ⟨31, _⟩ => ⟨S4x4224x2x2x16, .f32⟩
  | .hbm, ⟨32, _⟩ => ⟨S4x4224x2x2x16, .f32⟩
  | .hbm, ⟨33, _⟩ => ⟨S4x4224x2x2x16, .f32⟩
  | .hbm, ⟨34, _⟩ => ⟨S4x4224x2x2x16, .f32⟩
  | .hbm, ⟨35, _⟩ => ⟨S4x4224x2x2x16, .f32⟩
  | .hbm, ⟨36, _⟩ => ⟨S4x4224x2x2x16, .f32⟩
  | .hbm, ⟨37, _⟩ => ⟨S4x4224x2x2x16, .f32⟩
  | .hbm, ⟨38, _⟩ => ⟨S4x4224x2x2x16, .f32⟩
  | .hbm, ⟨39, _⟩ => ⟨S4x4224x2x2x1x16, .f32⟩
  | .hbm, ⟨40, _⟩ => ⟨S4x4224x2x2x1x16, .f32⟩
  | .hbm, ⟨41, _⟩ => ⟨S4x4224x2x2x2x16, .f32⟩
  | .hbm, ⟨42, _⟩ => ⟨S4x4224x2x64, .f32⟩
  | .hbm, ⟨43, _⟩ => ⟨S4x2x4224x64, .f32⟩
  | .hbm, ⟨44, _⟩ => ⟨S4x4224x128, .f32⟩
  | .hbm, ⟨45, _⟩ => ⟨S4x4224x2x64, .f32⟩
  | .hbm, ⟨46, _⟩ => ⟨S4x2x4224x64, .f32⟩
  | .hbm, ⟨47, _⟩ => ⟨S4224, .i32⟩
  | .hbm, ⟨48, _⟩ => ⟨S1x1x4224x1, .i32⟩
  | .hbm, ⟨49, _⟩ => ⟨S_, .i32⟩
  | .hbm, ⟨50, _⟩ => ⟨S1x1x4224x1, .i32⟩
  | .hbm, ⟨51, _⟩ => ⟨S1x1x4224x1, .i1⟩
  | .hbm, ⟨52, _⟩ => ⟨S_, .f32⟩
  | .hbm, ⟨53, _⟩ => ⟨S_, .f32⟩
  | .hbm, ⟨54, _⟩ => ⟨S1x1x4224x1, .f32⟩
  | .hbm, ⟨55, _⟩ => ⟨S1x1x4224x1, .f32⟩
  | .hbm, ⟨56, _⟩ => ⟨S1x1x4224x1, .f32⟩
  | .hbm, ⟨57, _⟩ => ⟨S4x2x4224x1, .f32⟩
  | .hbm, ⟨58, _⟩ => ⟨S_, .f32⟩
  | .hbm, ⟨59, _⟩ => ⟨S4x2x4224x63, .f32⟩
  | .hbm, ⟨60, _⟩ => ⟨S4x2x4224x1, .f32⟩
  | .hbm, ⟨61, _⟩ => ⟨S4x2x4224x128, .f32⟩
  | .hbm, ⟨62, _⟩ => ⟨S_, .f32⟩
  | .hbm, ⟨63, _⟩ => ⟨S4x2x4224x1, .f32⟩
  | .hbm, ⟨64, _⟩ => ⟨S4x2x4224x128, .f32⟩
  | .hbm, ⟨65, _⟩ => ⟨S4x2x4224x128, .bf16⟩
  | .hbm, ⟨66, _⟩ => ⟨S4x2x4224x128, .bf16⟩
  | _, _ => ⟨S4x4608x4864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_c : Ref sig .tc := ⟨.hbm, 49, rfl⟩
abbrev main_v42 : Ref sig .tc := ⟨.hbm, 50, rfl⟩
abbrev main_v43 : Ref sig .tc := ⟨.hbm, 51, rfl⟩
abbrev main_cst_2 : Ref sig .tc := ⟨.hbm, 52, rfl⟩
abbrev main_cst_3 : Ref sig .tc := ⟨.hbm, 53, rfl⟩
abbrev main_call0_v0 : Ref sig .tc := ⟨.hbm, 54, rfl⟩
abbrev main_call0_v1 : Ref sig .tc := ⟨.hbm, 55, rfl⟩
abbrev main_v44 : Ref sig .tc := ⟨.hbm, 56, rfl⟩
abbrev main_v45 : Ref sig .tc := ⟨.hbm, 57, rfl⟩
abbrev main_cst_4 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_5 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== Post.lean ====
abbrev S4x4096x512 : Shape := ⟨3, ![4, 4096, 512]⟩
abbrev S4x4608x4864 : Shape := ⟨3, ![4, 4608, 4864]⟩
abbrev S4x4096x1024 : Shape := ⟨3, ![4, 4096, 1024]⟩
abbrev S1x512 : Shape := ⟨2, ![1, 512]⟩
abbrev S512x1024 : Shape := ⟨2, ![512, 1024]⟩
abbrev S1024x1024 : Shape := ⟨2, ![1024, 1024]⟩
abbrev S1x512x512 : Shape := ⟨3, ![1, 512, 512]⟩
abbrev S1x512x1024 : Shape := ⟨3, ![1, 512, 1024]⟩
abbrev S128x128 : Shape := ⟨2, ![128, 128]⟩
abbrev S1x256x512 : Shape := ⟨3, ![1, 256, 512]⟩
abbrev S256x512 : Shape := ⟨2, ![256, 512]⟩
abbrev S256x128 : Shape := ⟨2, ![256, 128]⟩
abbrev S256x1024 : Shape := ⟨2, ![256, 1024]⟩
abbrev S1x256x1024 : Shape := ⟨3, ![1, 256, 1024]⟩

abbrev nBuf : Space → Nat
  | .hbm => 13
  | .vmem => 23
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x512, .bf16⟩
  | .hbm, ⟨3, _⟩ => ⟨S4x4096x512, .bf16⟩
  | .hbm, ⟨4, _⟩ => ⟨S4x4096x512, .bf16⟩
  | .hbm, ⟨5, _⟩ => ⟨S4x4608x4864, .f32⟩
  | .hbm, ⟨6, _⟩ => ⟨S4x4096x1024, .f32⟩
  | .hbm, ⟨7, _⟩ => ⟨S1x512, .f32⟩
  | .hbm, ⟨8, _⟩ => ⟨S1x512, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S4x4096x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512, .f32⟩
  | .local _ .vmem, ⟨17, _⟩ => ⟨S1x512, .f32⟩
  | .local _ .vmem, ⟨18, _⟩ => ⟨S512x1024, .bf16⟩
  | .local _ .vmem, ⟨19, _⟩ => ⟨S512x1024, .bf16⟩
  | .local _ .vmem, ⟨20, _⟩ => ⟨S1024x1024, .bf16⟩
  | .local _ .vmem, ⟨21, _⟩ => ⟨S1x512x1024, .f32⟩
  | .local _ .vmem, ⟨22, _⟩ => ⟨S1x512x1024, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let c0_i32 : BitVec 32 := 0#32
  ![arg0.toNat, v0.toNat, c1_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== PostReferenceIdeal.lean ====
abbrev S4x4096x512 : Shape := ⟨3, ![4, 4096, 512]⟩
abbrev S4x4608x4864 : Shape := ⟨3, ![4, 4608, 4864]⟩
abbrev S4x4096x1024 : Shape := ⟨3, ![4, 4096, 1024]⟩
abbrev S1x512 : Shape := ⟨2, ![1, 512]⟩
abbrev S512x1024 : Shape := ⟨2, ![512, 1024]⟩
abbrev S1024x1024 : Shape := ⟨2, ![1024, 1024]⟩
abbrev S4x4096x8x64 : Shape := ⟨4, ![4, 4096, 8, 64]⟩
abbrev S_ : Shape := ⟨0, ![]⟩
abbrev S4x4096x8 : Shape := ⟨3, ![4, 4096, 8]⟩
abbrev S4x4096x8x1 : Shape := ⟨4, ![4, 4096, 8, 1]⟩
abbrev S8x64 : Shape := ⟨2, ![8, 64]⟩
abbrev S1x1x8x64 : Shape := ⟨4, ![1, 1, 8, 64]⟩

abbrev nBuf : Space → Nat
  | .hbm => 82
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x512, .bf16⟩
  | .hbm, ⟨3, _⟩ => ⟨S4x4096x512, .bf16⟩
  | .hbm, ⟨4, _⟩ => ⟨S4x4096x512, .bf16⟩
  | .hbm, ⟨5, _⟩ => ⟨S4x4608x4864, .f32⟩
  | .hbm, ⟨6, _⟩ => ⟨S4x4096x1024, .f32⟩
  | .hbm, ⟨7, _⟩ => ⟨S1x512, .f32⟩
  | .hbm, ⟨8, _⟩ => ⟨S1x512, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S4x4096x512, .f32⟩
  | .hbm, ⟨13, _⟩ => ⟨S4x4096x512, .f32⟩
  | .hbm, ⟨14, _⟩ => ⟨S4x4096x512, .f32⟩
  | .hbm, ⟨15, _⟩ => ⟨S4x4096x8x64, .f32⟩
  | .hbm, ⟨16, _⟩ => ⟨S_, .f32⟩
  | .hbm, ⟨17, _⟩ => ⟨S4x4096x8, .f32⟩
  | .hbm, ⟨18, _⟩ => ⟨S4x4096x8x1, .f32⟩
  | .hbm, ⟨19, _⟩ => ⟨S_, .f32⟩
  | .hbm, ⟨20, _⟩ => ⟨S4x4096x8x1, .f32⟩
  | .hbm, ⟨21, _⟩ => ⟨S4x4096x8x1, .f32⟩
  | .hbm, ⟨22, _⟩ => ⟨S4x4096x8x64, .f32⟩
  | .hbm, ⟨23, _⟩ => ⟨S4x4096x8x64, .f32⟩
  | .hbm, ⟨24, _⟩ => ⟨S4x4096x8x64, .f32⟩
  | .hbm, ⟨25, _⟩ => ⟨S_, .f32⟩
  | .hbm, ⟨26, _⟩ => ⟨S4x4096x8, .f32⟩
  | .hbm, ⟨27, _⟩ => ⟨S4x4096x8x1, .f32⟩
  | .hbm, ⟨28, _⟩ => ⟨S_, .f32⟩
  | .hbm, ⟨29, _⟩ => ⟨S4x4096x8x1, .f32⟩
  | .hbm, ⟨30, _⟩ => ⟨S4x4096x8x1, .f32⟩
  | .hbm, ⟨31, _⟩ => ⟨S4x4096x8x64, .f32⟩
  | .hbm, ⟨32, _⟩ => ⟨S4x4096x8x64, .f32⟩
  | .hbm, ⟨33, _⟩ => ⟨S_, .f32⟩
  | .hbm, ⟨34, _⟩ => ⟨S4x4096x8x1, .f32⟩
  | .hbm, ⟨35, _⟩ => ⟨S4x4096x8x1, .f32⟩
  | .hbm, ⟨36, _⟩ => ⟨S4x4096x8x1, .f32⟩
  | .hbm, ⟨37, _⟩ => ⟨S4x4096x8x64, .f32⟩
  | .hbm, ⟨38, _⟩ => ⟨S4x4096x8x64, .f32⟩
  | .hbm, ⟨39, _⟩ => ⟨S8x64, .f32⟩
  | .hbm, ⟨40, _⟩ => ⟨S1x1x8x64, .f32⟩
  | .hbm, ⟨41, _⟩ => ⟨S4x4096x8x64, .f32⟩
  | .hbm, ⟨42, _⟩ => ⟨S4x4096x8x64, .f32⟩
  | .hbm, ⟨43, _⟩ => ⟨S8x64, .f32⟩
  | .hbm, ⟨44, _⟩ => ⟨S1x1x8x64, .f32⟩
  | .hbm, ⟨45, _⟩ => ⟨S4x4096x8x64, .f32⟩
  | .hbm, ⟨46, _⟩ => ⟨S4x4096x8x64, .f32⟩
  | .hbm, ⟨47, _⟩ => ⟨S4x4096x512, .f32⟩
  | .hbm, ⟨48, _⟩ => ⟨S4x4096x8x64, .f32⟩
  | .hbm, ⟨49, _⟩ => ⟨S4x4096x8x64, .f32⟩
  | .hbm, ⟨50, _⟩ => ⟨S4x4096x512, .f32⟩
  | .hbm, ⟨51, _⟩ => ⟨S4x4096x512, .f32⟩
  | .hbm, ⟨52, _⟩ => ⟨S4x4096x512, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S4x4096x1024, .f32⟩
  | .hbm, ⟨57, _⟩ => ⟨S_, .f32⟩
  | .hbm, ⟨58, _⟩ => ⟨S4x4096x1024, .f32⟩
  | .hbm, ⟨59, _⟩ => ⟨S4x4096x1024, .f32⟩
  | .hbm, ⟨60, _⟩ => ⟨S_, .f32⟩
  | .hbm, ⟨61, _⟩ => ⟨S4x4096x1024, .f32⟩
  | .hbm, ⟨62, _⟩ => ⟨S4x4096x1024, .f32⟩
  | .hbm, ⟨63, _⟩ => ⟨S512x1024, .f32⟩
  | .hbm, ⟨64, _⟩ => ⟨S4x4096x1024, .f32⟩
  | .hbm, ⟨65, _⟩ => ⟨S4x4096x1024, .f32⟩
  | .hbm, ⟨66, _⟩ => ⟨S4x4096x1024, .f32⟩
  | .hbm, ⟨67, _⟩ => ⟨S4x4096x1024, .f32⟩
  | .hbm, ⟨68, _⟩ => ⟨S_, .f32⟩
  | .hbm, ⟨69, _⟩ => ⟨S4x4096x1024, .f32⟩
  | .hbm, ⟨70, _⟩ => ⟨S4x4096x1024, .f32⟩
  | .hbm, ⟨71, _⟩ => ⟨S_, .f32⟩
  | .hbm, ⟨72, _⟩ => ⟨S4x4096x1024, .f32⟩
  | .hbm, ⟨73, _⟩ => ⟨S4x4096x1024, .f32⟩
  | .hbm, ⟨74, _⟩ => ⟨S4x4096x512, .f32⟩
  | .hbm, ⟨75, _⟩ => ⟨S512x1024, .f32⟩
  | .hbm, ⟨76, _⟩ => ⟨S4x4096x1024, .f32⟩
  | .hbm, ⟨77, _⟩ => ⟨S4x4096x1024, .f32⟩
  | .hbm, ⟨78, _⟩ => ⟨S4x4096x1024, .f32⟩
  | .hbm, ⟨79, _⟩ => ⟨S1024x1024, .f32⟩
  | .hbm, ⟨80, _⟩ => ⟨S4x4096x1024, .f32⟩
  | .hbm, ⟨81, _⟩ => ⟨S4x4096x1024, .f32⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_6 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]
-- ==== Proof.MixBits.Frame.lean ====
/- The frame of the mixers' call at bits: the run of the whole grid, with the outputs and the scratch held at some
   contents that nothing states. -/
module

public import proofs.«01_k».proof.Proof.MixBits.RunA
public import proofs.«01_k».proof.Proof.MixBits.RunB
public import proofs.«01_k».proof.Proof.MixBits.RunC
public import proofs.«01_k».proof.Proof.MixBits.RunD
public import Idealize.ShloMosaic.Lib.Claim

@[expose] public section

-- membership in a rectangle of production extents (`View.cover_of_tiled`): the elaborator's structural look
-- recurses once per coordinate of the long axes
set_option maxRecDepth 16384

noncomputable section

namespace Cert.Kernel.Mix

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (21, 22, 23, 24, 25): nothing reads what the kernel leaves in them, so nothing
    of it is named (Lib/Pipeline/Dat.lean `Dat.toRForget`). -/
def forgets0 : Fin 26 → Bool := fun w => w.val == 21 || w.val == 22 || w.val == 23 || w.val == 24 || w.val == 25

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => X0_4 m c t
    | ⟨5, _⟩ => X0_5 m c t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨_ + 26, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d))

set_option maxHeartbeats 11200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 136 := lt_of_lt_of_eq t.isLt (show cfg0.N = 136 from N_0)
  by_cases h0 : t.val % 34 = 0
  · by_cases h1 : t.val % 34 ≤ 1
    · by_cases h2 : (1 ≤ t.val % 34 ∧ t.val % 34 ≤ 32)
      · exfalso; omega
      · by_cases h3 : 2 ≤ t.val % 34
        · exfalso; omega
        · by_cases h4 : (1 ≤ t.val % 34 ∧ t.val % 34 ≤ 32)
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8 t], after0_8]
            rw [show (dats m 0 c).leavesExact 9 t = owns (c : Thread nD τ) (ms0_9 t) fullShare ((dats m 0 c).after 9 t) from by
      unfold Dat.leavesExact; rw [liveAt0_9 t], after0_9]
            rw [show (dats m 0 c).leavesExact 10 t = owns (c : Thread nD τ) (ms0_10 t) fullShare ((dats m 0 c).after 10 t) from by
      unfold Dat.leavesExact; rw [liveAt0_10 t], after0_10]
            rw [show (dats m 0 c).leavesExact 11 t = owns (c : Thread nD τ) (ms0_11 t) fullShare ((dats m 0 c).after 11 t) from by
      unfold Dat.leavesExact; rw [liveAt0_11 t], after0_11]
            rw [show (dats m 0 c).leavesExact 12 t = owns (c : Thread nD τ) (ms0_12 t) fullShare ((dats m 0 c).after 12 t) from by
      unfold Dat.leavesExact; rw [liveAt0_12 t], after0_12]
            rw [show (dats m 0 c).leavesExact 13 t = owns (c : Thread nD τ) (ms0_13 t) fullShare ((dats m 0 c).after 13 t) from by
      unfold Dat.leavesExact; rw [liveAt0_13 t], after0_13]
            rw [show (dats m 0 c).leavesExact 14 t = owns (c : Thread nD τ) (ms0_14 t) fullShare ((dats m 0 c).after 14 t) from by
      unfold Dat.leavesExact; rw [liveAt0_14 t], after0_14]
            rw [show (dats m 0 c).leavesExact 15 t = owns (c : Thread nD τ) (ms0_15 t) fullShare ((dats m 0 c).after 15 t) from by
      unfold Dat.leavesExact; rw [liveAt0_15 t], after0_15]
            rw [show (dats m 0 c).leavesExact 16 t = owns (c : Thread nD τ) (ms0_16 t) fullShare ((dats m 0 c).after 16 t) from by
      unfold Dat.leavesExact; rw [liveAt0_16 t], after0_16]
            rw [show (dats m 0 c).leavesExact 17 t = owns (c : Thread nD τ) (ms0_17 t) fullShare ((dats m 0 c).after 17 t) from by
      unfold Dat.leavesExact; rw [liveAt0_17 t], after0_17]
            rw [show (dats m 0 c).leavesExact 18 t = owns (c : Thread nD τ) (ms0_18 t) fullShare ((dats m 0 c).after 18 t) from by
      unfold Dat.leavesExact; rw [liveAt0_18 t], after0_18]
            rw [show (dats m 0 c).leavesExact 19 t = owns (c : Thread nD τ) (ms0_19 t) fullShare ((dats m 0 c).after 19 t) from by
      unfold Dat.leavesExact; rw [liveAt0_19 t], after0_19]
            rw [show (dats m 0 c).leavesExact 20 t = owns (c : Thread nD τ) (ms0_20 t) fullShare ((dats m 0 c).after 20 t) from by
      unfold Dat.leavesExact; rw [liveAt0_20 t], after0_20]
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
            iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [H16]; · iexact H16
            isplitl [H17]; · iexact H17
            isplitl [H18]; · iexact H18
            isplitl [H19]; · iexact H19
            isplitl [H20]; · iexact H20
            isplitl [H21]; · iexists _; iexact H21
            isplitl [H22]; · iexists _; iexact H22
            isplitl [H23]; · iexists _; iexact H23
            isplitl [H24]; · iexists _; iexact H24
            isplitl [H25]; · iexists _; iexact H25
            isplitl [HS0]; · iexact HS0
            isplitl [HS1]; · iexact HS1
            isplitl [HS2]; · iexact HS2
            isplitl [HS3]; · iexact HS3
            iintro ⟨H0, H1, H2, H3, H4, H5, H6, H7, H8, H9, H10, H11, H12, H13, H14, H15, H16, H17, H18, H19, H20, H21, H22, H23, H24, H25, HS0, HS1, HS2, HS3⟩
            isplitl [HS0 HS1 HS2 HS3 Hg]
            · isplitl [HS0 HS1 HS2 HS3]
              · isplitl [HS0]
                · iexact HS0
                isplitl [HS1]
                · iexact HS1
                isplitl [HS2]
                · iexact HS2
                iexact HS3
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [H16]; · iexact H16
            isplitl [H17]; · iexact H17
            isplitl [H18]; · iexact H18
            isplitl [H19]; · iexact H19
            isplitl [H20]; · iexact H20
            isplitl [H21]; · iexact H21
            isplitl [H22]; · iexact H22
            isplitl [H23]; · iexact H23
            isplitl [H24]; · iexact H24
            iexact H25
    · exfalso; omega
  · by_cases h1 : t.val % 34 ≤ 1
    · by_cases h2 : (1 ≤ t.val % 34 ∧ t.val % 34 ≤ 32)
      · by_cases h3 : 2 ≤ t.val % 34
        · exfalso; omega
        · by_cases h4 : (1 ≤ t.val % 34 ∧ t.val % 34 ≤ 32)
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8 t], after0_8]
            rw [show (dats m 0 c).leavesExact 9 t = owns (c : Thread nD τ) (ms0_9 t) fullShare ((dats m 0 c).after 9 t) from by
      unfold Dat.leavesExact; rw [liveAt0_9 t], after0_9]
            rw [show (dats m 0 c).leavesExact 10 t = owns (c : Thread nD τ) (ms0_10 t) fullShare ((dats m 0 c).after 10 t) from by
      unfold Dat.leavesExact; rw [liveAt0_10 t], after0_10]
            rw [show (dats m 0 c).leavesExact 11 t = owns (c : Thread nD τ) (ms0_11 t) fullShare ((dats m 0 c).after 11 t) from by
      unfold Dat.leavesExact; rw [liveAt0_11 t], after0_11]
            rw [show (dats m 0 c).leavesExact 12 t = owns (c : Thread nD τ) (ms0_12 t) fullShare ((dats m 0 c).after 12 t) from by
      unfold Dat.leavesExact; rw [liveAt0_12 t], after0_12]
            rw [show (dats m 0 c).leavesExact 13 t = owns (c : Thread nD τ) (ms0_13 t) fullShare ((dats m 0 c).after 13 t) from by
      unfold Dat.leavesExact; rw [liveAt0_13 t], after0_13]
            rw [show (dats m 0 c).leavesExact 14 t = owns (c : Thread nD τ) (ms0_14 t) fullShare ((dats m 0 c).after 14 t) from by
      unfold Dat.leavesExact; rw [liveAt0_14 t], after0_14]
            rw [show (dats m 0 c).leavesExact 15 t = owns (c : Thread nD τ) (ms0_15 t) fullShare ((dats m 0 c).after 15 t) from by
      unfold Dat.leavesExact; rw [liveAt0_15 t], after0_15]
            rw [show (dats m 0 c).leavesExact 16 t = owns (c : Thread nD τ) (ms0_16 t) fullShare ((dats m 0 c).after 16 t) from by
      unfold Dat.leavesExact; rw [liveAt0_16 t], after0_16]
            rw [show (dats m 0 c).leavesExact 17 t = owns (c : Thread nD τ) (ms0_17 t) fullShare ((dats m 0 c).after 17 t) from by
      unfold Dat.leavesExact; rw [liveAt0_17 t], after0_17]
            rw [show (dats m 0 c).leavesExact 18 t = owns (c : Thread nD τ) (ms0_18 t) fullShare ((dats m 0 c).after 18 t) from by
      unfold Dat.leavesExact; rw [liveAt0_18 t], after0_18]
            rw [show (dats m 0 c).leavesExact 19 t = owns (c : Thread nD τ) (ms0_19 t) fullShare ((dats m 0 c).after 19 t) from by
      unfold Dat.leavesExact; rw [liveAt0_19 t], after0_19]
            rw [show (dats m 0 c).leavesExact 20 t = owns (c : Thread nD τ) (ms0_20 t) fullShare ((dats m 0 c).after 20 t) from by
      unfold Dat.leavesExact; rw [liveAt0_20 t], after0_20]
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
            iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) ((hcond0_2 t).mpr h2) (fun h => h3 ((hcond0_3 t).mp h)) ((hcond0_4 t).mpr h4) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [H16]; · iexact H16
            isplitl [H17]; · iexact H17
            isplitl [H18]; · iexact H18
            isplitl [H19]; · iexact H19
            isplitl [H20]; · iexact H20
            isplitl [H21]; · iexists _; iexact H21
            isplitl [H22]; · iexists _; iexact H22
            isplitl [H23]; · iexists _; iexact H23
            isplitl [H24]; · iexists _; iexact H24
            isplitl [H25]; · iexists _; iexact H25
            isplitl [HS0]; · iexact HS0
            isplitl [HS1]; · iexact HS1
            isplitl [HS2]; · iexact HS2
            isplitl [HS3]; · iexact HS3
            iintro ⟨H0, H1, H2, H3, H4, H5, H6, H7, H8, H9, H10, H11, H12, H13, H14, H15, H16, H17, H18, H19, H20, H21, H22, H23, H24, H25, HS0, HS1, HS2, HS3⟩
            isplitl [HS0 HS1 HS2 HS3 Hg]
            · isplitl [HS0 HS1 HS2 HS3]
              · isplitl [HS0]
                · iexact HS0
                isplitl [HS1]
                · iexact HS1
                isplitl [HS2]
                · iexact HS2
                iexact HS3
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [H16]; · iexact H16
            isplitl [H17]; · iexact H17
            isplitl [H18]; · iexact H18
            isplitl [H19]; · iexact H19
            isplitl [H20]; · iexact H20
            isplitl [H21]; · iexact H21
            isplitl [H22]; · iexact H22
            isplitl [H23]; · iexact H23
            isplitl [H24]; · iexact H24
            iexact H25
          · exfalso; omega
      · exfalso; omega
    · by_cases h2 : (1 ≤ t.val % 34 ∧ t.val % 34 ≤ 32)
      · by_cases h3 : 2 ≤ t.val % 34
        · by_cases h4 : (1 ≤ t.val % 34 ∧ t.val % 34 ≤ 32)
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8 t], after0_8]
            rw [show (dats m 0 c).leavesExact 9 t = owns (c : Thread nD τ) (ms0_9 t) fullShare ((dats m 0 c).after 9 t) from by
      unfold Dat.leavesExact; rw [liveAt0_9 t], after0_9]
            rw [show (dats m 0 c).leavesExact 10 t = owns (c : Thread nD τ) (ms0_10 t) fullShare ((dats m 0 c).after 10 t) from by
      unfold Dat.leavesExact; rw [liveAt0_10 t], after0_10]
            rw [show (dats m 0 c).leavesExact 11 t = owns (c : Thread nD τ) (ms0_11 t) fullShare ((dats m 0 c).after 11 t) from by
      unfold Dat.leavesExact; rw [liveAt0_11 t], after0_11]
            rw [show (dats m 0 c).leavesExact 12 t = owns (c : Thread nD τ) (ms0_12 t) fullShare ((dats m 0 c).after 12 t) from by
      unfold Dat.leavesExact; rw [liveAt0_12 t], after0_12]
            rw [show (dats m 0 c).leavesExact 13 t = owns (c : Thread nD τ) (ms0_13 t) fullShare ((dats m 0 c).after 13 t) from by
      unfold Dat.leavesExact; rw [liveAt0_13 t], after0_13]
            rw [show (dats m 0 c).leavesExact 14 t = owns (c : Thread nD τ) (ms0_14 t) fullShare ((dats m 0 c).after 14 t) from by
      unfold Dat.leavesExact; rw [liveAt0_14 t], after0_14]
            rw [show (dats m 0 c).leavesExact 15 t = owns (c : Thread nD τ) (ms0_15 t) fullShare ((dats m 0 c).after 15 t) from by
      unfold Dat.leavesExact; rw [liveAt0_15 t], after0_15]
            rw [show (dats m 0 c).leavesExact 16 t = owns (c : Thread nD τ) (ms0_16 t) fullShare ((dats m 0 c).after 16 t) from by
      unfold Dat.leavesExact; rw [liveAt0_16 t], after0_16]
            rw [show (dats m 0 c).leavesExact 17 t = owns (c : Thread nD τ) (ms0_17 t) fullShare ((dats m 0 c).after 17 t) from by
      unfold Dat.leavesExact; rw [liveAt0_17 t], after0_17]
            rw [show (dats m 0 c).leavesExact 18 t = owns (c : Thread nD τ) (ms0_18 t) fullShare ((dats m 0 c).after 18 t) from by
      unfold Dat.leavesExact; rw [liveAt0_18 t], after0_18]
            rw [show (dats m 0 c).leavesExact 19 t = owns (c : Thread nD τ) (ms0_19 t) fullShare ((dats m 0 c).after 19 t) from by
      unfold Dat.leavesExact; rw [liveAt0_19 t], after0_19]
            rw [show (dats m 0 c).leavesExact 20 t = owns (c : Thread nD τ) (ms0_20 t) fullShare ((dats m 0 c).after 20 t) from by
      unfold Dat.leavesExact; rw [liveAt0_20 t], after0_20]
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
            iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) ((hcond0_3 t).mpr h3) ((hcond0_4 t).mpr h4) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [H16]; · iexact H16
            isplitl [H17]; · iexact H17
            isplitl [H18]; · iexact H18
            isplitl [H19]; · iexact H19
            isplitl [H20]; · iexact H20
            isplitl [H21]; · iexists _; iexact H21
            isplitl [H22]; · iexists _; iexact H22
            isplitl [H23]; · iexists _; iexact H23
            isplitl [H24]; · iexists _; iexact H24
            isplitl [H25]; · iexists _; iexact H25
            isplitl [HS0]; · iexact HS0
            isplitl [HS1]; · iexact HS1
            isplitl [HS2]; · iexact HS2
            isplitl [HS3]; · iexact HS3
            iintro ⟨H0, H1, H2, H3, H4, H5, H6, H7, H8, H9, H10, H11, H12, H13, H14, H15, H16, H17, H18, H19, H20, H21, H22, H23, H24, H25, HS0, HS1, HS2, HS3⟩
            isplitl [HS0 HS1 HS2 HS3 Hg]
            · isplitl [HS0 HS1 HS2 HS3]
              · isplitl [HS0]
                · iexact HS0
                isplitl [HS1]
                · iexact HS1
                isplitl [HS2]
                · iexact HS2
                iexact HS3
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [H16]; · iexact H16
            isplitl [H17]; · iexact H17
            isplitl [H18]; · iexact H18
            isplitl [H19]; · iexact H19
            isplitl [H20]; · iexact H20
            isplitl [H21]; · iexact H21
            isplitl [H22]; · iexact H22
            isplitl [H23]; · iexact H23
            isplitl [H24]; · iexact H24
            iexact H25
          · exfalso; omega
        · exfalso; omega
      · by_cases h3 : 2 ≤ t.val % 34
        · by_cases h4 : (1 ≤ t.val % 34 ∧ t.val % 34 ≤ 32)
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8 t], after0_8]
            rw [show (dats m 0 c).leavesExact 9 t = owns (c : Thread nD τ) (ms0_9 t) fullShare ((dats m 0 c).after 9 t) from by
      unfold Dat.leavesExact; rw [liveAt0_9 t], after0_9]
            rw [show (dats m 0 c).leavesExact 10 t = owns (c : Thread nD τ) (ms0_10 t) fullShare ((dats m 0 c).after 10 t) from by
      unfold Dat.leavesExact; rw [liveAt0_10 t], after0_10]
            rw [show (dats m 0 c).leavesExact 11 t = owns (c : Thread nD τ) (ms0_11 t) fullShare ((dats m 0 c).after 11 t) from by
      unfold Dat.leavesExact; rw [liveAt0_11 t], after0_11]
            rw [show (dats m 0 c).leavesExact 12 t = owns (c : Thread nD τ) (ms0_12 t) fullShare ((dats m 0 c).after 12 t) from by
      unfold Dat.leavesExact; rw [liveAt0_12 t], after0_12]
            rw [show (dats m 0 c).leavesExact 13 t = owns (c : Thread nD τ) (ms0_13 t) fullShare ((dats m 0 c).after 13 t) from by
      unfold Dat.leavesExact; rw [liveAt0_13 t], after0_13]
            rw [show (dats m 0 c).leavesExact 14 t = owns (c : Thread nD τ) (ms0_14 t) fullShare ((dats m 0 c).after 14 t) from by
      unfold Dat.leavesExact; rw [liveAt0_14 t], after0_14]
            rw [show (dats m 0 c).leavesExact 15 t = owns (c : Thread nD τ) (ms0_15 t) fullShare ((dats m 0 c).after 15 t) from by
      unfold Dat.leavesExact; rw [liveAt0_15 t], after0_15]
            rw [show (dats m 0 c).leavesExact 16 t = owns (c : Thread nD τ) (ms0_16 t) fullShare ((dats m 0 c).after 16 t) from by
      unfold Dat.leavesExact; rw [liveAt0_16 t], after0_16]
            rw [show (dats m 0 c).leavesExact 17 t = owns (c : Thread nD τ) (ms0_17 t) fullShare ((dats m 0 c).after 17 t) from by
      unfold Dat.leavesExact; rw [liveAt0_17 t], after0_17]
            rw [show (dats m 0 c).leavesExact 18 t = owns (c : Thread nD τ) (ms0_18 t) fullShare ((dats m 0 c).after 18 t) from by
      unfold Dat.leavesExact; rw [liveAt0_18 t], after0_18]
            rw [show (dats m 0 c).leavesExact 19 t = owns (c : Thread nD τ) (ms0_19 t) fullShare ((dats m 0 c).after 19 t) from by
      unfold Dat.leavesExact; rw [liveAt0_19 t], after0_19]
            rw [show (dats m 0 c).leavesExact 20 t = owns (c : Thread nD τ) (ms0_20 t) fullShare ((dats m 0 c).after 20 t) from by
      unfold Dat.leavesExact; rw [liveAt0_20 t], after0_20]
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
            iapply ((kernelRun0_D c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [H16]; · iexact H16
            isplitl [H17]; · iexact H17
            isplitl [H18]; · iexact H18
            isplitl [H19]; · iexact H19
            isplitl [H20]; · iexact H20
            isplitl [H21]; · iexists _; iexact H21
            isplitl [H22]; · iexists _; iexact H22
            isplitl [H23]; · iexists _; iexact H23
            isplitl [H24]; · iexists _; iexact H24
            isplitl [H25]; · iexists _; iexact H25
            isplitl [HS0]; · iexact HS0
            isplitl [HS1]; · iexact HS1
            isplitl [HS2]; · iexact HS2
            isplitl [HS3]; · iexact HS3
            iintro ⟨H0, H1, H2, H3, H4, H5, H6, H7, H8, H9, H10, H11, H12, H13, H14, H15, H16, H17, H18, H19, H20, H21, H22, H23, H24, H25, HS0, HS1, HS2, HS3⟩
            isplitl [HS0 HS1 HS2 HS3 Hg]
            · isplitl [HS0 HS1 HS2 HS3]
              · isplitl [HS0]
                · iexact HS0
                isplitl [HS1]
                · iexact HS1
                isplitl [HS2]
                · iexact HS2
                iexact HS3
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [H16]; · iexact H16
            isplitl [H17]; · iexact H17
            isplitl [H18]; · iexact H18
            isplitl [H19]; · iexact H19
            isplitl [H20]; · iexact H20
            isplitl [H21]; · iexact H21
            isplitl [H22]; · iexact H22
            isplitl [H23]; · iexact H23
            isplitl [H24]; · iexact H24
            iexact H25
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 21, 22, 23, 24, 25) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.Kernel.Mix

end
-- ==== Proof.AttnMath.lean ====
/-
  Softmax attention at extended reals, for one query row: base-2 scores with a mask lane, the weights summed in a lane
  of the values and divided by at the end, against the plain softmax of the scores.
-/
module

public import Idealize.ShloMosaic.Lib.Pointwise

@[expose] public section

noncomputable section

open Idealize.ShloMosaic

namespace Cert.AttnMath

/-- A finite extended real. -/
def Fin' (x : EReal) : Prop := ∃ r : ℝ, x = (r : EReal)

theorem Fin'.mul {x y : EReal} (hx : Fin' x) (hy : Fin' y) : Fin' (x * y) := by
  obtain ⟨a, rfl⟩ := hx; obtain ⟨b, rfl⟩ := hy; exact ⟨a * b, (EReal.coe_mul a b).symm⟩

theorem Fin'.add {x y : EReal} (hx : Fin' x) (hy : Fin' y) : Fin' (x + y) := by
  obtain ⟨a, rfl⟩ := hx; obtain ⟨b, rfl⟩ := hy; exact ⟨a + b, (EReal.coe_add a b).symm⟩

theorem Fin'.sub {x y : EReal} (hx : Fin' x) (hy : Fin' y) : Fin' (x - y) := by
  obtain ⟨a, rfl⟩ := hx; obtain ⟨b, rfl⟩ := hy; exact ⟨a - b, (EReal.coe_sub a b).symm⟩

theorem coe_sum {n : ℕ} (f : Fin n → ℝ) : ∑ i, ((f i : ℝ) : EReal) = ((∑ i, f i : ℝ) : EReal) := by
  induction n with
  | zero => simp
  | succ n ih => rw [Fin.sum_univ_succ, Fin.sum_univ_succ, ih, EReal.coe_add]

/-- A finite factor that is not negative moves into a sum. -/
theorem sum_mul_coe {n : ℕ} (f : Fin n → EReal) (c : ℝ) (hc : 0 ≤ c) :
    (∑ i, f i) * (c : EReal) = ∑ i, f i * (c : EReal) := by
  induction n with
  | zero => simp
  | succ n ih =>
    rw [Fin.sum_univ_succ, Fin.sum_univ_succ, EReal.right_distrib_of_nonneg_of_ne_top (by exact_mod_cast hc) (EReal.coe_ne_top c), ih]

/-- The quotient by a positive real is the product with its inverse. -/
theorem div_coe (x : EReal) (L : ℝ) (hL : 0 < L) : Ideal.div x (L : EReal) = x * ((L⁻¹ : ℝ) : EReal) := by
  have h : ((L : ℝ) : EReal) ≠ 0 := by exact_mod_cast hL.ne'
  rw [Ideal.div, if_neg h, EReal.coe_inv]

/-- The base-2 exponential of a real divided by log 2 is the exponential. -/
theorem exp2_div (x : ℝ) : Ideal.exp2 ((x * (Real.log 2)⁻¹ : ℝ) : EReal) = ((Real.exp x : ℝ) : EReal) := by
  show ((Real.rpow 2 (x * (Real.log 2)⁻¹) : ℝ) : EReal) = _
  congr 1
  show (2 : ℝ) ^ (x * (Real.log 2)⁻¹) = _
  have h2 : Real.log 2 ≠ 0 := (Real.log_pos (by norm_num)).ne'
  rw [Real.rpow_def_of_pos (by norm_num)]
  congr 1
  field_simp

theorem fold_max_eq {n : ℕ} (f : Fin n → EReal) (j : Fin n) (h : ∀ i, f i ≤ f j) :
    Finset.univ.fold max ⊥ f = f j := by
  apply le_antisymm
  · rw [Finset.fold_max_le]; exact ⟨bot_le, fun i _ => h i⟩
  · rw [Finset.le_fold_max]; exact Or.inr ⟨j, Finset.mem_univ j, le_rfl⟩

/-- A sum over 4224 rows, the first 112 apart. -/
theorem sum_rows (f : Fin 4224 → EReal) :
    ∑ r, f r = (∑ i : Fin 112, f ⟨i.val, by omega⟩) + ∑ j : Fin 4112, f ⟨112 + j.val, by omega⟩ :=
  Fin.sum_univ_add (a := 112) (b := 4112) f

/-- A sum over 128 lanes, the halves apart. -/
theorem sum_lanes (f : Fin 128 → EReal) :
    ∑ r, f r = (∑ i : Fin 64, f ⟨i.val, by omega⟩) + ∑ j : Fin 64, f ⟨64 + j.val, by omega⟩ :=
  Fin.sum_univ_add (a := 64) (b := 64) f

/-- The query row as the kernel lays it out: 64 lanes of a head's scaled query, a one, and zeros. -/
def padded (u : Fin 64 → EReal) (l : Fin 128) : EReal :=
  if h : l.val < 64 then u ⟨l.val, h⟩ else if l.val = 64 then 1 else 0

/-- The padded row's product with a key row. -/
def score (u : Fin 64 → EReal) (k : Fin 128 → EReal) : EReal := ∑ l, padded u l * k l

theorem score_eq (u : Fin 64 → EReal) (k : Fin 128 → EReal) :
    score u k = (∑ n : Fin 64, u n * k ⟨n.val, by omega⟩) + k ⟨64, by omega⟩ := by
  rw [score, sum_lanes]
  refine congrArg₂ (· + ·) ?_ ?_
  · refine Finset.sum_congr rfl fun n _ => ?_
    rw [padded, dif_pos n.isLt]
  · rw [Finset.sum_eq_single (0 : Fin 64)]
    · show padded u ⟨64, _⟩ * k ⟨64, _⟩ = _
      rw [padded, dif_neg (by simp), if_pos rfl, one_mul]
    · intro b _ hb
      have : b.val ≠ 0 := fun h => hb (Fin.ext h)
      rw [padded, dif_neg (by simp), if_neg (by simp; omega), zero_mul]
    · intro h; exact absurd (Finset.mem_univ _) h

/-- The weight a key row gets in the kernel, before the division. -/
def weight (u : Fin 64 → EReal) (k : Fin 4224 → Fin 128 → EReal) (r : Fin 4224) : EReal :=
  Ideal.exp2 (score u (k r) - Finset.univ.fold max ⊥ fun r => score u (k r))

/-- One output of the kernel's attention: the weighted values over the weights summed in another lane. -/
def kernelOut (u : Fin 64 → EReal) (k : Fin 4224 → Fin 128 → EReal) (v w : Fin 4224 → EReal) : EReal :=
  Ideal.div (∑ r, weight u k r * v r) (∑ r, weight u k r * w r)

/-- One output of plain softmax attention over the 4112 token rows. -/
def plainOut (s : Fin 4112 → EReal) (v : Fin 4112 → EReal) : EReal :=
  ∑ j, v j * Ideal.div (Ideal.exp (s j - max ⊥ (Finset.univ.fold max ⊥ s)))
    (∑ j, Ideal.exp (s j - max ⊥ (Finset.univ.fold max ⊥ s)))

theorem attn_eq (q : Fin 64 → EReal) (hq : ∀ n, Fin' (q n)) (k : Fin 4224 → Fin 128 → EReal)
    (hk : ∀ r (n : Fin 64), Fin' (k r ⟨n.val, by omega⟩))
    (hm : ∀ r : Fin 4224, r.val < 112 → k r ⟨64, by omega⟩ = ⊥)
    (h0 : ∀ j : Fin 4112, k ⟨112 + j.val, by omega⟩ ⟨64, by omega⟩ = 0)
    (v w : Fin 4224 → EReal) (hw : ∀ j : Fin 4112, w ⟨112 + j.val, by omega⟩ = 1) :
    kernelOut (fun n => q n * (((1 / 8) * (Real.log 2)⁻¹ : ℝ) : EReal)) k v w
      = plainOut (fun j => ∑ n : Fin 64, k ⟨112 + j.val, by omega⟩ ⟨n.val, by omega⟩ * (q n * ((1 / 8 : ℝ) : EReal)))
          (fun j => v ⟨112 + j.val, by omega⟩) := by
  choose q' hq' using hq
  choose k' hk' using hk
  obtain rfl : q = fun n => (q' n : EReal) := funext hq'
  -- the real score of a token row
  set a : Fin 4112 → ℝ := fun j => ∑ n : Fin 64, k' ⟨112 + j.val, by omega⟩ n * (q' n * (1 / 8)) with ha
  have hs : ∀ j : Fin 4112, (∑ n : Fin 64, k ⟨112 + j.val, by omega⟩ ⟨n.val, by omega⟩ * ((q' n : EReal) * ((1 / 8 : ℝ) : EReal))) = (a j : EReal) := by
    intro j
    rw [ha, ← coe_sum]
    refine Finset.sum_congr rfl fun n _ => ?_
    rw [hk', ← EReal.coe_mul, ← EReal.coe_mul]
  set t : Fin 4224 → EReal := fun r => score (fun n => (q' n : EReal) * (((1 / 8) * (Real.log 2)⁻¹ : ℝ) : EReal)) (k r) with ht
  have htok : ∀ j : Fin 4112, t ⟨112 + j.val, by omega⟩ = ((a j * (Real.log 2)⁻¹ : ℝ) : EReal) := by
    intro j
    rw [ht]; dsimp only
    rw [score_eq, h0, add_zero, ha, Finset.sum_mul, ← coe_sum]
    refine Finset.sum_congr rfl fun n _ => ?_
    rw [hk', ← EReal.coe_mul, ← EReal.coe_mul]
    congr 1; ring
  have hmask : ∀ r : Fin 4224, r.val < 112 → t r = ⊥ := by
    intro r hr
    rw [ht]; dsimp only
    rw [score_eq, hm r hr, EReal.add_bot]
  obtain ⟨j0, -, hj0⟩ := Finset.exists_max_image (Finset.univ : Finset (Fin 4112)) a ⟨0, Finset.mem_univ _⟩
  have hj : ∀ j, a j ≤ a j0 := fun j => hj0 j (Finset.mem_univ j)
  have hlog : 0 < (Real.log 2)⁻¹ := inv_pos.2 (Real.log_pos (by norm_num))
  have hT : Finset.univ.fold max ⊥ t = ((a j0 * (Real.log 2)⁻¹ : ℝ) : EReal) := by
    rw [← htok j0]
    refine fold_max_eq t _ fun r => ?_
    by_cases hr : r.val < 112
    · rw [hmask r hr]; exact bot_le
    · have e : r = ⟨112 + (⟨r.val - 112, by omega⟩ : Fin 4112).val, by simp only; omega⟩ := Fin.ext (by simp only; omega)
      rw [e, htok, htok]
      exact_mod_cast mul_le_mul_of_nonneg_right (hj _) hlog.le
  have hS : max ⊥ (Finset.univ.fold max ⊥ fun j => (a j : EReal)) = (a j0 : EReal) := by
    rw [bot_sup_eq, fold_max_eq (fun j => (a j : EReal)) j0 fun i => by exact_mod_cast hj i]
  have hwt : ∀ j : Fin 4112, weight (fun n => (q' n : EReal) * (((1 / 8) * (Real.log 2)⁻¹ : ℝ) : EReal)) k ⟨112 + j.val, by omega⟩ = ((Real.exp (a j - a j0) : ℝ) : EReal) := by
    intro j
    show Ideal.exp2 (t _ - Finset.univ.fold max ⊥ t) = _
    rw [hT, htok, ← EReal.coe_sub, ← sub_mul, exp2_div]
  have hwm : ∀ r : Fin 4224, r.val < 112 → weight (fun n => (q' n : EReal) * (((1 / 8) * (Real.log 2)⁻¹ : ℝ) : EReal)) k r = 0 := by
    intro r hr
    show Ideal.exp2 (t _ - Finset.univ.fold max ⊥ t) = _
    rw [hmask r hr, hT, EReal.bot_sub]
    rfl
  have hp : 0 < ∑ j, Real.exp (a j - a j0) :=
    Finset.sum_pos (fun j _ => Real.exp_pos _) ⟨0, Finset.mem_univ _⟩
  rw [kernelOut, plainOut]
  simp only [hs, hS]
  rw [sum_rows, sum_rows]
  have hz : ∀ i : Fin 112, weight (fun n => (q' n : EReal) * (((1 / 8) * (Real.log 2)⁻¹ : ℝ) : EReal)) k ⟨i.val, by omega⟩ = 0 :=
    fun i => hwm _ i.isLt
  simp only [hwt, hw, hz, mul_one, zero_mul, Finset.sum_const_zero, zero_add]
  have he : ∀ j, Ideal.exp ((a j : EReal) - (a j0 : EReal)) = ((Real.exp (a j - a j0) : ℝ) : EReal) := by
    intro j; rw [← EReal.coe_sub]; rfl
  simp only [he, coe_sum, div_coe _ _ hp]
  rw [sum_mul_coe _ _ (inv_nonneg.2 hp.le)]
  refine Finset.sum_congr rfl fun j _ => ?_
  rw [mul_comm ((Real.exp (a j - a j0) : ℝ) : EReal), mul_assoc]

/-! ## The constants -/

theorem ofBits_64 : Ideal.ofBits .f32 0x42800000#32 = ((64 : ℝ) : EReal) := by
  simp [Ideal.ofBits, Ideal.ieee, -EReal.coe_mul]; norm_num

theorem ofBits_64th : Ideal.ofBits .f32 0x3C800000#32 = ((64⁻¹ : ℝ) : EReal) := by
  simp [Ideal.ofBits, Ideal.ieee, -EReal.coe_mul]; norm_num

theorem ofBits_8th : Ideal.ofBits .f32 0x3E000000#32 = ((1 / 8 : ℝ) : EReal) := by
  simp [Ideal.ofBits, Ideal.ieee, -EReal.coe_mul]; norm_num

theorem ofBits_eps : ∃ e : ℝ, 0 < e ∧ Ideal.ofBits .f32 0x358637BD#32 = ((e : ℝ) : EReal) := by
  refine ⟨_, ?_, by simp [Ideal.ofBits, Ideal.ieee, -EReal.coe_mul]; rfl⟩
  positivity

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

/-! ## One query row of one head -/

/-- A head's 64 numbers, normalized and times the gain. -/
def normRow (x g : Fin 64 → EReal) (n : Fin 64) : EReal :=
  x n * Ideal.rsqrt (Ideal.div (∑ j, x j * x j) (Ideal.ofBits .f32 0x42800000#32) + Ideal.ofBits .f32 0x358637BD#32) * g n

/-- … and rotated: two axes of 32 numbers, each two halves of 16. -/
def queryRow (x g : Fin 64 → EReal) (c s : Fin 2 → Fin 16 → EReal) (n : Fin 64) : EReal :=
  if h : n.val % 32 < 16 then
    normRow x g n * c ⟨n.val / 32, by omega⟩ ⟨n.val % 16, by omega⟩ - normRow x g ⟨n.val + 16, by omega⟩ * s ⟨n.val / 32, by omega⟩ ⟨n.val % 16, by omega⟩
  else
    normRow x g n * c ⟨n.val / 32, by omega⟩ ⟨n.val % 16, by omega⟩ + normRow x g ⟨n.val - 16, by omega⟩ * s ⟨n.val / 32, by omega⟩ ⟨n.val % 16, by omega⟩

theorem normRow_fin {x g : Fin 64 → EReal} (hx : ∀ n, Fin' (x n)) (hg : ∀ n, Fin' (g n)) (n : Fin 64) : Fin' (normRow x g n) := by
  refine (Fin'.mul (hx n) ?_).mul (hg n)
  choose x' hx' using hx
  obtain ⟨e, he, he'⟩ := ofBits_eps
  have h : (∑ j, x j * x j) = ((∑ j, x' j * x' j : ℝ) : EReal) := by
    rw [← coe_sum]; exact Finset.sum_congr rfl fun j _ => by rw [hx', EReal.coe_mul]
  have h0 : 0 ≤ ∑ j, x' j * x' j := Finset.sum_nonneg fun j _ => mul_self_nonneg _
  have hp : 0 < (∑ j, x' j * x' j) * 64⁻¹ + e := by positivity
  rw [h, ofBits_64, he', div_coe _ _ (by norm_num), ← EReal.coe_mul, ← EReal.coe_add]
  refine ⟨(Real.sqrt ((∑ j, x' j * x' j) * 64⁻¹ + e))⁻¹, ?_⟩
  show (if (∑ j, x' j * x' j) * 64⁻¹ + e < 0 then (⊥ : EReal) else if (∑ j, x' j * x' j) * 64⁻¹ + e = 0 then ⊤ else _) = _
  rw [if_neg hp.not_gt, if_neg hp.ne']

theorem queryRow_fin {x g : Fin 64 → EReal} {c s : Fin 2 → Fin 16 → EReal} (hx : ∀ n, Fin' (x n)) (hg : ∀ n, Fin' (g n))
    (hc : ∀ a i, Fin' (c a i)) (hs : ∀ a i, Fin' (s a i)) (n : Fin 64) : Fin' (queryRow x g c s n) := by
  unfold queryRow
  split
  · exact ((normRow_fin hx hg _).mul (hc _ _)).sub ((normRow_fin hx hg _).mul (hs _ _))
  · exact ((normRow_fin hx hg _).mul (hc _ _)).add ((normRow_fin hx hg _).mul (hs _ _))

/-- The mean square of the half of 128 lanes that holds lane `l`, by a matrix of ones over 64 in blocks; the second sum,
    of what a narrower format would lose, is zero. -/
theorem mean_half (x : Fin 128 → EReal) (hx : ∀ k, Fin' (x k)) (h : Fin 2) :
    (∑ k : Fin 128, x k * x k * (if k.val / 64 = h.val then Ideal.ofBits .f32 0x3C800000#32 else 0))
      + (∑ k : Fin 128, (x k * x k - x k * x k) * (if k.val / 64 = h.val then Ideal.ofBits .f32 0x3C800000#32 else 0))
      = Ideal.div (∑ j : Fin 64, x ⟨64 * h.val + j.val, by omega⟩ * x ⟨64 * h.val + j.val, by omega⟩) (Ideal.ofBits .f32 0x42800000#32) := by
  have hz : ∀ k, x k * x k - x k * x k = 0 := by
    intro k
    obtain ⟨r, hr⟩ := hx k
    rw [hr, ← EReal.coe_mul, ← EReal.coe_sub, sub_self, EReal.coe_zero]
  simp only [hz, zero_mul, Finset.sum_const_zero, add_zero]
  rw [sum_lanes, ofBits_64, ofBits_64th, div_coe _ _ (by norm_num), sum_mul_coe _ _ (by norm_num)]
  fin_cases h
  · have h1 : ∀ i : Fin 64, i.val / 64 = 0 := fun i => by omega
    have h2 : ∀ i : Fin 64, ¬ (64 + i.val) / 64 = 0 := fun i => by omega
    simp [h1, h2]
  · have h1 : ∀ i : Fin 64, ¬ i.val / 64 = 1 := fun i => by omega
    have h2 : ∀ i : Fin 64, (64 + i.val) / 64 = 1 := fun i => by omega
    simp [h1, h2]

end Cert.AttnMath

end
-- ==== Proof.AttnCore.lean ====
/-
  One block of the mixers call's attention, as vector operations on the loaded blocks, and what it holds at an index:
  256 query rows of four heads against all keys and values of their group.
-/
module

public import proofs.«01_k».proof.Proof.Gen.KernelIdeal
public import proofs.«01_k».proof.Proof.AttnMath
public import Idealize.ShloMosaic.Lib.Pointwise
public import Idealize.ShloMosaic.Lib.Tactic.CleanTypes

@[expose] public section

set_option maxRecDepth 16384

noncomputable section

open Idealize.ShloMosaic Idealize.ShloMosaic.TcCoe

namespace Cert.KernelIdeal.Attn

open Cert.KernelIdeal Cert.KernelIdeal.Gen Cert.AttnMath

/-! ## The operations -/

/-- An index array divided by 64, rounded down. -/
def div64 (i : IVec S128x128 32) : IVec S128x128 32 :=
  let z : IVec S128x128 32 := broadcast S128x128 0#32
  let d : IVec S128x128 32 := broadcast S128x128 64#32
  let one : IVec S128x128 32 := broadcast S128x128 1#32
  select (andi (cmpi .ne (subi (extui 32 (cmpi .sgt i z) natLt_1_32) (extui 32 (cmpi .slt i z) natLt_1_32)) one) (cmpi .ne (remsi i d) z))
    (subi (divsi i d) one) (divsi i d)

/-- The matrix that averages each half of 128 lanes. -/
def means : FVec Ideal S128x128 .bf16 :=
  truncf .bf16 (select (cmpi .eq (div64 (iota .tc S128x128 32 [0] iota_S128x128_d0_w32)) (div64 (iota .tc S128x128 32 [1] iota_S128x128_d1_w32)))
    (broadcast S128x128 (Scalar.ofBits (F := Ideal) .f32 0x3C800000#32)) (broadcast S128x128 (Scalar.ofBits (F := Ideal) .f32 0x00000000#32))) bitsLt_bf16_f32

/-- Two heads' queries, each normalized over its 64 lanes and times the gain. -/
def normed (x : FVec Ideal S256x128 .f32) (g : FVec Ideal S1x128 .f32) : FVec Ideal S256x128 .f32 :=
  let xx := mulf x x
  let hi := truncf .bf16 xx bitsLt_bf16_f32
  let lo := truncf .bf16 (subf xx (extf .f32 hi bitsLt_bf16_f32)) bitsLt_bf16_f32
  mulf (mulf x (rsqrt (addf (addf (matmul dot_S256x128_S128x128_S256x128_1_0_0_1_n_n none hi means (constant S256x128 .f32 0x00000000#32))
    (matmul dot_S256x128_S128x128_S256x128_1_0_0_1_n_n none lo means (constant S256x128 .f32 0x00000000#32)))
    (broadcast S256x128 (Scalar.ofBits (F := Ideal) .f32 0x358637BD#32))))) (broadcastTo S256x128 g broadcasts_S1x128_S256x128)

/-- Whether a lane is in the first half of its group of 32. -/
def firstHalf : IVec S256x128 1 :=
  let r : IVec S256x128 32 := remsi (iota .tc S256x128 32 [1] iota_S256x128_d1_w32) (broadcast S256x128 32#32)
  let z : IVec S256x128 32 := broadcast S256x128 0#32
  cmpi .slt (select (andi (xori (cmpi .slt r z) (broadcastTo S256x128 (broadcast S256x128 0#1) broadcasts_S256x128_S256x128)) (cmpi .ne r z))
    (addi r (broadcast S256x128 32#32)) r) (broadcast S256x128 16#32)

/-- Two heads' queries, rotated and scaled. -/
def rotated (y : FVec Ideal S256x128 .f32) (c s : FVec Ideal S256x128 .f32) : FVec Ideal S256x128 .f32 :=
  mulf (addf (mulf y c) (mulf (select firstHalf (dynamicRotate 1 112#32 none y rotates_S256x128_d1) (dynamicRotate 1 16#32 none y rotates_S256x128_d1)) s))
    (broadcast S256x128 (Named.named (F := Ideal) κ "qscale" 0x3E38AA3B#32))

/-- The lane that is one in a padded query row. -/
def oneLane : FVec Ideal S64x128 .f32 :=
  select (cmpi .eq (iota .tc S64x128 32 [1] iota_S64x128_d1_w32) (broadcast S64x128 64#32))
    (broadcast S64x128 (Scalar.ofBits (F := Ideal) .f32 0x3F800000#32)) (broadcast S64x128 (Scalar.ofBits (F := Ideal) .f32 0x00000000#32))

/-- A head's 64 lanes and the one lane. -/
def pad (x : FVec Ideal S64x128 .f32) : FVec Ideal S64x128 .f32 :=
  select (cmpi .slt (iota .tc S64x128 32 [1] iota_S64x128_d1_w32) (broadcast S64x128 64#32)) x oneLane

/-- The padded rows of four heads of 64 queries. -/
def stack (a b : FVec Ideal S64x128 .f32) : FVec Ideal S256x128 .bf16 :=
  truncf .bf16 (concatenate S256x128 0 [⟨S64x128, pad a⟩, ⟨S64x128, pad (dynamicRotate 1 64#32 none a rotates_S64x128_d1)⟩,
    ⟨S64x128, pad b⟩, ⟨S64x128, pad (dynamicRotate 1 64#32 none b rotates_S64x128_d1)⟩]
    concatenates_S64x128_S64x128_S64x128_S64x128_S256x128_d0) bitsLt_bf16_f32

/-- The scores of the rows. -/
def scores (p : FVec Ideal S256x128 .bf16) (k : FVec Ideal S4224x128 .bf16) : FVec Ideal S256x4224 .f32 :=
  matmul dot_S256x128_S4224x128_S256x4224_1_1_0_0_n_n none p k (constant S256x4224 .f32 0x00000000#32)

/-- The weights of the rows. -/
def weights (s : FVec Ideal S256x4224 .f32) : FVec Ideal S256x4224 .bf16 :=
  truncf .bf16 (exp2 (subf s (broadcastTo S256x4224 (shapeCast S256x1 (multiReduction .maximumf [1] S256 s 0xFF800000#32 reduces_S256x4224_S256 (.inl rfl) rfl)
    shapeCasts_S256_S256x1) broadcasts_S256x1_S256x4224))) bitsLt_bf16_f32

/-- The weighted values over the weights' sum. -/
def mixed (w : FVec Ideal S256x4224 .bf16) (v : FVec Ideal S4224x128 .bf16) : FVec Ideal S256x128 .f32 :=
  let o := matmul dot_S256x4224_S4224x128_S256x128_1_0_0_1_n_n none w v (constant S256x128 .f32 0x00000000#32)
  divf o (broadcastTo S256x128 (extractStridedSlice S256x1 ![0, 64] o slices_S256x128_o0_64_S256x1) broadcasts_S256x1_S256x128)

/-- Two heads' outputs side by side. -/
def pair (a b : FVec Ideal S64x128 .f32) : FVec Ideal S1x64x128 .bf16 :=
  shapeCast S1x64x128 (truncf .bf16 (select (cmpi .slt (iota .tc S64x128 32 [1] iota_S64x128_d1_w32) (broadcast S64x128 64#32)) a
    (dynamicRotate 1 64#32 none b rotates_S64x128_d1)) bitsLt_bf16_f32) shapeCasts_S64x128_S1x64x128

/-! ## At an index -/

theorem div64_row (i : Fin 128) (j : Fin 128) : div64 (iota .tc S128x128 32 [0] iota_S128x128_d0_w32) (ix2 i j) = BitVec.ofNat 32 (i.val / 64) := by
  pointwise [div64]
  revert i; decide

theorem div64_col (i : Fin 128) (j : Fin 128) : div64 (iota .tc S128x128 32 [1] iota_S128x128_d1_w32) (ix2 i j) = BitVec.ofNat 32 (j.val / 64) := by
  pointwise [div64]
  revert j; decide

theorem select_same (a b : Fin 2) (u v : EReal) :
    Scalar.select (IntOp.cmpi CmpIPredicate.eq (BitVec.ofNat 32 a.val) (BitVec.ofNat 32 b.val)) u v = if a.val = b.val then u else v := by
  fin_cases a <;> fin_cases b <;> rfl

theorem means_apply (i j : Fin 128) : means (ix2 i j) = if i.val / 64 = j.val / 64 then Ideal.ofBits .f32 0x3C800000#32 else 0 := by
  pointwise [means]
  rw [div64_row, div64_col]
  exact select_same ⟨i.val / 64, by omega⟩ ⟨j.val / 64, by omega⟩ _ _

theorem normed_apply (x : FVec Ideal S256x128 .f32) (g : FVec Ideal S1x128 .f32) (G : Fin 64 → EReal) (a : Fin 256) (h : Fin 2) (n : Fin 64)
    (hx : ∀ k, Fin' (x (ix2 a k))) (hg : ∀ n : Fin 64, g (ix2 0 ⟨64 * h.val + n.val, by omega⟩) = G n) :
    normed x g (ix2 a ⟨64 * h.val + n.val, by omega⟩) = normRow (fun j => x (ix2 a ⟨64 * h.val + j.val, by omega⟩)) G n := by
  have e : (64 * h.val + n.val) / 64 = h.val := by omega
  pointwise [normed]
  simp only [means_apply, e]
  rw [mean_half (fun k => x (ix2 a k)) hx h, hg]
  rfl

theorem firstHalf_apply (a : Fin 256) (l : Fin 128) : firstHalf (ix2 a l) = if l.val % 32 < 16 then 1#1 else 0#1 := by
  pointwise [firstHalf]
  revert l; decide

theorem qscale : Named.named (F := Ideal) κ "qscale" (φ := .f32) 0x3E38AA3B#32 = (((1 / 8) * (Real.log 2)⁻¹ : ℝ) : EReal) :=
  IdealRules.named_const.ideal_named_scalar _ _ _ _ rfl

theorem rotated_apply (x : FVec Ideal S256x128 .f32) (g : FVec Ideal S1x128 .f32) (c s : FVec Ideal S256x128 .f32)
    (G : Fin 64 → EReal) (C S : Fin 2 → Fin 16 → EReal) (a : Fin 256) (h : Fin 2) (n : Fin 64)
    (hx : ∀ k, Fin' (x (ix2 a k))) (hg : ∀ n : Fin 64, g (ix2 0 ⟨64 * h.val + n.val, by omega⟩) = G n)
    (hc : c (ix2 a ⟨64 * h.val + n.val, by omega⟩) = C ⟨n.val / 32, by omega⟩ ⟨n.val % 16, by omega⟩)
    (hs : s (ix2 a ⟨64 * h.val + n.val, by omega⟩)
      = if n.val % 32 < 16 then - S ⟨n.val / 32, by omega⟩ ⟨n.val % 16, by omega⟩ else S ⟨n.val / 32, by omega⟩ ⟨n.val % 16, by omega⟩) :
    rotated (normed x g) c s (ix2 a ⟨64 * h.val + n.val, by omega⟩)
      = queryRow (fun j => x (ix2 a ⟨64 * h.val + j.val, by omega⟩)) G C S n * (((1 / 8) * (Real.log 2)⁻¹ : ℝ) : EReal) := by
  have e : (64 * h.val + n.val) % 32 = n.val % 32 := by omega
  pointwise [rotated]
  rw [qscale, hc, hs, firstHalf_apply, normed_apply x g G a h n hx hg]
  congr 1
  unfold queryRow
  by_cases hn : n.val % 32 < 16
  · have e1 : (⟨(64 * h.val + n.val + 128 - 112) % 128, Nat.mod_lt _ (by norm_num)⟩ : Fin 128)
        = ⟨64 * h.val + (⟨n.val + 16, by omega⟩ : Fin 64).val, by simp only; omega⟩ := Fin.ext (by simp only; omega)
    rw [dif_pos hn, if_pos hn]
    simp only [e, hn, if_true]
    rw [show ∀ u v : EReal, Scalar.select 1#1 u v = u from fun _ _ => rfl, e1, normed_apply x g G a h _ hx hg, mul_neg, ← sub_eq_add_neg]
  · have e1 : (⟨(64 * h.val + n.val + 128 - 16) % 128, Nat.mod_lt _ (by norm_num)⟩ : Fin 128)
        = ⟨64 * h.val + (⟨n.val - 16, by omega⟩ : Fin 64).val, by simp only; omega⟩ := Fin.ext (by simp only; omega)
    rw [dif_neg hn, if_neg hn]
    simp only [e, hn, if_false]
    rw [show ∀ u v : EReal, Scalar.select 0#1 u v = v from fun _ _ => rfl, e1, normed_apply x g G a h _ hx hg]

theorem select_lt (l : Fin 128) (u v : EReal) :
    Scalar.select (IntOp.cmpi CmpIPredicate.slt (BitVec.ofNat 32 l.val) 64#32) u v = if l.val < 64 then u else v := by
  have h : ∀ l : Fin 128, IntOp.cmpi CmpIPredicate.slt (BitVec.ofNat 32 l.val) 64#32 = if l.val < 64 then 1#1 else 0#1 := by decide
  rw [h]; split <;> rfl

theorem select_eq (l : Fin 128) (u v : EReal) :
    Scalar.select (IntOp.cmpi CmpIPredicate.eq (BitVec.ofNat 32 l.val) 64#32) u v = if l.val = 64 then u else v := by
  have h : ∀ l : Fin 128, IntOp.cmpi CmpIPredicate.eq (BitVec.ofNat 32 l.val) 64#32 = if l.val = 64 then 1#1 else 0#1 := by decide
  rw [h]; split <;> rfl

theorem pad_apply (x : FVec Ideal S64x128 .f32) (a : Fin 64) (l : Fin 128) :
    pad x (ix2 a l) = padded (fun n => x (ix2 a ⟨n.val, by omega⟩)) l := by
  pointwise [pad, oneLane]
  rw [select_lt, select_eq]
  unfold padded
  split <;> rfl

theorem rot64_apply (x : FVec Ideal S64x128 .f32) (a : Fin 64) (l : Fin 128) :
    dynamicRotate 1 64#32 none x rotates_S64x128_d1 (ix2 a l) = x (ix2 a ⟨(l.val + 64) % 128, Nat.mod_lt _ (by norm_num)⟩) := by
  pointwise
  exact congrArg (fun k => x (ix2 a k)) (Fin.ext (by simp only; omega))

/-- The stack's row `64 * g + a` holds head `g`'s query `a`. -/
theorem stack_apply (x : Fin 2 → FVec Ideal S64x128 .f32) (p h : Fin 2) (a : Fin 64) (l : Fin 128) :
    stack (x 0) (x 1) (ix2 ⟨128 * p.val + 64 * h.val + a.val, by omega⟩ l) = padded (fun n => x p (ix2 a ⟨64 * h.val + n.val, by omega⟩)) l := by
  have hr : ∀ (y : FVec Ideal S64x128 .f32) (b : Fin 64), b = a → pad (dynamicRotate 1 64#32 none y rotates_S64x128_d1) (ix2 b l)
      = padded (fun n => y (ix2 a ⟨64 + n.val, by omega⟩)) l := by
    intro y b hb
    subst hb
    rw [pad_apply]
    exact congrArg (fun f => padded f l) (funext fun n => (rot64_apply y _ ⟨n.val, by omega⟩).trans (congrArg (fun k => y (ix2 _ k)) (Fin.ext (by simp only; omega))))
  have h0 : ∀ (y : FVec Ideal S64x128 .f32) (b : Fin 64), b = a → pad y (ix2 b l) = padded (fun n => y (ix2 a ⟨n.val, by omega⟩)) l := by
    rintro y _ rfl
    exact pad_apply y _ l
  fin_cases p <;> fin_cases h
  · pointwise [stack]
    exact h0 _ _ rfl
  · pointwise [stack]
    exact hr _ _ rfl
  · pointwise [stack]
    rw [dif_neg (by omega), dif_neg (by omega), dif_pos (by omega)]
    exact h0 _ _ (Fin.ext (by simp only; omega))
  · pointwise [stack]
    rw [dif_neg (by omega), dif_neg (by omega), dif_neg (by omega)]
    exact hr _ _ (Fin.ext (by simp only; omega))

theorem mixed_apply (q : FVec Ideal S256x128 .bf16) (k v : FVec Ideal S4224x128 .bf16) (U : Fin 64 → EReal) (a : Fin 256) (l : Fin 128)
    (hq : ∀ l, q (ix2 a l) = padded U l) :
    mixed (weights (scores q k)) v (ix2 a l)
      = kernelOut U (fun r l => k (ix2 r l)) (fun r => v (ix2 r l)) (fun r => v (ix2 r 64)) := by
  have hsc : ∀ r, scores q k (ix2 a r) = score U fun l => k (ix2 r l) := by
    intro r
    pointwise [scores]
    simp only [hq]; rfl
  have hw : ∀ r, weights (scores q k) (ix2 a r) = weight U (fun r l => k (ix2 r l)) r := by
    intro r
    pointwise [weights]
    simp only [hsc, ofBits_bot]; rfl
  pointwise [mixed]
  simp only [hw]; rfl

theorem pair_lane (x y : FVec Ideal S64x128 .f32) (a : Fin 64) (l : Fin 128) :
    pair x y (ix3 0 a l) = if l.val < 64 then x (ix2 a l) else y (ix2 a ⟨(l.val + 64) % 128, Nat.mod_lt _ (by norm_num)⟩) := by
  pointwise [pair]
  rw [select_lt]
  refine if_congr Iff.rfl rfl ?_
  exact congrArg (fun k => y (ix2 a k)) (Fin.ext (by simp only; omega))

theorem pair_apply (x y : FVec Ideal S64x128 .f32) (a : Fin 64) (h : Fin 2) (n : Fin 64) :
    pair x y (ix3 0 a ⟨64 * h.val + n.val, by omega⟩) = (if h = 0 then x else y) (ix2 a ⟨n.val, by omega⟩) := by
  rw [pair_lane]
  fin_cases h
  · simp
  · simp only [Fin.mk_one, Fin.val_one, Fin.isValue, one_ne_zero, if_false]
    rw [if_neg (by omega)]
    exact congrArg (fun k => y (ix2 a k)) (Fin.ext (by simp only; omega))

/-- What the rows of four heads of 64 queries hold. -/
def rows (x : Fin 2 → FVec Ideal S64x128 .f32) (k v : FVec Ideal S4224x128 .bf16) : FVec Ideal S256x128 .f32 :=
  mixed (weights (scores (stack (x 0) (x 1)) k)) v

theorem rows_apply (x : Fin 2 → FVec Ideal S64x128 .f32) (k v : FVec Ideal S4224x128 .bf16) (p h : Fin 2) (a : Fin 64) (l : Fin 128) :
    rows x k v (ix2 ⟨128 * p.val + 64 * h.val + a.val, by omega⟩ l)
      = kernelOut (fun n => x p (ix2 a ⟨64 * h.val + n.val, by omega⟩)) (fun r l => k (ix2 r l)) (fun r => v (ix2 r l)) (fun r => v (ix2 r 64)) :=
  mixed_apply _ k v _ _ l fun l => stack_apply x p h a l

/-- The first two heads' outputs. -/
def first (o : FVec Ideal S256x128 .f32) : FVec Ideal S1x64x128 .bf16 :=
  pair (extractStridedSlice S64x128 ![0, 0] o slices_S256x128_o0_0_S64x128) (extractStridedSlice S64x128 ![64, 0] o slices_S256x128_o64_0_S64x128)

/-- The last two heads' outputs. -/
def last (o : FVec Ideal S256x128 .f32) : FVec Ideal S1x64x128 .bf16 :=
  pair (extractStridedSlice S64x128 ![128, 0] o slices_S256x128_o128_0_S64x128) (extractStridedSlice S64x128 ![192, 0] o slices_S256x128_o192_0_S64x128)

theorem first_apply (x : Fin 2 → FVec Ideal S64x128 .f32) (k v : FVec Ideal S4224x128 .bf16) (h : Fin 2) (a n : Fin 64) :
    first (rows x k v) (ix3 0 a ⟨64 * h.val + n.val, by omega⟩)
      = kernelOut (fun n => x 0 (ix2 a ⟨64 * h.val + n.val, by omega⟩)) (fun r l => k (ix2 r l)) (fun r => v (ix2 r ⟨n.val, by omega⟩)) (fun r => v (ix2 r 64)) := by
  rw [← rows_apply x k v 0 h a ⟨n.val, by omega⟩, first, pair_apply]
  fin_cases h
  · pointwise
  · pointwise

theorem last_apply (x : Fin 2 → FVec Ideal S64x128 .f32) (k v : FVec Ideal S4224x128 .bf16) (h : Fin 2) (a n : Fin 64) :
    last (rows x k v) (ix3 0 a ⟨64 * h.val + n.val, by omega⟩)
      = kernelOut (fun n => x 1 (ix2 a ⟨64 * h.val + n.val, by omega⟩)) (fun r l => k (ix2 r l)) (fun r => v (ix2 r ⟨n.val, by omega⟩)) (fun r => v (ix2 r 64)) := by
  rw [← rows_apply x k v 1 h a ⟨n.val, by omega⟩, last, pair_apply]
  fin_cases h
  · pointwise
  · pointwise

end Cert.KernelIdeal.Attn

end
-- ==== Proof.Mix.Runs.lean ====
/- What the four runs of the mixers' body share: the body's branch conditions over the grid's points, where its
   windows are idle, the staging and scratch memrefs, and the frame claim's post from any proof data's run. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Mix

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1560000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(Pipeline.RDat.FramePost.arr_in h c 15 rfl).trans ((hA c 15).trans (V_main_arg0 m c)),
      (Pipeline.RDat.FramePost.arr_in h c 6 rfl).trans ((hA c 6).trans (V_main_arg1 m c)),
      (Pipeline.RDat.FramePost.arr_in h c 7 rfl).trans ((hA c 7).trans (V_main_arg2 m c)),
      (Pipeline.RDat.FramePost.arr_in h c 8 rfl).trans ((hA c 8).trans (V_main_arg3 m c)),
      (Pipeline.RDat.FramePost.arr_in h c 9 rfl).trans ((hA c 9).trans (V_main_arg4 m c)),
      (Pipeline.RDat.FramePost.arr_in h c 10 rfl).trans ((hA c 10).trans (V_main_arg5 m c)),
      (Pipeline.RDat.FramePost.arr_in h c 11 rfl).trans ((hA c 11).trans (V_main_arg6 m c)),
      (Pipeline.RDat.FramePost.arr_in h c 12 rfl).trans ((hA c 12).trans (V_main_arg7 m c)),
      (Pipeline.RDat.FramePost.arr_in h c 13 rfl).trans ((hA c 13).trans (V_main_arg8 m c)),
      (Pipeline.RDat.FramePost.arr_in h c 14 rfl).trans ((hA c 14).trans (V_main_arg9 m c)),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      (Pipeline.RDat.FramePost.arr_in h c 19 rfl).trans ((hA c 19).trans (V_main_arg13 m c)),
      (Pipeline.RDat.FramePost.arr_in h c 20 rfl).trans ((hA c 20).trans (V_main_arg14 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 34) — by arithmetic of the point. -/
theorem hcond0_0 : ∀ t : Fin cfg0.N, cond0_0 (grid0.coords t) ↔ t.val % 34 = 0 :=
  (fun t => by
    have ht : t.val < 136 := Nat.lt_of_lt_of_eq t.isLt N_0
    have e0 : (grid0.coords t 0).val = t.val / 34 % 4 := Pipeline.Grid.coords_val t 0 (by decide) rfl
    have e1 : (grid0.coords t 1).val = t.val / 1 % 34 := Pipeline.Grid.coords_val t 1 (by decide) rfl
    simp only [cond0_0, e0, e1]
    word_cmp
   : ∀ t : Fin grid0.N, cond0_0 (grid0.coords t) ↔ t.val % 34 = 0)

/-- The condition of the body's `scf.if` 1 (`k0_h2`), from the grid coordinates (the skeleton's scalar
    chain substituted). -/
abbrev cond0_1 (i : grid0.Coords) : Prop := (Scalar.cmpi .ne (Scalar.extui (Scalar.cmpi .sle (BitVec.ofNat 32 (i 1).val) 1#32)) 0#32) = 1#1
/-- It holds at the points whose coordinates have i1 ≤ 1 — decided over the grid. -/
theorem hcond0_1 : ∀ t : Fin cfg0.N, cond0_1 (grid0.coords t) ↔ t.val % 34 ≤ 1 :=
  (by decide +kernel : ∀ t : Fin grid0.N, cond0_1 (grid0.coords t) ↔ t.val % 34 ≤ 1)

/-- The condition of the body's `scf.if` 2 (`k0_h3`), from the grid coordinates (the skeleton's scalar
    chain substituted). -/
abbrev cond0_2 (i : grid0.Coords) : Prop := k0_cond3 i = 1#1
/-- It holds at the points whose coordinates have 1 ≤ i1 and i1 ≤ 32 — decided over the grid. -/
theorem hcond0_2 : ∀ t : Fin cfg0.N, cond0_2 (grid0.coords t) ↔ (1 ≤ t.val % 34 ∧ t.val % 34 ≤ 32) :=
  (by decide +kernel : ∀ t : Fin grid0.N, cond0_2 (grid0.coords t) ↔ (1 ≤ t.val % 34 ∧ t.val % 34 ≤ 32))

/-- The condition of the body's `scf.if` 3 (`k0_h4`), from the grid coordinates (the skeleton's scalar
    chain substituted). -/
abbrev cond0_3 (i : grid0.Coords) : Prop := k0_cond4 i = 1#1
/-- It holds at the points whose coordinates have 2 ≤ i1 — decided over the grid. -/
theorem hcond0_3 : ∀ t : Fin cfg0.N, cond0_3 (grid0.coords t) ↔ 2 ≤ t.val % 34 :=
  (by decide +kernel : ∀ t : Fin grid0.N, cond0_3 (grid0.coords t) ↔ 2 ≤ t.val % 34)

/-- The condition of the body's `scf.if` 4 (`k0_h5`), from the grid coordinates (the skeleton's scalar
    chain substituted). -/
abbrev cond0_4 (i : grid0.Coords) : Prop := k0_cond5 i = 1#1
/-- It holds at the points whose coordinates have 1 ≤ i1 and i1 ≤ 32 — decided over the grid. -/
theorem hcond0_4 : ∀ t : Fin cfg0.N, cond0_4 (grid0.coords t) ↔ (1 ≤ t.val % 34 ∧ t.val % 34 ≤ 32) :=
  (by decide +kernel : ∀ t : Fin grid0.N, cond0_4 (grid0.coords t) ↔ (1 ≤ t.val % 34 ∧ t.val % 34 ≤ 32))

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 15 is never idle (an input). -/
theorem liveAt0_15 : ∀ t : Fin cfg0.N, cfg0.idle 15 (grid0.coords t) = false := fun _ => rfl
/-- Window 16 is never idle (an input). -/
theorem liveAt0_16 : ∀ t : Fin cfg0.N, cfg0.idle 16 (grid0.coords t) = false := fun _ => rfl
/-- Window 17 is never idle (an input). -/
theorem liveAt0_17 : ∀ t : Fin cfg0.N, cfg0.idle 17 (grid0.coords t) = false := fun _ => rfl
/-- Window 18 is never idle (an input). -/
theorem liveAt0_18 : ∀ t : Fin cfg0.N, cfg0.idle 18 (grid0.coords t) = false := fun _ => rfl
/-- Window 19 is never idle (an input). -/
theorem liveAt0_19 : ∀ t : Fin cfg0.N, cfg0.idle 19 (grid0.coords t) = false := fun _ => rfl
/-- Window 20 is never idle (an input). -/
theorem liveAt0_20 : ∀ t : Fin cfg0.N, cfg0.idle 20 (grid0.coords t) = false := fun _ => rfl
/-- Window 25 is never idle (an output stored at every point, under no condition). -/
theorem liveAt0_25 : ∀ t : Fin cfg0.N, cfg0.idle 25 (grid0.coords t) = false := fun _ => rfl
/-! ## The kernel body on any staging memrefs: a subtype the run finds -/

/-- One staging buffer of output window 25, through which its contents are stated (`View.read_writes_of_cover`: the
    choice does not matter). -/
abbrev VO0_25 : View sig .tc .vmem S1x256x256 .bf16 := (Memref.whole cc0_stg25_0 : Memref sig .tc .vmem S1x256x256 .bf16).view
/-- Each window's current staging memref at point `t`, spelled as the pipeline passes it (`bodyAt0`), and its wholeness. -/
abbrev ms0_0 (t : Fin cfg0.N) : Memref sig .tc .vmem S1x128x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x512 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x512 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x256x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x128 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x1x4224x128 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x1x4224x128 .bf16 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x128x512 .bf16 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x128x512 .bf16 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S1x128x512 .bf16 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S1x128x512 .bf16 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S1x256x256 .bf16 := win0_25.stage (cfg0.slots t 25)
abbrev hs0_25 (t : Fin cfg0.N) : (ms0_25 t).IsWhole := hstage0_25 ((cfg0.slots t 25).cast nbuf0_25)
/-- The scratch operands: whole scoped buffers of the kernel's own, passed beside the windows. -/
abbrev scM0_0 : Memref sig .tc .vmem S2x4x128x128 .f32 := Memref.whole cc0_scratch0
abbrev scM0_1 : Memref sig .tc .vmem S2x6x2x4x128x128 .bf16 := Memref.whole cc0_scratch1
abbrev scM0_2 : Memref sig .tc .vmem S2x2x4x128x128 .f32 := Memref.whole cc0_scratch2
abbrev scM0_3 : Memref sig .tc .vmem S2x2x1x512 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Mix

end
-- ==== Proof.AttnBlock.lean ====
/-
  The block of attention outputs that one grid point stores, from the blocks it loads: eight stores of 64 rows and two
  heads each, and what they hold at an index.
-/
module

public import proofs.«01_k».proof.Proof.AttnCore
public import proofs.«01_k».proof.Proof.Mix.Runs
public import Idealize.ShloMosaic.Lib.Pipeline.ValueKit

@[expose] public section

set_option maxRecDepth 16384

noncomputable section

open Idealize.ShloMosaic Idealize.ShloMosaic.TcCoe

namespace Cert.KernelIdeal.Attn

open Cert.KernelIdeal Cert.KernelIdeal.Gen Cert.KernelIdeal.Mix Cert.AttnMath

/-- The rotated queries of two heads, from what is loaded. -/
def loaded (q : FVec Ideal S1x256x128 .f32) (c s : FVec Ideal S256x128 .f32) (g : FVec Ideal S1x128 .f32) : FVec Ideal S256x128 .f32 :=
  rotated (normed (shapeCast S256x128 q shapeCasts_S1x256x128_S256x128) (shapeCast S1x128 g shapeCasts_S1x128_S1x128))
    (shapeCast S256x128 c shapeCasts_S256x128_S256x128) (shapeCast S256x128 s shapeCasts_S256x128_S256x128)

/-- Four heads of 64 queries, from the rotated queries of each two. -/
def part (o : ℕ) (w : S256x128.Slices ![o, 0] S64x128) (r0 r1 : FVec Ideal S256x128 .f32) (k v : FVec Ideal S1x1x4224x128 .bf16) :
    FVec Ideal S256x128 .f32 :=
  rows ![extractStridedSlice S64x128 ![o, 0] r0 w, extractStridedSlice S64x128 ![o, 0] r1 w]
    (shapeCast S4224x128 k shapeCasts_S1x1x4224x128_S4224x128) (shapeCast S4224x128 v shapeCasts_S1x1x4224x128_S4224x128)

/-- The block's stores, last first. -/
def pieces (r0 r1 : FVec Ideal S256x128 .f32) (k v : FVec Ideal S1x1x4224x128 .bf16) : List (View.Piece (Elt Ideal) S1x256x256 .bf16) :=
  [⟨Rect.unit ![0, 192, 128] S1x64x128.size (by decide), last (part 192 slices_S256x128_o192_0_S64x128 r0 r1 k v)⟩,
   ⟨Rect.unit ![0, 192, 0] S1x64x128.size (by decide), first (part 192 slices_S256x128_o192_0_S64x128 r0 r1 k v)⟩,
   ⟨Rect.unit ![0, 128, 128] S1x64x128.size (by decide), last (part 128 slices_S256x128_o128_0_S64x128 r0 r1 k v)⟩,
   ⟨Rect.unit ![0, 128, 0] S1x64x128.size (by decide), first (part 128 slices_S256x128_o128_0_S64x128 r0 r1 k v)⟩,
   ⟨Rect.unit ![0, 64, 128] S1x64x128.size (by decide), last (part 64 slices_S256x128_o64_0_S64x128 r0 r1 k v)⟩,
   ⟨Rect.unit ![0, 64, 0] S1x64x128.size (by decide), first (part 64 slices_S256x128_o64_0_S64x128 r0 r1 k v)⟩,
   ⟨Rect.unit ![0, 0, 128] S1x64x128.size (by decide), last (part 0 slices_S256x128_o0_0_S64x128 r0 r1 k v)⟩,
   ⟨Rect.unit ![0, 0, 0] S1x64x128.size (by decide), first (part 0 slices_S256x128_o0_0_S64x128 r0 r1 k v)⟩]

theorem first_part (o : ℕ) (w : S256x128.Slices ![o, 0] S64x128) (ho : o ≤ 192) (r0 r1 : FVec Ideal S256x128 .f32)
    (k v : FVec Ideal S1x1x4224x128 .bf16) (h : Fin 2) (a n : Fin 64) :
    first (part o w r0 r1 k v) (ix3 0 a ⟨64 * h.val + n.val, by omega⟩)
      = kernelOut (fun n => r0 (ix2 ⟨o + a.val, by omega⟩ ⟨64 * h.val + n.val, by omega⟩)) (fun r l => k (ix4 0 0 r l))
        (fun r => v (ix4 0 0 r ⟨n.val, by omega⟩)) (fun r => v (ix4 0 0 r 64)) := by
  rw [part, first_apply]
  pointwise

theorem last_part (o : ℕ) (w : S256x128.Slices ![o, 0] S64x128) (ho : o ≤ 192) (r0 r1 : FVec Ideal S256x128 .f32)
    (k v : FVec Ideal S1x1x4224x128 .bf16) (h : Fin 2) (a n : Fin 64) :
    last (part o w r0 r1 k v) (ix3 0 a ⟨64 * h.val + n.val, by omega⟩)
      = kernelOut (fun n => r1 (ix2 ⟨o + a.val, by omega⟩ ⟨64 * h.val + n.val, by omega⟩)) (fun r l => k (ix4 0 0 r l))
        (fun r => v (ix4 0 0 r ⟨n.val, by omega⟩)) (fun r => v (ix4 0 0 r 64)) := by
  rw [part, last_apply]
  pointwise

/-- The block the stores leave. -/
def block (r0 r1 : FVec Ideal S256x128 .f32) (k v : FVec Ideal S1x1x4224x128 .bf16) : FVec Ideal S1x256x256 .bf16 :=
  VO0_25.read (Elt Ideal) (VO0_25.writes (Elt Ideal) VO0_25.junk (pieces r0 r1 k v))

theorem block_apply (r : Fin 2 → FVec Ideal S256x128 .f32) (k v : FVec Ideal S1x1x4224x128 .bf16) (p h : Fin 2) (a : Fin 256) (n : Fin 64) :
    block (r 0) (r 1) k v (ix3 0 a ⟨128 * p.val + 64 * h.val + n.val, by omega⟩)
      = kernelOut (fun n => r p (ix2 a ⟨64 * h.val + n.val, by omega⟩)) (fun r l => k (ix4 0 0 r l))
        (fun r => v (ix4 0 0 r ⟨n.val, by omega⟩)) (fun r => v (ix4 0 0 r 64)) := by
  have hF : ∀ (o : ℕ) (w : S256x128.Slices ![o, 0] S64x128) (x1 : Fin 64) (x2 : Fin 128) (ho : o ≤ 192) (h1 : a.val = o + x1.val)
      (h2 : 128 * p.val + 64 * h.val + n.val = x2.val), first (part o w (r 0) (r 1) k v) (ix3 0 x1 x2)
      = kernelOut (fun n => r p (ix2 a ⟨64 * h.val + n.val, by omega⟩)) (fun r l => k (ix4 0 0 r l))
        (fun r => v (ix4 0 0 r ⟨n.val, by omega⟩)) (fun r => v (ix4 0 0 r 64)) := by
    intro o w x1 x2 ho h1 h2
    obtain rfl : p = 0 := Fin.ext (by simp only [Fin.val_zero]; omega)
    have hb : o + x1.val < 256 := by omega
    have hl : 64 * h.val + n.val < 128 := by omega
    obtain rfl : x2 = ⟨64 * h.val + n.val, hl⟩ := Fin.ext (by simp only [Fin.val_zero] at h2; simp only; omega)
    obtain rfl : a = ⟨o + x1.val, hb⟩ := Fin.ext h1
    exact first_part o w ho _ _ k v h x1 n
  have hL : ∀ (o : ℕ) (w : S256x128.Slices ![o, 0] S64x128) (x1 : Fin 64) (x2 : Fin 128) (ho : o ≤ 192) (h1 : a.val = o + x1.val)
      (h2 : 128 * p.val + 64 * h.val + n.val = 128 + x2.val), last (part o w (r 0) (r 1) k v) (ix3 0 x1 x2)
      = kernelOut (fun n => r p (ix2 a ⟨64 * h.val + n.val, by omega⟩)) (fun r l => k (ix4 0 0 r l))
        (fun r => v (ix4 0 0 r ⟨n.val, by omega⟩)) (fun r => v (ix4 0 0 r 64)) := by
    intro o w x1 x2 ho h1 h2
    obtain rfl : p = 1 := Fin.ext (by simp only [Fin.val_one]; omega)
    have hb : o + x1.val < 256 := by omega
    have hl : 64 * h.val + n.val < 128 := by omega
    obtain rfl : x2 = ⟨64 * h.val + n.val, hl⟩ := Fin.ext (by simp only [Fin.val_one] at h2; simp only; omega)
    obtain rfl : a = ⟨o + x1.val, hb⟩ := Fin.ext h1
    exact last_part o w ho _ _ k v h x1 n
  unfold block pieces
  rw [View.read_writes_junk_eq_canon]
  canon_tiles x h
  · idx_vars x
    obtain rfl : x0 = 0 := Subsingleton.elim _ _
    exact hL 192 _ x1 x2 (by decide) (by clear h2; simp at h1; omega) (by clear h1; simp at h2; omega)
  · idx_vars x
    obtain rfl : x0 = 0 := Subsingleton.elim _ _
    exact hF 192 _ x1 x2 (by decide) (by clear h2; simp at h1; omega) (by clear h1; simp at h2; omega)
  · idx_vars x
    obtain rfl : x0 = 0 := Subsingleton.elim _ _
    exact hL 128 _ x1 x2 (by decide) (by clear h2; simp at h1; omega) (by clear h1; simp at h2; omega)
  · idx_vars x
    obtain rfl : x0 = 0 := Subsingleton.elim _ _
    exact hF 128 _ x1 x2 (by decide) (by clear h2; simp at h1; omega) (by clear h1; simp at h2; omega)
  · idx_vars x
    obtain rfl : x0 = 0 := Subsingleton.elim _ _
    exact hL 64 _ x1 x2 (by decide) (by clear h2; simp at h1; omega) (by clear h1; simp at h2; omega)
  · idx_vars x
    obtain rfl : x0 = 0 := Subsingleton.elim _ _
    exact hF 64 _ x1 x2 (by decide) (by clear h2; simp at h1; omega) (by clear h1; simp at h2; omega)
  · idx_vars x
    obtain rfl : x0 = 0 := Subsingleton.elim _ _
    exact hL 0 _ x1 x2 (by decide) (by clear h2; simp at h1; omega) (by clear h1; simp at h2; omega)
  · idx_vars x
    obtain rfl : x0 = 0 := Subsingleton.elim _ _
    exact hF 0 _ x1 x2 (by decide) (by clear h2; simp at h1; omega) (by clear h1; simp at h2; omega)

/-! ## Loads -/

/-- The first two heads' columns of a block of queries. -/
abbrev lo : Rect S1x256x256 := Rect.unit ![0, 0, 0] S1x256x128.size (by decide)

/-- The last two heads' columns. -/
abbrev hi : Rect S1x256x256 := Rect.unit ![0, 0, 128] S1x256x128.size (by decide)

theorem load_eq {s : Shape} {e : EltTy} (a : Memref sig .tc .vmem s e) (h : a.IsWhole) (r : Rect s) (x : Vec Ideal s e) :
    View.readAt (Elt Ideal) a.view r.toLoadRect (h.unread x) = View.ld x r := by
  rw [View.readAt_eq_ld, Memref.IsWhole.read_unread]

theorem load_whole {s : Shape} {e : EltTy} (a : Memref sig .tc .vmem s e) (h : a.IsWhole) (off : Fin s.rank → ℕ)
    (inb : ∀ i, off i + s.size i ≤ s.size i) (h0 : off = fun _ => 0) (x : Vec Ideal s e) :
    View.readAt (Elt Ideal) a.view (Rect.unit off s.size inb).toLoadRect (h.unread x) = x := by
  rw [load_eq, View.ld_unit_zero h0]

theorem loaded_apply (q : FVec Ideal S1x256x128 .f32) (c s : FVec Ideal S256x128 .f32) (g : FVec Ideal S1x128 .f32)
    (G : Fin 64 → EReal) (C S : Fin 2 → Fin 16 → EReal) (a : Fin 256) (h : Fin 2) (n : Fin 64)
    (hx : ∀ k, Fin' (q (ix3 0 a k))) (hg : ∀ n : Fin 64, g (ix2 0 ⟨64 * h.val + n.val, by omega⟩) = G n)
    (hc : c (ix2 a ⟨64 * h.val + n.val, by omega⟩) = C ⟨n.val / 32, by omega⟩ ⟨n.val % 16, by omega⟩)
    (hs : s (ix2 a ⟨64 * h.val + n.val, by omega⟩)
      = if n.val % 32 < 16 then - S ⟨n.val / 32, by omega⟩ ⟨n.val % 16, by omega⟩ else S ⟨n.val / 32, by omega⟩ ⟨n.val % 16, by omega⟩) :
    loaded q c s g (ix2 a ⟨64 * h.val + n.val, by omega⟩)
      = queryRow (fun j => q (ix3 0 a ⟨64 * h.val + j.val, by omega⟩)) G C S n * (((1 / 8) * (Real.log 2)⁻¹ : ℝ) : EReal) := by
  unfold loaded
  rw [rotated_apply _ _ _ _ G C S a h n]
  · pointwise
  · pointwise; exact hx
  · pointwise; exact hg
  · pointwise; exact hc
  · pointwise; exact hs

end Cert.KernelIdeal.Attn

end
-- ==== Proof.Mix.RunA.lean ====
/- The run of the mixers' whole body at a sequence's first point of a sequence: the pieces its stores leave in the attention's block. -/
module

public import proofs.«01_k».proof.Proof.Mix.Runs

@[expose] public section

-- membership in a rectangle of production extents (`View.cover_of_tiled`): the elaborator's structural look
-- recurses once per coordinate of the long axes
set_option maxRecDepth 16384

noncomputable section

namespace Cert.KernelIdeal.Mix

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4036000 in
/-- What the body's stores leave in each output's staging memref, as pieces (last first) IN CASE A (`scf.if` 0 taken, `scf.if` 1 taken, `scf.if` 2 not taken, `scf.if` 3 not taken, `scf.if` 4 not taken: points 0, 34, 68, 102), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (21, 22, 23, 24) at anything, handed back at some contents nothing names. -/
noncomputable def kernelRun0_A (c : Dev nD) (i : grid0.Coords) (arg2 : Memref sig .tc .vmem S1x128x2048 .f32) (harg2 : arg2.IsWhole) (arg3 : Memref sig .tc .vmem S1x8x2048 .f32) (harg3 : arg3.IsWhole) (arg4 : Memref sig .tc .vmem S1x8x2048 .f32) (harg4 : arg4.IsWhole) (arg5 : Memref sig .tc .vmem S1x128x2048 .f32) (harg5 : arg5.IsWhole) (arg6 : Memref sig .tc .vmem S1x8x2048 .f32) (harg6 : arg6.IsWhole) (arg7 : Memref sig .tc .vmem S1x8x2048 .f32) (harg7 : arg7.IsWhole) (arg8 : Memref sig .tc .vmem S2x2048 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S1x1024 .f32) (harg11 : arg11.IsWhole) (arg12 : Memref sig .tc .vmem S128x1024 .f32) (harg12 : arg12.IsWhole) (arg13 : Memref sig .tc .vmem S256x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x256x256 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S1x1x4224x128 .bf16) (harg21 : arg21.IsWhole) (arg22 : Memref sig .tc .vmem S1x1x4224x128 .bf16) (harg22 : arg22.IsWhole) (arg23 : Memref sig .tc .vmem S1x128x512 .bf16) (harg23 : arg23.IsWhole) (arg24 : Memref sig .tc .vmem S1x128x512 .bf16) (harg24 : arg24.IsWhole) (arg25 : Memref sig .tc .vmem S1x128x512 .bf16) (harg25 : arg25.IsWhole) (arg26 : Memref sig .tc .vmem S1x128x512 .bf16) (harg26 : arg26.IsWhole) (arg27 : Memref sig .tc .vmem S1x256x256 .bf16) (harg27 : arg27.IsWhole) (arg28 : Memref sig .tc .vmem S2x4x128x128 .f32) (harg28 : arg28.IsWhole) (arg29 : Memref sig .tc .vmem S2x6x2x4x128x128 .bf16) (harg29 : arg29.IsWhole) (arg30 : Memref sig .tc .vmem S2x2x4x128x128 .f32) (harg30 : arg30.IsWhole) (arg31 : Memref sig .tc .vmem S2x2x1x512 .f32) (harg31 : arg31.IsWhole) (hc0 : cond0_0 i) (hc1 : cond0_1 i) (hc2 : ¬cond0_2 i) (hc3 : ¬cond0_3 i) (hc4 : ¬cond0_4 i)
    (x0 : Vec F S1x128x2048 .f32) (x1 : Vec F S1x8x2048 .f32) (x2 : Vec F S1x8x2048 .f32) (x3 : Vec F S1x128x2048 .f32) (x4 : Vec F S1x8x2048 .f32) (x5 : Vec F S1x8x2048 .f32) (x6 : Vec F S2x2048 .f32) (x7 : Vec F S1x1024 .f32) (x8 : Vec F S128x1024 .f32) (x9 : Vec F S1x1024 .f32) (x10 : Vec F S128x1024 .f32) (x11 : Vec F S256x512 .f32) (x12 : Vec F S1x512 .f32) (x13 : Vec F S1x512 .f32) (x14 : Vec F S1x512 .f32) (x15 : Vec F S1x256x256 .f32) (x16 : Vec F S256x128 .f32) (x17 : Vec F S256x128 .f32) (x18 : Vec F S1x128 .f32) (x19 : Vec F S1x1x4224x128 .bf16) (x20 : Vec F S1x1x4224x128 .bf16) :
    { L25 : List (View.Piece (Elt F) S1x256x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ f, arg27.view.loc (c : Thread nD τ) ↦[arg27.view.set]{fullShare} arg27.view.writes (Elt F) f L25) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)) -∗ K ⟨⟩))
          ⊢ wp frame (wpE (defs₀ (F := F)) Variants.none c none) E (cc0_mixers i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K } := by
  refine ⟨?_, fun E K => ?run⟩
  case run =>
    simp only [cc0_mixers_eq_skeleton]; unfold cc0_mixers_skel
    simp only [k0_part141_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part142_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]; · iexists _; iexact H25
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Mix

end
-- ==== Proof.Mix.RunB.lean ====
/- The run of the mixers' whole body at a sequence's second point: the pieces its stores leave in the attention's block. -/
module

public import proofs.«01_k».proof.Proof.Mix.Runs

@[expose] public section

-- membership in a rectangle of production extents (`View.cover_of_tiled`): the elaborator's structural look
-- recurses once per coordinate of the long axes
set_option maxRecDepth 16384

noncomputable section

namespace Cert.KernelIdeal.Mix

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4128000 in
/-- What the body's stores leave in each output's staging memref, as pieces (last first) IN CASE B (`scf.if` 0 not taken, `scf.if` 1 taken, `scf.if` 2 taken, `scf.if` 3 not taken, `scf.if` 4 taken: points 1, 35, 69, 103), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (21, 22, 23, 24) at anything, handed back at some contents nothing names. -/
noncomputable def kernelRun0_B (c : Dev nD) (i : grid0.Coords) (arg2 : Memref sig .tc .vmem S1x128x2048 .f32) (harg2 : arg2.IsWhole) (arg3 : Memref sig .tc .vmem S1x8x2048 .f32) (harg3 : arg3.IsWhole) (arg4 : Memref sig .tc .vmem S1x8x2048 .f32) (harg4 : arg4.IsWhole) (arg5 : Memref sig .tc .vmem S1x128x2048 .f32) (harg5 : arg5.IsWhole) (arg6 : Memref sig .tc .vmem S1x8x2048 .f32) (harg6 : arg6.IsWhole) (arg7 : Memref sig .tc .vmem S1x8x2048 .f32) (harg7 : arg7.IsWhole) (arg8 : Memref sig .tc .vmem S2x2048 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S1x1024 .f32) (harg11 : arg11.IsWhole) (arg12 : Memref sig .tc .vmem S128x1024 .f32) (harg12 : arg12.IsWhole) (arg13 : Memref sig .tc .vmem S256x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x256x256 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S1x1x4224x128 .bf16) (harg21 : arg21.IsWhole) (arg22 : Memref sig .tc .vmem S1x1x4224x128 .bf16) (harg22 : arg22.IsWhole) (arg23 : Memref sig .tc .vmem S1x128x512 .bf16) (harg23 : arg23.IsWhole) (arg24 : Memref sig .tc .vmem S1x128x512 .bf16) (harg24 : arg24.IsWhole) (arg25 : Memref sig .tc .vmem S1x128x512 .bf16) (harg25 : arg25.IsWhole) (arg26 : Memref sig .tc .vmem S1x128x512 .bf16) (harg26 : arg26.IsWhole) (arg27 : Memref sig .tc .vmem S1x256x256 .bf16) (harg27 : arg27.IsWhole) (arg28 : Memref sig .tc .vmem S2x4x128x128 .f32) (harg28 : arg28.IsWhole) (arg29 : Memref sig .tc .vmem S2x6x2x4x128x128 .bf16) (harg29 : arg29.IsWhole) (arg30 : Memref sig .tc .vmem S2x2x4x128x128 .f32) (harg30 : arg30.IsWhole) (arg31 : Memref sig .tc .vmem S2x2x1x512 .f32) (harg31 : arg31.IsWhole) (hc0 : ¬cond0_0 i) (hc1 : cond0_1 i) (hc2 : cond0_2 i) (hc3 : ¬cond0_3 i) (hc4 : cond0_4 i)
    (x0 : Vec F S1x128x2048 .f32) (x1 : Vec F S1x8x2048 .f32) (x2 : Vec F S1x8x2048 .f32) (x3 : Vec F S1x128x2048 .f32) (x4 : Vec F S1x8x2048 .f32) (x5 : Vec F S1x8x2048 .f32) (x6 : Vec F S2x2048 .f32) (x7 : Vec F S1x1024 .f32) (x8 : Vec F S128x1024 .f32) (x9 : Vec F S1x1024 .f32) (x10 : Vec F S128x1024 .f32) (x11 : Vec F S256x512 .f32) (x12 : Vec F S1x512 .f32) (x13 : Vec F S1x512 .f32) (x14 : Vec F S1x512 .f32) (x15 : Vec F S1x256x256 .f32) (x16 : Vec F S256x128 .f32) (x17 : Vec F S256x128 .f32) (x18 : Vec F S1x128 .f32) (x19 : Vec F S1x1x4224x128 .bf16) (x20 : Vec F S1x1x4224x128 .bf16) :
    { L25 : List (View.Piece (Elt F) S1x256x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ f, arg27.view.loc (c : Thread nD τ) ↦[arg27.view.set]{fullShare} arg27.view.writes (Elt F) f L25) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)) -∗ K ⟨⟩))
          ⊢ wp frame (wpE (defs₀ (F := F)) Variants.none c none) E (cc0_mixers i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K } := by
  refine ⟨?_, fun E K => ?run⟩
  case run =>
    simp only [cc0_mixers_eq_skeleton]; unfold cc0_mixers_skel
    simp only [k0_part141_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part142_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]; · iexists _; iexact H25
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Mix

end
-- ==== Proof.Mix.RunC.lean ====
/- The run of the mixers' whole body at a sequence's points 2 to 32: the pieces its stores leave in the attention's block. -/
module

public import proofs.«01_k».proof.Proof.Mix.Runs

@[expose] public section

-- membership in a rectangle of production extents (`View.cover_of_tiled`): the elaborator's structural look
-- recurses once per coordinate of the long axes
set_option maxRecDepth 16384

noncomputable section

namespace Cert.KernelIdeal.Mix

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4220000 in
/-- What the body's stores leave in each output's staging memref, as pieces (last first) IN CASE C (`scf.if` 0 not taken, `scf.if` 1 not taken, `scf.if` 2 taken, `scf.if` 3 taken, `scf.if` 4 taken: points 2, 3, … 134: 124 of 136), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (21, 22, 23, 24) at anything, handed back at some contents nothing names. -/
noncomputable def kernelRun0_C (c : Dev nD) (i : grid0.Coords) (arg2 : Memref sig .tc .vmem S1x128x2048 .f32) (harg2 : arg2.IsWhole) (arg3 : Memref sig .tc .vmem S1x8x2048 .f32) (harg3 : arg3.IsWhole) (arg4 : Memref sig .tc .vmem S1x8x2048 .f32) (harg4 : arg4.IsWhole) (arg5 : Memref sig .tc .vmem S1x128x2048 .f32) (harg5 : arg5.IsWhole) (arg6 : Memref sig .tc .vmem S1x8x2048 .f32) (harg6 : arg6.IsWhole) (arg7 : Memref sig .tc .vmem S1x8x2048 .f32) (harg7 : arg7.IsWhole) (arg8 : Memref sig .tc .vmem S2x2048 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S1x1024 .f32) (harg11 : arg11.IsWhole) (arg12 : Memref sig .tc .vmem S128x1024 .f32) (harg12 : arg12.IsWhole) (arg13 : Memref sig .tc .vmem S256x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x256x256 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S1x1x4224x128 .bf16) (harg21 : arg21.IsWhole) (arg22 : Memref sig .tc .vmem S1x1x4224x128 .bf16) (harg22 : arg22.IsWhole) (arg23 : Memref sig .tc .vmem S1x128x512 .bf16) (harg23 : arg23.IsWhole) (arg24 : Memref sig .tc .vmem S1x128x512 .bf16) (harg24 : arg24.IsWhole) (arg25 : Memref sig .tc .vmem S1x128x512 .bf16) (harg25 : arg25.IsWhole) (arg26 : Memref sig .tc .vmem S1x128x512 .bf16) (harg26 : arg26.IsWhole) (arg27 : Memref sig .tc .vmem S1x256x256 .bf16) (harg27 : arg27.IsWhole) (arg28 : Memref sig .tc .vmem S2x4x128x128 .f32) (harg28 : arg28.IsWhole) (arg29 : Memref sig .tc .vmem S2x6x2x4x128x128 .bf16) (harg29 : arg29.IsWhole) (arg30 : Memref sig .tc .vmem S2x2x4x128x128 .f32) (harg30 : arg30.IsWhole) (arg31 : Memref sig .tc .vmem S2x2x1x512 .f32) (harg31 : arg31.IsWhole) (hc0 : ¬cond0_0 i) (hc1 : ¬cond0_1 i) (hc2 : cond0_2 i) (hc3 : cond0_3 i) (hc4 : cond0_4 i)
    (x0 : Vec F S1x128x2048 .f32) (x1 : Vec F S1x8x2048 .f32) (x2 : Vec F S1x8x2048 .f32) (x3 : Vec F S1x128x2048 .f32) (x4 : Vec F S1x8x2048 .f32) (x5 : Vec F S1x8x2048 .f32) (x6 : Vec F S2x2048 .f32) (x7 : Vec F S1x1024 .f32) (x8 : Vec F S128x1024 .f32) (x9 : Vec F S1x1024 .f32) (x10 : Vec F S128x1024 .f32) (x11 : Vec F S256x512 .f32) (x12 : Vec F S1x512 .f32) (x13 : Vec F S1x512 .f32) (x14 : Vec F S1x512 .f32) (x15 : Vec F S1x256x256 .f32) (x16 : Vec F S256x128 .f32) (x17 : Vec F S256x128 .f32) (x18 : Vec F S1x128 .f32) (x19 : Vec F S1x1x4224x128 .bf16) (x20 : Vec F S1x1x4224x128 .bf16) :
    { L25 : List (View.Piece (Elt F) S1x256x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ f, arg27.view.loc (c : Thread nD τ) ↦[arg27.view.set]{fullShare} arg27.view.writes (Elt F) f L25) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)) -∗ K ⟨⟩))
          ⊢ wp frame (wpE (defs₀ (F := F)) Variants.none c none) E (cc0_mixers i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K } := by
  refine ⟨?_, fun E K => ?run⟩
  case run =>
    simp only [cc0_mixers_eq_skeleton]; unfold cc0_mixers_skel
    simp only [k0_part141_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part142_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]; · iexists _; iexact H25
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Mix

end
-- ==== Proof.Mix.RunD.lean ====
/- The run of the mixers' whole body at a sequence's last point: the pieces its stores leave in the attention's block. -/
module

public import proofs.«01_k».proof.Proof.Mix.Runs

@[expose] public section

-- membership in a rectangle of production extents (`View.cover_of_tiled`): the elaborator's structural look
-- recurses once per coordinate of the long axes
set_option maxRecDepth 16384

noncomputable section

namespace Cert.KernelIdeal.Mix

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4092000 in
/-- What the body's stores leave in each output's staging memref, as pieces (last first) IN CASE D (`scf.if` 0 not taken, `scf.if` 1 not taken, `scf.if` 2 not taken, `scf.if` 3 taken, `scf.if` 4 not taken: points 33, 67, 101, 135), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (21, 22, 23, 24) at anything, handed back at some contents nothing names. -/
noncomputable def kernelRun0_D (c : Dev nD) (i : grid0.Coords) (arg2 : Memref sig .tc .vmem S1x128x2048 .f32) (harg2 : arg2.IsWhole) (arg3 : Memref sig .tc .vmem S1x8x2048 .f32) (harg3 : arg3.IsWhole) (arg4 : Memref sig .tc .vmem S1x8x2048 .f32) (harg4 : arg4.IsWhole) (arg5 : Memref sig .tc .vmem S1x128x2048 .f32) (harg5 : arg5.IsWhole) (arg6 : Memref sig .tc .vmem S1x8x2048 .f32) (harg6 : arg6.IsWhole) (arg7 : Memref sig .tc .vmem S1x8x2048 .f32) (harg7 : arg7.IsWhole) (arg8 : Memref sig .tc .vmem S2x2048 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S1x1024 .f32) (harg11 : arg11.IsWhole) (arg12 : Memref sig .tc .vmem S128x1024 .f32) (harg12 : arg12.IsWhole) (arg13 : Memref sig .tc .vmem S256x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x256x256 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S1x1x4224x128 .bf16) (harg21 : arg21.IsWhole) (arg22 : Memref sig .tc .vmem S1x1x4224x128 .bf16) (harg22 : arg22.IsWhole) (arg23 : Memref sig .tc .vmem S1x128x512 .bf16) (harg23 : arg23.IsWhole) (arg24 : Memref sig .tc .vmem S1x128x512 .bf16) (harg24 : arg24.IsWhole) (arg25 : Memref sig .tc .vmem S1x128x512 .bf16) (harg25 : arg25.IsWhole) (arg26 : Memref sig .tc .vmem S1x128x512 .bf16) (harg26 : arg26.IsWhole) (arg27 : Memref sig .tc .vmem S1x256x256 .bf16) (harg27 : arg27.IsWhole) (arg28 : Memref sig .tc .vmem S2x4x128x128 .f32) (harg28 : arg28.IsWhole) (arg29 : Memref sig .tc .vmem S2x6x2x4x128x128 .bf16) (harg29 : arg29.IsWhole) (arg30 : Memref sig .tc .vmem S2x2x4x128x128 .f32) (harg30 : arg30.IsWhole) (arg31 : Memref sig .tc .vmem S2x2x1x512 .f32) (harg31 : arg31.IsWhole) (hc0 : ¬cond0_0 i) (hc1 : ¬cond0_1 i) (hc2 : ¬cond0_2 i) (hc3 : cond0_3 i) (hc4 : ¬cond0_4 i)
    (x0 : Vec F S1x128x2048 .f32) (x1 : Vec F S1x8x2048 .f32) (x2 : Vec F S1x8x2048 .f32) (x3 : Vec F S1x128x2048 .f32) (x4 : Vec F S1x8x2048 .f32) (x5 : Vec F S1x8x2048 .f32) (x6 : Vec F S2x2048 .f32) (x7 : Vec F S1x1024 .f32) (x8 : Vec F S128x1024 .f32) (x9 : Vec F S1x1024 .f32) (x10 : Vec F S128x1024 .f32) (x11 : Vec F S256x512 .f32) (x12 : Vec F S1x512 .f32) (x13 : Vec F S1x512 .f32) (x14 : Vec F S1x512 .f32) (x15 : Vec F S1x256x256 .f32) (x16 : Vec F S256x128 .f32) (x17 : Vec F S256x128 .f32) (x18 : Vec F S1x128 .f32) (x19 : Vec F S1x1x4224x128 .bf16) (x20 : Vec F S1x1x4224x128 .bf16) :
    { L25 : List (View.Piece (Elt F) S1x256x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ f, arg27.view.loc (c : Thread nD τ) ↦[arg27.view.set]{fullShare} arg27.view.writes (Elt F) f L25) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)) -∗ K ⟨⟩))
          ⊢ wp frame (wpE (defs₀ (F := F)) Variants.none c none) E (cc0_mixers i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K } := by
  refine ⟨?_, fun E K => ?run⟩
  case run =>
    simp only [cc0_mixers_eq_skeleton]; unfold cc0_mixers_skel
    simp only [k0_part141_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part142_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]; · iexists _; iexact H25
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Mix

end
-- ==== Proof.Mix.Frame.lean ====
/- The run of the mixers' call with the attention's output NAMED point by point: the four other outputs, which no
   result carries, and the scratch are held at some contents that nothing states. -/
module

public import proofs.«01_k».proof.Proof.Mix.RunA
public import proofs.«01_k».proof.Proof.Mix.RunB
public import proofs.«01_k».proof.Proof.Mix.RunC
public import proofs.«01_k».proof.Proof.Mix.RunD
public import Idealize.ShloMosaic.Lib.Claim

@[expose] public section

-- membership in a rectangle of production extents (`View.cover_of_tiled`): the elaborator's structural look
-- recurses once per coordinate of the long axes
set_option maxRecDepth 16384

noncomputable section

namespace Cert.KernelIdeal.Mix

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 25 tile its block (8 stores of `S1x64x128`, checked by the kernel's evaluation: Lib/Ring.lean `Piece.tiledL`, linear in the pieces, through a loop's `@[irreducible]` trip theorem too), so they cover it. -/
theorem cover0_A_25 (c : Dev nD) (i : grid0.Coords) (arg2 : Memref sig .tc .vmem S1x128x2048 .f32) (harg2 : arg2.IsWhole) (arg3 : Memref sig .tc .vmem S1x8x2048 .f32) (harg3 : arg3.IsWhole) (arg4 : Memref sig .tc .vmem S1x8x2048 .f32) (harg4 : arg4.IsWhole) (arg5 : Memref sig .tc .vmem S1x128x2048 .f32) (harg5 : arg5.IsWhole) (arg6 : Memref sig .tc .vmem S1x8x2048 .f32) (harg6 : arg6.IsWhole) (arg7 : Memref sig .tc .vmem S1x8x2048 .f32) (harg7 : arg7.IsWhole) (arg8 : Memref sig .tc .vmem S2x2048 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S1x1024 .f32) (harg11 : arg11.IsWhole) (arg12 : Memref sig .tc .vmem S128x1024 .f32) (harg12 : arg12.IsWhole) (arg13 : Memref sig .tc .vmem S256x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x256x256 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S1x1x4224x128 .bf16) (harg21 : arg21.IsWhole) (arg22 : Memref sig .tc .vmem S1x1x4224x128 .bf16) (harg22 : arg22.IsWhole) (arg23 : Memref sig .tc .vmem S1x128x512 .bf16) (harg23 : arg23.IsWhole) (arg24 : Memref sig .tc .vmem S1x128x512 .bf16) (harg24 : arg24.IsWhole) (arg25 : Memref sig .tc .vmem S1x128x512 .bf16) (harg25 : arg25.IsWhole) (arg26 : Memref sig .tc .vmem S1x128x512 .bf16) (harg26 : arg26.IsWhole) (arg27 : Memref sig .tc .vmem S1x256x256 .bf16) (harg27 : arg27.IsWhole) (arg28 : Memref sig .tc .vmem S2x4x128x128 .f32) (harg28 : arg28.IsWhole) (arg29 : Memref sig .tc .vmem S2x6x2x4x128x128 .bf16) (harg29 : arg29.IsWhole) (arg30 : Memref sig .tc .vmem S2x2x4x128x128 .f32) (harg30 : arg30.IsWhole) (arg31 : Memref sig .tc .vmem S2x2x1x512 .f32) (harg31 : arg31.IsWhole) (hc0 : cond0_0 i) (hc1 : cond0_1 i) (hc2 : ¬cond0_2 i) (hc3 : ¬cond0_3 i) (hc4 : ¬cond0_4 i)
    (x0 : Vec F S1x128x2048 .f32) (x1 : Vec F S1x8x2048 .f32) (x2 : Vec F S1x8x2048 .f32) (x3 : Vec F S1x128x2048 .f32) (x4 : Vec F S1x8x2048 .f32) (x5 : Vec F S1x8x2048 .f32) (x6 : Vec F S2x2048 .f32) (x7 : Vec F S1x1024 .f32) (x8 : Vec F S128x1024 .f32) (x9 : Vec F S1x1024 .f32) (x10 : Vec F S128x1024 .f32) (x11 : Vec F S256x512 .f32) (x12 : Vec F S1x512 .f32) (x13 : Vec F S1x512 .f32) (x14 : Vec F S1x512 .f32) (x15 : Vec F S1x256x256 .f32) (x16 : Vec F S256x128 .f32) (x17 : Vec F S256x128 .f32) (x18 : Vec F S1x128 .f32) (x19 : Vec F S1x1x4224x128 .bf16) (x20 : Vec F S1x1x4224x128 .bf16) (y : S1x256x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 hc4 x0 x1 x2 x3 x4 x5 x6 x7 x8 x9 x10 x11 x12 x13 x14 x15 x16 x17 x18 x19 x20).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 hc4 x0 x1 x2 x3 x4 x5 x6 x7 x8 x9 x10 x11 x12 x13 x14 x15 x16 x17 x18 x19 x20).1 S1x64x128.size (by sl_kernel_rfl) y

/-- What case A leaves in output 25's staging buffer: its pieces read back over junk. -/
def out0_A_25 (c : Dev nD) (i : grid0.Coords) (arg2 : Memref sig .tc .vmem S1x128x2048 .f32) (harg2 : arg2.IsWhole) (arg3 : Memref sig .tc .vmem S1x8x2048 .f32) (harg3 : arg3.IsWhole) (arg4 : Memref sig .tc .vmem S1x8x2048 .f32) (harg4 : arg4.IsWhole) (arg5 : Memref sig .tc .vmem S1x128x2048 .f32) (harg5 : arg5.IsWhole) (arg6 : Memref sig .tc .vmem S1x8x2048 .f32) (harg6 : arg6.IsWhole) (arg7 : Memref sig .tc .vmem S1x8x2048 .f32) (harg7 : arg7.IsWhole) (arg8 : Memref sig .tc .vmem S2x2048 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S1x1024 .f32) (harg11 : arg11.IsWhole) (arg12 : Memref sig .tc .vmem S128x1024 .f32) (harg12 : arg12.IsWhole) (arg13 : Memref sig .tc .vmem S256x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x256x256 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S1x1x4224x128 .bf16) (harg21 : arg21.IsWhole) (arg22 : Memref sig .tc .vmem S1x1x4224x128 .bf16) (harg22 : arg22.IsWhole) (arg23 : Memref sig .tc .vmem S1x128x512 .bf16) (harg23 : arg23.IsWhole) (arg24 : Memref sig .tc .vmem S1x128x512 .bf16) (harg24 : arg24.IsWhole) (arg25 : Memref sig .tc .vmem S1x128x512 .bf16) (harg25 : arg25.IsWhole) (arg26 : Memref sig .tc .vmem S1x128x512 .bf16) (harg26 : arg26.IsWhole) (arg27 : Memref sig .tc .vmem S1x256x256 .bf16) (harg27 : arg27.IsWhole) (arg28 : Memref sig .tc .vmem S2x4x128x128 .f32) (harg28 : arg28.IsWhole) (arg29 : Memref sig .tc .vmem S2x6x2x4x128x128 .bf16) (harg29 : arg29.IsWhole) (arg30 : Memref sig .tc .vmem S2x2x4x128x128 .f32) (harg30 : arg30.IsWhole) (arg31 : Memref sig .tc .vmem S2x2x1x512 .f32) (harg31 : arg31.IsWhole) (hc0 : cond0_0 i) (hc1 : cond0_1 i) (hc2 : ¬cond0_2 i) (hc3 : ¬cond0_3 i) (hc4 : ¬cond0_4 i)
    (x0 : Vec F S1x128x2048 .f32) (x1 : Vec F S1x8x2048 .f32) (x2 : Vec F S1x8x2048 .f32) (x3 : Vec F S1x128x2048 .f32) (x4 : Vec F S1x8x2048 .f32) (x5 : Vec F S1x8x2048 .f32) (x6 : Vec F S2x2048 .f32) (x7 : Vec F S1x1024 .f32) (x8 : Vec F S128x1024 .f32) (x9 : Vec F S1x1024 .f32) (x10 : Vec F S128x1024 .f32) (x11 : Vec F S256x512 .f32) (x12 : Vec F S1x512 .f32) (x13 : Vec F S1x512 .f32) (x14 : Vec F S1x512 .f32) (x15 : Vec F S1x256x256 .f32) (x16 : Vec F S256x128 .f32) (x17 : Vec F S256x128 .f32) (x18 : Vec F S1x128 .f32) (x19 : Vec F S1x1x4224x128 .bf16) (x20 : Vec F S1x1x4224x128 .bf16) : Vec F S1x256x256 .bf16 :=
  VO0_25.read (Elt F) (VO0_25.writes (Elt F) VO0_25.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 hc4 x0 x1 x2 x3 x4 x5 x6 x7 x8 x9 x10 x11 x12 x13 x14 x15 x16 x17 x18 x19 x20).1)

/-- Case B's pieces for output 25 tile its block (8 stores of `S1x64x128`, checked by the kernel's evaluation: Lib/Ring.lean `Piece.tiledL`, linear in the pieces, through a loop's `@[irreducible]` trip theorem too), so they cover it. -/
theorem cover0_B_25 (c : Dev nD) (i : grid0.Coords) (arg2 : Memref sig .tc .vmem S1x128x2048 .f32) (harg2 : arg2.IsWhole) (arg3 : Memref sig .tc .vmem S1x8x2048 .f32) (harg3 : arg3.IsWhole) (arg4 : Memref sig .tc .vmem S1x8x2048 .f32) (harg4 : arg4.IsWhole) (arg5 : Memref sig .tc .vmem S1x128x2048 .f32) (harg5 : arg5.IsWhole) (arg6 : Memref sig .tc .vmem S1x8x2048 .f32) (harg6 : arg6.IsWhole) (arg7 : Memref sig .tc .vmem S1x8x2048 .f32) (harg7 : arg7.IsWhole) (arg8 : Memref sig .tc .vmem S2x2048 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S1x1024 .f32) (harg11 : arg11.IsWhole) (arg12 : Memref sig .tc .vmem S128x1024 .f32) (harg12 : arg12.IsWhole) (arg13 : Memref sig .tc .vmem S256x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x256x256 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S1x1x4224x128 .bf16) (harg21 : arg21.IsWhole) (arg22 : Memref sig .tc .vmem S1x1x4224x128 .bf16) (harg22 : arg22.IsWhole) (arg23 : Memref sig .tc .vmem S1x128x512 .bf16) (harg23 : arg23.IsWhole) (arg24 : Memref sig .tc .vmem S1x128x512 .bf16) (harg24 : arg24.IsWhole) (arg25 : Memref sig .tc .vmem S1x128x512 .bf16) (harg25 : arg25.IsWhole) (arg26 : Memref sig .tc .vmem S1x128x512 .bf16) (harg26 : arg26.IsWhole) (arg27 : Memref sig .tc .vmem S1x256x256 .bf16) (harg27 : arg27.IsWhole) (arg28 : Memref sig .tc .vmem S2x4x128x128 .f32) (harg28 : arg28.IsWhole) (arg29 : Memref sig .tc .vmem S2x6x2x4x128x128 .bf16) (harg29 : arg29.IsWhole) (arg30 : Memref sig .tc .vmem S2x2x4x128x128 .f32) (harg30 : arg30.IsWhole) (arg31 : Memref sig .tc .vmem S2x2x1x512 .f32) (harg31 : arg31.IsWhole) (hc0 : ¬cond0_0 i) (hc1 : cond0_1 i) (hc2 : cond0_2 i) (hc3 : ¬cond0_3 i) (hc4 : cond0_4 i)
    (x0 : Vec F S1x128x2048 .f32) (x1 : Vec F S1x8x2048 .f32) (x2 : Vec F S1x8x2048 .f32) (x3 : Vec F S1x128x2048 .f32) (x4 : Vec F S1x8x2048 .f32) (x5 : Vec F S1x8x2048 .f32) (x6 : Vec F S2x2048 .f32) (x7 : Vec F S1x1024 .f32) (x8 : Vec F S128x1024 .f32) (x9 : Vec F S1x1024 .f32) (x10 : Vec F S128x1024 .f32) (x11 : Vec F S256x512 .f32) (x12 : Vec F S1x512 .f32) (x13 : Vec F S1x512 .f32) (x14 : Vec F S1x512 .f32) (x15 : Vec F S1x256x256 .f32) (x16 : Vec F S256x128 .f32) (x17 : Vec F S256x128 .f32) (x18 : Vec F S1x128 .f32) (x19 : Vec F S1x1x4224x128 .bf16) (x20 : Vec F S1x1x4224x128 .bf16) (y : S1x256x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 hc4 x0 x1 x2 x3 x4 x5 x6 x7 x8 x9 x10 x11 x12 x13 x14 x15 x16 x17 x18 x19 x20).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 hc4 x0 x1 x2 x3 x4 x5 x6 x7 x8 x9 x10 x11 x12 x13 x14 x15 x16 x17 x18 x19 x20).1 S1x64x128.size (by sl_kernel_rfl) y

/-- What case B leaves in output 25's staging buffer: its pieces read back over junk. -/
def out0_B_25 (c : Dev nD) (i : grid0.Coords) (arg2 : Memref sig .tc .vmem S1x128x2048 .f32) (harg2 : arg2.IsWhole) (arg3 : Memref sig .tc .vmem S1x8x2048 .f32) (harg3 : arg3.IsWhole) (arg4 : Memref sig .tc .vmem S1x8x2048 .f32) (harg4 : arg4.IsWhole) (arg5 : Memref sig .tc .vmem S1x128x2048 .f32) (harg5 : arg5.IsWhole) (arg6 : Memref sig .tc .vmem S1x8x2048 .f32) (harg6 : arg6.IsWhole) (arg7 : Memref sig .tc .vmem S1x8x2048 .f32) (harg7 : arg7.IsWhole) (arg8 : Memref sig .tc .vmem S2x2048 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S1x1024 .f32) (harg11 : arg11.IsWhole) (arg12 : Memref sig .tc .vmem S128x1024 .f32) (harg12 : arg12.IsWhole) (arg13 : Memref sig .tc .vmem S256x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x256x256 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S1x1x4224x128 .bf16) (harg21 : arg21.IsWhole) (arg22 : Memref sig .tc .vmem S1x1x4224x128 .bf16) (harg22 : arg22.IsWhole) (arg23 : Memref sig .tc .vmem S1x128x512 .bf16) (harg23 : arg23.IsWhole) (arg24 : Memref sig .tc .vmem S1x128x512 .bf16) (harg24 : arg24.IsWhole) (arg25 : Memref sig .tc .vmem S1x128x512 .bf16) (harg25 : arg25.IsWhole) (arg26 : Memref sig .tc .vmem S1x128x512 .bf16) (harg26 : arg26.IsWhole) (arg27 : Memref sig .tc .vmem S1x256x256 .bf16) (harg27 : arg27.IsWhole) (arg28 : Memref sig .tc .vmem S2x4x128x128 .f32) (harg28 : arg28.IsWhole) (arg29 : Memref sig .tc .vmem S2x6x2x4x128x128 .bf16) (harg29 : arg29.IsWhole) (arg30 : Memref sig .tc .vmem S2x2x4x128x128 .f32) (harg30 : arg30.IsWhole) (arg31 : Memref sig .tc .vmem S2x2x1x512 .f32) (harg31 : arg31.IsWhole) (hc0 : ¬cond0_0 i) (hc1 : cond0_1 i) (hc2 : cond0_2 i) (hc3 : ¬cond0_3 i) (hc4 : cond0_4 i)
    (x0 : Vec F S1x128x2048 .f32) (x1 : Vec F S1x8x2048 .f32) (x2 : Vec F S1x8x2048 .f32) (x3 : Vec F S1x128x2048 .f32) (x4 : Vec F S1x8x2048 .f32) (x5 : Vec F S1x8x2048 .f32) (x6 : Vec F S2x2048 .f32) (x7 : Vec F S1x1024 .f32) (x8 : Vec F S128x1024 .f32) (x9 : Vec F S1x1024 .f32) (x10 : Vec F S128x1024 .f32) (x11 : Vec F S256x512 .f32) (x12 : Vec F S1x512 .f32) (x13 : Vec F S1x512 .f32) (x14 : Vec F S1x512 .f32) (x15 : Vec F S1x256x256 .f32) (x16 : Vec F S256x128 .f32) (x17 : Vec F S256x128 .f32) (x18 : Vec F S1x128 .f32) (x19 : Vec F S1x1x4224x128 .bf16) (x20 : Vec F S1x1x4224x128 .bf16) : Vec F S1x256x256 .bf16 :=
  VO0_25.read (Elt F) (VO0_25.writes (Elt F) VO0_25.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 hc4 x0 x1 x2 x3 x4 x5 x6 x7 x8 x9 x10 x11 x12 x13 x14 x15 x16 x17 x18 x19 x20).1)

/-- Case C's pieces for output 25 tile its block (8 stores of `S1x64x128`, checked by the kernel's evaluation: Lib/Ring.lean `Piece.tiledL`, linear in the pieces, through a loop's `@[irreducible]` trip theorem too), so they cover it. -/
theorem cover0_C_25 (c : Dev nD) (i : grid0.Coords) (arg2 : Memref sig .tc .vmem S1x128x2048 .f32) (harg2 : arg2.IsWhole) (arg3 : Memref sig .tc .vmem S1x8x2048 .f32) (harg3 : arg3.IsWhole) (arg4 : Memref sig .tc .vmem S1x8x2048 .f32) (harg4 : arg4.IsWhole) (arg5 : Memref sig .tc .vmem S1x128x2048 .f32) (harg5 : arg5.IsWhole) (arg6 : Memref sig .tc .vmem S1x8x2048 .f32) (harg6 : arg6.IsWhole) (arg7 : Memref sig .tc .vmem S1x8x2048 .f32) (harg7 : arg7.IsWhole) (arg8 : Memref sig .tc .vmem S2x2048 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S1x1024 .f32) (harg11 : arg11.IsWhole) (arg12 : Memref sig .tc .vmem S128x1024 .f32) (harg12 : arg12.IsWhole) (arg13 : Memref sig .tc .vmem S256x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x256x256 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S1x1x4224x128 .bf16) (harg21 : arg21.IsWhole) (arg22 : Memref sig .tc .vmem S1x1x4224x128 .bf16) (harg22 : arg22.IsWhole) (arg23 : Memref sig .tc .vmem S1x128x512 .bf16) (harg23 : arg23.IsWhole) (arg24 : Memref sig .tc .vmem S1x128x512 .bf16) (harg24 : arg24.IsWhole) (arg25 : Memref sig .tc .vmem S1x128x512 .bf16) (harg25 : arg25.IsWhole) (arg26 : Memref sig .tc .vmem S1x128x512 .bf16) (harg26 : arg26.IsWhole) (arg27 : Memref sig .tc .vmem S1x256x256 .bf16) (harg27 : arg27.IsWhole) (arg28 : Memref sig .tc .vmem S2x4x128x128 .f32) (harg28 : arg28.IsWhole) (arg29 : Memref sig .tc .vmem S2x6x2x4x128x128 .bf16) (harg29 : arg29.IsWhole) (arg30 : Memref sig .tc .vmem S2x2x4x128x128 .f32) (harg30 : arg30.IsWhole) (arg31 : Memref sig .tc .vmem S2x2x1x512 .f32) (harg31 : arg31.IsWhole) (hc0 : ¬cond0_0 i) (hc1 : ¬cond0_1 i) (hc2 : cond0_2 i) (hc3 : cond0_3 i) (hc4 : cond0_4 i)
    (x0 : Vec F S1x128x2048 .f32) (x1 : Vec F S1x8x2048 .f32) (x2 : Vec F S1x8x2048 .f32) (x3 : Vec F S1x128x2048 .f32) (x4 : Vec F S1x8x2048 .f32) (x5 : Vec F S1x8x2048 .f32) (x6 : Vec F S2x2048 .f32) (x7 : Vec F S1x1024 .f32) (x8 : Vec F S128x1024 .f32) (x9 : Vec F S1x1024 .f32) (x10 : Vec F S128x1024 .f32) (x11 : Vec F S256x512 .f32) (x12 : Vec F S1x512 .f32) (x13 : Vec F S1x512 .f32) (x14 : Vec F S1x512 .f32) (x15 : Vec F S1x256x256 .f32) (x16 : Vec F S256x128 .f32) (x17 : Vec F S256x128 .f32) (x18 : Vec F S1x128 .f32) (x19 : Vec F S1x1x4224x128 .bf16) (x20 : Vec F S1x1x4224x128 .bf16) (y : S1x256x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 hc4 x0 x1 x2 x3 x4 x5 x6 x7 x8 x9 x10 x11 x12 x13 x14 x15 x16 x17 x18 x19 x20).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 hc4 x0 x1 x2 x3 x4 x5 x6 x7 x8 x9 x10 x11 x12 x13 x14 x15 x16 x17 x18 x19 x20).1 S1x64x128.size (by sl_kernel_rfl) y

/-- What case C leaves in output 25's staging buffer: its pieces read back over junk. -/
def out0_C_25 (c : Dev nD) (i : grid0.Coords) (arg2 : Memref sig .tc .vmem S1x128x2048 .f32) (harg2 : arg2.IsWhole) (arg3 : Memref sig .tc .vmem S1x8x2048 .f32) (harg3 : arg3.IsWhole) (arg4 : Memref sig .tc .vmem S1x8x2048 .f32) (harg4 : arg4.IsWhole) (arg5 : Memref sig .tc .vmem S1x128x2048 .f32) (harg5 : arg5.IsWhole) (arg6 : Memref sig .tc .vmem S1x8x2048 .f32) (harg6 : arg6.IsWhole) (arg7 : Memref sig .tc .vmem S1x8x2048 .f32) (harg7 : arg7.IsWhole) (arg8 : Memref sig .tc .vmem S2x2048 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S1x1024 .f32) (harg11 : arg11.IsWhole) (arg12 : Memref sig .tc .vmem S128x1024 .f32) (harg12 : arg12.IsWhole) (arg13 : Memref sig .tc .vmem S256x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x256x256 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S1x1x4224x128 .bf16) (harg21 : arg21.IsWhole) (arg22 : Memref sig .tc .vmem S1x1x4224x128 .bf16) (harg22 : arg22.IsWhole) (arg23 : Memref sig .tc .vmem S1x128x512 .bf16) (harg23 : arg23.IsWhole) (arg24 : Memref sig .tc .vmem S1x128x512 .bf16) (harg24 : arg24.IsWhole) (arg25 : Memref sig .tc .vmem S1x128x512 .bf16) (harg25 : arg25.IsWhole) (arg26 : Memref sig .tc .vmem S1x128x512 .bf16) (harg26 : arg26.IsWhole) (arg27 : Memref sig .tc .vmem S1x256x256 .bf16) (harg27 : arg27.IsWhole) (arg28 : Memref sig .tc .vmem S2x4x128x128 .f32) (harg28 : arg28.IsWhole) (arg29 : Memref sig .tc .vmem S2x6x2x4x128x128 .bf16) (harg29 : arg29.IsWhole) (arg30 : Memref sig .tc .vmem S2x2x4x128x128 .f32) (harg30 : arg30.IsWhole) (arg31 : Memref sig .tc .vmem S2x2x1x512 .f32) (harg31 : arg31.IsWhole) (hc0 : ¬cond0_0 i) (hc1 : ¬cond0_1 i) (hc2 : cond0_2 i) (hc3 : cond0_3 i) (hc4 : cond0_4 i)
    (x0 : Vec F S1x128x2048 .f32) (x1 : Vec F S1x8x2048 .f32) (x2 : Vec F S1x8x2048 .f32) (x3 : Vec F S1x128x2048 .f32) (x4 : Vec F S1x8x2048 .f32) (x5 : Vec F S1x8x2048 .f32) (x6 : Vec F S2x2048 .f32) (x7 : Vec F S1x1024 .f32) (x8 : Vec F S128x1024 .f32) (x9 : Vec F S1x1024 .f32) (x10 : Vec F S128x1024 .f32) (x11 : Vec F S256x512 .f32) (x12 : Vec F S1x512 .f32) (x13 : Vec F S1x512 .f32) (x14 : Vec F S1x512 .f32) (x15 : Vec F S1x256x256 .f32) (x16 : Vec F S256x128 .f32) (x17 : Vec F S256x128 .f32) (x18 : Vec F S1x128 .f32) (x19 : Vec F S1x1x4224x128 .bf16) (x20 : Vec F S1x1x4224x128 .bf16) : Vec F S1x256x256 .bf16 :=
  VO0_25.read (Elt F) (VO0_25.writes (Elt F) VO0_25.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 hc4 x0 x1 x2 x3 x4 x5 x6 x7 x8 x9 x10 x11 x12 x13 x14 x15 x16 x17 x18 x19 x20).1)

/-- Case D's pieces for output 25 tile its block (8 stores of `S1x64x128`, checked by the kernel's evaluation: Lib/Ring.lean `Piece.tiledL`, linear in the pieces, through a loop's `@[irreducible]` trip theorem too), so they cover it. -/
theorem cover0_D_25 (c : Dev nD) (i : grid0.Coords) (arg2 : Memref sig .tc .vmem S1x128x2048 .f32) (harg2 : arg2.IsWhole) (arg3 : Memref sig .tc .vmem S1x8x2048 .f32) (harg3 : arg3.IsWhole) (arg4 : Memref sig .tc .vmem S1x8x2048 .f32) (harg4 : arg4.IsWhole) (arg5 : Memref sig .tc .vmem S1x128x2048 .f32) (harg5 : arg5.IsWhole) (arg6 : Memref sig .tc .vmem S1x8x2048 .f32) (harg6 : arg6.IsWhole) (arg7 : Memref sig .tc .vmem S1x8x2048 .f32) (harg7 : arg7.IsWhole) (arg8 : Memref sig .tc .vmem S2x2048 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S1x1024 .f32) (harg11 : arg11.IsWhole) (arg12 : Memref sig .tc .vmem S128x1024 .f32) (harg12 : arg12.IsWhole) (arg13 : Memref sig .tc .vmem S256x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x256x256 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S1x1x4224x128 .bf16) (harg21 : arg21.IsWhole) (arg22 : Memref sig .tc .vmem S1x1x4224x128 .bf16) (harg22 : arg22.IsWhole) (arg23 : Memref sig .tc .vmem S1x128x512 .bf16) (harg23 : arg23.IsWhole) (arg24 : Memref sig .tc .vmem S1x128x512 .bf16) (harg24 : arg24.IsWhole) (arg25 : Memref sig .tc .vmem S1x128x512 .bf16) (harg25 : arg25.IsWhole) (arg26 : Memref sig .tc .vmem S1x128x512 .bf16) (harg26 : arg26.IsWhole) (arg27 : Memref sig .tc .vmem S1x256x256 .bf16) (harg27 : arg27.IsWhole) (arg28 : Memref sig .tc .vmem S2x4x128x128 .f32) (harg28 : arg28.IsWhole) (arg29 : Memref sig .tc .vmem S2x6x2x4x128x128 .bf16) (harg29 : arg29.IsWhole) (arg30 : Memref sig .tc .vmem S2x2x4x128x128 .f32) (harg30 : arg30.IsWhole) (arg31 : Memref sig .tc .vmem S2x2x1x512 .f32) (harg31 : arg31.IsWhole) (hc0 : ¬cond0_0 i) (hc1 : ¬cond0_1 i) (hc2 : ¬cond0_2 i) (hc3 : cond0_3 i) (hc4 : ¬cond0_4 i)
    (x0 : Vec F S1x128x2048 .f32) (x1 : Vec F S1x8x2048 .f32) (x2 : Vec F S1x8x2048 .f32) (x3 : Vec F S1x128x2048 .f32) (x4 : Vec F S1x8x2048 .f32) (x5 : Vec F S1x8x2048 .f32) (x6 : Vec F S2x2048 .f32) (x7 : Vec F S1x1024 .f32) (x8 : Vec F S128x1024 .f32) (x9 : Vec F S1x1024 .f32) (x10 : Vec F S128x1024 .f32) (x11 : Vec F S256x512 .f32) (x12 : Vec F S1x512 .f32) (x13 : Vec F S1x512 .f32) (x14 : Vec F S1x512 .f32) (x15 : Vec F S1x256x256 .f32) (x16 : Vec F S256x128 .f32) (x17 : Vec F S256x128 .f32) (x18 : Vec F S1x128 .f32) (x19 : Vec F S1x1x4224x128 .bf16) (x20 : Vec F S1x1x4224x128 .bf16) (y : S1x256x256.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 hc4 x0 x1 x2 x3 x4 x5 x6 x7 x8 x9 x10 x11 x12 x13 x14 x15 x16 x17 x18 x19 x20).1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 hc4 x0 x1 x2 x3 x4 x5 x6 x7 x8 x9 x10 x11 x12 x13 x14 x15 x16 x17 x18 x19 x20).1 S1x64x128.size (by sl_kernel_rfl) y

/-- What case D leaves in output 25's staging buffer: its pieces read back over junk. -/
def out0_D_25 (c : Dev nD) (i : grid0.Coords) (arg2 : Memref sig .tc .vmem S1x128x2048 .f32) (harg2 : arg2.IsWhole) (arg3 : Memref sig .tc .vmem S1x8x2048 .f32) (harg3 : arg3.IsWhole) (arg4 : Memref sig .tc .vmem S1x8x2048 .f32) (harg4 : arg4.IsWhole) (arg5 : Memref sig .tc .vmem S1x128x2048 .f32) (harg5 : arg5.IsWhole) (arg6 : Memref sig .tc .vmem S1x8x2048 .f32) (harg6 : arg6.IsWhole) (arg7 : Memref sig .tc .vmem S1x8x2048 .f32) (harg7 : arg7.IsWhole) (arg8 : Memref sig .tc .vmem S2x2048 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S1x1024 .f32) (harg11 : arg11.IsWhole) (arg12 : Memref sig .tc .vmem S128x1024 .f32) (harg12 : arg12.IsWhole) (arg13 : Memref sig .tc .vmem S256x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x256x256 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S1x1x4224x128 .bf16) (harg21 : arg21.IsWhole) (arg22 : Memref sig .tc .vmem S1x1x4224x128 .bf16) (harg22 : arg22.IsWhole) (arg23 : Memref sig .tc .vmem S1x128x512 .bf16) (harg23 : arg23.IsWhole) (arg24 : Memref sig .tc .vmem S1x128x512 .bf16) (harg24 : arg24.IsWhole) (arg25 : Memref sig .tc .vmem S1x128x512 .bf16) (harg25 : arg25.IsWhole) (arg26 : Memref sig .tc .vmem S1x128x512 .bf16) (harg26 : arg26.IsWhole) (arg27 : Memref sig .tc .vmem S1x256x256 .bf16) (harg27 : arg27.IsWhole) (arg28 : Memref sig .tc .vmem S2x4x128x128 .f32) (harg28 : arg28.IsWhole) (arg29 : Memref sig .tc .vmem S2x6x2x4x128x128 .bf16) (harg29 : arg29.IsWhole) (arg30 : Memref sig .tc .vmem S2x2x4x128x128 .f32) (harg30 : arg30.IsWhole) (arg31 : Memref sig .tc .vmem S2x2x1x512 .f32) (harg31 : arg31.IsWhole) (hc0 : ¬cond0_0 i) (hc1 : ¬cond0_1 i) (hc2 : ¬cond0_2 i) (hc3 : cond0_3 i) (hc4 : ¬cond0_4 i)
    (x0 : Vec F S1x128x2048 .f32) (x1 : Vec F S1x8x2048 .f32) (x2 : Vec F S1x8x2048 .f32) (x3 : Vec F S1x128x2048 .f32) (x4 : Vec F S1x8x2048 .f32) (x5 : Vec F S1x8x2048 .f32) (x6 : Vec F S2x2048 .f32) (x7 : Vec F S1x1024 .f32) (x8 : Vec F S128x1024 .f32) (x9 : Vec F S1x1024 .f32) (x10 : Vec F S128x1024 .f32) (x11 : Vec F S256x512 .f32) (x12 : Vec F S1x512 .f32) (x13 : Vec F S1x512 .f32) (x14 : Vec F S1x512 .f32) (x15 : Vec F S1x256x256 .f32) (x16 : Vec F S256x128 .f32) (x17 : Vec F S256x128 .f32) (x18 : Vec F S1x128 .f32) (x19 : Vec F S1x1x4224x128 .bf16) (x20 : Vec F S1x1x4224x128 .bf16) : Vec F S1x256x256 .bf16 :=
  VO0_25.read (Elt F) (VO0_25.writes (Elt F) VO0_25.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 hc4 x0 x1 x2 x3 x4 x5 x6 x7 x8 x9 x10 x11 x12 x13 x14 x15 x16 x17 x18 x19 x20).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x256x256 .bf16
  | 0, hn => out0_A_25 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (by (try dsimp only) <;> omega)) (fun h => (fun h => by (try dsimp only at h); omega) ((hcond0_2 ⟨0, hn⟩).mp h)) (fun h => (fun h => by (try dsimp only at h); omega) ((hcond0_3 ⟨0, hn⟩).mp h)) (fun h => (fun h => by (try dsimp only at h); omega) ((hcond0_4 ⟨0, hn⟩).mp h)) (X0_0 m c ⟨0, hn⟩) (X0_1 m c ⟨0, hn⟩) (X0_2 m c ⟨0, hn⟩) (X0_3 m c ⟨0, hn⟩) (X0_4 m c ⟨0, hn⟩) (X0_5 m c ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩)
  | n + 1, hn =>
    if h0 : (n + 1) % 34 = 0 then
      if h1 : (n + 1) % 34 ≤ 1 then
        if h2 : (1 ≤ (n + 1) % 34 ∧ (n + 1) % 34 ≤ 32) then
          False.elim (by have hN : n + 1 < 136 := lt_of_lt_of_eq hn (show cfg0.N = 136 from N_0); omega)
        else
          if h3 : 2 ≤ (n + 1) % 34 then
            False.elim (by have hN : n + 1 < 136 := lt_of_lt_of_eq hn (show cfg0.N = 136 from N_0); omega)
          else
            if h4 : (1 ≤ (n + 1) % 34 ∧ (n + 1) % 34 ≤ 32) then
              False.elim (by have hN : n + 1 < 136 := lt_of_lt_of_eq hn (show cfg0.N = 136 from N_0); omega)
            else
              out0_A_25 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (fun h => h3 ((hcond0_3 ⟨n + 1, hn⟩).mp h)) (fun h => h4 ((hcond0_4 ⟨n + 1, hn⟩).mp h)) (X0_0 m c ⟨n + 1, hn⟩) (X0_1 m c ⟨n + 1, hn⟩) (X0_2 m c ⟨n + 1, hn⟩) (X0_3 m c ⟨n + 1, hn⟩) (X0_4 m c ⟨n + 1, hn⟩) (X0_5 m c ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩)
      else
        False.elim (by have hN : n + 1 < 136 := lt_of_lt_of_eq hn (show cfg0.N = 136 from N_0); omega)
    else
      if h1 : (n + 1) % 34 ≤ 1 then
        if h2 : (1 ≤ (n + 1) % 34 ∧ (n + 1) % 34 ≤ 32) then
          if h3 : 2 ≤ (n + 1) % 34 then
            False.elim (by have hN : n + 1 < 136 := lt_of_lt_of_eq hn (show cfg0.N = 136 from N_0); omega)
          else
            if h4 : (1 ≤ (n + 1) % 34 ∧ (n + 1) % 34 ≤ 32) then
              out0_B_25 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) ((hcond0_2 ⟨n + 1, hn⟩).mpr h2) (fun h => h3 ((hcond0_3 ⟨n + 1, hn⟩).mp h)) ((hcond0_4 ⟨n + 1, hn⟩).mpr h4) (X0_0 m c ⟨n + 1, hn⟩) (X0_1 m c ⟨n + 1, hn⟩) (X0_2 m c ⟨n + 1, hn⟩) (X0_3 m c ⟨n + 1, hn⟩) (X0_4 m c ⟨n + 1, hn⟩) (X0_5 m c ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩)
            else
              False.elim (by have hN : n + 1 < 136 := lt_of_lt_of_eq hn (show cfg0.N = 136 from N_0); omega)
        else
          False.elim (by have hN : n + 1 < 136 := lt_of_lt_of_eq hn (show cfg0.N = 136 from N_0); omega)
      else
        if h2 : (1 ≤ (n + 1) % 34 ∧ (n + 1) % 34 ≤ 32) then
          if h3 : 2 ≤ (n + 1) % 34 then
            if h4 : (1 ≤ (n + 1) % 34 ∧ (n + 1) % 34 ≤ 32) then
              out0_C_25 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) ((hcond0_4 ⟨n + 1, hn⟩).mpr h4) (X0_0 m c ⟨n + 1, hn⟩) (X0_1 m c ⟨n + 1, hn⟩) (X0_2 m c ⟨n + 1, hn⟩) (X0_3 m c ⟨n + 1, hn⟩) (X0_4 m c ⟨n + 1, hn⟩) (X0_5 m c ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩)
            else
              False.elim (by have hN : n + 1 < 136 := lt_of_lt_of_eq hn (show cfg0.N = 136 from N_0); omega)
          else
            False.elim (by have hN : n + 1 < 136 := lt_of_lt_of_eq hn (show cfg0.N = 136 from N_0); omega)
        else
          if h3 : 2 ≤ (n + 1) % 34 then
            if h4 : (1 ≤ (n + 1) % 34 ∧ (n + 1) % 34 ≤ 32) then
              False.elim (by have hN : n + 1 < 136 := lt_of_lt_of_eq hn (show cfg0.N = 136 from N_0); omega)
            else
              out0_D_25 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (fun h => h4 ((hcond0_4 ⟨n + 1, hn⟩).mp h)) (X0_0 m c ⟨n + 1, hn⟩) (X0_1 m c ⟨n + 1, hn⟩) (X0_2 m c ⟨n + 1, hn⟩) (X0_3 m c ⟨n + 1, hn⟩) (X0_4 m c ⟨n + 1, hn⟩) (X0_5 m c ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩)
          else
            False.elim (by have hN : n + 1 < 136 := lt_of_lt_of_eq hn (show cfg0.N = 136 from N_0); omega)

/-- `outsAt0` at a point of case A: that case's contents. -/
theorem outsAt0_A (c : Dev nD) (t : Fin cfg0.N) (h0 : t.val % 34 = 0) (h1 : t.val % 34 ≤ 1) (h2 : ¬(1 ≤ t.val % 34 ∧ t.val % 34 ≤ 32)) (h3 : ¬2 ≤ t.val % 34) (h4 : ¬(1 ≤ t.val % 34 ∧ t.val % 34 ≤ 32)) :
    outsAt0 m c t.val t.isLt = out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (fun h => h4 ((hcond0_4 t).mp h)) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by
  obtain ⟨n, hn⟩ := t
  cases n with
  | zero => exact rfl
  | succ n => exact (dif_pos h0).trans ((dif_pos h1).trans ((dif_neg h2).trans ((dif_neg h3).trans ((dif_neg h4).trans rfl))))

/-- `outsAt0` at a point of case B: that case's contents. -/
theorem outsAt0_B (c : Dev nD) (t : Fin cfg0.N) (h0 : ¬t.val % 34 = 0) (h1 : t.val % 34 ≤ 1) (h2 : (1 ≤ t.val % 34 ∧ t.val % 34 ≤ 32)) (h3 : ¬2 ≤ t.val % 34) (h4 : (1 ≤ t.val % 34 ∧ t.val % 34 ≤ 32)) :
    outsAt0 m c t.val t.isLt = out0_B_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) (fun h => h3 ((hcond0_3 t).mp h)) ((hcond0_4 t).mpr h4) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by
  obtain ⟨n, hn⟩ := t
  cases n with
  | zero => exact (by exfalso; (try dsimp only at h0); exact absurd (Nat.zero_mod _) h0)
  | succ n => exact (dif_neg h0).trans ((dif_pos h1).trans ((dif_pos h2).trans ((dif_neg h3).trans ((dif_pos h4).trans rfl))))

/-- `outsAt0` at a point of case C: that case's contents. -/
theorem outsAt0_C (c : Dev nD) (t : Fin cfg0.N) (h0 : ¬t.val % 34 = 0) (h1 : ¬t.val % 34 ≤ 1) (h2 : (1 ≤ t.val % 34 ∧ t.val % 34 ≤ 32)) (h3 : 2 ≤ t.val % 34) (h4 : (1 ≤ t.val % 34 ∧ t.val % 34 ≤ 32)) :
    outsAt0 m c t.val t.isLt = out0_C_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) ((hcond0_4 t).mpr h4) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by
  obtain ⟨n, hn⟩ := t
  cases n with
  | zero => exact (by exfalso; (try dsimp only at h0); exact absurd (Nat.zero_mod _) h0)
  | succ n => exact (dif_neg h0).trans ((dif_neg h1).trans ((dif_pos h2).trans ((dif_pos h3).trans ((dif_pos h4).trans rfl))))

/-- `outsAt0` at a point of case D: that case's contents. -/
theorem outsAt0_D (c : Dev nD) (t : Fin cfg0.N) (h0 : ¬t.val % 34 = 0) (h1 : ¬t.val % 34 ≤ 1) (h2 : ¬(1 ≤ t.val % 34 ∧ t.val % 34 ≤ 32)) (h3 : 2 ≤ t.val % 34) (h4 : ¬(1 ≤ t.val % 34 ∧ t.val % 34 ≤ 32)) :
    outsAt0 m c t.val t.isLt = out0_D_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans ((dif_neg h4).trans rfl))))

/-! ## The pipeline's proof data -/

/-- The output windows this certificate FORGETS (21, 22, 23, 24): nothing reads what the kernel leaves in them, so nothing
    of it is named (Lib/Pipeline/Dat.lean `Dat.toRForget`). -/
def forgets0 : Fin 26 → Bool := fun w => w.val == 21 || w.val == 22 || w.val == 23 || w.val == 24
theorem forgets0_25 : forgets0 (25 : Fin 26) = false := by decide

/-- The proof data of the one pipeline on core `c`: the arrays as the region finds them (`V`); after the body at
    point `t` each input's buffer at its block and the NAMED outputs' at `outsAt0` (the forgotten at `Dat.unnamed`); the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => X0_4 m c t
    | ⟨5, _⟩ => X0_5 m c t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, _⟩ => (outsAt0 m c t.val t.isLt)
    | ⟨_ + 26, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_25 (c : Dev nD) (t : Fin cfg0.N) : (dats m 0 c).after 25 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare ((dats m 0 c).before 25 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (dats m 0 c).leavesExact 25 t)

set_option maxHeartbeats 11200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 136 := lt_of_lt_of_eq t.isLt (show cfg0.N = 136 from N_0)
  by_cases h0 : t.val % 34 = 0
  · by_cases h1 : t.val % 34 ≤ 1
    · by_cases h2 : (1 ≤ t.val % 34 ∧ t.val % 34 ≤ 32)
      · exfalso; omega
      · by_cases h3 : 2 ≤ t.val % 34
        · exfalso; omega
        · by_cases h4 : (1 ≤ t.val % 34 ∧ t.val % 34 ≤ 32)
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8 t], after0_8]
            rw [show (dats m 0 c).leavesExact 9 t = owns (c : Thread nD τ) (ms0_9 t) fullShare ((dats m 0 c).after 9 t) from by
      unfold Dat.leavesExact; rw [liveAt0_9 t], after0_9]
            rw [show (dats m 0 c).leavesExact 10 t = owns (c : Thread nD τ) (ms0_10 t) fullShare ((dats m 0 c).after 10 t) from by
      unfold Dat.leavesExact; rw [liveAt0_10 t], after0_10]
            rw [show (dats m 0 c).leavesExact 11 t = owns (c : Thread nD τ) (ms0_11 t) fullShare ((dats m 0 c).after 11 t) from by
      unfold Dat.leavesExact; rw [liveAt0_11 t], after0_11]
            rw [show (dats m 0 c).leavesExact 12 t = owns (c : Thread nD τ) (ms0_12 t) fullShare ((dats m 0 c).after 12 t) from by
      unfold Dat.leavesExact; rw [liveAt0_12 t], after0_12]
            rw [show (dats m 0 c).leavesExact 13 t = owns (c : Thread nD τ) (ms0_13 t) fullShare ((dats m 0 c).after 13 t) from by
      unfold Dat.leavesExact; rw [liveAt0_13 t], after0_13]
            rw [show (dats m 0 c).leavesExact 14 t = owns (c : Thread nD τ) (ms0_14 t) fullShare ((dats m 0 c).after 14 t) from by
      unfold Dat.leavesExact; rw [liveAt0_14 t], after0_14]
            rw [show (dats m 0 c).leavesExact 15 t = owns (c : Thread nD τ) (ms0_15 t) fullShare ((dats m 0 c).after 15 t) from by
      unfold Dat.leavesExact; rw [liveAt0_15 t], after0_15]
            rw [show (dats m 0 c).leavesExact 16 t = owns (c : Thread nD τ) (ms0_16 t) fullShare ((dats m 0 c).after 16 t) from by
      unfold Dat.leavesExact; rw [liveAt0_16 t], after0_16]
            rw [show (dats m 0 c).leavesExact 17 t = owns (c : Thread nD τ) (ms0_17 t) fullShare ((dats m 0 c).after 17 t) from by
      unfold Dat.leavesExact; rw [liveAt0_17 t], after0_17]
            rw [show (dats m 0 c).leavesExact 18 t = owns (c : Thread nD τ) (ms0_18 t) fullShare ((dats m 0 c).after 18 t) from by
      unfold Dat.leavesExact; rw [liveAt0_18 t], after0_18]
            rw [show (dats m 0 c).leavesExact 19 t = owns (c : Thread nD τ) (ms0_19 t) fullShare ((dats m 0 c).after 19 t) from by
      unfold Dat.leavesExact; rw [liveAt0_19 t], after0_19]
            rw [show (dats m 0 c).leavesExact 20 t = owns (c : Thread nD τ) (ms0_20 t) fullShare ((dats m 0 c).after 20 t) from by
      unfold Dat.leavesExact; rw [liveAt0_20 t], after0_20]
            rw [show (dats m 0 c).leavesExact 25 t = owns (c : Thread nD τ) (ms0_25 t) fullShare ((dats m 0 c).after 25 t) from by
      unfold Dat.leavesExact; rw [liveAt0_25 t], after0_25]
            rw [outsAt0_A m c t h0 h1 h2 h3 h4]
            unfold out0_A_25
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
            iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)).2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [H16]; · iexact H16
            isplitl [H17]; · iexact H17
            isplitl [H18]; · iexact H18
            isplitl [H19]; · iexact H19
            isplitl [H20]; · iexact H20
            isplitl [H21]; · iexists _; iexact H21
            isplitl [H22]; · iexists _; iexact H22
            isplitl [H23]; · iexists _; iexact H23
            isplitl [H24]; · iexists _; iexact H24
            isplitl [H25]; · iexists _; iexact H25
            isplitl [HS0]; · iexact HS0
            isplitl [HS1]; · iexact HS1
            isplitl [HS2]; · iexact HS2
            isplitl [HS3]; · iexact HS3
            iintro ⟨H0, H1, H2, H3, H4, H5, H6, H7, H8, H9, H10, H11, H12, H13, H14, H15, H16, H17, H18, H19, H20, H21, H22, H23, H24, ⟨%e25, H25⟩, HS0, HS1, HS2, HS3⟩
            isplitl [HS0 HS1 HS2 HS3 Hg]
            · isplitl [HS0 HS1 HS2 HS3]
              · isplitl [HS0]
                · iexact HS0
                isplitl [HS1]
                · iexact HS1
                isplitl [HS2]
                · iexact HS2
                iexact HS3
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [H16]; · iexact H16
            isplitl [H17]; · iexact H17
            isplitl [H18]; · iexact H18
            isplitl [H19]; · iexact H19
            isplitl [H20]; · iexact H20
            isplitl [H21]; · iexact H21
            isplitl [H22]; · iexact H22
            isplitl [H23]; · iexact H23
            isplitl [H24]; · iexact H24
            unfold owns; iexists _; isplitr
            swap; · iexact H25
            ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; omega
  · by_cases h1 : t.val % 34 ≤ 1
    · by_cases h2 : (1 ≤ t.val % 34 ∧ t.val % 34 ≤ 32)
      · by_cases h3 : 2 ≤ t.val % 34
        · exfalso; omega
        · by_cases h4 : (1 ≤ t.val % 34 ∧ t.val % 34 ≤ 32)
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8 t], after0_8]
            rw [show (dats m 0 c).leavesExact 9 t = owns (c : Thread nD τ) (ms0_9 t) fullShare ((dats m 0 c).after 9 t) from by
      unfold Dat.leavesExact; rw [liveAt0_9 t], after0_9]
            rw [show (dats m 0 c).leavesExact 10 t = owns (c : Thread nD τ) (ms0_10 t) fullShare ((dats m 0 c).after 10 t) from by
      unfold Dat.leavesExact; rw [liveAt0_10 t], after0_10]
            rw [show (dats m 0 c).leavesExact 11 t = owns (c : Thread nD τ) (ms0_11 t) fullShare ((dats m 0 c).after 11 t) from by
      unfold Dat.leavesExact; rw [liveAt0_11 t], after0_11]
            rw [show (dats m 0 c).leavesExact 12 t = owns (c : Thread nD τ) (ms0_12 t) fullShare ((dats m 0 c).after 12 t) from by
      unfold Dat.leavesExact; rw [liveAt0_12 t], after0_12]
            rw [show (dats m 0 c).leavesExact 13 t = owns (c : Thread nD τ) (ms0_13 t) fullShare ((dats m 0 c).after 13 t) from by
      unfold Dat.leavesExact; rw [liveAt0_13 t], after0_13]
            rw [show (dats m 0 c).leavesExact 14 t = owns (c : Thread nD τ) (ms0_14 t) fullShare ((dats m 0 c).after 14 t) from by
      unfold Dat.leavesExact; rw [liveAt0_14 t], after0_14]
            rw [show (dats m 0 c).leavesExact 15 t = owns (c : Thread nD τ) (ms0_15 t) fullShare ((dats m 0 c).after 15 t) from by
      unfold Dat.leavesExact; rw [liveAt0_15 t], after0_15]
            rw [show (dats m 0 c).leavesExact 16 t = owns (c : Thread nD τ) (ms0_16 t) fullShare ((dats m 0 c).after 16 t) from by
      unfold Dat.leavesExact; rw [liveAt0_16 t], after0_16]
            rw [show (dats m 0 c).leavesExact 17 t = owns (c : Thread nD τ) (ms0_17 t) fullShare ((dats m 0 c).after 17 t) from by
      unfold Dat.leavesExact; rw [liveAt0_17 t], after0_17]
            rw [show (dats m 0 c).leavesExact 18 t = owns (c : Thread nD τ) (ms0_18 t) fullShare ((dats m 0 c).after 18 t) from by
      unfold Dat.leavesExact; rw [liveAt0_18 t], after0_18]
            rw [show (dats m 0 c).leavesExact 19 t = owns (c : Thread nD τ) (ms0_19 t) fullShare ((dats m 0 c).after 19 t) from by
      unfold Dat.leavesExact; rw [liveAt0_19 t], after0_19]
            rw [show (dats m 0 c).leavesExact 20 t = owns (c : Thread nD τ) (ms0_20 t) fullShare ((dats m 0 c).after 20 t) from by
      unfold Dat.leavesExact; rw [liveAt0_20 t], after0_20]
            rw [show (dats m 0 c).leavesExact 25 t = owns (c : Thread nD τ) (ms0_25 t) fullShare ((dats m 0 c).after 25 t) from by
      unfold Dat.leavesExact; rw [liveAt0_25 t], after0_25]
            rw [outsAt0_B m c t h0 h1 h2 h3 h4]
            unfold out0_B_25
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
            iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) ((hcond0_2 t).mpr h2) (fun h => h3 ((hcond0_3 t).mp h)) ((hcond0_4 t).mpr h4) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)).2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [H16]; · iexact H16
            isplitl [H17]; · iexact H17
            isplitl [H18]; · iexact H18
            isplitl [H19]; · iexact H19
            isplitl [H20]; · iexact H20
            isplitl [H21]; · iexists _; iexact H21
            isplitl [H22]; · iexists _; iexact H22
            isplitl [H23]; · iexists _; iexact H23
            isplitl [H24]; · iexists _; iexact H24
            isplitl [H25]; · iexists _; iexact H25
            isplitl [HS0]; · iexact HS0
            isplitl [HS1]; · iexact HS1
            isplitl [HS2]; · iexact HS2
            isplitl [HS3]; · iexact HS3
            iintro ⟨H0, H1, H2, H3, H4, H5, H6, H7, H8, H9, H10, H11, H12, H13, H14, H15, H16, H17, H18, H19, H20, H21, H22, H23, H24, ⟨%e25, H25⟩, HS0, HS1, HS2, HS3⟩
            isplitl [HS0 HS1 HS2 HS3 Hg]
            · isplitl [HS0 HS1 HS2 HS3]
              · isplitl [HS0]
                · iexact HS0
                isplitl [HS1]
                · iexact HS1
                isplitl [HS2]
                · iexact HS2
                iexact HS3
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [H16]; · iexact H16
            isplitl [H17]; · iexact H17
            isplitl [H18]; · iexact H18
            isplitl [H19]; · iexact H19
            isplitl [H20]; · iexact H20
            isplitl [H21]; · iexact H21
            isplitl [H22]; · iexact H22
            isplitl [H23]; · iexact H23
            isplitl [H24]; · iexact H24
            unfold owns; iexists _; isplitr
            swap; · iexact H25
            ipureintro; exact View.read_writes_of_cover _ _ _ _ _ (cover0_B_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          · exfalso; omega
      · exfalso; omega
    · by_cases h2 : (1 ≤ t.val % 34 ∧ t.val % 34 ≤ 32)
      · by_cases h3 : 2 ≤ t.val % 34
        · by_cases h4 : (1 ≤ t.val % 34 ∧ t.val % 34 ≤ 32)
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8 t], after0_8]
            rw [show (dats m 0 c).leavesExact 9 t = owns (c : Thread nD τ) (ms0_9 t) fullShare ((dats m 0 c).after 9 t) from by
      unfold Dat.leavesExact; rw [liveAt0_9 t], after0_9]
            rw [show (dats m 0 c).leavesExact 10 t = owns (c : Thread nD τ) (ms0_10 t) fullShare ((dats m 0 c).after 10 t) from by
      unfold Dat.leavesExact; rw [liveAt0_10 t], after0_10]
            rw [show (dats m 0 c).leavesExact 11 t = owns (c : Thread nD τ) (ms0_11 t) fullShare ((dats m 0 c).after 11 t) from by
      unfold Dat.leavesExact; rw [liveAt0_11 t], after0_11]
            rw [show (dats m 0 c).leavesExact 12 t = owns (c : Thread nD τ) (ms0_12 t) fullShare ((dats m 0 c).after 12 t) from by
      unfold Dat.leavesExact; rw [liveAt0_12 t], after0_12]
            rw [show (dats m 0 c).leavesExact 13 t = owns (c : Thread nD τ) (ms0_13 t) fullShare ((dats m 0 c).after 13 t) from by
      unfold Dat.leavesExact; rw [liveAt0_13 t], after0_13]
            rw [show (dats m 0 c).leavesExact 14 t = owns (c : Thread nD τ) (ms0_14 t) fullShare ((dats m 0 c).after 14 t) from by
      unfold Dat.leavesExact; rw [liveAt0_14 t], after0_14]
            rw [show (dats m 0 c).leavesExact 15 t = owns (c : Thread nD τ) (ms0_15 t) fullShare ((dats m 0 c).after 15 t) from by
      unfold Dat.leavesExact; rw [liveAt0_15 t], after0_15]
            rw [show (dats m 0 c).leavesExact 16 t = owns (c : Thread nD τ) (ms0_16 t) fullShare ((dats m 0 c).after 16 t) from by
      unfold Dat.leavesExact; rw [liveAt0_16 t], after0_16]
            rw [show (dats m 0 c).leavesExact 17 t = owns (c : Thread nD τ) (ms0_17 t) fullShare ((dats m 0 c).after 17 t) from by
      unfold Dat.leavesExact; rw [liveAt0_17 t], after0_17]
            rw [show (dats m 0 c).leavesExact 18 t = owns (c : Thread nD τ) (ms0_18 t) fullShare ((dats m 0 c).after 18 t) from by
      unfold Dat.leavesExact; rw [liveAt0_18 t], after0_18]
            rw [show (dats m 0 c).leavesExact 19 t = owns (c : Thread nD τ) (ms0_19 t) fullShare ((dats m 0 c).after 19 t) from by
      unfold Dat.leavesExact; rw [liveAt0_19 t], after0_19]
            rw [show (dats m 0 c).leavesExact 20 t = owns (c : Thread nD τ) (ms0_20 t) fullShare ((dats m 0 c).after 20 t) from by
      unfold Dat.leavesExact; rw [liveAt0_20 t], after0_20]
            rw [show (dats m 0 c).leavesExact 25 t = owns (c : Thread nD τ) (ms0_25 t) fullShare ((dats m 0 c).after 25 t) from by
      unfold Dat.leavesExact; rw [liveAt0_25 t], after0_25]
            rw [outsAt0_C m c t h0 h1 h2 h3 h4]
            unfold out0_C_25
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
            iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) ((hcond0_3 t).mpr h3) ((hcond0_4 t).mpr h4) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)).2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [H16]; · iexact H16
            isplitl [H17]; · iexact H17
            isplitl [H18]; · iexact H18
            isplitl [H19]; · iexact H19
            isplitl [H20]; · iexact H20
            isplitl [H21]; · iexists _; iexact H21
            isplitl [H22]; · iexists _; iexact H22
            isplitl [H23]; · iexists _; iexact H23
            isplitl [H24]; · iexists _; iexact H24
            isplitl [H25]; · iexists _; iexact H25
            isplitl [HS0]; · iexact HS0
            isplitl [HS1]; · iexact HS1
            isplitl [HS2]; · iexact HS2
            isplitl [HS3]; · iexact HS3
            iintro ⟨H0, H1, H2, H3, H4, H5, H6, H7, H8, H9, H10, H11, H12, H13, H14, H15, H16, H17, H18, H19, H20, H21, H22, H23, H24, ⟨%e25, H25⟩, HS0, HS1, HS2, HS3⟩
            isplitl [HS0 HS1 HS2 HS3 Hg]
            · isplitl [HS0 HS1 HS2 HS3]
              · isplitl [HS0]
                · iexact HS0
                isplitl [HS1]
                · iexact HS1
                isplitl [HS2]
                · iexact HS2
                iexact HS3
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [H16]; · iexact H16
            isplitl [H17]; · iexact H17
            isplitl [H18]; · iexact H18
            isplitl [H19]; · iexact H19
            isplitl [H20]; · iexact H20
            isplitl [H21]; · iexact H21
            isplitl [H22]; · iexact H22
            isplitl [H23]; · iexact H23
            isplitl [H24]; · iexact H24
            unfold owns; iexists _; isplitr
            swap; · iexact H25
            ipureintro; exact View.read_writes_of_cover _ _ _ _ _ (cover0_C_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          · exfalso; omega
        · exfalso; omega
      · by_cases h3 : 2 ≤ t.val % 34
        · by_cases h4 : (1 ≤ t.val % 34 ∧ t.val % 34 ≤ 32)
          · exfalso; omega
          · rw [show (dats m 0 c).leavesExact 0 t = owns (c : Thread nD τ) (ms0_0 t) fullShare ((dats m 0 c).after 0 t) from by
      unfold Dat.leavesExact; rw [liveAt0_0 t], after0_0]
            rw [show (dats m 0 c).leavesExact 1 t = owns (c : Thread nD τ) (ms0_1 t) fullShare ((dats m 0 c).after 1 t) from by
      unfold Dat.leavesExact; rw [liveAt0_1 t], after0_1]
            rw [show (dats m 0 c).leavesExact 2 t = owns (c : Thread nD τ) (ms0_2 t) fullShare ((dats m 0 c).after 2 t) from by
      unfold Dat.leavesExact; rw [liveAt0_2 t], after0_2]
            rw [show (dats m 0 c).leavesExact 3 t = owns (c : Thread nD τ) (ms0_3 t) fullShare ((dats m 0 c).after 3 t) from by
      unfold Dat.leavesExact; rw [liveAt0_3 t], after0_3]
            rw [show (dats m 0 c).leavesExact 4 t = owns (c : Thread nD τ) (ms0_4 t) fullShare ((dats m 0 c).after 4 t) from by
      unfold Dat.leavesExact; rw [liveAt0_4 t], after0_4]
            rw [show (dats m 0 c).leavesExact 5 t = owns (c : Thread nD τ) (ms0_5 t) fullShare ((dats m 0 c).after 5 t) from by
      unfold Dat.leavesExact; rw [liveAt0_5 t], after0_5]
            rw [show (dats m 0 c).leavesExact 6 t = owns (c : Thread nD τ) (ms0_6 t) fullShare ((dats m 0 c).after 6 t) from by
      unfold Dat.leavesExact; rw [liveAt0_6 t], after0_6]
            rw [show (dats m 0 c).leavesExact 7 t = owns (c : Thread nD τ) (ms0_7 t) fullShare ((dats m 0 c).after 7 t) from by
      unfold Dat.leavesExact; rw [liveAt0_7 t], after0_7]
            rw [show (dats m 0 c).leavesExact 8 t = owns (c : Thread nD τ) (ms0_8 t) fullShare ((dats m 0 c).after 8 t) from by
      unfold Dat.leavesExact; rw [liveAt0_8 t], after0_8]
            rw [show (dats m 0 c).leavesExact 9 t = owns (c : Thread nD τ) (ms0_9 t) fullShare ((dats m 0 c).after 9 t) from by
      unfold Dat.leavesExact; rw [liveAt0_9 t], after0_9]
            rw [show (dats m 0 c).leavesExact 10 t = owns (c : Thread nD τ) (ms0_10 t) fullShare ((dats m 0 c).after 10 t) from by
      unfold Dat.leavesExact; rw [liveAt0_10 t], after0_10]
            rw [show (dats m 0 c).leavesExact 11 t = owns (c : Thread nD τ) (ms0_11 t) fullShare ((dats m 0 c).after 11 t) from by
      unfold Dat.leavesExact; rw [liveAt0_11 t], after0_11]
            rw [show (dats m 0 c).leavesExact 12 t = owns (c : Thread nD τ) (ms0_12 t) fullShare ((dats m 0 c).after 12 t) from by
      unfold Dat.leavesExact; rw [liveAt0_12 t], after0_12]
            rw [show (dats m 0 c).leavesExact 13 t = owns (c : Thread nD τ) (ms0_13 t) fullShare ((dats m 0 c).after 13 t) from by
      unfold Dat.leavesExact; rw [liveAt0_13 t], after0_13]
            rw [show (dats m 0 c).leavesExact 14 t = owns (c : Thread nD τ) (ms0_14 t) fullShare ((dats m 0 c).after 14 t) from by
      unfold Dat.leavesExact; rw [liveAt0_14 t], after0_14]
            rw [show (dats m 0 c).leavesExact 15 t = owns (c : Thread nD τ) (ms0_15 t) fullShare ((dats m 0 c).after 15 t) from by
      unfold Dat.leavesExact; rw [liveAt0_15 t], after0_15]
            rw [show (dats m 0 c).leavesExact 16 t = owns (c : Thread nD τ) (ms0_16 t) fullShare ((dats m 0 c).after 16 t) from by
      unfold Dat.leavesExact; rw [liveAt0_16 t], after0_16]
            rw [show (dats m 0 c).leavesExact 17 t = owns (c : Thread nD τ) (ms0_17 t) fullShare ((dats m 0 c).after 17 t) from by
      unfold Dat.leavesExact; rw [liveAt0_17 t], after0_17]
            rw [show (dats m 0 c).leavesExact 18 t = owns (c : Thread nD τ) (ms0_18 t) fullShare ((dats m 0 c).after 18 t) from by
      unfold Dat.leavesExact; rw [liveAt0_18 t], after0_18]
            rw [show (dats m 0 c).leavesExact 19 t = owns (c : Thread nD τ) (ms0_19 t) fullShare ((dats m 0 c).after 19 t) from by
      unfold Dat.leavesExact; rw [liveAt0_19 t], after0_19]
            rw [show (dats m 0 c).leavesExact 20 t = owns (c : Thread nD τ) (ms0_20 t) fullShare ((dats m 0 c).after 20 t) from by
      unfold Dat.leavesExact; rw [liveAt0_20 t], after0_20]
            rw [show (dats m 0 c).leavesExact 25 t = owns (c : Thread nD τ) (ms0_25 t) fullShare ((dats m 0 c).after 25 t) from by
      unfold Dat.leavesExact; rw [liveAt0_25 t], after0_25]
            rw [outsAt0_D m c t h0 h1 h2 h3 h4]
            unfold out0_D_25
            iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
            iapply ((kernelRun0_D c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)).2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [H16]; · iexact H16
            isplitl [H17]; · iexact H17
            isplitl [H18]; · iexact H18
            isplitl [H19]; · iexact H19
            isplitl [H20]; · iexact H20
            isplitl [H21]; · iexists _; iexact H21
            isplitl [H22]; · iexists _; iexact H22
            isplitl [H23]; · iexists _; iexact H23
            isplitl [H24]; · iexists _; iexact H24
            isplitl [H25]; · iexists _; iexact H25
            isplitl [HS0]; · iexact HS0
            isplitl [HS1]; · iexact HS1
            isplitl [HS2]; · iexact HS2
            isplitl [HS3]; · iexact HS3
            iintro ⟨H0, H1, H2, H3, H4, H5, H6, H7, H8, H9, H10, H11, H12, H13, H14, H15, H16, H17, H18, H19, H20, H21, H22, H23, H24, ⟨%e25, H25⟩, HS0, HS1, HS2, HS3⟩
            isplitl [HS0 HS1 HS2 HS3 Hg]
            · isplitl [HS0 HS1 HS2 HS3]
              · isplitl [HS0]
                · iexact HS0
                isplitl [HS1]
                · iexact HS1
                isplitl [HS2]
                · iexact HS2
                iexact HS3
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexact H12
            isplitl [H13]; · iexact H13
            isplitl [H14]; · iexact H14
            isplitl [H15]; · iexact H15
            isplitl [H16]; · iexact H16
            isplitl [H17]; · iexact H17
            isplitl [H18]; · iexact H18
            isplitl [H19]; · iexact H19
            isplitl [H20]; · iexact H20
            isplitl [H21]; · iexact H21
            isplitl [H22]; · iexact H22
            isplitl [H23]; · iexact H23
            isplitl [H24]; · iexact H24
            unfold owns; iexists _; isplitr
            swap; · iexact H25
            ipureintro; exact View.read_writes_of_cover _ _ _ _ _ (cover0_D_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 21, 22, 23, 24) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.KernelIdeal.Mix

end
-- ==== Proof.Attn.CaseA.lean ====
/-
  The stores of the mixers call's body are the block's stores of AttnBlock: the body's named values, one after another.
  The first point of a sequence.
-/
module

public import proofs.«01_k».proof.Proof.AttnBlock
public import proofs.«01_k».proof.Proof.Mix.Frame

@[expose] public section

set_option maxRecDepth 16384

noncomputable section

open Idealize.ShloMosaic Idealize.ShloMosaic.TcCoe

namespace Cert.KernelIdeal.Attn

open Cert.KernelIdeal Cert.KernelIdeal.Gen Cert.KernelIdeal.Mix

section

variable (c : Dev nD)
  (a17 : Memref sig .tc .vmem S1x256x256 .f32) (h17 : a17.IsWhole)
  (a18 : Memref sig .tc .vmem S256x128 .f32) (h18 : a18.IsWhole)
  (a19 : Memref sig .tc .vmem S256x128 .f32) (h19 : a19.IsWhole)
  (a20 : Memref sig .tc .vmem S1x128 .f32) (h20 : a20.IsWhole)
  (a21 : Memref sig .tc .vmem S1x1x4224x128 .bf16) (h21 : a21.IsWhole)
  (a22 : Memref sig .tc .vmem S1x1x4224x128 .bf16) (h22 : a22.IsWhole)
  (x15 : Vec Ideal S1x256x256 .f32)
  (x16 : Vec Ideal S256x128 .f32)
  (x17 : Vec Ideal S256x128 .f32)
  (x18 : Vec Ideal S1x128 .f32)
  (x19 : Vec Ideal S1x1x4224x128 .bf16)
  (x20 : Vec Ideal S1x1x4224x128 .bf16)

theorem cos_A : kernelRun0_A.sl.v1196 (F := Ideal) c a18 h18 x16
    = shapeCast S256x128 x16 shapeCasts_S256x128_S256x128 := congrArg (fun f => shapeCast S256x128 f shapeCasts_S256x128_S256x128) (load_whole a18 h18 _ _ (by decide) x16)

theorem sin_A : kernelRun0_A.sl.v1198 (F := Ideal) c a19 h19 x17
    = shapeCast S256x128 x17 shapeCasts_S256x128_S256x128 := congrArg (fun f => shapeCast S256x128 f shapeCasts_S256x128_S256x128) (load_whole a19 h19 _ _ (by decide) x17)

theorem gain_A : kernelRun0_A.sl.v1194 (F := Ideal) c a20 h20 x18
    = shapeCast S1x128 x18 shapeCasts_S1x128_S1x128 := congrArg (fun f => shapeCast S1x128 f shapeCasts_S1x128_S1x128) (load_whole a20 h20 _ _ (by decide) x18)

theorem keys_A : kernelRun0_A.sl.v1602 (F := Ideal) c a21 h21 x19
    = shapeCast S4224x128 x19 shapeCasts_S1x1x4224x128_S4224x128 := congrArg (fun f => shapeCast S4224x128 f shapeCasts_S1x1x4224x128_S4224x128) (load_whole a21 h21 _ _ (by decide) x19)

theorem vals_A : kernelRun0_A.sl.v2065 (F := Ideal) c a22 h22 x20
    = shapeCast S4224x128 x20 shapeCasts_S1x1x4224x128_S4224x128 := congrArg (fun f => shapeCast S4224x128 f shapeCasts_S1x1x4224x128_S4224x128) (load_whole a22 h22 _ _ (by decide) x20)

theorem first_q_A : kernelRun0_A.sl.v1192 (F := Ideal) c a17 h17 x15
    = shapeCast S256x128 (View.ld x15 lo) shapeCasts_S1x256x128_S256x128 := congrArg (fun f => shapeCast S256x128 f shapeCasts_S1x256x128_S256x128) (load_eq a17 h17 lo x15)

theorem normed0_A : kernelRun0_A.sl.v1212 (F := Ideal) c a17 h17 a20 h20 x15 x18
    = normed (kernelRun0_A.sl.v1192 (F := Ideal) c a17 h17 x15) (kernelRun0_A.sl.v1194 (F := Ideal) c a20 h20 x18) := by exact rfl

theorem rotated0_A : kernelRun0_A.sl.r (F := Ideal) c a17 h17 a18 h18 a19 h19 a20 h20 x15 x16 x17 x18
    = rotated (kernelRun0_A.sl.v1212 (F := Ideal) c a17 h17 a20 h20 x15 x18) (kernelRun0_A.sl.v1196 (F := Ideal) c a18 h18 x16) (kernelRun0_A.sl.v1198 (F := Ideal) c a19 h19 x17) := by exact rfl

theorem rotated1_A : kernelRun0_A.sl.r_4 (F := Ideal) c a17 h17 a18 h18 a19 h19 a20 h20 x15 x16 x17 x18
    = rotated (normed (shapeCast S256x128 (View.readAt (Elt Ideal) a17.view hi.toLoadRect (h17.unread x15)) shapeCasts_S1x256x128_S256x128) (kernelRun0_A.sl.v1194 (F := Ideal) c a20 h20 x18)) (kernelRun0_A.sl.v1196 (F := Ideal) c a18 h18 x16) (kernelRun0_A.sl.v1198 (F := Ideal) c a19 h19 x17) := by exact rfl

theorem queries0_A : kernelRun0_A.sl.r (F := Ideal) c a17 h17 a18 h18 a19 h19 a20 h20 x15 x16 x17 x18
    = loaded (View.ld x15 lo) x16 x17 x18 := by
  rw [rotated0_A, normed0_A, first_q_A, gain_A, cos_A, sin_A]; rfl

theorem queries1_A : kernelRun0_A.sl.r_4 (F := Ideal) c a17 h17 a18 h18 a19 h19 a20 h20 x15 x16 x17 x18
    = loaded (View.ld x15 hi) x16 x17 x18 := by
  rw [rotated1_A, load_eq, gain_A, cos_A, sin_A]; rfl

theorem stack0_A : kernelRun0_A.sl.v1600 (F := Ideal) c a17 h17 a18 h18 a19 h19 a20 h20 x15 x16 x17 x18
    = stack (extractStridedSlice S64x128 ![0, 0] (kernelRun0_A.sl.r (F := Ideal) c a17 h17 a18 h18 a19 h19 a20 h20 x15 x16 x17 x18) slices_S256x128_o0_0_S64x128) (extractStridedSlice S64x128 ![0, 0] (kernelRun0_A.sl.r_4 (F := Ideal) c a17 h17 a18 h18 a19 h19 a20 h20 x15 x16 x17 x18) slices_S256x128_o0_0_S64x128) := by exact rfl

theorem scores0_A : kernelRun0_A.sl.v1603 (F := Ideal) c a17 h17 a18 h18 a19 h19 a20 h20 a21 h21 x15 x16 x17 x18 x19
    = scores (kernelRun0_A.sl.v1600 (F := Ideal) c a17 h17 a18 h18 a19 h19 a20 h20 x15 x16 x17 x18) (kernelRun0_A.sl.v1602 (F := Ideal) c a21 h21 x19) := by exact rfl

theorem weights0_A : kernelRun0_A.sl.v1776 (F := Ideal) c a17 h17 a18 h18 a19 h19 a20 h20 a21 h21 x15 x16 x17 x18 x19
    = weights (kernelRun0_A.sl.v1603 (F := Ideal) c a17 h17 a18 h18 a19 h19 a20 h20 a21 h21 x15 x16 x17 x18 x19) := by exact rfl

theorem mixed0_A : kernelRun0_A.sl.v2069 (F := Ideal) c a17 h17 a18 h18 a19 h19 a20 h20 a21 h21 a22 h22 x15 x16 x17 x18 x19 x20
    = mixed (kernelRun0_A.sl.v1776 (F := Ideal) c a17 h17 a18 h18 a19 h19 a20 h20 a21 h21 x15 x16 x17 x18 x19) (kernelRun0_A.sl.v2065 (F := Ideal) c a22 h22 x20) := by exact rfl

theorem rows0_A : kernelRun0_A.sl.v2069 (F := Ideal) c a17 h17 a18 h18 a19 h19 a20 h20 a21 h21 a22 h22 x15 x16 x17 x18 x19 x20
    = part 0 slices_S256x128_o0_0_S64x128 (loaded (View.ld x15 lo) x16 x17 x18) (loaded (View.ld x15 hi) x16 x17 x18) x19 x20 := by
  rw [mixed0_A, weights0_A, scores0_A, stack0_A, queries0_A, queries1_A, keys_A, vals_A]; rfl

theorem first0_A : kernelRun0_A.sl.v2079 (F := Ideal) c a17 h17 a18 h18 a19 h19 a20 h20 a21 h21 a22 h22 x15 x16 x17 x18 x19 x20
    = first (part 0 slices_S256x128_o0_0_S64x128 (loaded (View.ld x15 lo) x16 x17 x18) (loaded (View.ld x15 hi) x16 x17 x18) x19 x20) := by
  rw [← rows0_A c a17 h17 a18 h18 a19 h19 a20 h20 a21 h21 a22 h22]; exact rfl

theorem last0_A : kernelRun0_A.sl.v2089 (F := Ideal) c a17 h17 a18 h18 a19 h19 a20 h20 a21 h21 a22 h22 x15 x16 x17 x18 x19 x20
    = last (part 0 slices_S256x128_o0_0_S64x128 (loaded (View.ld x15 lo) x16 x17 x18) (loaded (View.ld x15 hi) x16 x17 x18) x19 x20) := by
  rw [← rows0_A c a17 h17 a18 h18 a19 h19 a20 h20 a21 h21 a22 h22]; exact rfl

theorem stack1_A : kernelRun0_A.sl.v1767 (F := Ideal) c a17 h17 a18 h18 a19 h19 a20 h20 x15 x16 x17 x18
    = stack (extractStridedSlice S64x128 ![64, 0] (kernelRun0_A.sl.r (F := Ideal) c a17 h17 a18 h18 a19 h19 a20 h20 x15 x16 x17 x18) slices_S256x128_o64_0_S64x128) (extractStridedSlice S64x128 ![64, 0] (kernelRun0_A.sl.r_4 (F := Ideal) c a17 h17 a18 h18 a19 h19 a20 h20 x15 x16 x17 x18) slices_S256x128_o64_0_S64x128) := by exact rfl

theorem scores1_A : kernelRun0_A.sl.v1770 (F := Ideal) c a17 h17 a18 h18 a19 h19 a20 h20 a21 h21 x15 x16 x17 x18 x19
    = scores (kernelRun0_A.sl.v1767 (F := Ideal) c a17 h17 a18 h18 a19 h19 a20 h20 x15 x16 x17 x18) (kernelRun0_A.sl.v1602 (F := Ideal) c a21 h21 x19) := by exact rfl

theorem weights1_A : kernelRun0_A.sl.v2063 (F := Ideal) c a17 h17 a18 h18 a19 h19 a20 h20 a21 h21 x15 x16 x17 x18 x19
    = weights (kernelRun0_A.sl.v1770 (F := Ideal) c a17 h17 a18 h18 a19 h19 a20 h20 a21 h21 x15 x16 x17 x18 x19) := by exact rfl

theorem mixed1_A : kernelRun0_A.sl.v2338 (F := Ideal) c a17 h17 a18 h18 a19 h19 a20 h20 a21 h21 a22 h22 x15 x16 x17 x18 x19 x20
    = mixed (kernelRun0_A.sl.v2063 (F := Ideal) c a17 h17 a18 h18 a19 h19 a20 h20 a21 h21 x15 x16 x17 x18 x19) (kernelRun0_A.sl.v2065 (F := Ideal) c a22 h22 x20) := by exact rfl

theorem rows1_A : kernelRun0_A.sl.v2338 (F := Ideal) c a17 h17 a18 h18 a19 h19 a20 h20 a21 h21 a22 h22 x15 x16 x17 x18 x19 x20
    = part 64 slices_S256x128_o64_0_S64x128 (loaded (View.ld x15 lo) x16 x17 x18) (loaded (View.ld x15 hi) x16 x17 x18) x19 x20 := by
  rw [mixed1_A, weights1_A, scores1_A, stack1_A, queries0_A, queries1_A, keys_A, vals_A]; rfl

theorem first1_A : kernelRun0_A.sl.v2348 (F := Ideal) c a17 h17 a18 h18 a19 h19 a20 h20 a21 h21 a22 h22 x15 x16 x17 x18 x19 x20
    = first (part 64 slices_S256x128_o64_0_S64x128 (loaded (View.ld x15 lo) x16 x17 x18) (loaded (View.ld x15 hi) x16 x17 x18) x19 x20) := by
  rw [← rows1_A c a17 h17 a18 h18 a19 h19 a20 h20 a21 h21 a22 h22]; exact rfl

theorem last1_A : kernelRun0_A.sl.v2358 (F := Ideal) c a17 h17 a18 h18 a19 h19 a20 h20 a21 h21 a22 h22 x15 x16 x17 x18 x19 x20
    = last (part 64 slices_S256x128_o64_0_S64x128 (loaded (View.ld x15 lo) x16 x17 x18) (loaded (View.ld x15 hi) x16 x17 x18) x19 x20) := by
  rw [← rows1_A c a17 h17 a18 h18 a19 h19 a20 h20 a21 h21 a22 h22]; exact rfl

theorem stack2_A : kernelRun0_A.sl.v2054 (F := Ideal) c a17 h17 a18 h18 a19 h19 a20 h20 x15 x16 x17 x18
    = stack (extractStridedSlice S64x128 ![128, 0] (kernelRun0_A.sl.r (F := Ideal) c a17 h17 a18 h18 a19 h19 a20 h20 x15 x16 x17 x18) slices_S256x128_o128_0_S64x128) (extractStridedSlice S64x128 ![128, 0] (kernelRun0_A.sl.r_4 (F := Ideal) c a17 h17 a18 h18 a19 h19 a20 h20 x15 x16 x17 x18) slices_S256x128_o128_0_S64x128) := by exact rfl

theorem scores2_A : kernelRun0_A.sl.v2057 (F := Ideal) c a17 h17 a18 h18 a19 h19 a20 h20 a21 h21 x15 x16 x17 x18 x19
    = scores (kernelRun0_A.sl.v2054 (F := Ideal) c a17 h17 a18 h18 a19 h19 a20 h20 x15 x16 x17 x18) (kernelRun0_A.sl.v1602 (F := Ideal) c a21 h21 x19) := by exact rfl

theorem weights2_A : kernelRun0_A.sl.v2332 (F := Ideal) c a17 h17 a18 h18 a19 h19 a20 h20 a21 h21 x15 x16 x17 x18 x19
    = weights (kernelRun0_A.sl.v2057 (F := Ideal) c a17 h17 a18 h18 a19 h19 a20 h20 a21 h21 x15 x16 x17 x18 x19) := by exact rfl

theorem mixed2_A : kernelRun0_A.sl.v2580 (F := Ideal) c a17 h17 a18 h18 a19 h19 a20 h20 a21 h21 a22 h22 x15 x16 x17 x18 x19 x20
    = mixed (kernelRun0_A.sl.v2332 (F := Ideal) c a17 h17 a18 h18 a19 h19 a20 h20 a21 h21 x15 x16 x17 x18 x19) (kernelRun0_A.sl.v2065 (F := Ideal) c a22 h22 x20) := by exact rfl

theorem rows2_A : kernelRun0_A.sl.v2580 (F := Ideal) c a17 h17 a18 h18 a19 h19 a20 h20 a21 h21 a22 h22 x15 x16 x17 x18 x19 x20
    = part 128 slices_S256x128_o128_0_S64x128 (loaded (View.ld x15 lo) x16 x17 x18) (loaded (View.ld x15 hi) x16 x17 x18) x19 x20 := by
  rw [mixed2_A, weights2_A, scores2_A, stack2_A, queries0_A, queries1_A, keys_A, vals_A]; rfl

theorem first2_A : kernelRun0_A.sl.v2590 (F := Ideal) c a17 h17 a18 h18 a19 h19 a20 h20 a21 h21 a22 h22 x15 x16 x17 x18 x19 x20
    = first (part 128 slices_S256x128_o128_0_S64x128 (loaded (View.ld x15 lo) x16 x17 x18) (loaded (View.ld x15 hi) x16 x17 x18) x19 x20) := by
  rw [← rows2_A c a17 h17 a18 h18 a19 h19 a20 h20 a21 h21 a22 h22]; exact rfl

theorem last2_A : kernelRun0_A.sl.v2600 (F := Ideal) c a17 h17 a18 h18 a19 h19 a20 h20 a21 h21 a22 h22 x15 x16 x17 x18 x19 x20
    = last (part 128 slices_S256x128_o128_0_S64x128 (loaded (View.ld x15 lo) x16 x17 x18) (loaded (View.ld x15 hi) x16 x17 x18) x19 x20) := by
  rw [← rows2_A c a17 h17 a18 h18 a19 h19 a20 h20 a21 h21 a22 h22]; exact rfl

theorem stack3_A : kernelRun0_A.sl.v2323 (F := Ideal) c a17 h17 a18 h18 a19 h19 a20 h20 x15 x16 x17 x18
    = stack (extractStridedSlice S64x128 ![192, 0] (kernelRun0_A.sl.r (F := Ideal) c a17 h17 a18 h18 a19 h19 a20 h20 x15 x16 x17 x18) slices_S256x128_o192_0_S64x128) (extractStridedSlice S64x128 ![192, 0] (kernelRun0_A.sl.r_4 (F := Ideal) c a17 h17 a18 h18 a19 h19 a20 h20 x15 x16 x17 x18) slices_S256x128_o192_0_S64x128) := by exact rfl

theorem scores3_A : kernelRun0_A.sl.v2326 (F := Ideal) c a17 h17 a18 h18 a19 h19 a20 h20 a21 h21 x15 x16 x17 x18 x19
    = scores (kernelRun0_A.sl.v2323 (F := Ideal) c a17 h17 a18 h18 a19 h19 a20 h20 x15 x16 x17 x18) (kernelRun0_A.sl.v1602 (F := Ideal) c a21 h21 x19) := by exact rfl

theorem weights3_A : kernelRun0_A.sl.v2574 (F := Ideal) c a17 h17 a18 h18 a19 h19 a20 h20 a21 h21 x15 x16 x17 x18 x19
    = weights (kernelRun0_A.sl.v2326 (F := Ideal) c a17 h17 a18 h18 a19 h19 a20 h20 a21 h21 x15 x16 x17 x18 x19) := by exact rfl

theorem mixed3_A : kernelRun0_A.sl.v2851 (F := Ideal) c a17 h17 a18 h18 a19 h19 a20 h20 a21 h21 a22 h22 x15 x16 x17 x18 x19 x20
    = mixed (kernelRun0_A.sl.v2574 (F := Ideal) c a17 h17 a18 h18 a19 h19 a20 h20 a21 h21 x15 x16 x17 x18 x19) (kernelRun0_A.sl.v2065 (F := Ideal) c a22 h22 x20) := by exact rfl

theorem rows3_A : kernelRun0_A.sl.v2851 (F := Ideal) c a17 h17 a18 h18 a19 h19 a20 h20 a21 h21 a22 h22 x15 x16 x17 x18 x19 x20
    = part 192 slices_S256x128_o192_0_S64x128 (loaded (View.ld x15 lo) x16 x17 x18) (loaded (View.ld x15 hi) x16 x17 x18) x19 x20 := by
  rw [mixed3_A, weights3_A, scores3_A, stack3_A, queries0_A, queries1_A, keys_A, vals_A]; rfl

theorem first3_A : kernelRun0_A.sl.v2861 (F := Ideal) c a17 h17 a18 h18 a19 h19 a20 h20 a21 h21 a22 h22 x15 x16 x17 x18 x19 x20
    = first (part 192 slices_S256x128_o192_0_S64x128 (loaded (View.ld x15 lo) x16 x17 x18) (loaded (View.ld x15 hi) x16 x17 x18) x19 x20) := by
  rw [← rows3_A c a17 h17 a18 h18 a19 h19 a20 h20 a21 h21 a22 h22]; exact rfl

theorem last3_A : kernelRun0_A.sl.v2871 (F := Ideal) c a17 h17 a18 h18 a19 h19 a20 h20 a21 h21 a22 h22 x15 x16 x17 x18 x19 x20
    = last (part 192 slices_S256x128_o192_0_S64x128 (loaded (View.ld x15 lo) x16 x17 x18) (loaded (View.ld x15 hi) x16 x17 x18) x19 x20) := by
  rw [← rows3_A c a17 h17 a18 h18 a19 h19 a20 h20 a21 h21 a22 h22]; exact rfl

end

theorem out_A (c : Dev nD) (i : grid0.Coords) (arg2 : Memref sig .tc .vmem S1x128x2048 .f32) (harg2 : arg2.IsWhole) (arg3 : Memref sig .tc .vmem S1x8x2048 .f32) (harg3 : arg3.IsWhole) (arg4 : Memref sig .tc .vmem S1x8x2048 .f32) (harg4 : arg4.IsWhole) (arg5 : Memref sig .tc .vmem S1x128x2048 .f32) (harg5 : arg5.IsWhole) (arg6 : Memref sig .tc .vmem S1x8x2048 .f32) (harg6 : arg6.IsWhole) (arg7 : Memref sig .tc .vmem S1x8x2048 .f32) (harg7 : arg7.IsWhole) (arg8 : Memref sig .tc .vmem S2x2048 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S1x1024 .f32) (harg11 : arg11.IsWhole) (arg12 : Memref sig .tc .vmem S128x1024 .f32) (harg12 : arg12.IsWhole) (arg13 : Memref sig .tc .vmem S256x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x256x256 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S1x1x4224x128 .bf16) (harg21 : arg21.IsWhole) (arg22 : Memref sig .tc .vmem S1x1x4224x128 .bf16) (harg22 : arg22.IsWhole) (arg23 : Memref sig .tc .vmem S1x128x512 .bf16) (harg23 : arg23.IsWhole) (arg24 : Memref sig .tc .vmem S1x128x512 .bf16) (harg24 : arg24.IsWhole) (arg25 : Memref sig .tc .vmem S1x128x512 .bf16) (harg25 : arg25.IsWhole) (arg26 : Memref sig .tc .vmem S1x128x512 .bf16) (harg26 : arg26.IsWhole) (arg27 : Memref sig .tc .vmem S1x256x256 .bf16) (harg27 : arg27.IsWhole) (arg28 : Memref sig .tc .vmem S2x4x128x128 .f32) (harg28 : arg28.IsWhole) (arg29 : Memref sig .tc .vmem S2x6x2x4x128x128 .bf16) (harg29 : arg29.IsWhole) (arg30 : Memref sig .tc .vmem S2x2x4x128x128 .f32) (harg30 : arg30.IsWhole) (arg31 : Memref sig .tc .vmem S2x2x1x512 .f32) (harg31 : arg31.IsWhole) (hc0 : cond0_0 i) (hc1 : cond0_1 i) (hc2 : ¬cond0_2 i) (hc3 : ¬cond0_3 i) (hc4 : ¬cond0_4 i)
    (x0 : Vec Ideal S1x128x2048 .f32) (x1 : Vec Ideal S1x8x2048 .f32) (x2 : Vec Ideal S1x8x2048 .f32) (x3 : Vec Ideal S1x128x2048 .f32) (x4 : Vec Ideal S1x8x2048 .f32) (x5 : Vec Ideal S1x8x2048 .f32) (x6 : Vec Ideal S2x2048 .f32) (x7 : Vec Ideal S1x1024 .f32) (x8 : Vec Ideal S128x1024 .f32) (x9 : Vec Ideal S1x1024 .f32) (x10 : Vec Ideal S128x1024 .f32) (x11 : Vec Ideal S256x512 .f32) (x12 : Vec Ideal S1x512 .f32) (x13 : Vec Ideal S1x512 .f32) (x14 : Vec Ideal S1x512 .f32) (x15 : Vec Ideal S1x256x256 .f32) (x16 : Vec Ideal S256x128 .f32) (x17 : Vec Ideal S256x128 .f32) (x18 : Vec Ideal S1x128 .f32) (x19 : Vec Ideal S1x1x4224x128 .bf16) (x20 : Vec Ideal S1x1x4224x128 .bf16) :
    out0_A_25 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 hc4 x0 x1 x2 x3 x4 x5 x6 x7 x8 x9 x10 x11 x12 x13 x14 x15 x16 x17 x18 x19 x20 = block (loaded (View.ld x15 lo) x16 x17 x18) (loaded (View.ld x15 hi) x16 x17 x18) x19 x20 := by
  unfold out0_A_25 block
  unfold kernelRun0_A
  dsimp only
  rw [last3_A, first3_A, last2_A, first2_A, last1_A, first1_A, last0_A, first0_A]
  rfl

end Cert.KernelIdeal.Attn

end
-- ==== Proof.Attn.CaseB.lean ====
/-
  The stores of the mixers call's body are the block's stores of AttnBlock: the body's named values, one after another.
  The second point of a sequence.
-/
module

public import proofs.«01_k».proof.Proof.AttnBlock
public import proofs.«01_k».proof.Proof.Mix.Frame

@[expose] public section

set_option maxRecDepth 16384

noncomputable section

open Idealize.ShloMosaic Idealize.ShloMosaic.TcCoe

namespace Cert.KernelIdeal.Attn

open Cert.KernelIdeal Cert.KernelIdeal.Gen Cert.KernelIdeal.Mix

section

variable (c : Dev nD)
  (a17 : Memref sig .tc .vmem S1x256x256 .f32) (h17 : a17.IsWhole)
  (a18 : Memref sig .tc .vmem S256x128 .f32) (h18 : a18.IsWhole)
  (a19 : Memref sig .tc .vmem S256x128 .f32) (h19 : a19.IsWhole)
  (a20 : Memref sig .tc .vmem S1x128 .f32) (h20 : a20.IsWhole)
  (a21 : Memref sig .tc .vmem S1x1x4224x128 .bf16) (h21 : a21.IsWhole)
  (a22 : Memref sig .tc .vmem S1x1x4224x128 .bf16) (h22 : a22.IsWhole)
  (x15 : Vec Ideal S1x256x256 .f32)
  (x16 : Vec Ideal S256x128 .f32)
  (x17 : Vec Ideal S256x128 .f32)
  (x18 : Vec Ideal S1x128 .f32)
  (x19 : Vec Ideal S1x1x4224x128 .bf16)
  (x20 : Vec Ideal S1x1x4224x128 .bf16)

theorem cos_B : kernelRun0_B.sl.v1196 (F := Ideal) c a18 h18 x16
    = shapeCast S256x128 x16 shapeCasts_S256x128_S256x128 := congrArg (fun f => shapeCast S256x128 f shapeCasts_S256x128_S256x128) (load_whole a18 h18 _ _ (by decide) x16)

theorem sin_B : kernelRun0_B.sl.v1198 (F := Ideal) c a19 h19 x17
    = shapeCast S256x128 x17 shapeCasts_S256x128_S256x128 := congrArg (fun f => shapeCast S256x128 f shapeCasts_S256x128_S256x128) (load_whole a19 h19 _ _ (by decide) x17)

theorem gain_B : kernelRun0_B.sl.v1194 (F := Ideal) c a20 h20 x18
    = shapeCast S1x128 x18 shapeCasts_S1x128_S1x128 := congrArg (fun f => shapeCast S1x128 f shapeCasts_S1x128_S1x128) (load_whole a20 h20 _ _ (by decide) x18)

theorem keys_B : kernelRun0_B.sl.v1602 (F := Ideal) c a21 h21 x19
    = shapeCast S4224x128 x19 shapeCasts_S1x1x4224x128_S4224x128 := congrArg (fun f => shapeCast S4224x128 f shapeCasts_S1x1x4224x128_S4224x128) (load_whole a21 h21 _ _ (by decide) x19)

theorem vals_B : kernelRun0_B.sl.v2065 (F := Ideal) c a22 h22 x20
    = shapeCast S4224x128 x20 shapeCasts_S1x1x4224x128_S4224x128 := congrArg (fun f => shapeCast S4224x128 f shapeCasts_S1x1x4224x128_S4224x128) (load_whole a22 h22 _ _ (by decide) x20)

theorem first_q_B : kernelRun0_B.sl.v1192 (F := Ideal) c a17 h17 x15
    = shapeCast S256x128 (View.ld x15 lo) shapeCasts_S1x256x128_S256x128 := congrArg (fun f => shapeCast S256x128 f shapeCasts_S1x256x128_S256x128) (load_eq a17 h17 lo x15)

theorem normed0_B : kernelRun0_B.sl.v1212 (F := Ideal) c a17 h17 a20 h20 x15 x18
    = normed (kernelRun0_B.sl.v1192 (F := Ideal) c a17 h17 x15) (kernelRun0_B.sl.v1194 (F := Ideal) c a20 h20 x18) := by exact rfl

theorem rotated0_B : kernelRun0_B.sl.r (F := Ideal) c a17 h17 a18 h18 a19 h19 a20 h20 x15 x16 x17 x18
    = rotated (kernelRun0_B.sl.v1212 (F := Ideal) c a17 h17 a20 h20 x15 x18) (kernelRun0_B.sl.v1196 (F := Ideal) c a18 h18 x16) (kernelRun0_B.sl.v1198 (F := Ideal) c a19 h19 x17) := by exact rfl

theorem rotated1_B : kernelRun0_B.sl.r_4 (F := Ideal) c a17 h17 a18 h18 a19 h19 a20 h20 x15 x16 x17 x18
    = rotated (normed (shapeCast S256x128 (View.readAt (Elt Ideal) a17.view hi.toLoadRect (h17.unread x15)) shapeCasts_S1x256x128_S256x128) (kernelRun0_B.sl.v1194 (F := Ideal) c a20 h20 x18)) (kernelRun0_B.sl.v1196 (F := Ideal) c a18 h18 x16) (kernelRun0_B.sl.v1198 (F := Ideal) c a19 h19 x17) := by exact rfl

theorem queries0_B : kernelRun0_B.sl.r (F := Ideal) c a17 h17 a18 h18 a19 h19 a20 h20 x15 x16 x17 x18
    = loaded (View.ld x15 lo) x16 x17 x18 := by
  rw [rotated0_B, normed0_B, first_q_B, gain_B, cos_B, sin_B]; rfl

theorem queries1_B : kernelRun0_B.sl.r_4 (F := Ideal) c a17 h17 a18 h18 a19 h19 a20 h20 x15 x16 x17 x18
    = loaded (View.ld x15 hi) x16 x17 x18 := by
  rw [rotated1_B, load_eq, gain_B, cos_B, sin_B]; rfl

theorem stack0_B : kernelRun0_B.sl.v1600 (F := Ideal) c a17 h17 a18 h18 a19 h19 a20 h20 x15 x16 x17 x18
    = stack (extractStridedSlice S64x128 ![0, 0] (kernelRun0_B.sl.r (F := Ideal) c a17 h17 a18 h18 a19 h19 a20 h20 x15 x16 x17 x18) slices_S256x128_o0_0_S64x128) (extractStridedSlice S64x128 ![0, 0] (kernelRun0_B.sl.r_4 (F := Ideal) c a17 h17 a18 h18 a19 h19 a20 h20 x15 x16 x17 x18) slices_S256x128_o0_0_S64x128) := by exact rfl

theorem scores0_B : kernelRun0_B.sl.v1603 (F := Ideal) c a17 h17 a18 h18 a19 h19 a20 h20 a21 h21 x15 x16 x17 x18 x19
    = scores (kernelRun0_B.sl.v1600 (F := Ideal) c a17 h17 a18 h18 a19 h19 a20 h20 x15 x16 x17 x18) (kernelRun0_B.sl.v1602 (F := Ideal) c a21 h21 x19) := by exact rfl

theorem weights0_B : kernelRun0_B.sl.v1776 (F := Ideal) c a17 h17 a18 h18 a19 h19 a20 h20 a21 h21 x15 x16 x17 x18 x19
    = weights (kernelRun0_B.sl.v1603 (F := Ideal) c a17 h17 a18 h18 a19 h19 a20 h20 a21 h21 x15 x16 x17 x18 x19) := by exact rfl

theorem mixed0_B : kernelRun0_B.sl.v2069 (F := Ideal) c a17 h17 a18 h18 a19 h19 a20 h20 a21 h21 a22 h22 x15 x16 x17 x18 x19 x20
    = mixed (kernelRun0_B.sl.v1776 (F := Ideal) c a17 h17 a18 h18 a19 h19 a20 h20 a21 h21 x15 x16 x17 x18 x19) (kernelRun0_B.sl.v2065 (F := Ideal) c a22 h22 x20) := by exact rfl

theorem rows0_B : kernelRun0_B.sl.v2069 (F := Ideal) c a17 h17 a18 h18 a19 h19 a20 h20 a21 h21 a22 h22 x15 x16 x17 x18 x19 x20
    = part 0 slices_S256x128_o0_0_S64x128 (loaded (View.ld x15 lo) x16 x17 x18) (loaded (View.ld x15 hi) x16 x17 x18) x19 x20 := by
  rw [mixed0_B, weights0_B, scores0_B, stack0_B, queries0_B, queries1_B, keys_B, vals_B]; rfl

theorem first0_B : kernelRun0_B.sl.v2079 (F := Ideal) c a17 h17 a18 h18 a19 h19 a20 h20 a21 h21 a22 h22 x15 x16 x17 x18 x19 x20
    = first (part 0 slices_S256x128_o0_0_S64x128 (loaded (View.ld x15 lo) x16 x17 x18) (loaded (View.ld x15 hi) x16 x17 x18) x19 x20) := by
  rw [← rows0_B c a17 h17 a18 h18 a19 h19 a20 h20 a21 h21 a22 h22]; exact rfl

theorem last0_B : kernelRun0_B.sl.v2089 (F := Ideal) c a17 h17 a18 h18 a19 h19 a20 h20 a21 h21 a22 h22 x15 x16 x17 x18 x19 x20
    = last (part 0 slices_S256x128_o0_0_S64x128 (loaded (View.ld x15 lo) x16 x17 x18) (loaded (View.ld x15 hi) x16 x17 x18) x19 x20) := by
  rw [← rows0_B c a17 h17 a18 h18 a19 h19 a20 h20 a21 h21 a22 h22]; exact rfl

theorem stack1_B : kernelRun0_B.sl.v1767 (F := Ideal) c a17 h17 a18 h18 a19 h19 a20 h20 x15 x16 x17 x18
    = stack (extractStridedSlice S64x128 ![64, 0] (kernelRun0_B.sl.r (F := Ideal) c a17 h17 a18 h18 a19 h19 a20 h20 x15 x16 x17 x18) slices_S256x128_o64_0_S64x128) (extractStridedSlice S64x128 ![64, 0] (kernelRun0_B.sl.r_4 (F := Ideal) c a17 h17 a18 h18 a19 h19 a20 h20 x15 x16 x17 x18) slices_S256x128_o64_0_S64x128) := by exact rfl

theorem scores1_B : kernelRun0_B.sl.v1770 (F := Ideal) c a17 h17 a18 h18 a19 h19 a20 h20 a21 h21 x15 x16 x17 x18 x19
    = scores (kernelRun0_B.sl.v1767 (F := Ideal) c a17 h17 a18 h18 a19 h19 a20 h20 x15 x16 x17 x18) (kernelRun0_B.sl.v1602 (F := Ideal) c a21 h21 x19) := by exact rfl

theorem weights1_B : kernelRun0_B.sl.v2063 (F := Ideal) c a17 h17 a18 h18 a19 h19 a20 h20 a21 h21 x15 x16 x17 x18 x19
    = weights (kernelRun0_B.sl.v1770 (F := Ideal) c a17 h17 a18 h18 a19 h19 a20 h20 a21 h21 x15 x16 x17 x18 x19) := by exact rfl

theorem mixed1_B : kernelRun0_B.sl.v2338 (F := Ideal) c a17 h17 a18 h18 a19 h19 a20 h20 a21 h21 a22 h22 x15 x16 x17 x18 x19 x20
    = mixed (kernelRun0_B.sl.v2063 (F := Ideal) c a17 h17 a18 h18 a19 h19 a20 h20 a21 h21 x15 x16 x17 x18 x19) (kernelRun0_B.sl.v2065 (F := Ideal) c a22 h22 x20) := by exact rfl

theorem rows1_B : kernelRun0_B.sl.v2338 (F := Ideal) c a17 h17 a18 h18 a19 h19 a20 h20 a21 h21 a22 h22 x15 x16 x17 x18 x19 x20
    = part 64 slices_S256x128_o64_0_S64x128 (loaded (View.ld x15 lo) x16 x17 x18) (loaded (View.ld x15 hi) x16 x17 x18) x19 x20 := by
  rw [mixed1_B, weights1_B, scores1_B, stack1_B, queries0_B, queries1_B, keys_B, vals_B]; rfl

theorem first1_B : kernelRun0_B.sl.v2348 (F := Ideal) c a17 h17 a18 h18 a19 h19 a20 h20 a21 h21 a22 h22 x15 x16 x17 x18 x19 x20
    = first (part 64 slices_S256x128_o64_0_S64x128 (loaded (View.ld x15 lo) x16 x17 x18) (loaded (View.ld x15 hi) x16 x17 x18) x19 x20) := by
  rw [← rows1_B c a17 h17 a18 h18 a19 h19 a20 h20 a21 h21 a22 h22]; exact rfl

theorem last1_B : kernelRun0_B.sl.v2358 (F := Ideal) c a17 h17 a18 h18 a19 h19 a20 h20 a21 h21 a22 h22 x15 x16 x17 x18 x19 x20
    = last (part 64 slices_S256x128_o64_0_S64x128 (loaded (View.ld x15 lo) x16 x17 x18) (loaded (View.ld x15 hi) x16 x17 x18) x19 x20) := by
  rw [← rows1_B c a17 h17 a18 h18 a19 h19 a20 h20 a21 h21 a22 h22]; exact rfl

theorem stack2_B : kernelRun0_B.sl.v2054 (F := Ideal) c a17 h17 a18 h18 a19 h19 a20 h20 x15 x16 x17 x18
    = stack (extractStridedSlice S64x128 ![128, 0] (kernelRun0_B.sl.r (F := Ideal) c a17 h17 a18 h18 a19 h19 a20 h20 x15 x16 x17 x18) slices_S256x128_o128_0_S64x128) (extractStridedSlice S64x128 ![128, 0] (kernelRun0_B.sl.r_4 (F := Ideal) c a17 h17 a18 h18 a19 h19 a20 h20 x15 x16 x17 x18) slices_S256x128_o128_0_S64x128) := by exact rfl

theorem scores2_B : kernelRun0_B.sl.v2057 (F := Ideal) c a17 h17 a18 h18 a19 h19 a20 h20 a21 h21 x15 x16 x17 x18 x19
    = scores (kernelRun0_B.sl.v2054 (F := Ideal) c a17 h17 a18 h18 a19 h19 a20 h20 x15 x16 x17 x18) (kernelRun0_B.sl.v1602 (F := Ideal) c a21 h21 x19) := by exact rfl

theorem weights2_B : kernelRun0_B.sl.v2332 (F := Ideal) c a17 h17 a18 h18 a19 h19 a20 h20 a21 h21 x15 x16 x17 x18 x19
    = weights (kernelRun0_B.sl.v2057 (F := Ideal) c a17 h17 a18 h18 a19 h19 a20 h20 a21 h21 x15 x16 x17 x18 x19) := by exact rfl

theorem mixed2_B : kernelRun0_B.sl.v2580 (F := Ideal) c a17 h17 a18 h18 a19 h19 a20 h20 a21 h21 a22 h22 x15 x16 x17 x18 x19 x20
    = mixed (kernelRun0_B.sl.v2332 (F := Ideal) c a17 h17 a18 h18 a19 h19 a20 h20 a21 h21 x15 x16 x17 x18 x19) (kernelRun0_B.sl.v2065 (F := Ideal) c a22 h22 x20) := by exact rfl

theorem rows2_B : kernelRun0_B.sl.v2580 (F := Ideal) c a17 h17 a18 h18 a19 h19 a20 h20 a21 h21 a22 h22 x15 x16 x17 x18 x19 x20
    = part 128 slices_S256x128_o128_0_S64x128 (loaded (View.ld x15 lo) x16 x17 x18) (loaded (View.ld x15 hi) x16 x17 x18) x19 x20 := by
  rw [mixed2_B, weights2_B, scores2_B, stack2_B, queries0_B, queries1_B, keys_B, vals_B]; rfl

theorem first2_B : kernelRun0_B.sl.v2590 (F := Ideal) c a17 h17 a18 h18 a19 h19 a20 h20 a21 h21 a22 h22 x15 x16 x17 x18 x19 x20
    = first (part 128 slices_S256x128_o128_0_S64x128 (loaded (View.ld x15 lo) x16 x17 x18) (loaded (View.ld x15 hi) x16 x17 x18) x19 x20) := by
  rw [← rows2_B c a17 h17 a18 h18 a19 h19 a20 h20 a21 h21 a22 h22]; exact rfl

theorem last2_B : kernelRun0_B.sl.v2600 (F := Ideal) c a17 h17 a18 h18 a19 h19 a20 h20 a21 h21 a22 h22 x15 x16 x17 x18 x19 x20
    = last (part 128 slices_S256x128_o128_0_S64x128 (loaded (View.ld x15 lo) x16 x17 x18) (loaded (View.ld x15 hi) x16 x17 x18) x19 x20) := by
  rw [← rows2_B c a17 h17 a18 h18 a19 h19 a20 h20 a21 h21 a22 h22]; exact rfl

theorem stack3_B : kernelRun0_B.sl.v2323 (F := Ideal) c a17 h17 a18 h18 a19 h19 a20 h20 x15 x16 x17 x18
    = stack (extractStridedSlice S64x128 ![192, 0] (kernelRun0_B.sl.r (F := Ideal) c a17 h17 a18 h18 a19 h19 a20 h20 x15 x16 x17 x18) slices_S256x128_o192_0_S64x128) (extractStridedSlice S64x128 ![192, 0] (kernelRun0_B.sl.r_4 (F := Ideal) c a17 h17 a18 h18 a19 h19 a20 h20 x15 x16 x17 x18) slices_S256x128_o192_0_S64x128) := by exact rfl

theorem scores3_B : kernelRun0_B.sl.v2326 (F := Ideal) c a17 h17 a18 h18 a19 h19 a20 h20 a21 h21 x15 x16 x17 x18 x19
    = scores (kernelRun0_B.sl.v2323 (F := Ideal) c a17 h17 a18 h18 a19 h19 a20 h20 x15 x16 x17 x18) (kernelRun0_B.sl.v1602 (F := Ideal) c a21 h21 x19) := by exact rfl

theorem weights3_B : kernelRun0_B.sl.v2574 (F := Ideal) c a17 h17 a18 h18 a19 h19 a20 h20 a21 h21 x15 x16 x17 x18 x19
    = weights (kernelRun0_B.sl.v2326 (F := Ideal) c a17 h17 a18 h18 a19 h19 a20 h20 a21 h21 x15 x16 x17 x18 x19) := by exact rfl

theorem mixed3_B : kernelRun0_B.sl.v2851 (F := Ideal) c a17 h17 a18 h18 a19 h19 a20 h20 a21 h21 a22 h22 x15 x16 x17 x18 x19 x20
    = mixed (kernelRun0_B.sl.v2574 (F := Ideal) c a17 h17 a18 h18 a19 h19 a20 h20 a21 h21 x15 x16 x17 x18 x19) (kernelRun0_B.sl.v2065 (F := Ideal) c a22 h22 x20) := by exact rfl

theorem rows3_B : kernelRun0_B.sl.v2851 (F := Ideal) c a17 h17 a18 h18 a19 h19 a20 h20 a21 h21 a22 h22 x15 x16 x17 x18 x19 x20
    = part 192 slices_S256x128_o192_0_S64x128 (loaded (View.ld x15 lo) x16 x17 x18) (loaded (View.ld x15 hi) x16 x17 x18) x19 x20 := by
  rw [mixed3_B, weights3_B, scores3_B, stack3_B, queries0_B, queries1_B, keys_B, vals_B]; rfl

theorem first3_B : kernelRun0_B.sl.v2861 (F := Ideal) c a17 h17 a18 h18 a19 h19 a20 h20 a21 h21 a22 h22 x15 x16 x17 x18 x19 x20
    = first (part 192 slices_S256x128_o192_0_S64x128 (loaded (View.ld x15 lo) x16 x17 x18) (loaded (View.ld x15 hi) x16 x17 x18) x19 x20) := by
  rw [← rows3_B c a17 h17 a18 h18 a19 h19 a20 h20 a21 h21 a22 h22]; exact rfl

theorem last3_B : kernelRun0_B.sl.v2871 (F := Ideal) c a17 h17 a18 h18 a19 h19 a20 h20 a21 h21 a22 h22 x15 x16 x17 x18 x19 x20
    = last (part 192 slices_S256x128_o192_0_S64x128 (loaded (View.ld x15 lo) x16 x17 x18) (loaded (View.ld x15 hi) x16 x17 x18) x19 x20) := by
  rw [← rows3_B c a17 h17 a18 h18 a19 h19 a20 h20 a21 h21 a22 h22]; exact rfl

end

theorem out_B (c : Dev nD) (i : grid0.Coords) (arg2 : Memref sig .tc .vmem S1x128x2048 .f32) (harg2 : arg2.IsWhole) (arg3 : Memref sig .tc .vmem S1x8x2048 .f32) (harg3 : arg3.IsWhole) (arg4 : Memref sig .tc .vmem S1x8x2048 .f32) (harg4 : arg4.IsWhole) (arg5 : Memref sig .tc .vmem S1x128x2048 .f32) (harg5 : arg5.IsWhole) (arg6 : Memref sig .tc .vmem S1x8x2048 .f32) (harg6 : arg6.IsWhole) (arg7 : Memref sig .tc .vmem S1x8x2048 .f32) (harg7 : arg7.IsWhole) (arg8 : Memref sig .tc .vmem S2x2048 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S1x1024 .f32) (harg11 : arg11.IsWhole) (arg12 : Memref sig .tc .vmem S128x1024 .f32) (harg12 : arg12.IsWhole) (arg13 : Memref sig .tc .vmem S256x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x256x256 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S1x1x4224x128 .bf16) (harg21 : arg21.IsWhole) (arg22 : Memref sig .tc .vmem S1x1x4224x128 .bf16) (harg22 : arg22.IsWhole) (arg23 : Memref sig .tc .vmem S1x128x512 .bf16) (harg23 : arg23.IsWhole) (arg24 : Memref sig .tc .vmem S1x128x512 .bf16) (harg24 : arg24.IsWhole) (arg25 : Memref sig .tc .vmem S1x128x512 .bf16) (harg25 : arg25.IsWhole) (arg26 : Memref sig .tc .vmem S1x128x512 .bf16) (harg26 : arg26.IsWhole) (arg27 : Memref sig .tc .vmem S1x256x256 .bf16) (harg27 : arg27.IsWhole) (arg28 : Memref sig .tc .vmem S2x4x128x128 .f32) (harg28 : arg28.IsWhole) (arg29 : Memref sig .tc .vmem S2x6x2x4x128x128 .bf16) (harg29 : arg29.IsWhole) (arg30 : Memref sig .tc .vmem S2x2x4x128x128 .f32) (harg30 : arg30.IsWhole) (arg31 : Memref sig .tc .vmem S2x2x1x512 .f32) (harg31 : arg31.IsWhole) (hc0 : ¬cond0_0 i) (hc1 : cond0_1 i) (hc2 : cond0_2 i) (hc3 : ¬cond0_3 i) (hc4 : cond0_4 i)
    (x0 : Vec Ideal S1x128x2048 .f32) (x1 : Vec Ideal S1x8x2048 .f32) (x2 : Vec Ideal S1x8x2048 .f32) (x3 : Vec Ideal S1x128x2048 .f32) (x4 : Vec Ideal S1x8x2048 .f32) (x5 : Vec Ideal S1x8x2048 .f32) (x6 : Vec Ideal S2x2048 .f32) (x7 : Vec Ideal S1x1024 .f32) (x8 : Vec Ideal S128x1024 .f32) (x9 : Vec Ideal S1x1024 .f32) (x10 : Vec Ideal S128x1024 .f32) (x11 : Vec Ideal S256x512 .f32) (x12 : Vec Ideal S1x512 .f32) (x13 : Vec Ideal S1x512 .f32) (x14 : Vec Ideal S1x512 .f32) (x15 : Vec Ideal S1x256x256 .f32) (x16 : Vec Ideal S256x128 .f32) (x17 : Vec Ideal S256x128 .f32) (x18 : Vec Ideal S1x128 .f32) (x19 : Vec Ideal S1x1x4224x128 .bf16) (x20 : Vec Ideal S1x1x4224x128 .bf16) :
    out0_B_25 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 hc4 x0 x1 x2 x3 x4 x5 x6 x7 x8 x9 x10 x11 x12 x13 x14 x15 x16 x17 x18 x19 x20 = block (loaded (View.ld x15 lo) x16 x17 x18) (loaded (View.ld x15 hi) x16 x17 x18) x19 x20 := by
  unfold out0_B_25 block
  unfold kernelRun0_B
  dsimp only
  rw [last3_B, first3_B, last2_B, first2_B, last1_B, first1_B, last0_B, first0_B]
  rfl

end Cert.KernelIdeal.Attn

end
-- ==== Proof.Attn.CaseC.lean ====
/-
  The stores of the mixers call's body are the block's stores of AttnBlock: the body's named values, one after another.
  The points between.
-/
module

public import proofs.«01_k».proof.Proof.AttnBlock
public import proofs.«01_k».proof.Proof.Mix.Frame

@[expose] public section

set_option maxRecDepth 16384

noncomputable section

open Idealize.ShloMosaic Idealize.ShloMosaic.TcCoe

namespace Cert.KernelIdeal.Attn

open Cert.KernelIdeal Cert.KernelIdeal.Gen Cert.KernelIdeal.Mix

section

variable (c : Dev nD)
  (a17 : Memref sig .tc .vmem S1x256x256 .f32) (h17 : a17.IsWhole)
  (a18 : Memref sig .tc .vmem S256x128 .f32) (h18 : a18.IsWhole)
  (a19 : Memref sig .tc .vmem S256x128 .f32) (h19 : a19.IsWhole)
  (a20 : Memref sig .tc .vmem S1x128 .f32) (h20 : a20.IsWhole)
  (a21 : Memref sig .tc .vmem S1x1x4224x128 .bf16) (h21 : a21.IsWhole)
  (a22 : Memref sig .tc .vmem S1x1x4224x128 .bf16) (h22 : a22.IsWhole)
  (x15 : Vec Ideal S1x256x256 .f32)
  (x16 : Vec Ideal S256x128 .f32)
  (x17 : Vec Ideal S256x128 .f32)
  (x18 : Vec Ideal S1x128 .f32)
  (x19 : Vec Ideal S1x1x4224x128 .bf16)
  (x20 : Vec Ideal S1x1x4224x128 .bf16)

theorem cos_C : kernelRun0_C.sl.v1196 (F := Ideal) c a18 h18 x16
    = shapeCast S256x128 x16 shapeCasts_S256x128_S256x128 := congrArg (fun f => shapeCast S256x128 f shapeCasts_S256x128_S256x128) (load_whole a18 h18 _ _ (by decide) x16)

theorem sin_C : kernelRun0_C.sl.v1198 (F := Ideal) c a19 h19 x17
    = shapeCast S256x128 x17 shapeCasts_S256x128_S256x128 := congrArg (fun f => shapeCast S256x128 f shapeCasts_S256x128_S256x128) (load_whole a19 h19 _ _ (by decide) x17)

theorem gain_C : kernelRun0_C.sl.v1194 (F := Ideal) c a20 h20 x18
    = shapeCast S1x128 x18 shapeCasts_S1x128_S1x128 := congrArg (fun f => shapeCast S1x128 f shapeCasts_S1x128_S1x128) (load_whole a20 h20 _ _ (by decide) x18)

theorem keys_C : kernelRun0_C.sl.v1602 (F := Ideal) c a21 h21 x19
    = shapeCast S4224x128 x19 shapeCasts_S1x1x4224x128_S4224x128 := congrArg (fun f => shapeCast S4224x128 f shapeCasts_S1x1x4224x128_S4224x128) (load_whole a21 h21 _ _ (by decide) x19)

theorem vals_C : kernelRun0_C.sl.v2065 (F := Ideal) c a22 h22 x20
    = shapeCast S4224x128 x20 shapeCasts_S1x1x4224x128_S4224x128 := congrArg (fun f => shapeCast S4224x128 f shapeCasts_S1x1x4224x128_S4224x128) (load_whole a22 h22 _ _ (by decide) x20)

theorem first_q_C : kernelRun0_C.sl.v1192 (F := Ideal) c a17 h17 x15
    = shapeCast S256x128 (View.ld x15 lo) shapeCasts_S1x256x128_S256x128 := congrArg (fun f => shapeCast S256x128 f shapeCasts_S1x256x128_S256x128) (load_eq a17 h17 lo x15)

theorem normed0_C : kernelRun0_C.sl.v1212 (F := Ideal) c a17 h17 a20 h20 x15 x18
    = normed (kernelRun0_C.sl.v1192 (F := Ideal) c a17 h17 x15) (kernelRun0_C.sl.v1194 (F := Ideal) c a20 h20 x18) := by exact rfl

theorem rotated0_C : kernelRun0_C.sl.r (F := Ideal) c a17 h17 a18 h18 a19 h19 a20 h20 x15 x16 x17 x18
    = rotated (kernelRun0_C.sl.v1212 (F := Ideal) c a17 h17 a20 h20 x15 x18) (kernelRun0_C.sl.v1196 (F := Ideal) c a18 h18 x16) (kernelRun0_C.sl.v1198 (F := Ideal) c a19 h19 x17) := by exact rfl

theorem rotated1_C : kernelRun0_C.sl.r_4 (F := Ideal) c a17 h17 a18 h18 a19 h19 a20 h20 x15 x16 x17 x18
    = rotated (normed (shapeCast S256x128 (View.readAt (Elt Ideal) a17.view hi.toLoadRect (h17.unread x15)) shapeCasts_S1x256x128_S256x128) (kernelRun0_C.sl.v1194 (F := Ideal) c a20 h20 x18)) (kernelRun0_C.sl.v1196 (F := Ideal) c a18 h18 x16) (kernelRun0_C.sl.v1198 (F := Ideal) c a19 h19 x17) := by exact rfl

theorem queries0_C : kernelRun0_C.sl.r (F := Ideal) c a17 h17 a18 h18 a19 h19 a20 h20 x15 x16 x17 x18
    = loaded (View.ld x15 lo) x16 x17 x18 := by
  rw [rotated0_C, normed0_C, first_q_C, gain_C, cos_C, sin_C]; rfl

theorem queries1_C : kernelRun0_C.sl.r_4 (F := Ideal) c a17 h17 a18 h18 a19 h19 a20 h20 x15 x16 x17 x18
    = loaded (View.ld x15 hi) x16 x17 x18 := by
  rw [rotated1_C, load_eq, gain_C, cos_C, sin_C]; rfl

theorem stack0_C : kernelRun0_C.sl.v1600 (F := Ideal) c a17 h17 a18 h18 a19 h19 a20 h20 x15 x16 x17 x18
    = stack (extractStridedSlice S64x128 ![0, 0] (kernelRun0_C.sl.r (F := Ideal) c a17 h17 a18 h18 a19 h19 a20 h20 x15 x16 x17 x18) slices_S256x128_o0_0_S64x128) (extractStridedSlice S64x128 ![0, 0] (kernelRun0_C.sl.r_4 (F := Ideal) c a17 h17 a18 h18 a19 h19 a20 h20 x15 x16 x17 x18) slices_S256x128_o0_0_S64x128) := by exact rfl

theorem scores0_C : kernelRun0_C.sl.v1603 (F := Ideal) c a17 h17 a18 h18 a19 h19 a20 h20 a21 h21 x15 x16 x17 x18 x19
    = scores (kernelRun0_C.sl.v1600 (F := Ideal) c a17 h17 a18 h18 a19 h19 a20 h20 x15 x16 x17 x18) (kernelRun0_C.sl.v1602 (F := Ideal) c a21 h21 x19) := by exact rfl

theorem weights0_C : kernelRun0_C.sl.v1776 (F := Ideal) c a17 h17 a18 h18 a19 h19 a20 h20 a21 h21 x15 x16 x17 x18 x19
    = weights (kernelRun0_C.sl.v1603 (F := Ideal) c a17 h17 a18 h18 a19 h19 a20 h20 a21 h21 x15 x16 x17 x18 x19) := by exact rfl

theorem mixed0_C : kernelRun0_C.sl.v2069 (F := Ideal) c a17 h17 a18 h18 a19 h19 a20 h20 a21 h21 a22 h22 x15 x16 x17 x18 x19 x20
    = mixed (kernelRun0_C.sl.v1776 (F := Ideal) c a17 h17 a18 h18 a19 h19 a20 h20 a21 h21 x15 x16 x17 x18 x19) (kernelRun0_C.sl.v2065 (F := Ideal) c a22 h22 x20) := by exact rfl

theorem rows0_C : kernelRun0_C.sl.v2069 (F := Ideal) c a17 h17 a18 h18 a19 h19 a20 h20 a21 h21 a22 h22 x15 x16 x17 x18 x19 x20
    = part 0 slices_S256x128_o0_0_S64x128 (loaded (View.ld x15 lo) x16 x17 x18) (loaded (View.ld x15 hi) x16 x17 x18) x19 x20 := by
  rw [mixed0_C, weights0_C, scores0_C, stack0_C, queries0_C, queries1_C, keys_C, vals_C]; rfl

theorem first0_C : kernelRun0_C.sl.v2079 (F := Ideal) c a17 h17 a18 h18 a19 h19 a20 h20 a21 h21 a22 h22 x15 x16 x17 x18 x19 x20
    = first (part 0 slices_S256x128_o0_0_S64x128 (loaded (View.ld x15 lo) x16 x17 x18) (loaded (View.ld x15 hi) x16 x17 x18) x19 x20) := by
  rw [← rows0_C c a17 h17 a18 h18 a19 h19 a20 h20 a21 h21 a22 h22]; exact rfl

theorem last0_C : kernelRun0_C.sl.v2089 (F := Ideal) c a17 h17 a18 h18 a19 h19 a20 h20 a21 h21 a22 h22 x15 x16 x17 x18 x19 x20
    = last (part 0 slices_S256x128_o0_0_S64x128 (loaded (View.ld x15 lo) x16 x17 x18) (loaded (View.ld x15 hi) x16 x17 x18) x19 x20) := by
  rw [← rows0_C c a17 h17 a18 h18 a19 h19 a20 h20 a21 h21 a22 h22]; exact rfl

theorem stack1_C : kernelRun0_C.sl.v1767 (F := Ideal) c a17 h17 a18 h18 a19 h19 a20 h20 x15 x16 x17 x18
    = stack (extractStridedSlice S64x128 ![64, 0] (kernelRun0_C.sl.r (F := Ideal) c a17 h17 a18 h18 a19 h19 a20 h20 x15 x16 x17 x18) slices_S256x128_o64_0_S64x128) (extractStridedSlice S64x128 ![64, 0] (kernelRun0_C.sl.r_4 (F := Ideal) c a17 h17 a18 h18 a19 h19 a20 h20 x15 x16 x17 x18) slices_S256x128_o64_0_S64x128) := by exact rfl

theorem scores1_C : kernelRun0_C.sl.v1770 (F := Ideal) c a17 h17 a18 h18 a19 h19 a20 h20 a21 h21 x15 x16 x17 x18 x19
    = scores (kernelRun0_C.sl.v1767 (F := Ideal) c a17 h17 a18 h18 a19 h19 a20 h20 x15 x16 x17 x18) (kernelRun0_C.sl.v1602 (F := Ideal) c a21 h21 x19) := by exact rfl

theorem weights1_C : kernelRun0_C.sl.v2063 (F := Ideal) c a17 h17 a18 h18 a19 h19 a20 h20 a21 h21 x15 x16 x17 x18 x19
    = weights (kernelRun0_C.sl.v1770 (F := Ideal) c a17 h17 a18 h18 a19 h19 a20 h20 a21 h21 x15 x16 x17 x18 x19) := by exact rfl

theorem mixed1_C : kernelRun0_C.sl.v2338 (F := Ideal) c a17 h17 a18 h18 a19 h19 a20 h20 a21 h21 a22 h22 x15 x16 x17 x18 x19 x20
    = mixed (kernelRun0_C.sl.v2063 (F := Ideal) c a17 h17 a18 h18 a19 h19 a20 h20 a21 h21 x15 x16 x17 x18 x19) (kernelRun0_C.sl.v2065 (F := Ideal) c a22 h22 x20) := by exact rfl

theorem rows1_C : kernelRun0_C.sl.v2338 (F := Ideal) c a17 h17 a18 h18 a19 h19 a20 h20 a21 h21 a22 h22 x15 x16 x17 x18 x19 x20
    = part 64 slices_S256x128_o64_0_S64x128 (loaded (View.ld x15 lo) x16 x17 x18) (loaded (View.ld x15 hi) x16 x17 x18) x19 x20 := by
  rw [mixed1_C, weights1_C, scores1_C, stack1_C, queries0_C, queries1_C, keys_C, vals_C]; rfl

theorem first1_C : kernelRun0_C.sl.v2348 (F := Ideal) c a17 h17 a18 h18 a19 h19 a20 h20 a21 h21 a22 h22 x15 x16 x17 x18 x19 x20
    = first (part 64 slices_S256x128_o64_0_S64x128 (loaded (View.ld x15 lo) x16 x17 x18) (loaded (View.ld x15 hi) x16 x17 x18) x19 x20) := by
  rw [← rows1_C c a17 h17 a18 h18 a19 h19 a20 h20 a21 h21 a22 h22]; exact rfl

theorem last1_C : kernelRun0_C.sl.v2358 (F := Ideal) c a17 h17 a18 h18 a19 h19 a20 h20 a21 h21 a22 h22 x15 x16 x17 x18 x19 x20
    = last (part 64 slices_S256x128_o64_0_S64x128 (loaded (View.ld x15 lo) x16 x17 x18) (loaded (View.ld x15 hi) x16 x17 x18) x19 x20) := by
  rw [← rows1_C c a17 h17 a18 h18 a19 h19 a20 h20 a21 h21 a22 h22]; exact rfl

theorem stack2_C : kernelRun0_C.sl.v2054 (F := Ideal) c a17 h17 a18 h18 a19 h19 a20 h20 x15 x16 x17 x18
    = stack (extractStridedSlice S64x128 ![128, 0] (kernelRun0_C.sl.r (F := Ideal) c a17 h17 a18 h18 a19 h19 a20 h20 x15 x16 x17 x18) slices_S256x128_o128_0_S64x128) (extractStridedSlice S64x128 ![128, 0] (kernelRun0_C.sl.r_4 (F := Ideal) c a17 h17 a18 h18 a19 h19 a20 h20 x15 x16 x17 x18) slices_S256x128_o128_0_S64x128) := by exact rfl

theorem scores2_C : kernelRun0_C.sl.v2057 (F := Ideal) c a17 h17 a18 h18 a19 h19 a20 h20 a21 h21 x15 x16 x17 x18 x19
    = scores (kernelRun0_C.sl.v2054 (F := Ideal) c a17 h17 a18 h18 a19 h19 a20 h20 x15 x16 x17 x18) (kernelRun0_C.sl.v1602 (F := Ideal) c a21 h21 x19) := by exact rfl

theorem weights2_C : kernelRun0_C.sl.v2332 (F := Ideal) c a17 h17 a18 h18 a19 h19 a20 h20 a21 h21 x15 x16 x17 x18 x19
    = weights (kernelRun0_C.sl.v2057 (F := Ideal) c a17 h17 a18 h18 a19 h19 a20 h20 a21 h21 x15 x16 x17 x18 x19) := by exact rfl

theorem mixed2_C : kernelRun0_C.sl.v2580 (F := Ideal) c a17 h17 a18 h18 a19 h19 a20 h20 a21 h21 a22 h22 x15 x16 x17 x18 x19 x20
    = mixed (kernelRun0_C.sl.v2332 (F := Ideal) c a17 h17 a18 h18 a19 h19 a20 h20 a21 h21 x15 x16 x17 x18 x19) (kernelRun0_C.sl.v2065 (F := Ideal) c a22 h22 x20) := by exact rfl

theorem rows2_C : kernelRun0_C.sl.v2580 (F := Ideal) c a17 h17 a18 h18 a19 h19 a20 h20 a21 h21 a22 h22 x15 x16 x17 x18 x19 x20
    = part 128 slices_S256x128_o128_0_S64x128 (loaded (View.ld x15 lo) x16 x17 x18) (loaded (View.ld x15 hi) x16 x17 x18) x19 x20 := by
  rw [mixed2_C, weights2_C, scores2_C, stack2_C, queries0_C, queries1_C, keys_C, vals_C]; rfl

theorem first2_C : kernelRun0_C.sl.v2590 (F := Ideal) c a17 h17 a18 h18 a19 h19 a20 h20 a21 h21 a22 h22 x15 x16 x17 x18 x19 x20
    = first (part 128 slices_S256x128_o128_0_S64x128 (loaded (View.ld x15 lo) x16 x17 x18) (loaded (View.ld x15 hi) x16 x17 x18) x19 x20) := by
  rw [← rows2_C c a17 h17 a18 h18 a19 h19 a20 h20 a21 h21 a22 h22]; exact rfl

theorem last2_C : kernelRun0_C.sl.v2600 (F := Ideal) c a17 h17 a18 h18 a19 h19 a20 h20 a21 h21 a22 h22 x15 x16 x17 x18 x19 x20
    = last (part 128 slices_S256x128_o128_0_S64x128 (loaded (View.ld x15 lo) x16 x17 x18) (loaded (View.ld x15 hi) x16 x17 x18) x19 x20) := by
  rw [← rows2_C c a17 h17 a18 h18 a19 h19 a20 h20 a21 h21 a22 h22]; exact rfl

theorem stack3_C : kernelRun0_C.sl.v2323 (F := Ideal) c a17 h17 a18 h18 a19 h19 a20 h20 x15 x16 x17 x18
    = stack (extractStridedSlice S64x128 ![192, 0] (kernelRun0_C.sl.r (F := Ideal) c a17 h17 a18 h18 a19 h19 a20 h20 x15 x16 x17 x18) slices_S256x128_o192_0_S64x128) (extractStridedSlice S64x128 ![192, 0] (kernelRun0_C.sl.r_4 (F := Ideal) c a17 h17 a18 h18 a19 h19 a20 h20 x15 x16 x17 x18) slices_S256x128_o192_0_S64x128) := by exact rfl

theorem scores3_C : kernelRun0_C.sl.v2326 (F := Ideal) c a17 h17 a18 h18 a19 h19 a20 h20 a21 h21 x15 x16 x17 x18 x19
    = scores (kernelRun0_C.sl.v2323 (F := Ideal) c a17 h17 a18 h18 a19 h19 a20 h20 x15 x16 x17 x18) (kernelRun0_C.sl.v1602 (F := Ideal) c a21 h21 x19) := by exact rfl

theorem weights3_C : kernelRun0_C.sl.v2574 (F := Ideal) c a17 h17 a18 h18 a19 h19 a20 h20 a21 h21 x15 x16 x17 x18 x19
    = weights (kernelRun0_C.sl.v2326 (F := Ideal) c a17 h17 a18 h18 a19 h19 a20 h20 a21 h21 x15 x16 x17 x18 x19) := by exact rfl

theorem mixed3_C : kernelRun0_C.sl.v2851 (F := Ideal) c a17 h17 a18 h18 a19 h19 a20 h20 a21 h21 a22 h22 x15 x16 x17 x18 x19 x20
    = mixed (kernelRun0_C.sl.v2574 (F := Ideal) c a17 h17 a18 h18 a19 h19 a20 h20 a21 h21 x15 x16 x17 x18 x19) (kernelRun0_C.sl.v2065 (F := Ideal) c a22 h22 x20) := by exact rfl

theorem rows3_C : kernelRun0_C.sl.v2851 (F := Ideal) c a17 h17 a18 h18 a19 h19 a20 h20 a21 h21 a22 h22 x15 x16 x17 x18 x19 x20
    = part 192 slices_S256x128_o192_0_S64x128 (loaded (View.ld x15 lo) x16 x17 x18) (loaded (View.ld x15 hi) x16 x17 x18) x19 x20 := by
  rw [mixed3_C, weights3_C, scores3_C, stack3_C, queries0_C, queries1_C, keys_C, vals_C]; rfl

theorem first3_C : kernelRun0_C.sl.v2861 (F := Ideal) c a17 h17 a18 h18 a19 h19 a20 h20 a21 h21 a22 h22 x15 x16 x17 x18 x19 x20
    = first (part 192 slices_S256x128_o192_0_S64x128 (loaded (View.ld x15 lo) x16 x17 x18) (loaded (View.ld x15 hi) x16 x17 x18) x19 x20) := by
  rw [← rows3_C c a17 h17 a18 h18 a19 h19 a20 h20 a21 h21 a22 h22]; exact rfl

theorem last3_C : kernelRun0_C.sl.v2871 (F := Ideal) c a17 h17 a18 h18 a19 h19 a20 h20 a21 h21 a22 h22 x15 x16 x17 x18 x19 x20
    = last (part 192 slices_S256x128_o192_0_S64x128 (loaded (View.ld x15 lo) x16 x17 x18) (loaded (View.ld x15 hi) x16 x17 x18) x19 x20) := by
  rw [← rows3_C c a17 h17 a18 h18 a19 h19 a20 h20 a21 h21 a22 h22]; exact rfl

end

theorem out_C (c : Dev nD) (i : grid0.Coords) (arg2 : Memref sig .tc .vmem S1x128x2048 .f32) (harg2 : arg2.IsWhole) (arg3 : Memref sig .tc .vmem S1x8x2048 .f32) (harg3 : arg3.IsWhole) (arg4 : Memref sig .tc .vmem S1x8x2048 .f32) (harg4 : arg4.IsWhole) (arg5 : Memref sig .tc .vmem S1x128x2048 .f32) (harg5 : arg5.IsWhole) (arg6 : Memref sig .tc .vmem S1x8x2048 .f32) (harg6 : arg6.IsWhole) (arg7 : Memref sig .tc .vmem S1x8x2048 .f32) (harg7 : arg7.IsWhole) (arg8 : Memref sig .tc .vmem S2x2048 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S1x1024 .f32) (harg11 : arg11.IsWhole) (arg12 : Memref sig .tc .vmem S128x1024 .f32) (harg12 : arg12.IsWhole) (arg13 : Memref sig .tc .vmem S256x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x256x256 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S1x1x4224x128 .bf16) (harg21 : arg21.IsWhole) (arg22 : Memref sig .tc .vmem S1x1x4224x128 .bf16) (harg22 : arg22.IsWhole) (arg23 : Memref sig .tc .vmem S1x128x512 .bf16) (harg23 : arg23.IsWhole) (arg24 : Memref sig .tc .vmem S1x128x512 .bf16) (harg24 : arg24.IsWhole) (arg25 : Memref sig .tc .vmem S1x128x512 .bf16) (harg25 : arg25.IsWhole) (arg26 : Memref sig .tc .vmem S1x128x512 .bf16) (harg26 : arg26.IsWhole) (arg27 : Memref sig .tc .vmem S1x256x256 .bf16) (harg27 : arg27.IsWhole) (arg28 : Memref sig .tc .vmem S2x4x128x128 .f32) (harg28 : arg28.IsWhole) (arg29 : Memref sig .tc .vmem S2x6x2x4x128x128 .bf16) (harg29 : arg29.IsWhole) (arg30 : Memref sig .tc .vmem S2x2x4x128x128 .f32) (harg30 : arg30.IsWhole) (arg31 : Memref sig .tc .vmem S2x2x1x512 .f32) (harg31 : arg31.IsWhole) (hc0 : ¬cond0_0 i) (hc1 : ¬cond0_1 i) (hc2 : cond0_2 i) (hc3 : cond0_3 i) (hc4 : cond0_4 i)
    (x0 : Vec Ideal S1x128x2048 .f32) (x1 : Vec Ideal S1x8x2048 .f32) (x2 : Vec Ideal S1x8x2048 .f32) (x3 : Vec Ideal S1x128x2048 .f32) (x4 : Vec Ideal S1x8x2048 .f32) (x5 : Vec Ideal S1x8x2048 .f32) (x6 : Vec Ideal S2x2048 .f32) (x7 : Vec Ideal S1x1024 .f32) (x8 : Vec Ideal S128x1024 .f32) (x9 : Vec Ideal S1x1024 .f32) (x10 : Vec Ideal S128x1024 .f32) (x11 : Vec Ideal S256x512 .f32) (x12 : Vec Ideal S1x512 .f32) (x13 : Vec Ideal S1x512 .f32) (x14 : Vec Ideal S1x512 .f32) (x15 : Vec Ideal S1x256x256 .f32) (x16 : Vec Ideal S256x128 .f32) (x17 : Vec Ideal S256x128 .f32) (x18 : Vec Ideal S1x128 .f32) (x19 : Vec Ideal S1x1x4224x128 .bf16) (x20 : Vec Ideal S1x1x4224x128 .bf16) :
    out0_C_25 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 hc4 x0 x1 x2 x3 x4 x5 x6 x7 x8 x9 x10 x11 x12 x13 x14 x15 x16 x17 x18 x19 x20 = block (loaded (View.ld x15 lo) x16 x17 x18) (loaded (View.ld x15 hi) x16 x17 x18) x19 x20 := by
  unfold out0_C_25 block
  unfold kernelRun0_C
  dsimp only
  rw [last3_C, first3_C, last2_C, first2_C, last1_C, first1_C, last0_C, first0_C]
  rfl

end Cert.KernelIdeal.Attn

end
-- ==== Proof.Attn.CaseD.lean ====
/-
  The stores of the mixers call's body are the block's stores of AttnBlock: the body's named values, one after another.
  The last point of a sequence.
-/
module

public import proofs.«01_k».proof.Proof.AttnBlock
public import proofs.«01_k».proof.Proof.Mix.Frame

@[expose] public section

set_option maxRecDepth 16384

noncomputable section

open Idealize.ShloMosaic Idealize.ShloMosaic.TcCoe

namespace Cert.KernelIdeal.Attn

open Cert.KernelIdeal Cert.KernelIdeal.Gen Cert.KernelIdeal.Mix

section

variable (c : Dev nD)
  (a17 : Memref sig .tc .vmem S1x256x256 .f32) (h17 : a17.IsWhole)
  (a18 : Memref sig .tc .vmem S256x128 .f32) (h18 : a18.IsWhole)
  (a19 : Memref sig .tc .vmem S256x128 .f32) (h19 : a19.IsWhole)
  (a20 : Memref sig .tc .vmem S1x128 .f32) (h20 : a20.IsWhole)
  (a21 : Memref sig .tc .vmem S1x1x4224x128 .bf16) (h21 : a21.IsWhole)
  (a22 : Memref sig .tc .vmem S1x1x4224x128 .bf16) (h22 : a22.IsWhole)
  (x15 : Vec Ideal S1x256x256 .f32)
  (x16 : Vec Ideal S256x128 .f32)
  (x17 : Vec Ideal S256x128 .f32)
  (x18 : Vec Ideal S1x128 .f32)
  (x19 : Vec Ideal S1x1x4224x128 .bf16)
  (x20 : Vec Ideal S1x1x4224x128 .bf16)

theorem cos_D : kernelRun0_D.sl.v1196 (F := Ideal) c a18 h18 x16
    = shapeCast S256x128 x16 shapeCasts_S256x128_S256x128 := congrArg (fun f => shapeCast S256x128 f shapeCasts_S256x128_S256x128) (load_whole a18 h18 _ _ (by decide) x16)

theorem sin_D : kernelRun0_D.sl.v1198 (F := Ideal) c a19 h19 x17
    = shapeCast S256x128 x17 shapeCasts_S256x128_S256x128 := congrArg (fun f => shapeCast S256x128 f shapeCasts_S256x128_S256x128) (load_whole a19 h19 _ _ (by decide) x17)

theorem gain_D : kernelRun0_D.sl.v1194 (F := Ideal) c a20 h20 x18
    = shapeCast S1x128 x18 shapeCasts_S1x128_S1x128 := congrArg (fun f => shapeCast S1x128 f shapeCasts_S1x128_S1x128) (load_whole a20 h20 _ _ (by decide) x18)

theorem keys_D : kernelRun0_D.sl.v1602 (F := Ideal) c a21 h21 x19
    = shapeCast S4224x128 x19 shapeCasts_S1x1x4224x128_S4224x128 := congrArg (fun f => shapeCast S4224x128 f shapeCasts_S1x1x4224x128_S4224x128) (load_whole a21 h21 _ _ (by decide) x19)

theorem vals_D : kernelRun0_D.sl.v2065 (F := Ideal) c a22 h22 x20
    = shapeCast S4224x128 x20 shapeCasts_S1x1x4224x128_S4224x128 := congrArg (fun f => shapeCast S4224x128 f shapeCasts_S1x1x4224x128_S4224x128) (load_whole a22 h22 _ _ (by decide) x20)

theorem first_q_D : kernelRun0_D.sl.v1192 (F := Ideal) c a17 h17 x15
    = shapeCast S256x128 (View.ld x15 lo) shapeCasts_S1x256x128_S256x128 := congrArg (fun f => shapeCast S256x128 f shapeCasts_S1x256x128_S256x128) (load_eq a17 h17 lo x15)

theorem normed0_D : kernelRun0_D.sl.v1212 (F := Ideal) c a17 h17 a20 h20 x15 x18
    = normed (kernelRun0_D.sl.v1192 (F := Ideal) c a17 h17 x15) (kernelRun0_D.sl.v1194 (F := Ideal) c a20 h20 x18) := by exact rfl

theorem rotated0_D : kernelRun0_D.sl.r (F := Ideal) c a17 h17 a18 h18 a19 h19 a20 h20 x15 x16 x17 x18
    = rotated (kernelRun0_D.sl.v1212 (F := Ideal) c a17 h17 a20 h20 x15 x18) (kernelRun0_D.sl.v1196 (F := Ideal) c a18 h18 x16) (kernelRun0_D.sl.v1198 (F := Ideal) c a19 h19 x17) := by exact rfl

theorem rotated1_D : kernelRun0_D.sl.r_4 (F := Ideal) c a17 h17 a18 h18 a19 h19 a20 h20 x15 x16 x17 x18
    = rotated (normed (shapeCast S256x128 (View.readAt (Elt Ideal) a17.view hi.toLoadRect (h17.unread x15)) shapeCasts_S1x256x128_S256x128) (kernelRun0_D.sl.v1194 (F := Ideal) c a20 h20 x18)) (kernelRun0_D.sl.v1196 (F := Ideal) c a18 h18 x16) (kernelRun0_D.sl.v1198 (F := Ideal) c a19 h19 x17) := by exact rfl

theorem queries0_D : kernelRun0_D.sl.r (F := Ideal) c a17 h17 a18 h18 a19 h19 a20 h20 x15 x16 x17 x18
    = loaded (View.ld x15 lo) x16 x17 x18 := by
  rw [rotated0_D, normed0_D, first_q_D, gain_D, cos_D, sin_D]; rfl

theorem queries1_D : kernelRun0_D.sl.r_4 (F := Ideal) c a17 h17 a18 h18 a19 h19 a20 h20 x15 x16 x17 x18
    = loaded (View.ld x15 hi) x16 x17 x18 := by
  rw [rotated1_D, load_eq, gain_D, cos_D, sin_D]; rfl

theorem stack0_D : kernelRun0_D.sl.v1600 (F := Ideal) c a17 h17 a18 h18 a19 h19 a20 h20 x15 x16 x17 x18
    = stack (extractStridedSlice S64x128 ![0, 0] (kernelRun0_D.sl.r (F := Ideal) c a17 h17 a18 h18 a19 h19 a20 h20 x15 x16 x17 x18) slices_S256x128_o0_0_S64x128) (extractStridedSlice S64x128 ![0, 0] (kernelRun0_D.sl.r_4 (F := Ideal) c a17 h17 a18 h18 a19 h19 a20 h20 x15 x16 x17 x18) slices_S256x128_o0_0_S64x128) := by exact rfl

theorem scores0_D : kernelRun0_D.sl.v1603 (F := Ideal) c a17 h17 a18 h18 a19 h19 a20 h20 a21 h21 x15 x16 x17 x18 x19
    = scores (kernelRun0_D.sl.v1600 (F := Ideal) c a17 h17 a18 h18 a19 h19 a20 h20 x15 x16 x17 x18) (kernelRun0_D.sl.v1602 (F := Ideal) c a21 h21 x19) := by exact rfl

theorem weights0_D : kernelRun0_D.sl.v1776 (F := Ideal) c a17 h17 a18 h18 a19 h19 a20 h20 a21 h21 x15 x16 x17 x18 x19
    = weights (kernelRun0_D.sl.v1603 (F := Ideal) c a17 h17 a18 h18 a19 h19 a20 h20 a21 h21 x15 x16 x17 x18 x19) := by exact rfl

theorem mixed0_D : kernelRun0_D.sl.v2069 (F := Ideal) c a17 h17 a18 h18 a19 h19 a20 h20 a21 h21 a22 h22 x15 x16 x17 x18 x19 x20
    = mixed (kernelRun0_D.sl.v1776 (F := Ideal) c a17 h17 a18 h18 a19 h19 a20 h20 a21 h21 x15 x16 x17 x18 x19) (kernelRun0_D.sl.v2065 (F := Ideal) c a22 h22 x20) := by exact rfl

theorem rows0_D : kernelRun0_D.sl.v2069 (F := Ideal) c a17 h17 a18 h18 a19 h19 a20 h20 a21 h21 a22 h22 x15 x16 x17 x18 x19 x20
    = part 0 slices_S256x128_o0_0_S64x128 (loaded (View.ld x15 lo) x16 x17 x18) (loaded (View.ld x15 hi) x16 x17 x18) x19 x20 := by
  rw [mixed0_D, weights0_D, scores0_D, stack0_D, queries0_D, queries1_D, keys_D, vals_D]; rfl

theorem first0_D : kernelRun0_D.sl.v2079 (F := Ideal) c a17 h17 a18 h18 a19 h19 a20 h20 a21 h21 a22 h22 x15 x16 x17 x18 x19 x20
    = first (part 0 slices_S256x128_o0_0_S64x128 (loaded (View.ld x15 lo) x16 x17 x18) (loaded (View.ld x15 hi) x16 x17 x18) x19 x20) := by
  rw [← rows0_D c a17 h17 a18 h18 a19 h19 a20 h20 a21 h21 a22 h22]; exact rfl

theorem last0_D : kernelRun0_D.sl.v2089 (F := Ideal) c a17 h17 a18 h18 a19 h19 a20 h20 a21 h21 a22 h22 x15 x16 x17 x18 x19 x20
    = last (part 0 slices_S256x128_o0_0_S64x128 (loaded (View.ld x15 lo) x16 x17 x18) (loaded (View.ld x15 hi) x16 x17 x18) x19 x20) := by
  rw [← rows0_D c a17 h17 a18 h18 a19 h19 a20 h20 a21 h21 a22 h22]; exact rfl

theorem stack1_D : kernelRun0_D.sl.v1767 (F := Ideal) c a17 h17 a18 h18 a19 h19 a20 h20 x15 x16 x17 x18
    = stack (extractStridedSlice S64x128 ![64, 0] (kernelRun0_D.sl.r (F := Ideal) c a17 h17 a18 h18 a19 h19 a20 h20 x15 x16 x17 x18) slices_S256x128_o64_0_S64x128) (extractStridedSlice S64x128 ![64, 0] (kernelRun0_D.sl.r_4 (F := Ideal) c a17 h17 a18 h18 a19 h19 a20 h20 x15 x16 x17 x18) slices_S256x128_o64_0_S64x128) := by exact rfl

theorem scores1_D : kernelRun0_D.sl.v1770 (F := Ideal) c a17 h17 a18 h18 a19 h19 a20 h20 a21 h21 x15 x16 x17 x18 x19
    = scores (kernelRun0_D.sl.v1767 (F := Ideal) c a17 h17 a18 h18 a19 h19 a20 h20 x15 x16 x17 x18) (kernelRun0_D.sl.v1602 (F := Ideal) c a21 h21 x19) := by exact rfl

theorem weights1_D : kernelRun0_D.sl.v2063 (F := Ideal) c a17 h17 a18 h18 a19 h19 a20 h20 a21 h21 x15 x16 x17 x18 x19
    = weights (kernelRun0_D.sl.v1770 (F := Ideal) c a17 h17 a18 h18 a19 h19 a20 h20 a21 h21 x15 x16 x17 x18 x19) := by exact rfl

theorem mixed1_D : kernelRun0_D.sl.v2338 (F := Ideal) c a17 h17 a18 h18 a19 h19 a20 h20 a21 h21 a22 h22 x15 x16 x17 x18 x19 x20
    = mixed (kernelRun0_D.sl.v2063 (F := Ideal) c a17 h17 a18 h18 a19 h19 a20 h20 a21 h21 x15 x16 x17 x18 x19) (kernelRun0_D.sl.v2065 (F := Ideal) c a22 h22 x20) := by exact rfl

theorem rows1_D : kernelRun0_D.sl.v2338 (F := Ideal) c a17 h17 a18 h18 a19 h19 a20 h20 a21 h21 a22 h22 x15 x16 x17 x18 x19 x20
    = part 64 slices_S256x128_o64_0_S64x128 (loaded (View.ld x15 lo) x16 x17 x18) (loaded (View.ld x15 hi) x16 x17 x18) x19 x20 := by
  rw [mixed1_D, weights1_D, scores1_D, stack1_D, queries0_D, queries1_D, keys_D, vals_D]; rfl

theorem first1_D : kernelRun0_D.sl.v2348 (F := Ideal) c a17 h17 a18 h18 a19 h19 a20 h20 a21 h21 a22 h22 x15 x16 x17 x18 x19 x20
    = first (part 64 slices_S256x128_o64_0_S64x128 (loaded (View.ld x15 lo) x16 x17 x18) (loaded (View.ld x15 hi) x16 x17 x18) x19 x20) := by
  rw [← rows1_D c a17 h17 a18 h18 a19 h19 a20 h20 a21 h21 a22 h22]; exact rfl

theorem last1_D : kernelRun0_D.sl.v2358 (F := Ideal) c a17 h17 a18 h18 a19 h19 a20 h20 a21 h21 a22 h22 x15 x16 x17 x18 x19 x20
    = last (part 64 slices_S256x128_o64_0_S64x128 (loaded (View.ld x15 lo) x16 x17 x18) (loaded (View.ld x15 hi) x16 x17 x18) x19 x20) := by
  rw [← rows1_D c a17 h17 a18 h18 a19 h19 a20 h20 a21 h21 a22 h22]; exact rfl

theorem stack2_D : kernelRun0_D.sl.v2054 (F := Ideal) c a17 h17 a18 h18 a19 h19 a20 h20 x15 x16 x17 x18
    = stack (extractStridedSlice S64x128 ![128, 0] (kernelRun0_D.sl.r (F := Ideal) c a17 h17 a18 h18 a19 h19 a20 h20 x15 x16 x17 x18) slices_S256x128_o128_0_S64x128) (extractStridedSlice S64x128 ![128, 0] (kernelRun0_D.sl.r_4 (F := Ideal) c a17 h17 a18 h18 a19 h19 a20 h20 x15 x16 x17 x18) slices_S256x128_o128_0_S64x128) := by exact rfl

theorem scores2_D : kernelRun0_D.sl.v2057 (F := Ideal) c a17 h17 a18 h18 a19 h19 a20 h20 a21 h21 x15 x16 x17 x18 x19
    = scores (kernelRun0_D.sl.v2054 (F := Ideal) c a17 h17 a18 h18 a19 h19 a20 h20 x15 x16 x17 x18) (kernelRun0_D.sl.v1602 (F := Ideal) c a21 h21 x19) := by exact rfl

theorem weights2_D : kernelRun0_D.sl.v2332 (F := Ideal) c a17 h17 a18 h18 a19 h19 a20 h20 a21 h21 x15 x16 x17 x18 x19
    = weights (kernelRun0_D.sl.v2057 (F := Ideal) c a17 h17 a18 h18 a19 h19 a20 h20 a21 h21 x15 x16 x17 x18 x19) := by exact rfl

theorem mixed2_D : kernelRun0_D.sl.v2580 (F := Ideal) c a17 h17 a18 h18 a19 h19 a20 h20 a21 h21 a22 h22 x15 x16 x17 x18 x19 x20
    = mixed (kernelRun0_D.sl.v2332 (F := Ideal) c a17 h17 a18 h18 a19 h19 a20 h20 a21 h21 x15 x16 x17 x18 x19) (kernelRun0_D.sl.v2065 (F := Ideal) c a22 h22 x20) := by exact rfl

theorem rows2_D : kernelRun0_D.sl.v2580 (F := Ideal) c a17 h17 a18 h18 a19 h19 a20 h20 a21 h21 a22 h22 x15 x16 x17 x18 x19 x20
    = part 128 slices_S256x128_o128_0_S64x128 (loaded (View.ld x15 lo) x16 x17 x18) (loaded (View.ld x15 hi) x16 x17 x18) x19 x20 := by
  rw [mixed2_D, weights2_D, scores2_D, stack2_D, queries0_D, queries1_D, keys_D, vals_D]; rfl

theorem first2_D : kernelRun0_D.sl.v2590 (F := Ideal) c a17 h17 a18 h18 a19 h19 a20 h20 a21 h21 a22 h22 x15 x16 x17 x18 x19 x20
    = first (part 128 slices_S256x128_o128_0_S64x128 (loaded (View.ld x15 lo) x16 x17 x18) (loaded (View.ld x15 hi) x16 x17 x18) x19 x20) := by
  rw [← rows2_D c a17 h17 a18 h18 a19 h19 a20 h20 a21 h21 a22 h22]; exact rfl

theorem last2_D : kernelRun0_D.sl.v2600 (F := Ideal) c a17 h17 a18 h18 a19 h19 a20 h20 a21 h21 a22 h22 x15 x16 x17 x18 x19 x20
    = last (part 128 slices_S256x128_o128_0_S64x128 (loaded (View.ld x15 lo) x16 x17 x18) (loaded (View.ld x15 hi) x16 x17 x18) x19 x20) := by
  rw [← rows2_D c a17 h17 a18 h18 a19 h19 a20 h20 a21 h21 a22 h22]; exact rfl

theorem stack3_D : kernelRun0_D.sl.v2323 (F := Ideal) c a17 h17 a18 h18 a19 h19 a20 h20 x15 x16 x17 x18
    = stack (extractStridedSlice S64x128 ![192, 0] (kernelRun0_D.sl.r (F := Ideal) c a17 h17 a18 h18 a19 h19 a20 h20 x15 x16 x17 x18) slices_S256x128_o192_0_S64x128) (extractStridedSlice S64x128 ![192, 0] (kernelRun0_D.sl.r_4 (F := Ideal) c a17 h17 a18 h18 a19 h19 a20 h20 x15 x16 x17 x18) slices_S256x128_o192_0_S64x128) := by exact rfl

theorem scores3_D : kernelRun0_D.sl.v2326 (F := Ideal) c a17 h17 a18 h18 a19 h19 a20 h20 a21 h21 x15 x16 x17 x18 x19
    = scores (kernelRun0_D.sl.v2323 (F := Ideal) c a17 h17 a18 h18 a19 h19 a20 h20 x15 x16 x17 x18) (kernelRun0_D.sl.v1602 (F := Ideal) c a21 h21 x19) := by exact rfl

theorem weights3_D : kernelRun0_D.sl.v2574 (F := Ideal) c a17 h17 a18 h18 a19 h19 a20 h20 a21 h21 x15 x16 x17 x18 x19
    = weights (kernelRun0_D.sl.v2326 (F := Ideal) c a17 h17 a18 h18 a19 h19 a20 h20 a21 h21 x15 x16 x17 x18 x19) := by exact rfl

theorem mixed3_D : kernelRun0_D.sl.v2851 (F := Ideal) c a17 h17 a18 h18 a19 h19 a20 h20 a21 h21 a22 h22 x15 x16 x17 x18 x19 x20
    = mixed (kernelRun0_D.sl.v2574 (F := Ideal) c a17 h17 a18 h18 a19 h19 a20 h20 a21 h21 x15 x16 x17 x18 x19) (kernelRun0_D.sl.v2065 (F := Ideal) c a22 h22 x20) := by exact rfl

theorem rows3_D : kernelRun0_D.sl.v2851 (F := Ideal) c a17 h17 a18 h18 a19 h19 a20 h20 a21 h21 a22 h22 x15 x16 x17 x18 x19 x20
    = part 192 slices_S256x128_o192_0_S64x128 (loaded (View.ld x15 lo) x16 x17 x18) (loaded (View.ld x15 hi) x16 x17 x18) x19 x20 := by
  rw [mixed3_D, weights3_D, scores3_D, stack3_D, queries0_D, queries1_D, keys_D, vals_D]; rfl

theorem first3_D : kernelRun0_D.sl.v2861 (F := Ideal) c a17 h17 a18 h18 a19 h19 a20 h20 a21 h21 a22 h22 x15 x16 x17 x18 x19 x20
    = first (part 192 slices_S256x128_o192_0_S64x128 (loaded (View.ld x15 lo) x16 x17 x18) (loaded (View.ld x15 hi) x16 x17 x18) x19 x20) := by
  rw [← rows3_D c a17 h17 a18 h18 a19 h19 a20 h20 a21 h21 a22 h22]; exact rfl

theorem last3_D : kernelRun0_D.sl.v2871 (F := Ideal) c a17 h17 a18 h18 a19 h19 a20 h20 a21 h21 a22 h22 x15 x16 x17 x18 x19 x20
    = last (part 192 slices_S256x128_o192_0_S64x128 (loaded (View.ld x15 lo) x16 x17 x18) (loaded (View.ld x15 hi) x16 x17 x18) x19 x20) := by
  rw [← rows3_D c a17 h17 a18 h18 a19 h19 a20 h20 a21 h21 a22 h22]; exact rfl

end

theorem out_D (c : Dev nD) (i : grid0.Coords) (arg2 : Memref sig .tc .vmem S1x128x2048 .f32) (harg2 : arg2.IsWhole) (arg3 : Memref sig .tc .vmem S1x8x2048 .f32) (harg3 : arg3.IsWhole) (arg4 : Memref sig .tc .vmem S1x8x2048 .f32) (harg4 : arg4.IsWhole) (arg5 : Memref sig .tc .vmem S1x128x2048 .f32) (harg5 : arg5.IsWhole) (arg6 : Memref sig .tc .vmem S1x8x2048 .f32) (harg6 : arg6.IsWhole) (arg7 : Memref sig .tc .vmem S1x8x2048 .f32) (harg7 : arg7.IsWhole) (arg8 : Memref sig .tc .vmem S2x2048 .f32) (harg8 : arg8.IsWhole) (arg9 : Memref sig .tc .vmem S1x1024 .f32) (harg9 : arg9.IsWhole) (arg10 : Memref sig .tc .vmem S128x1024 .f32) (harg10 : arg10.IsWhole) (arg11 : Memref sig .tc .vmem S1x1024 .f32) (harg11 : arg11.IsWhole) (arg12 : Memref sig .tc .vmem S128x1024 .f32) (harg12 : arg12.IsWhole) (arg13 : Memref sig .tc .vmem S256x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1x256x256 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S1x128 .f32) (harg20 : arg20.IsWhole) (arg21 : Memref sig .tc .vmem S1x1x4224x128 .bf16) (harg21 : arg21.IsWhole) (arg22 : Memref sig .tc .vmem S1x1x4224x128 .bf16) (harg22 : arg22.IsWhole) (arg23 : Memref sig .tc .vmem S1x128x512 .bf16) (harg23 : arg23.IsWhole) (arg24 : Memref sig .tc .vmem S1x128x512 .bf16) (harg24 : arg24.IsWhole) (arg25 : Memref sig .tc .vmem S1x128x512 .bf16) (harg25 : arg25.IsWhole) (arg26 : Memref sig .tc .vmem S1x128x512 .bf16) (harg26 : arg26.IsWhole) (arg27 : Memref sig .tc .vmem S1x256x256 .bf16) (harg27 : arg27.IsWhole) (arg28 : Memref sig .tc .vmem S2x4x128x128 .f32) (harg28 : arg28.IsWhole) (arg29 : Memref sig .tc .vmem S2x6x2x4x128x128 .bf16) (harg29 : arg29.IsWhole) (arg30 : Memref sig .tc .vmem S2x2x4x128x128 .f32) (harg30 : arg30.IsWhole) (arg31 : Memref sig .tc .vmem S2x2x1x512 .f32) (harg31 : arg31.IsWhole) (hc0 : ¬cond0_0 i) (hc1 : ¬cond0_1 i) (hc2 : ¬cond0_2 i) (hc3 : cond0_3 i) (hc4 : ¬cond0_4 i)
    (x0 : Vec Ideal S1x128x2048 .f32) (x1 : Vec Ideal S1x8x2048 .f32) (x2 : Vec Ideal S1x8x2048 .f32) (x3 : Vec Ideal S1x128x2048 .f32) (x4 : Vec Ideal S1x8x2048 .f32) (x5 : Vec Ideal S1x8x2048 .f32) (x6 : Vec Ideal S2x2048 .f32) (x7 : Vec Ideal S1x1024 .f32) (x8 : Vec Ideal S128x1024 .f32) (x9 : Vec Ideal S1x1024 .f32) (x10 : Vec Ideal S128x1024 .f32) (x11 : Vec Ideal S256x512 .f32) (x12 : Vec Ideal S1x512 .f32) (x13 : Vec Ideal S1x512 .f32) (x14 : Vec Ideal S1x512 .f32) (x15 : Vec Ideal S1x256x256 .f32) (x16 : Vec Ideal S256x128 .f32) (x17 : Vec Ideal S256x128 .f32) (x18 : Vec Ideal S1x128 .f32) (x19 : Vec Ideal S1x1x4224x128 .bf16) (x20 : Vec Ideal S1x1x4224x128 .bf16) :
    out0_D_25 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 hc4 x0 x1 x2 x3 x4 x5 x6 x7 x8 x9 x10 x11 x12 x13 x14 x15 x16 x17 x18 x19 x20 = block (loaded (View.ld x15 lo) x16 x17 x18) (loaded (View.ld x15 hi) x16 x17 x18) x19 x20 := by
  unfold out0_D_25 block
  unfold kernelRun0_D
  dsimp only
  rw [last3_D, first3_D, last2_D, first2_D, last1_D, first1_D, last0_D, first0_D]
  rfl

end Cert.KernelIdeal.Attn

end
-- ==== Proof.AttnSpec.lean ====
/-
  What the attention claim computes, as a function of the arguments, and what it asks of them.
-/
module

public import proofs.«01_k».proof.Proof.AttnMath
public import Idealize.ShloMosaic.Lib.Pointwise

@[expose] public section

noncomputable section

open Idealize.ShloMosaic

namespace Cert.AttnMath

abbrev Rows : Shape := ⟨3, ![4, 4608, 4864]⟩
abbrev Table : Shape := ⟨3, ![4096, 2, 16]⟩
abbrev Gain : Shape := ⟨1, ![64]⟩
abbrev Bank : Shape := ⟨4, ![4, 2, 4224, 128]⟩
abbrev Out : Shape := ⟨3, ![4, 4096, 512]⟩

/-- The query of token row `t` of batch `b`, head `h` of the group `g`. -/
def queryAt (X : Rows.Idx → EReal) (C S : Table.Idx → EReal) (G : Gain.Idx → EReal) (b : Fin 4) (t : Fin 4096) (g : Fin 2) (h : Fin 4) :
    Fin 64 → EReal :=
  queryRow (fun i => X (ix3 b ⟨512 + t.val, by omega⟩ ⟨4096 + (256 * g.val + 64 * h.val + i.val), by omega⟩))
    (fun i => G (ix1 i)) (fun a i => C (ix3 t a i)) (fun a i => S (ix3 t a i))

/-- Plain attention for the token row `t` of batch `b`, head `h` of the group `g`, output lane `n`. -/
def attnAt (X : Rows.Idx → EReal) (C S : Table.Idx → EReal) (G : Gain.Idx → EReal) (K V : Bank.Idx → EReal)
    (b : Fin 4) (t : Fin 4096) (g : Fin 2) (h : Fin 4) (n : Fin 64) : EReal :=
  plainOut (fun j => ∑ i : Fin 64, K (ix4 b g ⟨112 + j.val, by omega⟩ ⟨i.val, by omega⟩) * (queryAt X C S G b t g h i * ((1 / 8 : ℝ) : EReal)))
    (fun j => V (ix4 b g ⟨112 + j.val, by omega⟩ ⟨n.val, by omega⟩))

theorem last_lt (j : Out.Idx) : (j 2).val < 512 := (j 2).isLt

/-- The whole array: a token row's 512 columns are two groups of four heads of 64 lanes. -/
def attnArr (X : Rows.Idx → EReal) (C S : Table.Idx → EReal) (G : Gain.Idx → EReal) (K V : Bank.Idx → EReal) : Out.Idx → EReal := fun j =>
  attnAt X C S G K V (j 0) (j 1) ⟨(j 2).val / 256, by have := last_lt j; omega⟩ ⟨(j 2).val / 64 % 4, by omega⟩ ⟨(j 2).val % 64, by omega⟩

theorem attnArr_apply (X : Rows.Idx → EReal) (C S : Table.Idx → EReal) (G : Gain.Idx → EReal) (K V : Bank.Idx → EReal)
    (b : Fin 4) (t : Fin 4096) (g : Fin 2) (h : Fin 4) (n : Fin 64) :
    attnArr X C S G K V (ix3 b t (⟨256 * g.val + 64 * h.val + n.val, by omega⟩ : Fin 512)) = attnAt X C S G K V b t g h n := by
  have e1 : (⟨(256 * g.val + 64 * h.val + n.val) / 256, by omega⟩ : Fin 2) = g := Fin.ext (by show _ / 256 = g.val; omega)
  have e2 : (⟨(256 * g.val + 64 * h.val + n.val) / 64 % 4, by omega⟩ : Fin 4) = h := Fin.ext (by show _ / 64 % 4 = h.val; omega)
  have e3 : (⟨(256 * g.val + 64 * h.val + n.val) % 64, by omega⟩ : Fin 64) = n := Fin.ext (by show _ % 64 = n.val; omega)
  show attnAt X C S G K V b t ⟨(256 * g.val + 64 * h.val + n.val) / 256, _⟩ ⟨(256 * g.val + 64 * h.val + n.val) / 64 % 4, _⟩
    ⟨(256 * g.val + 64 * h.val + n.val) % 64, _⟩ = _
  rw [e1, e2, e3]

/-- What the claim asks of the arguments: finite queries, tables, gain and keys; the keys' extra lane masks the 112 rows
    before the first token and leaves the others, and the values' extra lane is one at the others. -/
structure Laid (X : Rows.Idx → EReal) (C S : Table.Idx → EReal) (G : Gain.Idx → EReal) (K V : Bank.Idx → EReal) : Prop where
  x : ∀ (b : Fin 4) (t : Fin 4096) (l : Fin 512), Fin' (X (ix3 b ⟨512 + t.val, by omega⟩ ⟨4096 + l.val, by omega⟩))
  c : ∀ j, Fin' (C j)
  s : ∀ j, Fin' (S j)
  g : ∀ j, Fin' (G j)
  k : ∀ (b : Fin 4) (g : Fin 2) (r : Fin 4224) (n : Fin 64), Fin' (K (ix4 b g r ⟨n.val, by omega⟩))
  mask : ∀ (b : Fin 4) (g : Fin 2) (r : Fin 4224), r.val < 112 → K (ix4 b g r ⟨64, by omega⟩) = ⊥
  open' : ∀ (b : Fin 4) (g : Fin 2) (j : Fin 4112), K (ix4 b g ⟨112 + j.val, by omega⟩ ⟨64, by omega⟩) = 0
  one : ∀ (b : Fin 4) (g : Fin 2) (j : Fin 4112), V (ix4 b g ⟨112 + j.val, by omega⟩ ⟨64, by omega⟩) = 1

/-- The kernel's form of an output is the plain one. -/
theorem Laid.kernelOut {X : Rows.Idx → EReal} {C S : Table.Idx → EReal} {G : Gain.Idx → EReal} {K V : Bank.Idx → EReal}
    (L : Laid X C S G K V) (b : Fin 4) (t : Fin 4096) (g : Fin 2) (h : Fin 4) (n : Fin 64) :
    AttnMath.kernelOut (fun i => queryAt X C S G b t g h i * (((1 / 8) * (Real.log 2)⁻¹ : ℝ) : EReal)) (fun r l => K (ix4 b g r l))
      (fun r => V (ix4 b g r ⟨n.val, by omega⟩)) (fun r => V (ix4 b g r ⟨64, by omega⟩)) = attnAt X C S G K V b t g h n :=
  attn_eq _ (queryRow_fin (fun i => L.x b t ⟨256 * g.val + 64 * h.val + i.val, by omega⟩) (fun _ => L.g _) (fun _ _ => L.c _) (fun _ _ => L.s _))
    _ (L.k b g) (L.mask b g) (L.open' b g) _ _ (L.one b g)

end Cert.AttnMath

end
-- ==== Proof.Mix.Value.lean ====
/- What each grid point writes back to the attention's array, and the run with that array named. -/
module

public import proofs.«01_k».proof.Proof.Mix.Frame
public import Idealize.ShloMosaic.Lib.Pipeline.Value

@[expose] public section

noncomputable section

namespace Cert.KernelIdeal.MixValue

open Cert.KernelIdeal Cert.KernelIdeal.Gen Cert.KernelIdeal.Mix Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 25's array: the run's contents for that window after the body (`Gen.outsAt0`), read through the window's block. -/
theorem flushed25 (c : Dev nD) (t : Fin cfg0.N) :
    (dats m 0 c).flushed 25 t = (cfg0.win 25).cut (grid0.coords t) (outsAt0 m c t.val t.isLt) := by
  show (cfg0.win 25).cut (grid0.coords t) ((dats m 0 c).after 25 t) = _
  rw [after0_25]

/-- … so at a point where case A runs, what its write-back would write is that case's NAMED TERM for the window (`Gen.out0_A_25`: the pieces
    its run found, read back) at the point's memrefs and input blocks, and for an output the case reads back what the point before left (`Gen.outsAt0` at `t - 1`) — by the frame's rewriting lemma for the case. -/
theorem flushed25_A (c : Dev nD) (t : Fin cfg0.N) (h0 : t.val % 34 = 0) (h1 : t.val % 34 ≤ 1) (h2 : ¬(1 ≤ t.val % 34 ∧ t.val % 34 ≤ 32)) (h3 : ¬2 ≤ t.val % 34) (h4 : ¬(1 ≤ t.val % 34 ∧ t.val % 34 ≤ 32)) :
    (dats m 0 c).flushed 25 t = (cfg0.win 25).cut (grid0.coords t) (out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (fun h => h4 ((hcond0_4 t).mp h)) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) := by
  simp only [flushed25, outsAt0_A m c t h0 h1 h2 h3 h4]

/-- … so at a point where case B runs, what its write-back would write is that case's NAMED TERM for the window (`Gen.out0_B_25`: the pieces
    its run found, read back) at the point's memrefs and input blocks, and for an output the case reads back what the point before left (`Gen.outsAt0` at `t - 1`) — by the frame's rewriting lemma for the case. -/
theorem flushed25_B (c : Dev nD) (t : Fin cfg0.N) (h0 : ¬t.val % 34 = 0) (h1 : t.val % 34 ≤ 1) (h2 : (1 ≤ t.val % 34 ∧ t.val % 34 ≤ 32)) (h3 : ¬2 ≤ t.val % 34) (h4 : (1 ≤ t.val % 34 ∧ t.val % 34 ≤ 32)) :
    (dats m 0 c).flushed 25 t = (cfg0.win 25).cut (grid0.coords t) (out0_B_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) (fun h => h3 ((hcond0_3 t).mp h)) ((hcond0_4 t).mpr h4) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) := by
  simp only [flushed25, outsAt0_B m c t h0 h1 h2 h3 h4]

/-- … so at a point where case C runs, what its write-back would write is that case's NAMED TERM for the window (`Gen.out0_C_25`: the pieces
    its run found, read back) at the point's memrefs and input blocks, and for an output the case reads back what the point before left (`Gen.outsAt0` at `t - 1`) — by the frame's rewriting lemma for the case. -/
theorem flushed25_C (c : Dev nD) (t : Fin cfg0.N) (h0 : ¬t.val % 34 = 0) (h1 : ¬t.val % 34 ≤ 1) (h2 : (1 ≤ t.val % 34 ∧ t.val % 34 ≤ 32)) (h3 : 2 ≤ t.val % 34) (h4 : (1 ≤ t.val % 34 ∧ t.val % 34 ≤ 32)) :
    (dats m 0 c).flushed 25 t = (cfg0.win 25).cut (grid0.coords t) (out0_C_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) ((hcond0_4 t).mpr h4) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) := by
  simp only [flushed25, outsAt0_C m c t h0 h1 h2 h3 h4]

/-- … so at a point where case D runs, what its write-back would write is that case's NAMED TERM for the window (`Gen.out0_D_25`: the pieces
    its run found, read back) at the point's memrefs and input blocks, and for an output the case reads back what the point before left (`Gen.outsAt0` at `t - 1`) — by the frame's rewriting lemma for the case. -/
theorem flushed25_D (c : Dev nD) (t : Fin cfg0.N) (h0 : ¬t.val % 34 = 0) (h1 : ¬t.val % 34 ≤ 1) (h2 : ¬(1 ≤ t.val % 34 ∧ t.val % 34 ≤ 32)) (h3 : 2 ≤ t.val % 34) (h4 : ¬(1 ≤ t.val % 34 ∧ t.val % 34 ≤ 32)) :
    (dats m 0 c).flushed 25 t = (cfg0.win 25).cut (grid0.coords t) (out0_D_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) ((hcond0_3 t).mpr h3) (fun h => h4 ((hcond0_4 t).mp h)) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) := by
  simp only [flushed25, outsAt0_D m c t h0 h1 h2 h3 h4]

-- no `blocks25`: window 25's index map revisits a block index, or its points could not be enumerated here;
-- the final array is still the frame's `arrAt`, to read with Lib/Pipeline/Value.lean's lemmas by hand

/-- An index that no flushing point's block covers keeps output window 25's array contents at region entry. -/
theorem entry25 (c : Dev nD) (i : S4x4096x512.Idx) (h : ∀ t : Fin cfg0.N, (cfg0.win 25).flush t = true → i ∉ ((cfg0.win 25).blk t).view.set) :
    (dats m 0 c).arrAt 25 cfg0.N i = V m c (Pipeline.arrRef spec0 25) i := by
  rw [(dats m 0 c).arrAt_apply_of_forall_not_mem 25 cfg0.N i (fun t _ hf => h t hf), A_eq]

/-- A NAMED output window's array after the frame run: `(dats m 0 c).arrAt w N`, read off the run's relational post (`h`:
    the proof data with the windows `Gen.forgets0` forgotten) at any window `w` it does not forget (`hw`), by
    Lib/Pipeline/Cells.lean `Dat.toRForget_arrAt_iff`. -/
theorem finalR_out0 (r : PUnit × MemSt nD τ sig (Elt F)) (h : Pipeline.RDat.FramePost (cfgs 0) (fun c => (dats m 0 c).toRForget forgets0) (V m) r) (c : Dev nD) (w : Fin 26) (hw : forgets0 w = false) :
    r.2.mem ((cfg0.spec w).arr.view.loc (c : Thread nD τ)) = (dats m 0 c).arrAt w cfg0.N :=
  ((dats m 0 c).toRForget_arrAt_iff hw _ _).mp ((h c).1 w)

/-- After the frame run, output window 25's array is `(dats m 0 c).arrAt 25 N`. -/
theorem post25 (r : PUnit × MemSt nD τ sig (Elt F)) (h : Pipeline.RDat.FramePost (cfgs 0) (fun c => (dats m 0 c).toRForget forgets0) (V m) r) (c : Dev nD) :
    r.2.mem ((c : Thread nD τ).loc main_v19_4) = (dats m 0 c).arrAt 25 cfg0.N :=
  finalR_out0 m r h c 25 forgets0_25

/-- After the frame run, argument `main_arg0` is as launched: input window 15 stages it and never writes it back. -/
theorem kept_main_arg0 (r : PUnit × MemSt nD τ sig (Elt F)) (h : Pipeline.RDat.FramePost (cfgs 0) (fun c => (dats m 0 c).toRForget forgets0) (V m) r) (c : Dev nD) :
    r.2.mem ((c : Thread nD τ).loc main_arg0) = m ((c : Thread nD τ).loc main_arg0) :=
  (Pipeline.RDat.FramePost.arr_in h c 15 rfl).trans ((A_eq m c 15).trans (V_main_arg0 m c))

/-- After the frame run, argument `main_arg1` is as launched: input window 6 stages it and never writes it back. -/
theorem kept_main_arg1 (r : PUnit × MemSt nD τ sig (Elt F)) (h : Pipeline.RDat.FramePost (cfgs 0) (fun c => (dats m 0 c).toRForget forgets0) (V m) r) (c : Dev nD) :
    r.2.mem ((c : Thread nD τ).loc main_arg1) = m ((c : Thread nD τ).loc main_arg1) :=
  (Pipeline.RDat.FramePost.arr_in h c 6 rfl).trans ((A_eq m c 6).trans (V_main_arg1 m c))

/-- After the frame run, argument `main_arg2` is as launched: input window 7 stages it and never writes it back. -/
theorem kept_main_arg2 (r : PUnit × MemSt nD τ sig (Elt F)) (h : Pipeline.RDat.FramePost (cfgs 0) (fun c => (dats m 0 c).toRForget forgets0) (V m) r) (c : Dev nD) :
    r.2.mem ((c : Thread nD τ).loc main_arg2) = m ((c : Thread nD τ).loc main_arg2) :=
  (Pipeline.RDat.FramePost.arr_in h c 7 rfl).trans ((A_eq m c 7).trans (V_main_arg2 m c))

/-- After the frame run, argument `main_arg3` is as launched: input window 8 stages it and never writes it back. -/
theorem kept_main_arg3 (r : PUnit × MemSt nD τ sig (Elt F)) (h : Pipeline.RDat.FramePost (cfgs 0) (fun c => (dats m 0 c).toRForget forgets0) (V m) r) (c : Dev nD) :
    r.2.mem ((c : Thread nD τ).loc main_arg3) = m ((c : Thread nD τ).loc main_arg3) :=
  (Pipeline.RDat.FramePost.arr_in h c 8 rfl).trans ((A_eq m c 8).trans (V_main_arg3 m c))

/-- After the frame run, argument `main_arg4` is as launched: input window 9 stages it and never writes it back. -/
theorem kept_main_arg4 (r : PUnit × MemSt nD τ sig (Elt F)) (h : Pipeline.RDat.FramePost (cfgs 0) (fun c => (dats m 0 c).toRForget forgets0) (V m) r) (c : Dev nD) :
    r.2.mem ((c : Thread nD τ).loc main_arg4) = m ((c : Thread nD τ).loc main_arg4) :=
  (Pipeline.RDat.FramePost.arr_in h c 9 rfl).trans ((A_eq m c 9).trans (V_main_arg4 m c))

/-- After the frame run, argument `main_arg5` is as launched: input window 10 stages it and never writes it back. -/
theorem kept_main_arg5 (r : PUnit × MemSt nD τ sig (Elt F)) (h : Pipeline.RDat.FramePost (cfgs 0) (fun c => (dats m 0 c).toRForget forgets0) (V m) r) (c : Dev nD) :
    r.2.mem ((c : Thread nD τ).loc main_arg5) = m ((c : Thread nD τ).loc main_arg5) :=
  (Pipeline.RDat.FramePost.arr_in h c 10 rfl).trans ((A_eq m c 10).trans (V_main_arg5 m c))

/-- After the frame run, argument `main_arg6` is as launched: input window 11 stages it and never writes it back. -/
theorem kept_main_arg6 (r : PUnit × MemSt nD τ sig (Elt F)) (h : Pipeline.RDat.FramePost (cfgs 0) (fun c => (dats m 0 c).toRForget forgets0) (V m) r) (c : Dev nD) :
    r.2.mem ((c : Thread nD τ).loc main_arg6) = m ((c : Thread nD τ).loc main_arg6) :=
  (Pipeline.RDat.FramePost.arr_in h c 11 rfl).trans ((A_eq m c 11).trans (V_main_arg6 m c))

/-- After the frame run, argument `main_arg7` is as launched: input window 12 stages it and never writes it back. -/
theorem kept_main_arg7 (r : PUnit × MemSt nD τ sig (Elt F)) (h : Pipeline.RDat.FramePost (cfgs 0) (fun c => (dats m 0 c).toRForget forgets0) (V m) r) (c : Dev nD) :
    r.2.mem ((c : Thread nD τ).loc main_arg7) = m ((c : Thread nD τ).loc main_arg7) :=
  (Pipeline.RDat.FramePost.arr_in h c 12 rfl).trans ((A_eq m c 12).trans (V_main_arg7 m c))

/-- After the frame run, argument `main_arg8` is as launched: input window 13 stages it and never writes it back. -/
theorem kept_main_arg8 (r : PUnit × MemSt nD τ sig (Elt F)) (h : Pipeline.RDat.FramePost (cfgs 0) (fun c => (dats m 0 c).toRForget forgets0) (V m) r) (c : Dev nD) :
    r.2.mem ((c : Thread nD τ).loc main_arg8) = m ((c : Thread nD τ).loc main_arg8) :=
  (Pipeline.RDat.FramePost.arr_in h c 13 rfl).trans ((A_eq m c 13).trans (V_main_arg8 m c))

/-- After the frame run, argument `main_arg9` is as launched: input window 14 stages it and never writes it back. -/
theorem kept_main_arg9 (r : PUnit × MemSt nD τ sig (Elt F)) (h : Pipeline.RDat.FramePost (cfgs 0) (fun c => (dats m 0 c).toRForget forgets0) (V m) r) (c : Dev nD) :
    r.2.mem ((c : Thread nD τ).loc main_arg9) = m ((c : Thread nD τ).loc main_arg9) :=
  (Pipeline.RDat.FramePost.arr_in h c 14 rfl).trans ((A_eq m c 14).trans (V_main_arg9 m c))

/-- After the frame run, argument `main_arg10` is as launched: no window stages it, and the run leaves the region's other buffers as they were. -/
theorem kept_main_arg10 (r : PUnit × MemSt nD τ sig (Elt F)) (h : Pipeline.RDat.FramePost (cfgs 0) (fun c => (dats m 0 c).toRForget forgets0) (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.RDat.FramePost (cfgs 0) (fun c => (dats m 0 c).toRForget forgets0) (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.RDat.FramePost (cfgs 0) (fun c => (dats m 0 c).toRForget forgets0) (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: input window 19 stages it and never writes it back. -/
theorem kept_main_arg13 (r : PUnit × MemSt nD τ sig (Elt F)) (h : Pipeline.RDat.FramePost (cfgs 0) (fun c => (dats m 0 c).toRForget forgets0) (V m) r) (c : Dev nD) :
    r.2.mem ((c : Thread nD τ).loc main_arg13) = m ((c : Thread nD τ).loc main_arg13) :=
  (Pipeline.RDat.FramePost.arr_in h c 19 rfl).trans ((A_eq m c 19).trans (V_main_arg13 m c))

/-- After the frame run, argument `main_arg14` is as launched: input window 20 stages it and never writes it back. -/
theorem kept_main_arg14 (r : PUnit × MemSt nD τ sig (Elt F)) (h : Pipeline.RDat.FramePost (cfgs 0) (fun c => (dats m 0 c).toRForget forgets0) (V m) r) (c : Dev nD) :
    r.2.mem ((c : Thread nD τ).loc main_arg14) = m ((c : Thread nD τ).loc main_arg14) :=
  (Pipeline.RDat.FramePost.arr_in h c 20 rfl).trans ((A_eq m c 20).trans (V_main_arg14 m c))

/-- The frame run with each output array the frame names after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v19_4) = (dats m 0 c).arrAt 25 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨post25 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c⟩)
    (run_main m ρ)

end Cert.KernelIdeal.MixValue

end
-- ==== Proof.AttnValue.lean ====
/-
  The attention array that the mixers call leaves, at an index: the kernel's form of one query row's attention, then, under
  the claim's precondition, plain softmax attention over the token rows.
-/
module

public import proofs.«01_k».proof.Proof.Attn.CaseA
public import proofs.«01_k».proof.Proof.Attn.CaseB
public import proofs.«01_k».proof.Proof.Attn.CaseC
public import proofs.«01_k».proof.Proof.Attn.CaseD
public import proofs.«01_k».proof.Proof.AttnSpec
public import proofs.«01_k».proof.Proof.Mix.Value
public import Idealize.ShloMosaic.Lib.Claim
public import Idealize.ShloMosaic.Lib.StableHlo.ReadAt

@[expose] public section

set_option maxRecDepth 16384

noncomputable section

open Idealize.ShloMosaic Idealize.ShloMosaic.TcCoe

namespace Cert.KernelIdeal.Attn

open Cert.KernelIdeal Cert.KernelIdeal.Gen Cert.KernelIdeal.Mix Cert.KernelIdeal.MixValue Cert.AttnMath

/-! ## The call's operands that host code computes -/

variable (m : (ℓ : Loc nD τ sig) → Buf (Elt Ideal) ℓ) (c : Dev nD)

theorem cos_entry (t : Fin 4096) (h : Fin 2) (n : Fin 64) :
    V m c main_v15 (ix2 t (⟨64 * h.val + n.val, by omega⟩ : Fin 128))
      = m ((c.tc : Thread nD τ).loc main_arg10) (ix3 t (⟨n.val / 32, by omega⟩ : Fin 2) (⟨n.val % 16, by omega⟩ : Fin 16)) := by
  unfold V
  after_reads_at
  split
  · after_reads_simp
    pointwise
  · after_reads_simp
    pointwise

theorem sin_entry (t : Fin 4096) (h : Fin 2) (n : Fin 64) :
    V m c main_v18 (ix2 t (⟨64 * h.val + n.val, by omega⟩ : Fin 128))
      = if n.val % 32 < 16 then Neg.neg (α := EReal) (m ((c.tc : Thread nD τ).loc main_arg11) (ix3 t (⟨n.val / 32, by omega⟩ : Fin 2) (⟨n.val % 16, by omega⟩ : Fin 16)))
        else m ((c.tc : Thread nD τ).loc main_arg11) (ix3 t (⟨n.val / 32, by omega⟩ : Fin 2) (⟨n.val % 16, by omega⟩ : Fin 16)) := by
  unfold V
  after_reads_at
  split
  · have hn : n.val % 32 < 16 := by omega
    simp only [hn, if_true]
    after_reads_simp
    pointwise
  · have hn : ¬ n.val % 32 < 16 := by omega
    simp only [hn, if_false]
    after_reads_simp
    pointwise

theorem gain_entry (h : Fin 2) (n : Fin 64) :
    V m c main_v12 (ix2 0 (⟨64 * h.val + n.val, by omega⟩ : Fin 128)) = m ((c.tc : Thread nD τ).loc main_arg12) (ix1 n) := by
  unfold V
  after_reads_at

/-! ## What a point stores -/

theorem outs_eq (t : Fin cfg0.N) : outsAt0 m c t.val t.isLt
    = block (loaded (View.ld (iblk m c 15 t) lo) (iblk m c 16 t) (iblk m c 17 t) (iblk m c 18 t))
        (loaded (View.ld (iblk m c 15 t) hi) (iblk m c 16 t) (iblk m c 17 t) (iblk m c 18 t)) (iblk m c 19 t) (iblk m c 20 t) := by
  by_cases h0 : t.val % 34 = 0
  · rw [outsAt0_A m c t h0 (by omega) (by omega) (by omega) (by omega), out_A]
    rfl
  by_cases h1 : t.val % 34 ≤ 1
  · rw [outsAt0_B m c t h0 h1 (by omega) (by omega) (by omega), out_B]
    rfl
  by_cases h2 : t.val % 34 ≤ 32
  · rw [outsAt0_C m c t h0 h1 (by omega) (by omega) (by omega), out_C]
    rfl
  · rw [outsAt0_D m c t h0 h1 (by omega) (by omega) (by omega), out_D]
    rfl

theorem idx : ∀ t : Fin cfg0.N,
    win0_15.index t = ![t.val / 34, min (t.val % 34) 31 % 16 + 2, min (t.val % 34) 31 / 16 + 16]
    ∧ win0_16.index t = ![min (t.val % 34) 31 % 16, 0] ∧ win0_17.index t = ![min (t.val % 34) 31 % 16, 0] ∧ win0_18.index t = ![0, 0]
    ∧ win0_19.index t = ![t.val / 34, min (t.val % 34) 31 / 16, 0, 0] ∧ win0_20.index t = ![t.val / 34, min (t.val % 34) 31 / 16, 0, 0]
    ∧ win0_25.index t = ![t.val / 34, min (t.val % 34) 31 % 16, min (t.val % 34) 31 / 16] := by decide +kernel

/-! ## Reads of the call's blocks -/

variable (t : Fin cfg0.N)

theorem t_lt : t.val < 136 := t.isLt

/-- The batch, the group and the tile of query rows of a point. -/
def bt : Fin 4 := ⟨t.val / 34, by have := t_lt t; omega⟩
def gr : Fin 2 := ⟨min (t.val % 34) 31 / 16, by omega⟩
def tok (a : Fin 256) : Fin 4096 := ⟨256 * (min (t.val % 34) 31 % 16) + a.val, by omega⟩

theorem read15 (a k : Fin 256) : iblk m c 15 t (ix3 0 a k)
    = m ((c.tc : Thread nD τ).loc main_arg0) (ix3 (bt t) ⟨512 + (tok t a).val, by omega⟩ ⟨4096 + (256 * (gr t).val + k.val), by omega⟩) := by
  rw [← V_main_arg0 m c]
  blk_ext [iblk, idx t, bt, gr, tok]

theorem read16 (a : Fin 256) (l : Fin 128) : iblk m c 16 t (ix2 a l) = V m c main_v15 (ix2 (tok t a) l) := by
  blk_ext [iblk, idx t, bt, gr, tok]

theorem read17 (a : Fin 256) (l : Fin 128) : iblk m c 17 t (ix2 a l) = V m c main_v18 (ix2 (tok t a) l) := by
  blk_ext [iblk, idx t, bt, gr, tok]

theorem read18 (l : Fin 128) : iblk m c 18 t (ix2 0 l) = V m c main_v12 (ix2 0 l) := by
  blk_ext [iblk, idx t, bt, gr, tok]

theorem read19 (r : Fin 4224) (l : Fin 128) : iblk m c 19 t (ix4 0 0 r l)
    = m ((c.tc : Thread nD τ).loc main_arg13) (ix4 (bt t) (gr t) r l) := by
  rw [← V_main_arg13 m c]
  blk_ext [iblk, idx t, bt, gr, tok]

theorem read20 (r : Fin 4224) (l : Fin 128) : iblk m c 20 t (ix4 0 0 r l)
    = m ((c.tc : Thread nD τ).loc main_arg14) (ix4 (bt t) (gr t) r l) := by
  rw [← V_main_arg14 m c]
  blk_ext [iblk, idx t, bt, gr, tok]

theorem ld_lo (x : Vec Ideal S1x256x256 .f32) (a : Fin 256) (k : Fin 128) :
    View.ld x lo (ix3 (0 : Fin 1) a k) = x (ix3 0 a ⟨k.val, by omega⟩) := by
  pointwise [lo]

theorem ld_hi (x : Vec Ideal S1x256x256 .f32) (a : Fin 256) (k : Fin 128) :
    View.ld x hi (ix3 (0 : Fin 1) a k) = x (ix3 0 a ⟨128 + k.val, by omega⟩) := by
  pointwise [hi]

/-! ## The array -/

/-- A point's rotated queries for two heads, from the half `p` of the block's columns. -/
theorem rows_eq (q : FVec Ideal S1x256x128 .f32) (p h : Fin 2) (a : Fin 256) (n : Fin 64)
    (L : Laid (m ((c.tc : Thread nD τ).loc main_arg0)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14)))
    (hq : ∀ k : Fin 128, q (ix3 0 a k) = m ((c.tc : Thread nD τ).loc main_arg0)
      (ix3 (bt t) ⟨512 + (tok t a).val, by omega⟩ ⟨4096 + (256 * (gr t).val + (128 * p.val + k.val)), by omega⟩)) :
    loaded q (iblk m c 16 t) (iblk m c 17 t) (iblk m c 18 t) (ix2 a ⟨64 * h.val + n.val, by omega⟩)
      = queryAt (m ((c.tc : Thread nD τ).loc main_arg0)) (m ((c.tc : Thread nD τ).loc main_arg10)) (m ((c.tc : Thread nD τ).loc main_arg11))
          (m ((c.tc : Thread nD τ).loc main_arg12)) (bt t) (tok t a) (gr t) ⟨2 * p.val + h.val, by omega⟩ n * (((1 / 8) * (Real.log 2)⁻¹ : ℝ) : EReal) := by
  rw [loaded_apply q _ _ _ (fun i => m ((c.tc : Thread nD τ).loc main_arg12) (ix1 i))
    (fun b i => m ((c.tc : Thread nD τ).loc main_arg10) (ix3 (tok t a) b i)) (fun b i => m ((c.tc : Thread nD τ).loc main_arg11) (ix3 (tok t a) b i)) a h n
    (fun k => by
      rw [hq k]
      exact L.x (bt t) (tok t a) ⟨256 * (gr t).val + (128 * p.val + k.val), by omega⟩)
    (fun n => (read18 m c t _).trans (gain_entry m c h n)) ((read16 m c t a _).trans (cos_entry m c (tok t a) h n))
    ((read17 m c t a _).trans (sin_entry m c (tok t a) h n))]
  unfold queryAt
  refine congrArg (fun x => queryRow x _ _ _ n * (((1 / 8) * (Real.log 2)⁻¹ : ℝ) : EReal)) ?_
  funext j
  rw [hq]
  refine congrArg (fun k => m ((c.tc : Thread nD τ).loc main_arg0) (ix3 (bt t) _ k)) (Fin.ext ?_)
  show 4096 + (256 * (gr t).val + (128 * p.val + (64 * h.val + j.val))) = 4096 + (256 * (gr t).val + 64 * (2 * p.val + h.val) + j.val)
  omega

/-- What a point leaves in its block. -/
theorem point_eq (p h : Fin 2) (a : Fin 256) (n : Fin 64)
    (L : Laid (m ((c.tc : Thread nD τ).loc main_arg0)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14))) :
    outsAt0 m c t.val t.isLt (ix3 0 a ⟨128 * p.val + 64 * h.val + n.val, by omega⟩)
      = attnAt (m ((c.tc : Thread nD τ).loc main_arg0)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (bt t) (tok t a) (gr t) ⟨2 * p.val + h.val, by omega⟩ n := by
  rw [outs_eq]
  refine (block_apply ![loaded (View.ld (iblk m c 15 t) lo) (iblk m c 16 t) (iblk m c 17 t) (iblk m c 18 t),
    loaded (View.ld (iblk m c 15 t) hi) (iblk m c 16 t) (iblk m c 17 t) (iblk m c 18 t)] _ _ p h a n).trans ?_
  have hr : ∀ n : Fin 64, (![loaded (View.ld (iblk m c 15 t) lo) (iblk m c 16 t) (iblk m c 17 t) (iblk m c 18 t),
      loaded (View.ld (iblk m c 15 t) hi) (iblk m c 16 t) (iblk m c 17 t) (iblk m c 18 t)] : Fin 2 → FVec Ideal S256x128 .f32) p (ix2 a ⟨64 * h.val + n.val, by omega⟩)
      = queryAt (m ((c.tc : Thread nD τ).loc main_arg0)) (m ((c.tc : Thread nD τ).loc main_arg10)) (m ((c.tc : Thread nD τ).loc main_arg11))
          (m ((c.tc : Thread nD τ).loc main_arg12)) (bt t) (tok t a) (gr t) ⟨2 * p.val + h.val, by omega⟩ n * (((1 / 8) * (Real.log 2)⁻¹ : ℝ) : EReal) := by
    intro n
    match p with
    | 0 =>
      refine rows_eq m c t _ 0 h a n L fun k => (ld_lo _ a k).trans ((read15 m c t a _).trans ?_)
      refine congrArg (fun k => m ((c.tc : Thread nD τ).loc main_arg0) (ix3 (bt t) _ k)) (Fin.ext ?_)
      show 4096 + (256 * (gr t).val + k.val) = 4096 + (256 * (gr t).val + (128 * 0 + k.val))
      omega
    | 1 =>
      refine rows_eq m c t _ 1 h a n L fun k => (ld_hi _ a k).trans ((read15 m c t a _).trans ?_)
      refine congrArg (fun k => m ((c.tc : Thread nD τ).loc main_arg0) (ix3 (bt t) _ k)) (Fin.ext ?_)
      show 4096 + (256 * (gr t).val + (128 + k.val)) = 4096 + (256 * (gr t).val + (128 * 1 + k.val))
      omega
  simp only [hr, read19, read20]
  exact L.kernelOut (bt t) (tok t a) (gr t) ⟨2 * p.val + h.val, by omega⟩ n

/-- The attention array after the call, as one function of the arguments. -/
theorem final
    (L : Laid (m ((c.tc : Thread nD τ).loc main_arg0)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14))) :
    (dats m 0 c).arrAt 25 cfg0.N = attnArr (m ((c.tc : Thread nD τ).loc main_arg0)) (m ((c.tc : Thread nD τ).loc main_arg10))
      (m ((c.tc : Thread nD τ).loc main_arg11)) (m ((c.tc : Thread nD τ).loc main_arg12)) (m ((c.tc : Thread nD τ).loc main_arg13))
      (m ((c.tc : Thread nD τ).loc main_arg14)) := by
  refine (dats m 0 c).arrAt_eq_of_covers 25 _ (by decide +kernel) fun t hf y => ?_
  blk_simp
  rw [after0_25]
  idx_vars y
  obtain rfl : y0 = 0 := Subsingleton.elim _ _
  obtain ⟨p, h, n, rfl⟩ : ∃ (p h : Fin 2) (n : Fin 64), y2 = (⟨128 * p.val + 64 * h.val + n.val, by omega⟩ : Fin 256) :=
    ⟨⟨y2.val / 128, by omega⟩, ⟨y2.val / 64 % 2, by omega⟩, ⟨y2.val % 64, by omega⟩,
      Fin.ext (by show y2.val = 128 * (y2.val / 128) + 64 * (y2.val / 64 % 2) + y2.val % 64; omega)⟩
  have e : (win0_25.blk t).view.emb (ix3 (0 : Fin 1) y1 (⟨128 * p.val + 64 * h.val + n.val, by omega⟩ : Fin 256))
      = ix3 (bt t) (tok t y1) (⟨256 * (gr t).val + 64 * (⟨2 * p.val + h.val, by omega⟩ : Fin 4).val + n.val, by omega⟩ : Fin 512) := by
    have ea : 128 * p.val + 64 * h.val + n.val = 64 * (2 * p.val + h.val) + n.val := by ring
    blk_ext [iblk, V, idx t, bt, gr, tok]
  have key : ∀ j : S4x4096x512.Idx, j = ix3 (bt t) (tok t y1) (⟨256 * (gr t).val + 64 * (⟨2 * p.val + h.val, by omega⟩ : Fin 4).val + n.val, by omega⟩ : Fin 512) →
      attnAt (m ((c.tc : Thread nD τ).loc main_arg0)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (bt t) (tok t y1) (gr t) ⟨2 * p.val + h.val, by omega⟩ n
      = attnArr (m ((c.tc : Thread nD τ).loc main_arg0)) (m ((c.tc : Thread nD τ).loc main_arg10))
      (m ((c.tc : Thread nD τ).loc main_arg11)) (m ((c.tc : Thread nD τ).loc main_arg12)) (m ((c.tc : Thread nD τ).loc main_arg13))
      (m ((c.tc : Thread nD τ).loc main_arg14)) j := by
    rintro _ rfl
    exact (attnArr_apply _ _ _ _ _ _ (bt t) (tok t y1) (gr t) ⟨2 * p.val + h.val, by omega⟩ n).symm
  exact (point_eq m c t p h y1 n L).trans (key _ e)

end Cert.KernelIdeal.Attn

end
-- ==== Proof.AttnRef.lean ====
/-
  The plain attention's result at an index.
-/
module

public import proofs.«01_k».proof.Proof.AttnSpec
public import proofs.«01_k».proof.Proof.Gen.ReferenceIdeal.Run

@[expose] public section

set_option maxRecDepth 16384

noncomputable section

open Idealize.ShloMosaic Idealize.ShloMosaic.TcCoe

namespace Cert.ReferenceIdeal.Attn

open Cert.ReferenceIdeal Cert.ReferenceIdeal.Gen Cert.ReferenceIdeal.Value Cert.AttnMath

/-- The queries' columns, by head. -/
def heads (x : FVec Ideal S4x4608x4864 .f32) : FVec Ideal S4x4096x8x64 .f32 :=
  shapeCast _ (extractStridedSlice S4x4096x512 ![0, 512, 4096] x slices_S4x4608x4864_S4x4096x512_0_512_4096) shapeCasts_S4x4096x512_S4x4096x8x64

/-- … normalized. -/
def normed (q : FVec Ideal S4x4096x8x64 .f32) (g : FVec Ideal S64 .f32) : FVec Ideal S4x4096x8x64 .f32 :=
  mulf (mulf q (broadcastInDim S4x4096x8x64 ![0, 1, 2, 3] bcast_S4x4096x8x1_S4x4096x8x64_0_1_2_3 (Host.rsqrt (addf (Host.divf (broadcastInDim S4x4096x8x1 ![0, 1, 2] bcast_S4x4096x8_S4x4096x8x1_0_1_2 (Host.reduceAdd (mulf q q) (constant S_ .f32 0x00000000#32) reducesTo_S4x4096x8x64_S4x4096x8_d3 h_S_)) (broadcastInDim S4x4096x8x1 ![] bcast_S_S4x4096x8x1 (constant S_ .f32 0x42800000#32))) (broadcastInDim S4x4096x8x1 ![] bcast_S_S4x4096x8x1 (constant S_ .f32 0x358637BD#32)))))) (broadcastInDim S4x4096x8x64 ![0, 1, 2, 3] bcast_S1x1x1x64_S4x4096x8x64_0_1_2_3 (broadcastInDim S1x1x1x64 ![3] bcast_S64_S1x1x1x64_3 g))

/-- A table, for every batch and head. -/
def table (c : FVec Ideal S4096x2x16 .f32) : FVec Ideal S4x4096x8x2x16 .f32 :=
  broadcastInDim S4x4096x8x2x16 ![0, 1, 2, 3, 4] bcast_S1x4096x1x2x16_S4x4096x8x2x16_0_1_2_3_4 (broadcastInDim S1x4096x1x2x16 ![1, 3, 4] bcast_S4096x2x16_S1x4096x1x2x16_1_3_4 c)

/-- The first and the second halves of each axis. -/
def lower (q : FVec Ideal S4x4096x8x64 .f32) : FVec Ideal S4x4096x8x2x16 .f32 :=
  shapeCast _ (extractStridedSlice S4x4096x8x2x1x16 ![0, 0, 0, 0, 0, 0] (shapeCast _ q shapeCasts_S4x4096x8x64_S4x4096x8x2x2x16) slices_S4x4096x8x2x2x16_S4x4096x8x2x1x16_0_0_0_0_0_0) shapeCasts_S4x4096x8x2x1x16_S4x4096x8x2x16

def upper (q : FVec Ideal S4x4096x8x64 .f32) : FVec Ideal S4x4096x8x2x16 .f32 :=
  shapeCast _ (extractStridedSlice S4x4096x8x2x1x16 ![0, 0, 0, 0, 1, 0] (shapeCast _ q shapeCasts_S4x4096x8x64_S4x4096x8x2x2x16) slices_S4x4096x8x2x2x16_S4x4096x8x2x1x16_0_0_0_0_1_0) shapeCasts_S4x4096x8x2x1x16_S4x4096x8x2x16

/-- The two halves side by side, as the heads of the two groups. -/
def paired (a b : FVec Ideal S4x4096x8x2x16 .f32) : FVec Ideal S4x4096x2x4x64 .f32 :=
  shapeCast _ (fn_main_v34 (F := Ideal) (broadcastInDim S4x4096x8x2x1x16 ![0, 1, 2, 3, 5] bcast_S4x4096x8x2x16_S4x4096x8x2x1x16_0_1_2_3_5 a)
    (broadcastInDim S4x4096x8x2x1x16 ![0, 1, 2, 3, 5] bcast_S4x4096x8x2x16_S4x4096x8x2x1x16_0_1_2_3_5 b)) shapeCasts_S4x4096x8x2x2x16_S4x4096x2x4x64

/-- … scaled. -/
def scaled (q : FVec Ideal S4x4096x2x4x64 .f32) : FVec Ideal S4x4096x2x4x64 .f32 :=
  mulf q (broadcastInDim S4x4096x2x4x64 ![] bcast_S_S4x4096x2x4x64 (constant S_ .f32 0x3E000000#32))

/-- The rotated and scaled queries. -/
def turned (q : FVec Ideal S4x4096x8x64 .f32) (c s : FVec Ideal S4096x2x16 .f32) : FVec Ideal S4x4096x2x4x64 .f32 :=
  scaled (paired (subf (mulf (lower q) (table c)) (mulf (upper q) (table s))) (addf (mulf (upper q) (table c)) (mulf (lower q) (table s))))

/-- The token rows of keys or of values. -/
def tokens (k : FVec Ideal S4x2x4224x128 .bf16) : FVec Ideal S4x2x4112x64 .f32 :=
  extf .f32 (extractStridedSlice S4x2x4112x64 ![0, 0, 112, 0] k slices_S4x2x4224x128_S4x2x4112x64_0_0_112_0) bitsLt_bf16_f32

/-- The scores. -/
def scores (q : FVec Ideal S4x4096x2x4x64 .f32) (k : FVec Ideal S4x2x4112x64 .f32) : FVec Ideal S4x2x4x4096x4112 .f32 :=
  transpose S4x2x4x4096x4112 [0, 1, 4, 3, 2] (Host.dotGeneral dot_S4x2x4112x64_S4x4096x2x4x64_S4x2x4112x4096x4_3_4_2_13_01_02 none k q) transposes_S4x2x4112x4096x4_S4x2x4x4096x4112_0_1_4_3_2

/-- The maximum of a row's scores. -/
def tops (s : FVec Ideal S4x2x4x4096x4112 .f32) : FVec Ideal S4x2x4x4096 .f32 :=
  Host.reduce FloatOps.maximumf s (constant S_ .f32 0xFF800000#32) reducesTo_S4x2x4x4096x4112_S4x2x4x4096_d4 h_S_

/-- The exponentials of the scores less their row's maximum. -/
def exps (s : FVec Ideal S4x2x4x4096x4112 .f32) (m : FVec Ideal S4x2x4x4096 .f32) : FVec Ideal S4x2x4x4096x4112 .f32 :=
  Host.exp (subf s (broadcastInDim S4x2x4x4096x4112 ![0, 1, 2, 3, 4] bcast_S4x2x4x4096x1_S4x2x4x4096x4112_0_1_2_3_4 (broadcastInDim S4x2x4x4096x1 ![0, 1, 2, 3] bcast_S4x2x4x4096_S4x2x4x4096x1_0_1_2_3 (maximumf (broadcastInDim S4x2x4x4096 ![] bcast_S_S4x2x4x4096 (constant S_ .f32 0xFF800000#32)) m))))

/-- The weights. -/
def weights (e : FVec Ideal S4x2x4x4096x4112 .f32) : FVec Ideal S4x2x4x4096x4112 .f32 :=
  Host.divf e (broadcastInDim S4x2x4x4096x4112 ![0, 1, 2, 3, 4] bcast_S4x2x4x4096x1_S4x2x4x4096x4112_0_1_2_3_4 (broadcastInDim S4x2x4x4096x1 ![0, 1, 2, 3] bcast_S4x2x4x4096_S4x2x4x4096x1_0_1_2_3 (Host.reduceAdd e (constant S_ .f32 0x00000000#32) reducesTo_S4x2x4x4096x4112_S4x2x4x4096_d4 h_S_)))

/-- The weighted values. -/
def mixed (v : FVec Ideal S4x2x4112x64 .f32) (p : FVec Ideal S4x2x4x4096x4112 .f32) : FVec Ideal S4x4096x512 .bf16 :=
  truncf .bf16 (shapeCast _ (transpose S4x4096x2x4x64 [0, 4, 1, 3, 2] (Host.dotGeneral dot_S4x2x4112x64_S4x2x4x4096x4112_S4x2x64x4x4096_2_4_3_23_01_01 none v p) transposes_S4x2x64x4x4096_S4x4096x2x4x64_0_4_1_3_2) shapeCasts_S4x4096x2x4x64_S4x4096x512) bitsLt_bf16_f32

variable (b : Fin 4) (t : Fin 4096) (g : Fin 2) (h : Fin 4)

theorem normed_apply (x : FVec Ideal S4x4608x4864 .f32) (G : FVec Ideal S64 .f32) (n : Fin 64) :
    normed (heads x) G (ix4 b t (⟨g.val * 4 + h.val, by omega⟩ : Fin 8) n)
      = normRow (fun i => x (ix3 b ⟨512 + t.val, by omega⟩ ⟨4096 + (256 * g.val + 64 * h.val + i.val), by omega⟩)) (fun i => G (ix1 i)) n := by
  have e : ∀ n : Fin 64, heads x (ix4 b t (⟨g.val * 4 + h.val, by omega⟩ : Fin 8) n)
      = x (ix3 b ⟨512 + t.val, by omega⟩ ⟨4096 + (256 * g.val + 64 * h.val + n.val), by omega⟩) := fun n => by
    have ea : 4096 + (256 * g.val + 64 * h.val + n.val) = 4096 + ((g.val * 4 + h.val) * 64 + n.val) := by ring
    simp only [ea]
    pointwise [heads]
  pointwise [normed, normRow, e]

theorem lower_apply (q : FVec Ideal S4x4096x8x64 .f32) (h : Fin 8) (a : Fin 2) (i : Fin 16) :
    lower q (ix5 b t h a i) = q (ix4 b t h (⟨a.val * 32 + i.val, by omega⟩ : Fin 64)) := by
  pointwise [lower]

theorem upper_apply (q : FVec Ideal S4x4096x8x64 .f32) (h : Fin 8) (a : Fin 2) (i : Fin 16) :
    upper q (ix5 b t h a i) = q (ix4 b t h (⟨a.val * 32 + 16 + i.val, by omega⟩ : Fin 64)) := by
  pointwise [upper]

theorem table_apply (c : FVec Ideal S4096x2x16 .f32) (h : Fin 8) (a : Fin 2) (i : Fin 16) :
    table c (ix5 b t h a i) = c (ix3 t a i) := by
  pointwise [table]

theorem paired_apply (x y : FVec Ideal S4x4096x8x2x16 .f32) (n : Fin 64) :
    paired x y (ix5 b t g h n) = if n.val / 16 % 2 < 1 then x (ix5 b t (⟨g.val * 4 + h.val, by omega⟩ : Fin 8) (⟨n.val / 32, by omega⟩ : Fin 2) (⟨n.val % 16, by omega⟩ : Fin 16))
      else y (ix5 b t (⟨g.val * 4 + h.val, by omega⟩ : Fin 8) (⟨n.val / 32, by omega⟩ : Fin 2) (⟨n.val % 16, by omega⟩ : Fin 16)) := by
  pointwise [paired, fn_main_v34]
  rfl

theorem scaled_apply (x : FVec Ideal S4x4096x2x4x64 .f32) (n : Fin 64) :
    scaled x (ix5 b t g h n) = (x (ix5 b t g h n) : EReal) * Ideal.ofBits .f32 0x3E000000#32 := by
  pointwise [scaled]

/-- The rotation of a normalized row, and the scale. -/
theorem turned_apply (x : FVec Ideal S4x4608x4864 .f32) (C S : FVec Ideal S4096x2x16 .f32) (G : FVec Ideal S64 .f32) (n : Fin 64) :
    turned (normed (heads x) G) C S (ix5 b t g h n) = queryAt x C S G b t g h n * ((1 / 8 : ℝ) : EReal) := by
  rw [turned, scaled_apply, ofBits_8th, paired_apply]
  refine congrArg (· * ((1 / 8 : ℝ) : EReal)) ?_
  unfold queryAt queryRow
  by_cases hn : n.val % 32 < 16
  · rw [if_pos (show n.val / 16 % 2 < 1 by omega), dif_pos hn]
    show _ * _ - _ * _ = _
    rw [lower_apply, upper_apply, table_apply, table_apply, normed_apply, normed_apply]
    have e0 : (⟨n.val / 32 * 32 + n.val % 16, by omega⟩ : Fin 64) = n := Fin.ext (by show n.val / 32 * 32 + n.val % 16 = n.val; omega)
    have e1 : (⟨n.val / 32 * 32 + 16 + n.val % 16, by omega⟩ : Fin 64) = ⟨n.val + 16, by omega⟩ := Fin.ext (by show n.val / 32 * 32 + 16 + n.val % 16 = n.val + 16; omega)
    rw [e0, e1]
  · rw [if_neg (show ¬ n.val / 16 % 2 < 1 by omega), dif_neg hn]
    show _ * _ + _ * _ = _
    rw [lower_apply, upper_apply, table_apply, table_apply, normed_apply, normed_apply]
    have e0 : (⟨n.val / 32 * 32 + n.val % 16, by omega⟩ : Fin 64) = ⟨n.val - 16, by omega⟩ := Fin.ext (by show n.val / 32 * 32 + n.val % 16 = n.val - 16; omega)
    have e1 : (⟨n.val / 32 * 32 + 16 + n.val % 16, by omega⟩ : Fin 64) = n := Fin.ext (by show n.val / 32 * 32 + 16 + n.val % 16 = n.val; omega)
    rw [e0, e1]

theorem tokens_apply (k : FVec Ideal S4x2x4224x128 .bf16) (j : Fin 4112) (n : Fin 64) :
    tokens k (ix4 b g j n) = k (ix4 b g (⟨112 + j.val, by omega⟩ : Fin 4224) (⟨n.val, by omega⟩ : Fin 128)) := by
  pointwise [tokens]

theorem scores_apply (q : FVec Ideal S4x4096x2x4x64 .f32) (k : FVec Ideal S4x2x4112x64 .f32) (j : Fin 4112) :
    scores q k (ix5 b g h t j) = ∑ n : Fin 64, k (ix4 b g j n) * q (ix5 b t g h n) := by
  pointwise [scores]

theorem tops_apply (s : FVec Ideal S4x2x4x4096x4112 .f32) :
    tops s (ix4 b g h t) = Finset.univ.fold max (Ideal.ofBits .f32 0xFF800000#32) fun j : Fin 4112 => (s (ix5 b g h t j) : EReal) := by
  pointwise [tops]

theorem exps_apply (s : FVec Ideal S4x2x4x4096x4112 .f32) (m : FVec Ideal S4x2x4x4096 .f32) (j : Fin 4112) :
    exps s m (ix5 b g h t j) = Ideal.exp (s (ix5 b g h t j) - max (Ideal.ofBits .f32 0xFF800000#32) (m (ix4 b g h t))) := by
  pointwise [exps]

theorem weights_apply (e : FVec Ideal S4x2x4x4096x4112 .f32) (j : Fin 4112) :
    weights e (ix5 b g h t j) = Ideal.div (e (ix5 b g h t j)) (∑ j : Fin 4112, (e (ix5 b g h t j) : EReal)) := by
  pointwise [weights]

theorem mixed_apply (v : FVec Ideal S4x2x4112x64 .f32) (p : FVec Ideal S4x2x4x4096x4112 .f32) (n : Fin 64) :
    mixed v p (ix3 b t (⟨256 * g.val + 64 * h.val + n.val, by omega⟩ : Fin 512)) = ∑ j : Fin 4112, v (ix4 b g j n) * p (ix5 b g h t j) := by
  pointwise [mixed]

/-- The plain attention's result is the array of `attnAt`. -/
theorem value (m : (ℓ : Loc nD τ sig) → Buf (Elt Ideal) ℓ) (c : Dev nD) :
    res_main_v58 m c = attnArr (m ((c.tc : Thread nD τ).loc main_arg0)) (m ((c.tc : Thread nD τ).loc main_arg10)) (m ((c.tc : Thread nD τ).loc main_arg11))
      (m ((c.tc : Thread nD τ).loc main_arg12)) (m ((c.tc : Thread nD τ).loc main_arg13)) (m ((c.tc : Thread nD τ).loc main_arg14)) := by
  have e : res_main_v58 m c = mixed (tokens (m ((c.tc : Thread nD τ).loc main_arg14))) (weights (exps
      (scores (turned (normed (heads (m ((c.tc : Thread nD τ).loc main_arg0))) (m ((c.tc : Thread nD τ).loc main_arg12)))
        (m ((c.tc : Thread nD τ).loc main_arg10)) (m ((c.tc : Thread nD τ).loc main_arg11))) (tokens (m ((c.tc : Thread nD τ).loc main_arg13))))
      (tops (scores (turned (normed (heads (m ((c.tc : Thread nD τ).loc main_arg0))) (m ((c.tc : Thread nD τ).loc main_arg12)))
        (m ((c.tc : Thread nD τ).loc main_arg10)) (m ((c.tc : Thread nD τ).loc main_arg11))) (tokens (m ((c.tc : Thread nD τ).loc main_arg13))))))) := rfl
  rw [e]
  funext j
  idx_vars j
  obtain ⟨g, h, n, rfl⟩ : ∃ (g : Fin 2) (h : Fin 4) (n : Fin 64), j2 = (⟨256 * g.val + 64 * h.val + n.val, by omega⟩ : Fin 512) :=
    ⟨⟨j2.val / 256, by omega⟩, ⟨j2.val / 64 % 4, by omega⟩, ⟨j2.val % 64, by omega⟩,
      Fin.ext (by show j2.val = 256 * (j2.val / 256) + 64 * (j2.val / 64 % 4) + j2.val % 64; omega)⟩
  rw [attnArr_apply, mixed_apply]
  unfold attnAt plainOut
  simp only [tokens_apply, weights_apply, exps_apply, tops_apply, scores_apply, turned_apply, ofBits_bot]

end Cert.ReferenceIdeal.Attn

end
-- ==== Proof.AttnPre.lean ====
/-
  What the attention claim's precondition says of the argument arrays.
-/
module

public import proofs.«01_k».proof.Proof.AttnSpec
public import proofs.«01_k».proof.Defs
public import proofs.«01_k».proof.Proof.Gen.Pre_laid_out

@[expose] public section

set_option maxRecDepth 16384

noncomputable section

open Idealize.ShloMosaic Idealize.ShloMosaic.TcCoe

namespace Cert.AttnMath

/-- A number whose absolute value lies below ⊤ is real. -/
theorem fin_of_abs {x : EReal} (h : FloatOps.cmpf (F := Ideal) (φ := .f32) .olt (FloatOps.absf (F := Ideal) (φ := .f32) x) (Ideal.ofBits .f32 0x7F800000#32) = 1#1) : Fin' x := by
  rw [ofBits_top] at h
  induction x with
  | bot =>
    change BitVec.ofBool (decide (max (⊥ : EReal) (-⊥) < ⊤)) = 1#1 at h
    simp at h
  | coe r => exact ⟨r, rfl⟩
  | top =>
    change BitVec.ofBool (decide (max (⊤ : EReal) (-⊤) < ⊤)) = 1#1 at h
    simp at h

theorem eq_of_cmp {x y : EReal} (h : FloatOps.cmpf (F := Ideal) (φ := .f32) .oeq x y = 1#1) : x = y := by
  change BitVec.ofBool (decide (x = y)) = 1#1 at h
  by_cases e : x = y
  · exact e
  · simp [e] at h

theorem ofBits_one : Ideal.ofBits .f32 0x3F800000#32 = 1 := by
  have : Ideal.ofBits .f32 0x3F800000#32 = ((1 : ℝ) : EReal) := by
    simp [Ideal.ofBits, Ideal.ieee, -EReal.coe_mul, -EReal.coe_one]
    norm_num
  exact this

/-- The precondition, read at every index. -/
theorem laid (m : (ℓ : Loc Cert.KernelIdeal.nD Cert.KernelIdeal.τ Cert.KernelIdeal.sig) → Buf (Elt Ideal) ℓ)
    (hp : Cert.Pre_KernelIdeal_laid_out (hPre_laid_out := Cert.Pre_laid_out.Gen.facts) m) (c : Dev Cert.KernelIdeal.nD) :
    Laid (m ((c.tc : Thread _ _).loc Cert.KernelIdeal.main_arg0)) (m ((c.tc : Thread _ _).loc Cert.KernelIdeal.main_arg10))
      (m ((c.tc : Thread _ _).loc Cert.KernelIdeal.main_arg11)) (m ((c.tc : Thread _ _).loc Cert.KernelIdeal.main_arg12))
      (m ((c.tc : Thread _ _).loc Cert.KernelIdeal.main_arg13)) (m ((c.tc : Thread _ _).loc Cert.KernelIdeal.main_arg14)) := by
  obtain ⟨h1, h2, h3, h4, h5, h6, h7, h8⟩ := hp c
  refine ⟨fun b t l => fin_of_abs ?_, fun j => fin_of_abs (congrFun h2 j), fun j => fin_of_abs (congrFun h3 j), fun j => fin_of_abs (congrFun h4 j),
    fun b g r n => fin_of_abs ?_, fun b g r hr => ?_, fun b g j => ?_, fun b g j => ?_⟩
  · refine Eq.trans ?_ (congrFun h1 (ix3 b t l))
    pointwise [Cert.Pre_laid_out.fn, Cert.Pre_laid_out.fn_part1]
  · refine Eq.trans ?_ (congrFun h5 (ix4 b g r n))
    pointwise [Cert.Pre_laid_out.fn, Cert.Pre_laid_out.fn_part1]
  · refine Eq.trans (eq_of_cmp (y := Ideal.ofBits .f32 0xFF800000#32) ?_) ofBits_bot
    refine Eq.trans ?_ (congrFun h6 (ix4 b g ⟨r.val, hr⟩ 0))
    pointwise [Cert.Pre_laid_out.fn, Cert.Pre_laid_out.fn_part1]
  · refine Eq.trans (eq_of_cmp (y := Ideal.ofBits .f32 0x00000000#32) ?_) (by simp [Ideal.ofBits, Ideal.ieee])
    refine Eq.trans ?_ (congrFun h7 (ix4 b g j 0))
    pointwise [Cert.Pre_laid_out.fn, Cert.Pre_laid_out.fn_part1]
  · refine Eq.trans (eq_of_cmp (y := Ideal.ofBits .f32 0x3F800000#32) ?_) ofBits_one
    refine Eq.trans ?_ (congrFun h8 (ix4 b g j 0))
    pointwise [Cert.Pre_laid_out.fn, Cert.Pre_laid_out.fn_part1]

end Cert.AttnMath

end
-- ==== Proof.AttnClaims.lean ====
/-
  The claims of the mixers' attention: the reference's frame, the named constant, and the equality of the two results.
-/
module

public import proofs.«01_k».proof.Proof.AttnValue
public import proofs.«01_k».proof.Proof.AttnRef
public import proofs.«01_k».proof.Proof.AttnPre
public import Idealize.ShloMosaic.Lib.Quiescent

@[expose] public section

noncomputable section

open Idealize.ShloMosaic Idealize.ShloMosaic.TcCoe

namespace Cert.Proof.AttnClaims

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_laid_out : Cert.quiescent_ReferenceIdeal_pre_laid_out := fun m ρ _ => frame_reference m ρ trivial

theorem preserves : Cert.preserves_Kernel_KernelIdeal :=
  IdealRules.named_const.statement _ _ _ _ _ rfl

/-- Both attentions end at `Cert.AttnMath.attnArr` of the arguments. -/
theorem algebraic : Cert.algebraic_KernelIdeal_ReferenceIdeal_pre_laid_out := by
  intro m ρ m' ρ' hp hagree
  refine ⟨fun c => (Cert.KernelIdeal.Mix.dats m 0 c).arrAt 25 Cert.KernelIdeal.cfg0.N, Cert.KernelIdeal.MixValue.run_blocks m ρ, ?_⟩
  refine (θ_run Cert.ReferenceIdeal.defs _ _).mono (fun r h c => ⟨(h c).1.trans ?_, (h c).2⟩)
    (Cert.ReferenceIdeal.Value.run (F := Ideal) m' ρ')
  refine Eq.trans ?_ (Cert.KernelIdeal.Attn.final m c (Cert.AttnMath.laid m hp c)).symm
  refine (Cert.ReferenceIdeal.Attn.value m' c).trans ?_
  obtain ⟨h0, h1, h2, h3, h4, h5, h6, h7, h8, h9, h10, h11, h12, h13, h14⟩ := hagree c
  simp only [← h0, ← h10, ← h11, ← h12, ← h13, ← h14]

end Cert.Proof.AttnClaims

end
-- ==== Proof.FfnValue.lean ====
/-
  The value of the feed-forward call: at extended reals, every row of the call's result is the reference's row.
-/
module

public import proofs.«01_k».proof.Proof.Gen.FfnIdeal.Value
public import proofs.«01_k».proof.Proof.Gen.FfnReferenceIdeal.Run
public import Idealize.ShloMosaic.Lib.Pointwise
public import Idealize.ShloMosaic.Lib.Pipeline.ValueKit
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.FfnSpec

/-- Root-mean-square normalization of a row of 1024 numbers, times a gain. -/
def normRow (x g : Fin 1024 → EReal) (l : Fin 1024) : EReal :=
  x l * Ideal.rsqrt (Ideal.div (∑ k, x k * x k) (Ideal.ofBits .f32 0x44800000#32) + Ideal.ofBits .f32 0x358637BD#32) * g l

/-- One added unit: the squared positive part of its product with the row. -/
def unit (x w : Fin 1024 → EReal) : EReal := max (∑ k, x k * w k) 0 * max (∑ k, x k * w k) 0

/-- The added layer's contribution to output `l`, over 4096 added units. -/
def added (x : Fin 1024 → EReal) (w1 : Fin 1024 → Fin 4096 → EReal) (w2 : Fin 4096 → Fin 1024 → EReal) (l : Fin 1024) : EReal :=
  ∑ j : Fin 4096, unit x (fun k => w1 k j) * w2 j l

/-- One row of the feed-forward layer: the residual added, and normalized again. -/
def row (h g : Fin 1024 → EReal) (w1 : Fin 1024 → Fin 4096 → EReal) (w2 : Fin 4096 → Fin 1024 → EReal) (gf : Fin 1024 → EReal)
    (l : Fin 1024) : EReal :=
  normRow (fun l => h l + added (normRow h g) w1 w2 l) gf l

/-- A sum over 4096 added units, cut into the eight blocks of 512 the call adds one after another. -/
theorem sum_blocks (f : Fin 4096 → EReal) :
    ∑ j, f j = (∑ j : Fin 512, f ⟨j, by omega⟩) + (∑ j : Fin 512, f ⟨512 + j, by omega⟩) + (∑ j : Fin 512, f ⟨1024 + j, by omega⟩)
      + (∑ j : Fin 512, f ⟨1536 + j, by omega⟩) + (∑ j : Fin 512, f ⟨2048 + j, by omega⟩) + (∑ j : Fin 512, f ⟨2560 + j, by omega⟩)
      + (∑ j : Fin 512, f ⟨3072 + j, by omega⟩) + (∑ j : Fin 512, f ⟨3584 + j, by omega⟩) := by
  rw [← Fin.sum_mul_add_fin (L := 4096) 8 512 f, Fin.sum_univ_eight]
  simp only [Fin.val_zero, zero_mul, Nat.zero_add]
  rfl

end Cert.FfnSpec

namespace Cert.FfnIdeal.Att

open Cert.FfnIdeal Cert.FfnIdeal.Gen Cert.FfnSpec

theorem pay2_apply (v0 : Vec Ideal S1024x1024 .f32) (v11 : Vec Ideal S1x1024 .f32) (a l : Fin 1024) :
    k0_pay2 v0 v11 (ix2 a l) = normRow (fun k => v0 (ix2 a k)) (fun k => v11 (ix2 0 k)) l := by
  pointwise [k0_pay2, normRow]

theorem pay3_apply (v0 : Vec Ideal S1024x1024 .f32) (v11 : Vec Ideal S1x1024 .f32) (v15 : Vec Ideal S1024x512 .bf16) (v21 : Vec Ideal S512x1024 .bf16) (v24 : Vec Ideal S1024x512 .bf16) (v30 : Vec Ideal S512x1024 .bf16) (a l : Fin 1024) :
    k0_pay3 v0 v11 v15 v21 v24 v30 (ix2 a l) = v0 (ix2 a l)
      + (∑ j : Fin 512, unit (fun k => k0_pay2 v0 v11 (ix2 a k)) (fun k => v15 (ix2 k j)) * v21 (ix2 j l))
      + (∑ j : Fin 512, unit (fun k => k0_pay2 v0 v11 (ix2 a k)) (fun k => v24 (ix2 k j)) * v30 (ix2 j l)) := by
  pointwise [k0_pay3, unit]

theorem pay4_apply (v0 : Vec Ideal S1024x1024 .f32) (v11 : Vec Ideal S1x1024 .f32) (v15 : Vec Ideal S1024x512 .bf16) (a : Fin 1024) (j : Fin 512) :
    k0_pay4 v0 v11 v15 (ix2 a j) = ∑ k, k0_pay2 v0 v11 (ix2 a k) * v15 (ix2 k j) := by
  pointwise [k0_pay4]

theorem pay5_apply (v14 : FVec Ideal S1024x1024 .bf16) (v32 : FVec Ideal S1024x1024 .f32) (v34 : FVec Ideal S1024x512 .f32)
    (v39 : Vec Ideal S512x1024 .bf16) (v42 : Vec Ideal S1024x512 .bf16) (v48 : Vec Ideal S512x1024 .bf16)
    (v51 : Vec Ideal S1024x512 .bf16) (v57 : Vec Ideal S512x1024 .bf16) (v60 : Vec Ideal S1024x512 .bf16)
    (v66 : Vec Ideal S512x1024 .bf16) (a l : Fin 1024) :
    k0_pay5 v14 v32 v34 v39 v42 v48 v51 v57 v60 v66 (ix2 a l) = v32 (ix2 a l)
      + (∑ j : Fin 512, max (v34 (ix2 a j)) 0 * max (v34 (ix2 a j)) 0 * v39 (ix2 j l))
      + (∑ j : Fin 512, unit (fun k => v14 (ix2 a k)) (fun k => v42 (ix2 k j)) * v48 (ix2 j l))
      + (∑ j : Fin 512, unit (fun k => v14 (ix2 a k)) (fun k => v51 (ix2 k j)) * v57 (ix2 j l))
      + (∑ j : Fin 512, unit (fun k => v14 (ix2 a k)) (fun k => v60 (ix2 k j)) * v66 (ix2 j l)) := by
  pointwise [k0_pay5, unit]

theorem pay1_apply (v14 : FVec Ideal S1024x1024 .bf16) (v68 : FVec Ideal S1024x1024 .f32)
    (v69 : Vec Ideal S1024x512 .bf16) (v75 : Vec Ideal S512x1024 .bf16) (v78 : Vec Ideal S1024x512 .bf16)
    (v84 : Vec Ideal S512x1024 .bf16) (v97 : Vec Ideal S1x1024 .f32) (a l : Fin 1024) :
    k0_pay1 v14 v68 v69 v75 v78 v84 v97 (ix2 a l) = normRow (fun l => v68 (ix2 a l)
      + (∑ j : Fin 512, unit (fun k => v14 (ix2 a k)) (fun k => v69 (ix2 k j)) * v75 (ix2 j l))
      + (∑ j : Fin 512, unit (fun k => v14 (ix2 a k)) (fun k => v78 (ix2 k j)) * v84 (ix2 j l))) (fun k => v97 (ix2 0 k)) l := by
  pointwise [k0_pay1, unit, normRow]

/-- What the body leaves in the result's block, at row `a` and column `l`. -/
theorem out_apply (x0 : Vec Ideal S1024x1024 .f32) (x1 : Vec Ideal S1x1024 .f32) (x2 : Vec Ideal S1024x4096 .bf16)
    (x3 : Vec Ideal S4096x1024 .bf16) (x4 : Vec Ideal S1x1024 .f32) (a l : Fin 1024) :
    out0_5 x0 x1 x2 x3 x4 (ix2 a l) = row (fun k => x0 (ix2 a k)) (fun k => x1 (ix2 0 k)) (fun k j => x2 (ix2 k j))
      (fun j l => x3 (ix2 j l)) (fun k => x4 (ix2 0 k)) l := by
  unfold out0_5
  rw [View.canon_unit_zero (by decide), pay1_apply]
  simp only [pay5_apply, pay3_apply, pay4_apply, k0_pay6, pay2_apply]
  unfold row added
  simp only [sum_blocks]
  pointwise
  simp only [unit, ← add_assoc]

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] := by decide +kernel

/-- The result array, as one function of the arguments. -/
theorem final (m : (ℓ : Loc nD τ sig) → Buf (Elt Ideal) ℓ) (c : Dev nD) :
    (dats m 0 c).arrAt 5 cfg0.N = fun j => row (fun k => m ((c.tc : Thread nD τ).loc main_arg0) (ix2 (j 0) k))
      (fun k => m ((c.tc : Thread nD τ).loc main_arg1) (ix2 0 k))
      (fun k j => m ((c.tc : Thread nD τ).loc main_arg2) (ix2 k j)) (fun j l => m ((c.tc : Thread nD τ).loc main_arg3) (ix2 j l))
      (fun k => m ((c.tc : Thread nD τ).loc main_arg4) (ix2 0 k)) (j 1) := by
  refine (dats m 0 c).arrAt_eq_of_covers 5 _ (by decide +kernel) fun t hf y => ?_
  blk_simp
  rw [after0_5]
  idx_vars y
  erw [out_apply]
  have ht : t.val < 16 := t.isLt
  have e : (win0_5.blk t).view.emb (ix2 y0 y1) = ix2 (⟨t.val * 1024 + y0.val, by omega⟩ : Fin 16384) y1 := by blk_ext [iblk, V, idx t]
  have e0 : ∀ k : Fin 1024, iblk m c 0 t (ix2 y0 k) = m ((c.tc : Thread nD τ).loc main_arg0)
      (ix2 (⟨t.val * 1024 + y0.val, by omega⟩ : Fin 16384) k) := fun k => by blk_ext [iblk, V, idx t]
  have e1 : ∀ k : Fin 1024, iblk m c 1 t (ix2 0 k) = m ((c.tc : Thread nD τ).loc main_arg1) (ix2 0 k) := fun k => by
    blk_ext [iblk, V, idx t]
  have e2 : ∀ (k : Fin 1024) (j : Fin 4096), iblk m c 2 t (ix2 k j) = m ((c.tc : Thread nD τ).loc main_arg2) (ix2 k j) := fun k j => by
    blk_ext [iblk, V, idx t]
  have e3 : ∀ (j : Fin 4096) (l : Fin 1024), iblk m c 3 t (ix2 j l) = m ((c.tc : Thread nD τ).loc main_arg3) (ix2 j l) := fun j l => by
    blk_ext [iblk, V, idx t]
  have e4 : ∀ k : Fin 1024, iblk m c 4 t (ix2 0 k) = m ((c.tc : Thread nD τ).loc main_arg4) (ix2 0 k) := fun k => by
    blk_ext [iblk, V, idx t]
  simp only [e0, e1, e2, e3, e4]
  erw [e]
  rfl

end Cert.FfnIdeal.Att

namespace Cert.FfnReferenceIdeal.Att

open Cert.FfnReferenceIdeal Cert.FfnReferenceIdeal.Gen Cert.FfnReferenceIdeal.Value Cert.FfnSpec

theorem res_apply (m : (ℓ : Loc nD τ sig) → Buf (Elt Ideal) ℓ) (c : Dev nD) (i : Fin 16384) (l : Fin 1024) :
    res_out0 m c (ix2 i l) = row (fun k => m ((c.tc : Thread nD τ).loc main_arg0) (ix2 i k))
      (fun k => m ((c.tc : Thread nD τ).loc main_arg1) (ix2 0 k))
      (fun k j => m ((c.tc : Thread nD τ).loc main_arg2) (ix2 k j)) (fun j l => m ((c.tc : Thread nD τ).loc main_arg3) (ix2 j l))
      (fun k => m ((c.tc : Thread nD τ).loc main_arg4) (ix2 0 k)) l := by
  unfold res_out0 res_main_v30
  clean_types
  pointwise [row, added, unit, normRow]

end Cert.FfnReferenceIdeal.Att
-- ==== Proof.InProjValue.lean ====
/- The input projection's call and its plain form compute the same projected frame: one row normalized and multiplied by
   the weights, the first 512 rows of each sequence being the meta frame and the others the sequence. -/
module

public import proofs.«01_k».proof.Proof.Gen.InProjIdeal.Value
public import proofs.«01_k».proof.Proof.Gen.InProjReferenceIdeal.Run
public import proofs.«01_k».proof.Proof.FfnValue

@[expose] public section

set_option maxRecDepth 16384

noncomputable section

open Idealize.ShloMosaic Idealize.ShloMosaic.TcCoe Idealize.SL.Sem
open Cert.FfnSpec (normRow)

namespace Cert.InProjSpec

/-- One projected entry: row `h` normalized with scales `g`, times a column of the weights. -/
def proj (h g : Fin 1024 → EReal) (w : Fin 1024 → EReal) : EReal := ∑ k, normRow h g k * w k

/-- Row `s` of a sequence with the meta frame in front. -/
def frameRow (f : Fin 512 → Fin 1024 → EReal) (x : Fin 4096 → Fin 1024 → EReal) (s : Fin 4608) (k : Fin 1024) : EReal :=
  if h : s.val < 512 then f ⟨s.val, h⟩ k else x ⟨s.val - 512, by omega⟩ k

end Cert.InProjSpec

namespace Cert.InProjIdeal.Att

open Cert.InProjIdeal Cert.InProjIdeal.Gen Cert.InProjSpec

theorem pay1_apply (v18 : FVec Ideal S256x1024 .bf16) (v37 : Vec Ideal S1024x4864 .bf16) (a : Fin 256) (l : Fin 4864) :
    k0_pay1 v18 v37 (ix3 0 a l) = ∑ k : Fin 1024, v18 (ix2 a k) * v37 (ix2 k l) := by
  pointwise [k0_pay1]

theorem pay2_apply (v18 : FVec Ideal S256x1024 .bf16) (v37 : Vec Ideal S1024x4864 .bf16) (a : Fin 256) (l : Fin 4864) :
    k0_pay2 v18 v37 (ix3 0 a l) = ∑ k : Fin 1024, v18 (ix2 a k) * v37 (ix2 k l) := by
  pointwise [k0_pay2]

theorem pay3_apply (i : grid0.Coords) (v1 : Vec Ideal S256x1024 .f32) (v2 : Vec Ideal S1x256x1024 .f32) (v15 : Vec Ideal S1x1024 .f32)
    (a : Fin 256) (l : Fin 1024) :
    k0_pay3 i v1 v2 v15 (ix2 a l) = normRow (fun k => if (i 1).val = 0 then v1 (ix2 a k) else v2 (ix3 0 a k)) (fun k => v15 (ix2 0 k)) l := by
  have h9 : (i 1).val < 9 := (i 1).isLt
  by_cases h : (i 1).val = 0
  · pointwise [k0_pay3, normRow, h]
  · have : Scalar.cmpi .eq (BitVec.ofNat 32 (i 1).val) 0#32 = 0#1 := by
      have : ¬ BitVec.ofNat 32 (i 1).val = 0#32 := by bv_omega
      simp only [Scalar.cmpi, IntOp.cmpi, beq_eq_false_iff_ne.mpr this]
      rfl
    pointwise [k0_pay3, normRow, h, this]

theorem pay4_apply (i : grid0.Coords) (v1 : Vec Ideal S256x1024 .f32) (v2 : Vec Ideal S1x256x1024 .f32) (v15 : Vec Ideal S1x1024 .f32)
    (a : Fin 256) (l : Fin 1024) :
    k0_pay4 i v1 v2 v15 (ix2 a l) = normRow (fun k => if (i 1).val = 0 then v1 (ix2 a k) else v2 (ix3 0 a k)) (fun k => v15 (ix2 0 k)) l := by
  have h9 : (i 1).val < 9 := (i 1).isLt
  by_cases h : (i 1).val = 0
  · pointwise [k0_pay4, normRow, h]
  · have : Scalar.cmpi .eq (BitVec.ofNat 32 (i 1).val) 0#32 = 0#1 := by
      have : ¬ BitVec.ofNat 32 (i 1).val = 0#32 := by bv_omega
      simp only [Scalar.cmpi, IntOp.cmpi, beq_eq_false_iff_ne.mpr this]
      rfl
    pointwise [k0_pay4, normRow, h, this]

/-- What the body leaves in the result's block, at row `a` and column `l`. -/
theorem out_apply (i : grid0.Coords) (x0 : Vec Ideal S512x1024 .f32) (x1 : Vec Ideal S1x512x1024 .f32) (x2 : Vec Ideal S1x1024 .f32)
    (x3 : Vec Ideal S1024x4864 .bf16) (a : Fin 512) (l : Fin 4864) :
    out0_4 i x0 x1 x2 x3 (ix3 0 a l) = proj (fun k => if (i 1).val = 0 then x0 (ix2 a k) else x1 (ix3 0 a k)) (fun k => x2 (ix2 0 k))
      (fun k => x3 (ix2 k l)) := by
  unfold out0_4
  canon_tiles x h
  · idx_vars x
    have hb : 256 + x1.val < 512 := by clear h1; omega
    obtain rfl : a = ⟨256 + x1.val, hb⟩ := Fin.ext h1
    obtain rfl : l = x2 := Fin.ext h2
    obtain rfl : x0 = 0 := Fin.ext (by omega)
    rw [pay2_apply]
    simp only [pay4_apply, proj]
    pointwise
  · idx_vars x
    have hb : x1.val < 512 := by clear h1; omega
    obtain rfl : a = ⟨x1.val, hb⟩ := Fin.ext h1
    obtain rfl : l = x2 := Fin.ext h2
    obtain rfl : x0 = 0 := Fin.ext (by omega)
    rw [pay1_apply]
    simp only [pay3_apply, proj]
    pointwise

theorem idx : ∀ t : Fin cfg0.N, win0_0.index t = ![0, 0] ∧ win0_1.index t = ![t.val / 9, t.val % 9 - 1, 0] ∧ win0_2.index t = ![0, 0]
    ∧ win0_3.index t = ![0, 0] ∧ win0_4.index t = ![t.val / 9, t.val % 9, 0] ∧ (grid0.coords t 1).val = t.val % 9 := by decide +kernel

/-- The result array, as one function of the arguments. -/
theorem final (m : (ℓ : Loc nD τ sig) → Buf (Elt Ideal) ℓ) (c : Dev nD) :
    (dats m 0 c).arrAt 4 cfg0.N = fun j => proj (frameRow (fun s k => m ((c.tc : Thread nD τ).loc main_arg0) (ix2 s k))
      (fun s k => m ((c.tc : Thread nD τ).loc main_arg1) (ix3 (j 0) s k)) (j 1))
      (fun k => m ((c.tc : Thread nD τ).loc main_arg2) (ix2 0 k)) (fun k => m ((c.tc : Thread nD τ).loc main_arg3) (ix2 k (j 2))) := by
  refine (dats m 0 c).arrAt_eq_of_covers 4 _ (by decide +kernel) fun t hf y => ?_
  blk_simp
  rw [after0_4]
  idx_vars y
  obtain rfl : y0 = 0 := Subsingleton.elim _ _
  erw [out_apply]
  have ht : t.val < 36 := t.isLt
  have e : (win0_4.blk t).view.emb (ix3 (0 : Fin 1) y1 y2)
      = ix3 (⟨t.val / 9, by omega⟩ : Fin 4) (⟨t.val % 9 * 512 + y1.val, by omega⟩ : Fin 4608) y2 := by blk_ext [iblk, V, idx t]
  have e0 : ∀ k : Fin 1024, (if (grid0.coords t 1).val = 0 then iblk m c 0 t (ix2 y1 k) else iblk m c 1 t (ix3 0 y1 k))
      = frameRow (fun s k => m ((c.tc : Thread nD τ).loc main_arg0) (ix2 s k))
        (fun s k => m ((c.tc : Thread nD τ).loc main_arg1) (ix3 (⟨t.val / 9, by omega⟩ : Fin 4) s k))
        (⟨t.val % 9 * 512 + y1.val, by omega⟩ : Fin 4608) k := fun k => by
    rw [(idx t).2.2.2.2.2]
    by_cases h : t.val % 9 = 0
    · rw [if_pos h, frameRow, dif_pos (show t.val % 9 * 512 + y1.val < 512 by omega)]
      blk_ext [iblk, V, idx t]
    · rw [if_neg h, frameRow, dif_neg (show ¬ t.val % 9 * 512 + y1.val < 512 by omega)]
      blk_ext [iblk, V, idx t]
  have e2 : ∀ k : Fin 1024, iblk m c 2 t (ix2 0 k) = m ((c.tc : Thread nD τ).loc main_arg2) (ix2 0 k) := fun k => by
    blk_ext [iblk, V, idx t]
  have e3 : ∀ k : Fin 1024, iblk m c 3 t (ix2 k y2) = m ((c.tc : Thread nD τ).loc main_arg3) (ix2 k y2) := fun k => by
    blk_ext [iblk, V, idx t]
  simp only [e0, e2, e3]
  have key : ∀ j : S4x4608x4864.Idx, j = ix3 (⟨t.val / 9, by omega⟩ : Fin 4) (⟨t.val % 9 * 512 + y1.val, by omega⟩ : Fin 4608) y2 →
      proj (frameRow (fun s k => m ((c.tc : Thread nD τ).loc main_arg0) (ix2 s k))
        (fun s k => m ((c.tc : Thread nD τ).loc main_arg1) (ix3 (⟨t.val / 9, by omega⟩ : Fin 4) s k))
        (⟨t.val % 9 * 512 + y1.val, by omega⟩ : Fin 4608))
        (fun k => m ((c.tc : Thread nD τ).loc main_arg2) (ix2 0 k)) (fun k => m ((c.tc : Thread nD τ).loc main_arg3) (ix2 k y2))
      = proj (frameRow (fun s k => m ((c.tc : Thread nD τ).loc main_arg0) (ix2 s k))
        (fun s k => m ((c.tc : Thread nD τ).loc main_arg1) (ix3 (j 0) s k)) (j 1))
        (fun k => m ((c.tc : Thread nD τ).loc main_arg2) (ix2 0 k)) (fun k => m ((c.tc : Thread nD τ).loc main_arg3) (ix2 k (j 2))) := by
    rintro _ rfl
    rfl
  exact key _ e

end Cert.InProjIdeal.Att

namespace Cert.InProjReferenceIdeal.Att

open Cert.InProjReferenceIdeal Cert.InProjReferenceIdeal.Gen Cert.InProjReferenceIdeal.Value Cert.InProjSpec

theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17) = (fun j => proj (frameRow (fun s k => m ((c.tc : Thread nD τ).loc main_arg0) (ix2 s k))
        (fun s k => m ((c.tc : Thread nD τ).loc main_arg1) (ix3 (j 0) s k)) (j 1))
        (fun k => m ((c.tc : Thread nD τ).loc main_arg2) (ix2 0 k)) (fun k => m ((c.tc : Thread nD τ).loc main_arg3) (ix2 k (j 2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨by
    rw [(h c).1]
    funext i
    idx_vars i
    clean_types
    by_cases hi : i1.val < 512
    · pointwise [proj, normRow, frameRow, hi]
    · pointwise [proj, normRow, frameRow, hi], (h c).2⟩) (run m ρ)

end Cert.InProjReferenceIdeal.Att
-- ==== Proof.SideClaims.lean ====
/- The claims of the two dense calls, the input projection and the channel mix: each idealized call and its reference
   end with the same array, and each reference runs. -/
module

public import proofs.«01_k».proof.Defs
public import proofs.«01_k».proof.Proof.FfnValue
public import proofs.«01_k».proof.Proof.InProjValue
public import Idealize.ShloMosaic.Lib.Quiescent

@[expose] public section

noncomputable section

open Idealize.ShloMosaic Idealize.ShloMosaic.TcCoe

namespace Cert.Proof.FfnClaims

theorem frame_reference : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

theorem preserves : Cert.preserves_Ffn_FfnIdeal := trivial

/-- Both channel mixes end at `Cert.FfnSpec.row` of each row of their arguments. -/
theorem algebraic : Cert.algebraic_FfnIdeal_FfnReferenceIdeal := by
  intro m ρ m' ρ' _ hagree
  refine ⟨fun c => (Cert.FfnIdeal.Gen.dats m 0 c).arrAt 5 Cert.FfnIdeal.cfg0.N, Cert.FfnIdeal.Value.run_blocks m ρ, ?_⟩
  refine (θ_run Cert.FfnReferenceIdeal.defs _ _).mono (fun r h c => ⟨(h c).1.trans ?_, (h c).2⟩)
    (Cert.FfnReferenceIdeal.Value.run (F := Ideal) m' ρ')
  refine Eq.trans ?_ (Cert.FfnIdeal.Att.final m c).symm
  funext j
  obtain ⟨h0, h1, h2, h3, h4⟩ := hagree c
  simp only [← h0, ← h1, ← h2, ← h3, ← h4]
  idx_vars j
  exact Cert.FfnReferenceIdeal.Att.res_apply m' c j0 j1

end Cert.Proof.FfnClaims

namespace Cert.Proof.InProjClaims

theorem frame_reference : Cert.quiescent_InProjReferenceIdeal := fun m ρ _ =>
  (θ_run Cert.InProjReferenceIdeal.defs _ _).mono (fun r h => ⟨fun c => (h c).2, sem_eq_zero_of_no_sems (by decide) r.2⟩)
    (Cert.InProjReferenceIdeal.Value.run (F := Ideal) m ρ)

theorem preserves : Cert.preserves_InProj_InProjIdeal := trivial

/-- Both projections end at `Cert.InProjSpec.proj` of each row of the frame of meta tokens and input rows. -/
theorem algebraic : Cert.algebraic_InProjIdeal_InProjReferenceIdeal := by
  intro m ρ m' ρ' _ hagree
  refine ⟨fun c => (Cert.InProjIdeal.Gen.dats m 0 c).arrAt 4 Cert.InProjIdeal.cfg0.N, Cert.InProjIdeal.Value.run_blocks m ρ, ?_⟩
  refine (θ_run Cert.InProjReferenceIdeal.defs _ _).mono (fun r h c => ⟨(h c).1.trans ?_, (h c).2⟩)
    (Cert.InProjReferenceIdeal.Att.run_value m' ρ')
  refine Eq.trans ?_ (Cert.InProjIdeal.Att.final m c).symm
  obtain ⟨h0, h1, h2, h3⟩ := hagree c
  simp only [← h0, ← h1, ← h2, ← h3]
  rfl

end Cert.Proof.InProjClaims

end
-- ==== Proof.KvSpec.lean ====
/-
  What the keys' and values' call computes: the two banks, as functions of the projected rows, the tables and the gain.
-/
module

public import proofs.«01_k».proof.Proof.AttnMath
public import Idealize.ShloMosaic.Lib.Pointwise

@[expose] public section

noncomputable section

open Idealize.ShloMosaic Cert.AttnMath

namespace Cert.KvSpec

abbrev Rows : Shape := ⟨3, ![4, 4608, 4864]⟩
abbrev Table : Shape := ⟨3, ![4224, 2, 16]⟩
abbrev Gain : Shape := ⟨1, ![64]⟩
abbrev Bank : Shape := ⟨4, ![4, 2, 4224, 128]⟩

/-- A lane of a bank of keys: the key's 64 numbers, the mask of the first 112 rows, and zeros. -/
def keyLane (k : Fin 64 → EReal) (r l : ℕ) : EReal :=
  if h : l < 64 then k ⟨l, h⟩ else if l = 64 ∧ r < 112 then ⊥ else 0

/-- A lane of a bank of values: the value's 64 numbers, a one, and zeros. -/
def valueLane (v : Fin 64 → EReal) (l : ℕ) : EReal :=
  if h : l < 64 then v ⟨l, h⟩ else if l = 64 then 1 else 0

/-- The key of row `r` of batch `b`, group `g`: normalized and rotated. -/
def keyAt (X : Rows.Idx → EReal) (C S : Table.Idx → EReal) (G : Gain.Idx → EReal) (b : Fin 4) (g : Fin 2) (r : Fin 4224) : Fin 64 → EReal :=
  queryRow (fun i => X (ix3 b ⟨384 + r.val, by omega⟩ ⟨4608 + (64 * g.val + i.val), by omega⟩))
    (fun i => G (ix1 i)) (fun a i => C (ix3 r a i)) (fun a i => S (ix3 r a i))

/-- … and its value. -/
def valueAt (X : Rows.Idx → EReal) (b : Fin 4) (g : Fin 2) (r : Fin 4224) : Fin 64 → EReal :=
  fun i => X (ix3 b ⟨384 + r.val, by omega⟩ ⟨4736 + (64 * g.val + i.val), by omega⟩)

def keyBank (X : Rows.Idx → EReal) (C S : Table.Idx → EReal) (G : Gain.Idx → EReal) : Bank.Idx → EReal := fun j =>
  keyLane (keyAt X C S G (j 0) (j 1) (j 2)) (j 2).val (j 3).val

def valueBank (X : Rows.Idx → EReal) : Bank.Idx → EReal := fun j => valueLane (valueAt X (j 0) (j 1) (j 2)) (j 3).val

end Cert.KvSpec

end
-- ==== Proof.KvCore.lean ====
/-
  One block of the keys' and values' call, as vector operations on the loaded blocks, and what it holds at an index.
-/
module

public import proofs.«01_k».proof.Proof.Gen.KvPrepIdeal.Value
public import proofs.«01_k».proof.Proof.AttnCore
public import proofs.«01_k».proof.Proof.KvSpec
public import Idealize.ShloMosaic.Lib.Pipeline.ValueKit

@[expose] public section

set_option maxRecDepth 16384

noncomputable section

open Idealize.ShloMosaic Idealize.ShloMosaic.TcCoe

namespace Cert.KvPrepIdeal.Keys

open Cert.KvPrepIdeal Cert.KvPrepIdeal.Gen Cert.AttnMath Cert.KvSpec
open Cert.KernelIdeal.Attn (means means_apply select_lt select_eq)

/-! ## The operations -/

/-- Both groups' keys, each normalized over its 64 lanes and times the gain. -/
def normed (x : FVec Ideal S384x128 .f32) (g : FVec Ideal S1x128 .f32) : FVec Ideal S384x128 .f32 :=
  let xx := mulf x x
  let hi := truncf .bf16 xx bitsLt_bf16_f32
  let lo := truncf .bf16 (subf xx (extf .f32 hi bitsLt_bf16_f32)) bitsLt_bf16_f32
  mulf (mulf x (rsqrt (addf (addf (matmul dot_S384x128_S128x128_S384x128_1_0_0_1_n_n none hi means (constant S384x128 .f32 0x00000000#32))
    (matmul dot_S384x128_S128x128_S384x128_1_0_0_1_n_n none lo means (constant S384x128 .f32 0x00000000#32)))
    (broadcast S384x128 (Scalar.ofBits (F := Ideal) .f32 0x358637BD#32))))) (broadcastTo S384x128 g broadcasts_S1x128_S384x128)

/-- Whether a lane is in the first half of its group of 32. -/
def firstHalf : IVec S384x128 1 :=
  let r : IVec S384x128 32 := remsi (iota .tc S384x128 32 [1] iota_S384x128_d1_w32) (broadcast S384x128 32#32)
  let z : IVec S384x128 32 := broadcast S384x128 0#32
  cmpi .slt (select (andi (xori (cmpi .slt r z) (broadcastTo S384x128 (broadcast S384x128 0#1) broadcasts_S384x128_S384x128)) (cmpi .ne r z))
    (addi r (broadcast S384x128 32#32)) r) (broadcast S384x128 16#32)

/-- Both groups' keys, rotated. -/
def rotated (y c s : FVec Ideal S384x128 .f32) : FVec Ideal S384x128 .f32 :=
  addf (mulf y c) (mulf (select firstHalf (dynamicRotate 1 112#32 none y rotates_S384x128_d1) (dynamicRotate 1 16#32 none y rotates_S384x128_d1)) s)

/-- The 64 lanes of `x` and the other lanes of `e`. -/
def lanes (x e : FVec Ideal S384x128 .f32) : FVec Ideal S1x1x384x128 .bf16 :=
  shapeCast S1x1x384x128 (truncf .bf16 (select (cmpi .slt (iota .tc S384x128 32 [1] iota_S384x128_d1_w32) (broadcast S384x128 64#32)) x e) bitsLt_bf16_f32)
    shapeCasts_S384x128_S1x1x384x128

/-- The second half of the lanes in front. -/
def turned (x : FVec Ideal S384x128 .f32) : FVec Ideal S384x128 .f32 := dynamicRotate 1 64#32 none x rotates_S384x128_d1

/-! ## At an index -/

theorem normed_apply (x : FVec Ideal S384x128 .f32) (g : FVec Ideal S1x128 .f32) (G : Fin 64 → EReal) (a : Fin 384) (h : Fin 2) (n : Fin 64)
    (hx : ∀ k, Fin' (x (ix2 a k))) (hg : ∀ n : Fin 64, g (ix2 0 ⟨64 * h.val + n.val, by omega⟩) = G n) :
    normed x g (ix2 a ⟨64 * h.val + n.val, by omega⟩) = normRow (fun j => x (ix2 a ⟨64 * h.val + j.val, by omega⟩)) G n := by
  have e : (64 * h.val + n.val) / 64 = h.val := by omega
  pointwise [normed]
  simp only [means_apply, e]
  rw [mean_half (fun k => x (ix2 a k)) hx h, hg]
  rfl

theorem firstHalf_apply (a : Fin 384) (l : Fin 128) : firstHalf (ix2 a l) = if l.val % 32 < 16 then 1#1 else 0#1 := by
  pointwise [firstHalf]
  revert l; decide

theorem rotated_apply (x : FVec Ideal S384x128 .f32) (g : FVec Ideal S1x128 .f32) (c s : FVec Ideal S384x128 .f32)
    (G : Fin 64 → EReal) (C S : Fin 2 → Fin 16 → EReal) (a : Fin 384) (h : Fin 2) (n : Fin 64)
    (hx : ∀ k, Fin' (x (ix2 a k))) (hg : ∀ n : Fin 64, g (ix2 0 ⟨64 * h.val + n.val, by omega⟩) = G n)
    (hc : c (ix2 a ⟨64 * h.val + n.val, by omega⟩) = C ⟨n.val / 32, by omega⟩ ⟨n.val % 16, by omega⟩)
    (hs : s (ix2 a ⟨64 * h.val + n.val, by omega⟩)
      = if n.val % 32 < 16 then - S ⟨n.val / 32, by omega⟩ ⟨n.val % 16, by omega⟩ else S ⟨n.val / 32, by omega⟩ ⟨n.val % 16, by omega⟩) :
    rotated (normed x g) c s (ix2 a ⟨64 * h.val + n.val, by omega⟩)
      = queryRow (fun j => x (ix2 a ⟨64 * h.val + j.val, by omega⟩)) G C S n := by
  have e : (64 * h.val + n.val) % 32 = n.val % 32 := by omega
  pointwise [rotated]
  rw [hc, hs, firstHalf_apply, normed_apply x g G a h n hx hg]
  unfold queryRow
  by_cases hn : n.val % 32 < 16
  · have e1 : (⟨(64 * h.val + n.val + 128 - 112) % 128, Nat.mod_lt _ (by norm_num)⟩ : Fin 128)
        = ⟨64 * h.val + (⟨n.val + 16, by omega⟩ : Fin 64).val, by simp only; omega⟩ := Fin.ext (by simp only; omega)
    rw [dif_pos hn, if_pos hn]
    simp only [e, hn, if_true]
    rw [show ∀ u v : EReal, Scalar.select 1#1 u v = u from fun _ _ => rfl, e1, normed_apply x g G a h _ hx hg, mul_neg, ← sub_eq_add_neg]
  · have e1 : (⟨(64 * h.val + n.val + 128 - 16) % 128, Nat.mod_lt _ (by norm_num)⟩ : Fin 128)
        = ⟨64 * h.val + (⟨n.val - 16, by omega⟩ : Fin 64).val, by simp only; omega⟩ := Fin.ext (by simp only; omega)
    rw [dif_neg hn, if_neg hn]
    simp only [e, hn, if_false]
    rw [show ∀ u v : EReal, Scalar.select 0#1 u v = v from fun _ _ => rfl, e1, normed_apply x g G a h _ hx hg]

theorem lanes_apply (x e : FVec Ideal S384x128 .f32) (a : Fin 384) (l : Fin 128) :
    lanes x e (ix4 0 0 a l) = if l.val < 64 then x (ix2 a l) else e (ix2 a l) := by
  pointwise [lanes]
  rw [select_lt]

theorem turned_apply (x : FVec Ideal S384x128 .f32) (a : Fin 384) (l : Fin 128) :
    turned x (ix2 a l) = x (ix2 a ⟨(l.val + 64) % 128, Nat.mod_lt _ (by norm_num)⟩) := by
  pointwise [turned]
  exact congrArg (fun k => x (ix2 a k)) (Fin.ext (by simp only; omega))

theorem mask : Named.named (F := Ideal) κ "mask" (φ := .f32) 0xF149F2CA#32 = (⊥ : EReal) :=
  IdealRules.named_const.ideal_named_scalar _ _ _ _ rfl

/-- The extra lanes beside the keys of the block's row `a`, in block `p` of 384 rows. -/
theorem extra_key (p : Fin 11) (a : Fin 384) (l : Fin 128) :
    k0_pay19 (F := Ideal) (BitVec.ofNat 32 p.val) (ix2 a l) = if l.val = 64 ∧ 384 * p.val + a.val < 112 then ⊥ else 0 := by
  pointwise [k0_pay19, k0_pay18]
  rw [mask]
  have hl : IntOp.cmpi CmpIPredicate.eq (BitVec.ofNat 32 l.val) 64#32 = if l.val = 64 then 1#1 else 0#1 := by
    revert l; decide
  have hr : IntOp.cmpi CmpIPredicate.slt (IntOp.addi (BitVec.ofNat 32 a.val) (Scalar.muli (BitVec.ofNat 32 p.val) 384#32)) 112#32
      = if 384 * p.val + a.val < 112 then 1#1 else 0#1 := by
    revert p a; decide
  rw [hl, hr]
  by_cases h1 : l.val = 64 <;> by_cases h2 : 384 * p.val + a.val < 112 <;> simp [h1, h2] <;> rfl

/-- The extra lanes beside the values. -/
theorem extra_value (a : Fin 384) (l : Fin 128) :
    k0_pay20 (F := Ideal) (ix2 a l) = if l.val = 64 then (1 : EReal) else 0 := by
  pointwise [k0_pay20, k0_pay18]
  rw [select_eq]

/-! ## What a point stores -/

variable (i : grid0.Coords) (x0 x1 : Vec Ideal S1x384x128 .f32) (x2 x3 : Vec Ideal S384x128 .f32) (x4 : Vec Ideal S1x128 .f32)

/-- The block's keys before the extra lanes. -/
def keys (x : Vec Ideal S1x384x128 .f32) (c s : Vec Ideal S384x128 .f32) (g : Vec Ideal S1x128 .f32) : FVec Ideal S384x128 .f32 :=
  rotated (normed (shapeCast S384x128 x shapeCasts_S1x384x128_S384x128) (shapeCast S1x128 g shapeCasts_S1x128_S1x128))
    (shapeCast S384x128 c shapeCasts_S384x128_S384x128) (shapeCast S384x128 s shapeCasts_S384x128_S384x128)

theorem pay12_eq (x : Vec Ideal S1x384x128 .f32) (g : Vec Ideal S1x128 .f32) :
    k0_pay12 (F := Ideal) k0_pay5 k0_pay6 k0_pay7 k0_pay8 k0_pay9 x g
      = normed (shapeCast S384x128 x shapeCasts_S1x384x128_S384x128) (shapeCast S1x128 g shapeCasts_S1x128_S1x128) := rfl

theorem pay16_eq (y c s : FVec Ideal S384x128 .f32) :
    k0_pay16 (F := Ideal) c s y (Scalar.select (Scalar.cmpi .eq 32#32 0#32) 1#32 32#32) k0_pay13 k0_pay14 k0_pay15 = rotated y c s := rfl

/-- The blocks of the two groups, as stored. -/
def pieces (a b : FVec Ideal S1x1x384x128 .bf16) : Vec Ideal S1x2x384x128 .bf16 := View.canon [⟨r0_4, b⟩, ⟨r0_3, a⟩]

theorem out5_eq : out0_5 i x0 x1 x2 x3 x4
    = pieces (lanes (keys (View.ld x0 r0_0) (View.ld x2 r0_2) (View.ld x3 r0_2) (View.ld x4 r0_1)) (k0_pay19 (F := Ideal) (BitVec.ofNat 32 (i 1).val)))
        (lanes (turned (keys (View.ld x0 r0_0) (View.ld x2 r0_2) (View.ld x3 r0_2) (View.ld x4 r0_1))) (k0_pay19 (F := Ideal) (BitVec.ofNat 32 (i 1).val))) := by
  unfold_out out0_5
  rw [pay12_eq, pay16_eq]
  rfl

theorem out6_eq : out0_6 i x0 x1 x2 x3 x4
    = pieces (lanes (shapeCast S384x128 (View.ld x1 r0_0) shapeCasts_S1x384x128_S384x128) (k0_pay20 (F := Ideal)))
        (lanes (turned (shapeCast S384x128 (View.ld x1 r0_0) shapeCasts_S1x384x128_S384x128)) (k0_pay20 (F := Ideal))) := by
  unfold_out out0_6
  rfl

theorem pieces_apply (p q : FVec Ideal S1x1x384x128 .bf16) (g : Fin 2) (a : Fin 384) (l : Fin 128) :
    pieces p q (ix4 0 g a l) = if g = 0 then p (ix4 0 0 a l) else q (ix4 0 0 a l) := by
  unfold pieces
  canon_tiles x h
  · idx_vars x
    obtain rfl : x0 = 0 := Subsingleton.elim _ _
    obtain rfl : x1 = 0 := Subsingleton.elim _ _
    obtain rfl : g = 1 := Fin.ext (by simpa using h1)
    obtain rfl : a = x2 := Fin.ext h2
    obtain rfl : l = x3 := Fin.ext h3
    rfl
  · idx_vars x
    obtain rfl : x0 = 0 := Subsingleton.elim _ _
    obtain rfl : x1 = 0 := Subsingleton.elim _ _
    obtain rfl : g = 0 := Fin.ext (by simpa using h1)
    obtain rfl : a = x2 := Fin.ext h2
    obtain rfl : l = x3 := Fin.ext h3
    rfl

/-- The first group's rows in front, the second group's turned to the front. -/
theorem groups_apply (y e : FVec Ideal S384x128 .f32) (g : Fin 2) (a : Fin 384) (l : Fin 128) :
    pieces (lanes y e) (lanes (turned y) e) (ix4 0 g a l)
      = if h : l.val < 64 then y (ix2 a ⟨64 * g.val + l.val, by omega⟩) else e (ix2 a l) := by
  rw [pieces_apply, lanes_apply, lanes_apply, turned_apply]
  by_cases hl : l.val < 64
  · rw [if_pos hl, if_pos hl, dif_pos hl]
    match g with
    | 0 => exact congrArg (fun k => y (ix2 a k)) (Fin.ext (by simp))
    | 1 => exact congrArg (fun k => y (ix2 a k)) (Fin.ext (by simp only [Fin.val_one]; omega))
  · rw [if_neg hl, if_neg hl, dif_neg hl, ite_self]

theorem keys_apply (G : Fin 64 → EReal) (C S : Fin 2 → Fin 16 → EReal) (a : Fin 384) (h : Fin 2) (n : Fin 64)
    (hx : ∀ k, Fin' (x0 (ix3 0 a k))) (hg : ∀ n : Fin 64, x4 (ix2 0 ⟨64 * h.val + n.val, by omega⟩) = G n)
    (hc : x2 (ix2 a ⟨64 * h.val + n.val, by omega⟩) = C ⟨n.val / 32, by omega⟩ ⟨n.val % 16, by omega⟩)
    (hs : x3 (ix2 a ⟨64 * h.val + n.val, by omega⟩)
      = if n.val % 32 < 16 then - S ⟨n.val / 32, by omega⟩ ⟨n.val % 16, by omega⟩ else S ⟨n.val / 32, by omega⟩ ⟨n.val % 16, by omega⟩) :
    keys (View.ld x0 r0_0) (View.ld x2 r0_2) (View.ld x3 r0_2) (View.ld x4 r0_1) (ix2 a ⟨64 * h.val + n.val, by omega⟩)
      = queryRow (fun j => x0 (ix3 0 a ⟨64 * h.val + j.val, by omega⟩)) G C S n := by
  have e0 : ∀ k, shapeCast S384x128 (View.ld x0 r0_0) shapeCasts_S1x384x128_S384x128 (ix2 a k) = x0 (ix3 0 a k) := fun k => by
    pointwise [r0_0]
  have e4 : ∀ k, shapeCast S1x128 (View.ld x4 r0_1) shapeCasts_S1x128_S1x128 (ix2 0 k) = x4 (ix2 0 k) := fun k => by
    pointwise [r0_1]
  have e2 : ∀ k, shapeCast S384x128 (View.ld x2 r0_2) shapeCasts_S384x128_S384x128 (ix2 a k) = x2 (ix2 a k) := fun k => by
    pointwise [r0_2]
  have e3 : ∀ k, shapeCast S384x128 (View.ld x3 r0_2) shapeCasts_S384x128_S384x128 (ix2 a k) = x3 (ix2 a k) := fun k => by
    pointwise [r0_2]
  unfold keys
  rw [rotated_apply _ _ _ _ G C S a h n (fun k => by rw [e0]; exact hx k) (fun n => (e4 _).trans (hg n)) ((e2 _).trans hc) ((e3 _).trans hs)]
  simp only [e0]

/-- A row of the block of keys. -/
theorem out5_apply (G : Fin 64 → EReal) (C S : Fin 2 → Fin 16 → EReal) (a : Fin 384) (h : Fin 2) (l : Fin 128)
    (hx : ∀ k, Fin' (x0 (ix3 0 a k))) (hg : ∀ n : Fin 64, x4 (ix2 0 ⟨64 * h.val + n.val, by omega⟩) = G n)
    (hc : ∀ n : Fin 64, x2 (ix2 a ⟨64 * h.val + n.val, by omega⟩) = C ⟨n.val / 32, by omega⟩ ⟨n.val % 16, by omega⟩)
    (hs : ∀ n : Fin 64, x3 (ix2 a ⟨64 * h.val + n.val, by omega⟩)
      = if n.val % 32 < 16 then - S ⟨n.val / 32, by omega⟩ ⟨n.val % 16, by omega⟩ else S ⟨n.val / 32, by omega⟩ ⟨n.val % 16, by omega⟩) :
    out0_5 i x0 x1 x2 x3 x4 (ix4 0 h a l)
      = keyLane (queryRow (fun j => x0 (ix3 0 a ⟨64 * h.val + j.val, by omega⟩)) G C S) (384 * (i 1).val + a.val) l.val := by
  have ee : k0_pay19 (F := Ideal) (BitVec.ofNat 32 (i 1).val) (ix2 a l) = _ := extra_key (i 1) a l
  rw [out5_eq, groups_apply, ee]
  unfold keyLane
  by_cases hl : l.val < 64
  · rw [dif_pos hl, dif_pos hl]
    exact keys_apply x0 x2 x3 x4 G C S a h ⟨l.val, hl⟩ hx hg (hc _) (hs _)
  · rw [dif_neg hl, dif_neg hl]

/-- A row of the block of values. -/
theorem out6_apply (a : Fin 384) (h : Fin 2) (l : Fin 128) :
    out0_6 i x0 x1 x2 x3 x4 (ix4 0 h a l) = valueLane (fun j => x1 (ix3 0 a ⟨64 * h.val + j.val, by omega⟩)) l.val := by
  have e1 : ∀ k, shapeCast S384x128 (View.ld x1 r0_0) shapeCasts_S1x384x128_S384x128 (ix2 a k) = x1 (ix3 0 a k) := fun k => by
    pointwise [r0_0]
  rw [out6_eq, groups_apply, extra_value]
  simp only [e1]
  rfl

end Cert.KvPrepIdeal.Keys

end
-- ==== Proof.KvValue.lean ====
/-
  The banks of keys and values that the call leaves, at an index.
-/
module

public import proofs.«01_k».proof.Proof.KvCore
public import Idealize.ShloMosaic.Lib.Claim
public import Idealize.ShloMosaic.Lib.StableHlo.ReadAt

@[expose] public section

set_option maxRecDepth 16384

noncomputable section

open Idealize.ShloMosaic Idealize.ShloMosaic.TcCoe

namespace Cert.KvPrepIdeal.Keys

open Cert.KvPrepIdeal Cert.KvPrepIdeal.Gen Cert.AttnMath Cert.KvSpec

/-! ## The call's operands that host code computes -/

variable (m : (ℓ : Loc nD τ sig) → Buf (Elt Ideal) ℓ) (c : Dev nD)

theorem cos_entry (t : Fin 4224) (h : Fin 2) (n : Fin 64) :
    V m c main_v15 (ix2 t (⟨64 * h.val + n.val, by omega⟩ : Fin 128))
      = m ((c.tc : Thread nD τ).loc main_arg1) (ix3 t (⟨n.val / 32, by omega⟩ : Fin 2) (⟨n.val % 16, by omega⟩ : Fin 16)) := by
  unfold V
  after_reads_at
  split
  · after_reads_simp
    pointwise
  · after_reads_simp
    pointwise

theorem sin_entry (t : Fin 4224) (h : Fin 2) (n : Fin 64) :
    V m c main_v18 (ix2 t (⟨64 * h.val + n.val, by omega⟩ : Fin 128))
      = if n.val % 32 < 16 then Neg.neg (α := EReal) (m ((c.tc : Thread nD τ).loc main_arg2) (ix3 t (⟨n.val / 32, by omega⟩ : Fin 2) (⟨n.val % 16, by omega⟩ : Fin 16)))
        else m ((c.tc : Thread nD τ).loc main_arg2) (ix3 t (⟨n.val / 32, by omega⟩ : Fin 2) (⟨n.val % 16, by omega⟩ : Fin 16)) := by
  unfold V
  after_reads_at
  split
  · have hn : n.val % 32 < 16 := by omega
    simp only [hn, if_true]
    after_reads_simp
    pointwise
  · have hn : ¬ n.val % 32 < 16 := by omega
    simp only [hn, if_false]
    after_reads_simp
    pointwise

theorem gain_entry (h : Fin 2) (n : Fin 64) :
    V m c main_v12 (ix2 0 (⟨64 * h.val + n.val, by omega⟩ : Fin 128)) = m ((c.tc : Thread nD τ).loc main_arg3) (ix1 n) := by
  unfold V
  after_reads_at

/-! ## Reads of the call's blocks -/

theorem idx : ∀ t : Fin cfg0.N,
    win0_0.index t = ![t.val / 11, t.val % 11 + 1, 36] ∧ win0_1.index t = ![t.val / 11, t.val % 11 + 1, 37]
    ∧ win0_2.index t = ![t.val % 11, 0] ∧ win0_3.index t = ![t.val % 11, 0] ∧ win0_4.index t = ![0, 0]
    ∧ win0_5.index t = ![t.val / 11, 0, t.val % 11, 0] ∧ win0_6.index t = ![t.val / 11, 0, t.val % 11, 0]
    ∧ (grid0.coords t 1).val = t.val % 11 := by decide +kernel

variable (t : Fin cfg0.N)

theorem t_lt : t.val < 44 := t.isLt

/-- The batch of a point, and the rows of its blocks. -/
def bt : Fin 4 := ⟨t.val / 11, by have := t_lt t; omega⟩
def row (a : Fin 384) : Fin 4224 := ⟨384 * (t.val % 11) + a.val, by omega⟩

theorem read0 (a : Fin 384) (k : Fin 128) : iblk m c 0 t (ix3 0 a k)
    = m ((c.tc : Thread nD τ).loc main_arg0) (ix3 (bt t) ⟨384 + (row t a).val, by omega⟩ ⟨4608 + k.val, by omega⟩) := by
  rw [← V_main_arg0 m c]
  blk_ext [iblk, idx t, bt, row]

theorem read1 (a : Fin 384) (k : Fin 128) : iblk m c 1 t (ix3 0 a k)
    = m ((c.tc : Thread nD τ).loc main_arg0) (ix3 (bt t) ⟨384 + (row t a).val, by omega⟩ ⟨4736 + k.val, by omega⟩) := by
  rw [← V_main_arg0 m c]
  blk_ext [iblk, idx t, bt, row]

theorem read2 (a : Fin 384) (l : Fin 128) : iblk m c 2 t (ix2 a l) = V m c main_v15 (ix2 (row t a) l) := by
  blk_ext [iblk, idx t, bt, row]

theorem read3 (a : Fin 384) (l : Fin 128) : iblk m c 3 t (ix2 a l) = V m c main_v18 (ix2 (row t a) l) := by
  blk_ext [iblk, idx t, bt, row]

theorem read4 (l : Fin 128) : iblk m c 4 t (ix2 0 l) = V m c main_v12 (ix2 0 l) := by
  blk_ext [iblk, idx t, bt, row]

/-- The bank of keys after the call, as one function of the arguments, when the keys' columns are finite. -/
theorem final_keys
    (hx : ∀ (b : Fin 4) (r : Fin 4224) (k : Fin 128), Fin' (m ((c.tc : Thread nD τ).loc main_arg0) (ix3 b ⟨384 + r.val, by omega⟩ ⟨4608 + k.val, by omega⟩))) :
    (dats m 0 c).arrAt 5 cfg0.N = keyBank (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 5 _ (by decide +kernel) fun t hf y => ?_
  blk_simp
  rw [after0_5]
  idx_vars y
  obtain rfl : y0 = 0 := Subsingleton.elim _ _
  have e : (win0_5.blk t).view.emb (ix4 (0 : Fin 1) y1 y2 y3) = ix4 (bt t) y1 (row t y2) y3 := by
    blk_ext [iblk, V, idx t, bt, row]
  refine Eq.trans ?_ (congrArg (keyBank (m ((c.tc : Thread nD τ).loc main_arg0)) (m ((c.tc : Thread nD τ).loc main_arg1))
      (m ((c.tc : Thread nD τ).loc main_arg2)) (m ((c.tc : Thread nD τ).loc main_arg3))) e).symm
  rw [out5_apply _ _ _ _ _ _ (fun n => m ((c.tc : Thread nD τ).loc main_arg3) (ix1 n))
    (fun b i => m ((c.tc : Thread nD τ).loc main_arg1) (ix3 (row t y2) b i)) (fun b i => m ((c.tc : Thread nD τ).loc main_arg2) (ix3 (row t y2) b i)) y2 y1 y3
    (fun k => by rw [read0 m c t y2 k]; exact hx _ _ _)
    (fun n => (read4 m c t _).trans (gain_entry m c y1 n)) (fun n => (read2 m c t y2 _).trans (cos_entry m c (row t y2) y1 n))
    (fun n => (read3 m c t y2 _).trans (sin_entry m c (row t y2) y1 n))]
  obtain ⟨-, -, -, -, -, -, -, ei⟩ := idx t
  rw [ei]
  simp only [read0 m c t]
  rfl

/-- The bank of values after the call. -/
theorem final_values : (dats m 0 c).arrAt 6 cfg0.N = valueBank (m ((c.tc : Thread nD τ).loc main_arg0)) := by
  refine (dats m 0 c).arrAt_eq_of_covers 6 _ (by decide +kernel) fun t hf y => ?_
  blk_simp
  rw [after0_6]
  idx_vars y
  obtain rfl : y0 = 0 := Subsingleton.elim _ _
  have e : (win0_6.blk t).view.emb (ix4 (0 : Fin 1) y1 y2 y3) = ix4 (bt t) y1 (row t y2) y3 := by
    blk_ext [iblk, V, idx t, bt, row]
  refine Eq.trans ?_ (congrArg (valueBank (m ((c.tc : Thread nD τ).loc main_arg0))) e).symm
  rw [out6_apply]
  simp only [read1 m c t]
  rfl

end Cert.KvPrepIdeal.Keys

end
-- ==== Proof.KvRef.lean ====
/-
  The plain keys' and values' banks at an index.
-/
module

public import proofs.«01_k».proof.Proof.KvSpec
public import proofs.«01_k».proof.Proof.Gen.KvReferenceIdeal.Run

@[expose] public section

set_option maxRecDepth 16384

noncomputable section

open Idealize.ShloMosaic Idealize.ShloMosaic.TcCoe

namespace Cert.KvReferenceIdeal.Keys

open Cert.KvReferenceIdeal Cert.KvReferenceIdeal.Gen Cert.KvReferenceIdeal.Value Cert.AttnMath Cert.KvSpec

/-- The keys' columns, by group. -/
def groups (x : FVec Ideal S4x4608x4864 .f32) : FVec Ideal S4x4224x2x64 .f32 :=
  shapeCast _ (extractStridedSlice S4x4224x128 ![0, 384, 4608] x slices_S4x4608x4864_S4x4224x128_0_384_4608) shapeCasts_S4x4224x128_S4x4224x2x64

/-- … normalized. -/
def normed (q : FVec Ideal S4x4224x2x64 .f32) (g : FVec Ideal S64 .f32) : FVec Ideal S4x4224x2x64 .f32 :=
  mulf (mulf q (broadcastInDim S4x4224x2x64 ![0, 1, 2, 3] bcast_S4x4224x2x1_S4x4224x2x64_0_1_2_3 (Host.rsqrt (addf (Host.divf (broadcastInDim S4x4224x2x1 ![0, 1, 2] bcast_S4x4224x2_S4x4224x2x1_0_1_2 (Host.reduceAdd (mulf q q) (constant S_ .f32 0x00000000#32) reducesTo_S4x4224x2x64_S4x4224x2_d3 h_S_)) (broadcastInDim S4x4224x2x1 ![] bcast_S_S4x4224x2x1 (constant S_ .f32 0x42800000#32))) (broadcastInDim S4x4224x2x1 ![] bcast_S_S4x4224x2x1 (constant S_ .f32 0x358637BD#32)))))) (broadcastInDim S4x4224x2x64 ![0, 1, 2, 3] bcast_S1x1x1x64_S4x4224x2x64_0_1_2_3 (broadcastInDim S1x1x1x64 ![3] bcast_S64_S1x1x1x64_3 g))

/-- A table, for every batch and group. -/
def table (c : FVec Ideal S4224x2x16 .f32) : FVec Ideal S4x4224x2x2x16 .f32 :=
  broadcastInDim S4x4224x2x2x16 ![0, 1, 2, 3, 4] bcast_S1x4224x1x2x16_S4x4224x2x2x16_0_1_2_3_4 (broadcastInDim S1x4224x1x2x16 ![1, 3, 4] bcast_S4224x2x16_S1x4224x1x2x16_1_3_4 c)

/-- The first and the second halves of each axis. -/
def lower (q : FVec Ideal S4x4224x2x64 .f32) : FVec Ideal S4x4224x2x2x16 .f32 :=
  shapeCast _ (extractStridedSlice S4x4224x2x2x1x16 ![0, 0, 0, 0, 0, 0] (shapeCast _ q shapeCasts_S4x4224x2x64_S4x4224x2x2x2x16) slices_S4x4224x2x2x2x16_S4x4224x2x2x1x16_0_0_0_0_0_0) shapeCasts_S4x4224x2x2x1x16_S4x4224x2x2x16

def upper (q : FVec Ideal S4x4224x2x64 .f32) : FVec Ideal S4x4224x2x2x16 .f32 :=
  shapeCast _ (extractStridedSlice S4x4224x2x2x1x16 ![0, 0, 0, 0, 1, 0] (shapeCast _ q shapeCasts_S4x4224x2x64_S4x4224x2x2x2x16) slices_S4x4224x2x2x2x16_S4x4224x2x2x1x16_0_0_0_0_1_0) shapeCasts_S4x4224x2x2x1x16_S4x4224x2x2x16

/-- The two halves side by side. -/
def paired (a b : FVec Ideal S4x4224x2x2x16 .f32) : FVec Ideal S4x4224x2x64 .f32 :=
  shapeCast _ (fn_main_v34 (F := Ideal) (broadcastInDim S4x4224x2x2x1x16 ![0, 1, 2, 3, 5] bcast_S4x4224x2x2x16_S4x4224x2x2x1x16_0_1_2_3_5 a)
    (broadcastInDim S4x4224x2x2x1x16 ![0, 1, 2, 3, 5] bcast_S4x4224x2x2x16_S4x4224x2x2x1x16_0_1_2_3_5 b)) shapeCasts_S4x4224x2x2x2x16_S4x4224x2x64

/-- The rotated keys. -/
def turned (q : FVec Ideal S4x4224x2x64 .f32) (c s : FVec Ideal S4224x2x16 .f32) : FVec Ideal S4x4224x2x64 .f32 :=
  paired (subf (mulf (lower q) (table c)) (mulf (upper q) (table s))) (addf (mulf (upper q) (table c)) (mulf (lower q) (table s)))

/-- The values' columns, by group. -/
def values (x : FVec Ideal S4x4608x4864 .f32) : FVec Ideal S4x4224x2x64 .f32 :=
  shapeCast _ (extractStridedSlice S4x4224x128 ![0, 384, 4736] x slices_S4x4608x4864_S4x4224x128_0_384_4736) shapeCasts_S4x4224x128_S4x4224x2x64

/-- The mask of the first rows. -/
def masks : FVec Ideal S4x2x4224x1 .f32 :=
  (broadcastInDim S4x2x4224x1 ![0, 1, 2, 3] bcast_S1x1x4224x1_S4x2x4224x1_0_1_2_3 (select (cmpi .slt (shapeCast _ (iotaInDim S4224 32 0) shapeCasts_S4224_S1x1x4224x1) (broadcastInDim S1x1x4224x1 ![] bcast_S_S1x1x4224x1 (constantI S_ 32 112#32))) (broadcastInDim S1x1x4224x1 ![] bcast_S_S1x1x4224x1 (constant S_ .f32 0xFF800000#32)) (broadcastInDim S1x1x4224x1 ![] bcast_S_S1x1x4224x1 (constant S_ .f32 0x00000000#32))))

def ones : FVec Ideal S4x2x4224x1 .f32 := broadcastInDim S4x2x4224x1 ![] bcast_S_S4x2x4224x1 (constant S_ .f32 0x3F800000#32)

def zeros : FVec Ideal S4x2x4224x63 .f32 := broadcastInDim S4x2x4224x63 ![] bcast_S_S4x2x4224x63 (constant S_ .f32 0x00000000#32)

/-- A bank: 64 lanes, one more, and zeros. -/
def bank (k : FVec Ideal S4x4224x2x64 .f32) (e : FVec Ideal S4x2x4224x1 .f32) : FVec Ideal S4x2x4224x128 .bf16 :=
  truncf .bf16 (fn_main_v48 (F := Ideal) (transpose S4x2x4224x64 [0, 2, 1, 3] k transposes_S4x4224x2x64_S4x2x4224x64_0_2_1_3) e
    zeros) bitsLt_bf16_f32

variable (b : Fin 4) (r : Fin 4224) (g : Fin 2)

theorem normed_apply (x : FVec Ideal S4x4608x4864 .f32) (G : FVec Ideal S64 .f32) (n : Fin 64) :
    normed (groups x) G (ix4 b r g n)
      = normRow (fun i => x (ix3 b ⟨384 + r.val, by omega⟩ ⟨4608 + (64 * g.val + i.val), by omega⟩)) (fun i => G (ix1 i)) n := by
  have e : ∀ n : Fin 64, groups x (ix4 b r g n) = x (ix3 b ⟨384 + r.val, by omega⟩ ⟨4608 + (64 * g.val + n.val), by omega⟩) := fun n => by
    have ea : 64 * g.val + n.val = g.val * 64 + n.val := by ring
    simp only [ea]
    pointwise [groups]
  pointwise [normed, normRow, e]

theorem lower_apply (q : FVec Ideal S4x4224x2x64 .f32) (a : Fin 2) (i : Fin 16) :
    lower q (ix5 b r g a i) = q (ix4 b r g (⟨a.val * 32 + i.val, by omega⟩ : Fin 64)) := by
  pointwise [lower]

theorem upper_apply (q : FVec Ideal S4x4224x2x64 .f32) (a : Fin 2) (i : Fin 16) :
    upper q (ix5 b r g a i) = q (ix4 b r g (⟨a.val * 32 + 16 + i.val, by omega⟩ : Fin 64)) := by
  pointwise [upper]

theorem table_apply (c : FVec Ideal S4224x2x16 .f32) (a : Fin 2) (i : Fin 16) : table c (ix5 b r g a i) = c (ix3 r a i) := by
  pointwise [table]

theorem paired_apply (x y : FVec Ideal S4x4224x2x2x16 .f32) (n : Fin 64) :
    paired x y (ix4 b r g n) = if n.val / 16 % 2 < 1 then x (ix5 b r g (⟨n.val / 32, by omega⟩ : Fin 2) (⟨n.val % 16, by omega⟩ : Fin 16))
      else y (ix5 b r g (⟨n.val / 32, by omega⟩ : Fin 2) (⟨n.val % 16, by omega⟩ : Fin 16)) := by
  pointwise [paired, fn_main_v34]
  rfl

/-- The rotation of a normalized row. -/
theorem turned_apply (x : FVec Ideal S4x4608x4864 .f32) (C S : FVec Ideal S4224x2x16 .f32) (G : FVec Ideal S64 .f32) (n : Fin 64) :
    turned (normed (groups x) G) C S (ix4 b r g n) = keyAt x C S G b g r n := by
  rw [turned, paired_apply]
  unfold keyAt queryRow
  by_cases hn : n.val % 32 < 16
  · rw [if_pos (show n.val / 16 % 2 < 1 by omega), dif_pos hn]
    show _ * _ - _ * _ = _
    rw [lower_apply, upper_apply, table_apply, table_apply, normed_apply, normed_apply]
    have e0 : (⟨n.val / 32 * 32 + n.val % 16, by omega⟩ : Fin 64) = n := Fin.ext (by show n.val / 32 * 32 + n.val % 16 = n.val; omega)
    have e1 : (⟨n.val / 32 * 32 + 16 + n.val % 16, by omega⟩ : Fin 64) = ⟨n.val + 16, by omega⟩ := Fin.ext (by show n.val / 32 * 32 + 16 + n.val % 16 = n.val + 16; omega)
    rw [e0, e1]
  · rw [if_neg (show ¬ n.val / 16 % 2 < 1 by omega), dif_neg hn]
    show _ * _ + _ * _ = _
    rw [lower_apply, upper_apply, table_apply, table_apply, normed_apply, normed_apply]
    have e0 : (⟨n.val / 32 * 32 + n.val % 16, by omega⟩ : Fin 64) = ⟨n.val - 16, by omega⟩ := Fin.ext (by show n.val / 32 * 32 + n.val % 16 = n.val - 16; omega)
    have e1 : (⟨n.val / 32 * 32 + 16 + n.val % 16, by omega⟩ : Fin 64) = n := Fin.ext (by show n.val / 32 * 32 + 16 + n.val % 16 = n.val; omega)
    rw [e0, e1]

theorem values_apply (x : FVec Ideal S4x4608x4864 .f32) (n : Fin 64) : values x (ix4 b r g n) = valueAt x b g r n := by
  have ea : 64 * g.val + n.val = g.val * 64 + n.val := by ring
  unfold valueAt
  simp only [ea]
  pointwise [values]

theorem masks_apply : masks (ix4 b g r 0) = if r.val < 112 then (⊥ : EReal) else 0 := by
  have hr : IntOp.cmpi CmpIPredicate.slt (BitVec.ofNat 32 r.val) 112#32 = if r.val < 112 then 1#1 else 0#1 := by
    revert r; decide
  pointwise [masks]
  rw [hr]
  by_cases h : r.val < 112 <;> simp [h, ofBits_bot] <;> rfl

theorem ones_apply : ones (ix4 b g r 0) = (1 : EReal) := by
  pointwise [ones]

theorem bank_apply (k : FVec Ideal S4x4224x2x64 .f32) (e : FVec Ideal S4x2x4224x1 .f32) (l : Fin 128) :
    bank k e (ix4 b g r l) = if h : l.val < 64 then k (ix4 b r g ⟨l.val, h⟩) else if l.val = 64 then e (ix4 b g r 0) else (0 : EReal) := by
  pointwise [bank, fn_main_v48, zeros]
  by_cases h1 : l.val < 64
  · simp only [h1, dif_pos]
  · by_cases h2 : l.val = 64
    · simp [h1, h2]
    · have h3 : ¬ l.val - 64 < 1 := by omega
      simp [h1, h2, h3]

/-- The plain bank of keys. -/
theorem keys_value (m : (ℓ : Loc nD τ sig) → Buf (Elt Ideal) ℓ) (c : Dev nD) :
    res_main_v51 m c = keyBank (m ((c.tc : Thread nD τ).loc main_arg0)) (m ((c.tc : Thread nD τ).loc main_arg1))
      (m ((c.tc : Thread nD τ).loc main_arg2)) (m ((c.tc : Thread nD τ).loc main_arg3)) := by
  have e : res_main_v51 m c = bank (turned (normed (groups (m ((c.tc : Thread nD τ).loc main_arg0))) (m ((c.tc : Thread nD τ).loc main_arg3)))
      (m ((c.tc : Thread nD τ).loc main_arg1)) (m ((c.tc : Thread nD τ).loc main_arg2))) masks := rfl
  rw [e]
  funext j
  idx_vars j
  rw [bank_apply]
  unfold keyBank keyLane
  simp only [turned_apply, masks_apply]
  show _ = if h : j3.val < 64 then keyAt _ _ _ _ j0 j1 j2 ⟨j3.val, h⟩ else if j3.val = 64 ∧ j2.val < 112 then ⊥ else 0
  by_cases h1 : j3.val < 64
  · simp only [h1, dif_pos]
  · by_cases h2 : j3.val = 64 <;> simp [h1, h2]

/-- The plain bank of values. -/
theorem values_value (x : FVec Ideal S4x4608x4864 .f32) : bank (values x) ones = valueBank x := by
  funext j
  idx_vars j
  rw [bank_apply]
  unfold valueBank valueLane
  simp only [values_apply, ones_apply]
  rfl

end Cert.KvReferenceIdeal.Keys

end
-- ==== Proof.KvClaims.lean ====
/-
  The claims of the keys' and values' call: the reference's frame, the named constant, and the equality of both results.
-/
module

public import proofs.«01_k».proof.Proof.AttnPre
public import proofs.«01_k».proof.Proof.KvValue
public import proofs.«01_k».proof.Proof.KvRef
public import proofs.«01_k».proof.Proof.Gen.Pre_finite_keys
public import proofs.«01_k».proof.Proof.Gen.KvPrepIdeal.Value
public import Idealize.ShloMosaic.Lib.Quiescent

@[expose] public section

set_option maxRecDepth 16384

noncomputable section

open Idealize.ShloMosaic Idealize.ShloMosaic.TcCoe

namespace Cert.Proof.KvClaims

theorem frame_reference : Cert.quiescent_KvReferenceIdeal := fun m ρ _ =>
  (θ_run Cert.KvReferenceIdeal.defs _ _).mono (fun r h => ⟨fun c => (h c).2.2, sem_eq_zero_of_no_sems (by decide) r.2⟩)
    (Cert.KvReferenceIdeal.Value.run (F := Ideal) m ρ)

theorem frame_reference_finite_keys : Cert.quiescent_KvReferenceIdeal_pre_finite_keys := fun m ρ _ => frame_reference m ρ trivial

theorem preserves : Cert.preserves_KvPrep_KvPrepIdeal :=
  IdealRules.named_const.statement _ _ _ _ _ rfl

/-- The precondition, read at every index. -/
theorem finite (m : (ℓ : Loc Cert.KvPrepIdeal.nD Cert.KvPrepIdeal.τ Cert.KvPrepIdeal.sig) → Buf (Elt Ideal) ℓ)
    (hp : Cert.Pre_KvPrepIdeal_finite_keys (hPre_finite_keys := Cert.Pre_finite_keys.Gen.facts) m) (c : Dev Cert.KvPrepIdeal.nD)
    (b : Fin 4) (r : Fin 4224) (k : Fin 128) :
    Cert.AttnMath.Fin' (m ((c.tc : Thread _ _).loc Cert.KvPrepIdeal.main_arg0) (ix3 b ⟨384 + r.val, by omega⟩ ⟨4608 + k.val, by omega⟩)) := by
  refine Cert.AttnMath.fin_of_abs ?_
  refine Eq.trans ?_ (congrFun (hp c) (ix3 b r k))
  pointwise [Cert.Pre_finite_keys.fn]

/-- Both calls end at `Cert.KvSpec.keyBank` and `Cert.KvSpec.valueBank` of the arguments. -/
theorem algebraic : Cert.algebraic_KvPrepIdeal_KvReferenceIdeal_pre_finite_keys := by
  intro m ρ m' ρ' hp hagree
  refine ⟨fun c => (Cert.KvPrepIdeal.Gen.dats m 0 c).arrAt 5 Cert.KvPrepIdeal.cfg0.N,
    fun c => (Cert.KvPrepIdeal.Gen.dats m 0 c).arrAt 6 Cert.KvPrepIdeal.cfg0.N, Cert.KvPrepIdeal.Value.run_blocks m ρ, ?_⟩
  refine (θ_run Cert.KvReferenceIdeal.defs _ _).mono (fun r h c => ⟨(h c).1.trans ?_, (h c).2.1.trans ?_, (h c).2.2⟩)
    (Cert.KvReferenceIdeal.Value.run (F := Ideal) m' ρ')
  · refine Eq.trans ?_ (Cert.KvPrepIdeal.Keys.final_keys m c (finite m hp c)).symm
    refine (Cert.KvReferenceIdeal.Keys.keys_value m' c).trans ?_
    obtain ⟨h0, h1, h2, h3⟩ := hagree c
    simp only [← h0, ← h1, ← h2, ← h3]
  · refine Eq.trans ?_ (Cert.KvPrepIdeal.Keys.final_values m c).symm
    refine (Cert.KvReferenceIdeal.Keys.values_value (m' ((c.tc : Thread _ _).loc Cert.KvReferenceIdeal.main_arg0))).trans ?_
    obtain ⟨h0, h1, h2, h3⟩ := hagree c
    simp only [← h0]

end Cert.Proof.KvClaims

end
-- ==== Proof.PostSpec.lean ====
/-
  What the branches' call computes, as a function of its arguments: a token row's scan normalized by head and gated, the
  two branches' projections weighed by their gates, the output projection and the residual.
-/
module

public import proofs.«01_k».proof.Proof.AttnMath
public import Idealize.ShloMosaic.Lib.Pointwise

@[expose] public section

noncomputable section

open Idealize.ShloMosaic Cert.AttnMath

namespace Cert.PostSpec

abbrev Half : Shape := ⟨3, ![4, 4096, 512]⟩
abbrev Rows : Shape := ⟨3, ![4, 4608, 4864]⟩
abbrev Out : Shape := ⟨3, ![4, 4096, 1024]⟩
abbrev Gain : Shape := ⟨2, ![1, 512]⟩
abbrev Up : Shape := ⟨2, ![512, 1024]⟩
abbrev Square : Shape := ⟨2, ![1024, 1024]⟩

/-- The mean of the head of 64 lanes that holds lane `k`. -/
def mean (y : Fin 512 → EReal) (k : Fin 512) : EReal :=
  Ideal.div (∑ j : Fin 64, y ⟨64 * (k.val / 64) + j.val, by omega⟩) (Ideal.ofBits .f32 0x42800000#32)

/-- Lane `k` less its head's mean. -/
def dev (y : Fin 512 → EReal) (k : Fin 512) : EReal := y k - mean y k

/-- The scan's branch: normalized by head, times the gain, plus the shift and the bonus, gated. -/
def gated (y g s bonus gate : Fin 512 → EReal) (k : Fin 512) : EReal :=
  (dev y k * Ideal.rsqrt (mean (fun j => dev y j * dev y j) k + Ideal.ofBits .f32 0x3A27C5AC#32) * g k + s k + bonus k) * gate k

/-- Both branches, projected and weighed. -/
def merged (u v : Fin 512 → EReal) (wa wb : Fin 512 → Fin 1024 → EReal) (ga gb : Fin 1024 → EReal) (i : Fin 1024) : EReal :=
  Ideal.logistic (ga i) * (∑ k, u k * wa k i) + Ideal.logistic (gb i) * (∑ k, v k * wb k i)

/-- A row of the result. -/
def row (y g s bonus gate att : Fin 512 → EReal) (ga gb h : Fin 1024 → EReal) (wa wb : Fin 512 → Fin 1024 → EReal)
    (wo : Fin 1024 → Fin 1024 → EReal) (l : Fin 1024) : EReal :=
  h l + ∑ i, merged (gated y g s bonus gate) att wa wb ga gb i * wo i l

/-- The result. -/
def out (yf yb gate bonus att : Half.Idx → EReal) (x : Rows.Idx → EReal) (h : Out.Idx → EReal) (g s : Gain.Idx → EReal)
    (wa wb : Up.Idx → EReal) (wo : Square.Idx → EReal) : Out.Idx → EReal := fun j =>
  row (fun k => yf (ix3 (j 0) (j 1) k) + yb (ix3 (j 0) (j 1) k)) (fun k => g (ix2 0 k)) (fun k => s (ix2 0 k))
    (fun k => bonus (ix3 (j 0) (j 1) k)) (fun k => gate (ix3 (j 0) (j 1) k)) (fun k => att (ix3 (j 0) (j 1) k))
    (fun i => x (ix3 (j 0) ⟨512 + (j 1).val, by have := (j 1).isLt; simp at this; omega⟩ ⟨i.val, by omega⟩))
    (fun i => x (ix3 (j 0) ⟨512 + (j 1).val, by have := (j 1).isLt; simp at this; omega⟩ ⟨1024 + i.val, by omega⟩))
    (fun i => h (ix3 (j 0) (j 1) i)) (fun k i => wa (ix2 k i)) (fun k i => wb (ix2 k i)) (fun i l => wo (ix2 i l)) (j 2)

theorem mean_fin {y : Fin 512 → EReal} (hy : ∀ k, Fin' (y k)) (k : Fin 512) : Fin' (mean y k) := by
  choose r hr using hy
  refine ⟨(∑ j : Fin 64, r ⟨64 * (k.val / 64) + j.val, by omega⟩) * 64⁻¹, ?_⟩
  unfold mean
  simp only [hr]
  rw [ofBits_64, coe_sum, div_coe _ _ (by norm_num), ← EReal.coe_mul]

theorem dev_fin {y : Fin 512 → EReal} (hy : ∀ k, Fin' (y k)) (k : Fin 512) : Fin' (dev y k) := (hy k).sub (mean_fin hy k)

/-- The mean of the half of 128 lanes that holds lane `l`, by a matrix of ones over 64 in blocks; the second sum,
    of what a narrower format would lose, is zero. -/
theorem sum_half (x : Fin 128 → EReal) (hx : ∀ k, Fin' (x k)) (h : Fin 2) :
    (∑ k : Fin 128, x k * (if k.val / 64 = h.val then Ideal.ofBits .f32 0x3C800000#32 else 0))
      + (∑ k : Fin 128, (x k - x k) * (if k.val / 64 = h.val then Ideal.ofBits .f32 0x3C800000#32 else 0))
      = Ideal.div (∑ j : Fin 64, x ⟨64 * h.val + j.val, by omega⟩) (Ideal.ofBits .f32 0x42800000#32) := by
  have hz : ∀ k, x k - x k = 0 := by
    intro k
    obtain ⟨r, hr⟩ := hx k
    rw [hr, ← EReal.coe_sub, sub_self, EReal.coe_zero]
  simp only [hz, zero_mul, Finset.sum_const_zero, add_zero]
  rw [sum_lanes, ofBits_64, ofBits_64th, div_coe _ _ (by norm_num), sum_mul_coe _ _ (by norm_num)]
  fin_cases h
  · have h1 : ∀ i : Fin 64, i.val / 64 = 0 := fun i => by omega
    have h2 : ∀ i : Fin 64, ¬ (64 + i.val) / 64 = 0 := fun i => by omega
    simp [h1, h2]
  · have h1 : ∀ i : Fin 64, ¬ i.val / 64 = 1 := fun i => by omega
    have h2 : ∀ i : Fin 64, (64 + i.val) / 64 = 1 := fun i => by omega
    simp [h1, h2]

end Cert.PostSpec

end
-- ==== Proof.PostCore.lean ====
/-
  One block of the branches' call, as vector operations on the loaded blocks, and what it holds at an index.
-/
module

public import proofs.«01_k».proof.Proof.Gen.PostIdeal.Value
public import proofs.«01_k».proof.Proof.AttnCore
public import proofs.«01_k».proof.Proof.PostSpec
public import Idealize.ShloMosaic.Lib.Pipeline.ValueKit

@[expose] public section

set_option maxRecDepth 16384

noncomputable section

open Idealize.ShloMosaic Idealize.ShloMosaic.TcCoe

namespace Cert.PostIdeal.Rows

open Cert.PostIdeal Cert.PostIdeal.Gen Cert.AttnMath Cert.PostSpec
open Cert.KernelIdeal.Attn (means means_apply)

/-! ## The operations -/

/-- The means of two heads, by a matrix, of what a narrower format keeps and of what it loses. -/
def pairMeans (x : FVec Ideal S256x128 .f32) : FVec Ideal S256x128 .f32 :=
  let hi := truncf .bf16 x bitsLt_bf16_f32
  let lo := truncf .bf16 (subf x (extf .f32 hi bitsLt_bf16_f32)) bitsLt_bf16_f32
  addf (matmul dot_S256x128_S128x128_S256x128_1_0_0_1_n_n none hi means (constant S256x128 .f32 0x00000000#32))
    (matmul dot_S256x128_S128x128_S256x128_1_0_0_1_n_n none lo means (constant S256x128 .f32 0x00000000#32))

/-- The four pairs of heads, side by side. -/
def joined (p q r s : FVec Ideal S256x128 .f32) : FVec Ideal S256x512 .f32 :=
  concatenate S256x512 1 [⟨S256x128, p⟩, ⟨S256x128, q⟩, ⟨S256x128, r⟩, ⟨S256x128, s⟩] concatenates_S256x128_S256x128_S256x128_S256x128_S256x512_d1

def headMeans (y : FVec Ideal S256x512 .f32) : FVec Ideal S256x512 .f32 :=
  joined (pairMeans (extractStridedSlice S256x128 ![0, 0] y slices_S256x512_o0_0_S256x128))
    (pairMeans (extractStridedSlice S256x128 ![0, 128] y slices_S256x512_o0_128_S256x128))
    (pairMeans (extractStridedSlice S256x128 ![0, 256] y slices_S256x512_o0_256_S256x128))
    (pairMeans (extractStridedSlice S256x128 ![0, 384] y slices_S256x512_o0_384_S256x128))

def devs (y : FVec Ideal S256x512 .f32) : FVec Ideal S256x512 .f32 := subf y (headMeans y)

def scaled (y : FVec Ideal S256x512 .f32) (g : FVec Ideal S1x512 .f32) : FVec Ideal S256x512 .f32 :=
  mulf (mulf (devs y) (rsqrt (addf (headMeans (mulf (devs y) (devs y))) (broadcast S256x512 (Scalar.ofBits (F := Ideal) .f32 0x3A27C5AC#32)))))
    (broadcastTo S256x512 g broadcasts_S1x512_S256x512)

def scans (a b : FVec Ideal S1x256x512 .bf16) : FVec Ideal S256x512 .f32 :=
  addf (extf .f32 (shapeCast S256x512 a shapeCasts_S1x256x512_S256x512) bitsLt_bf16_f32)
    (extf .f32 (shapeCast S256x512 b shapeCasts_S1x256x512_S256x512) bitsLt_bf16_f32)

/-- The scan's branch before its projection. -/
def branch (a b bonus gate : FVec Ideal S1x256x512 .bf16) (g s : FVec Ideal S1x512 .f32) : FVec Ideal S256x512 .bf16 :=
  k0_pay16 (F := Ideal) (scaled (scans a b) g) s bonus gate

/-- Half a block of the result. -/
def half (a b bonus gate att : FVec Ideal S1x256x512 .bf16) (g s : FVec Ideal S1x512 .f32) (ga gb h : FVec Ideal S1x256x1024 .f32)
    (wa wb : FVec Ideal S512x1024 .bf16) (wo : FVec Ideal S1024x1024 .bf16) : FVec Ideal S1x256x1024 .f32 :=
  k0_pay30 (F := Ideal) (k0_pay26 (branch a b bonus gate g s) wa) (k0_pay28 att wb) ga gb h wo

/-! ## At an index -/

theorem pairMeans_apply (x : FVec Ideal S256x128 .f32) (a : Fin 256) (hx : ∀ k, Fin' (x (ix2 a k))) (l : Fin 128) :
    pairMeans x (ix2 a l) = Ideal.div (∑ j : Fin 64, x (ix2 a ⟨64 * (l.val / 64) + j.val, by omega⟩)) (Ideal.ofBits .f32 0x42800000#32) := by
  pointwise [pairMeans]
  simp only [means_apply]
  exact sum_half (fun k => x (ix2 a k)) hx ⟨l.val / 64, by omega⟩

theorem joined_apply (p q r s : FVec Ideal S256x128 .f32) (a : Fin 256) (k : Fin 512) :
    joined p q r s (ix2 a k) = if h : k.val < 128 then p (ix2 a ⟨k.val, h⟩) else if h : k.val - 128 < 128 then q (ix2 a ⟨k.val - 128, h⟩)
      else if h : k.val - 128 - 128 < 128 then r (ix2 a ⟨k.val - 128 - 128, h⟩) else s (ix2 a ⟨k.val - 128 - 128 - 128, by omega⟩) := by
  pointwise [joined]

theorem slice_apply (o : ℕ) (w : S256x512.Slices ![0, o] S256x128) (ho : o ≤ 384) (y : FVec Ideal S256x512 .f32) (a : Fin 256) (l : Fin 128) :
    extractStridedSlice S256x128 ![0, o] y w (ix2 a l) = y (ix2 a ⟨o + l.val, by omega⟩) := by
  pointwise

/-- A pair of heads' means, of the lanes from `128 * p` on. -/
theorem part_apply (p : Fin 4) (w : S256x512.Slices ![0, 128 * p.val] S256x128) (y : FVec Ideal S256x512 .f32) (a : Fin 256)
    (hy : ∀ k, Fin' (y (ix2 a k))) (k : Fin 512) (l : Fin 128) (hk : k.val = 128 * p.val + l.val) :
    pairMeans (extractStridedSlice S256x128 ![0, 128 * p.val] y w) (ix2 a l) = mean (fun j => y (ix2 a j)) k := by
  have e : ∀ l, extractStridedSlice S256x128 ![0, 128 * p.val] y w (ix2 a l) = y (ix2 a ⟨128 * p.val + l.val, by omega⟩) :=
    fun l => slice_apply (128 * p.val) w (by omega) y a l
  rw [pairMeans_apply _ a (fun k => by rw [e]; exact hy _)]
  simp only [e]
  unfold mean
  refine congrArg (fun z => Ideal.div z _) (Finset.sum_congr rfl fun j _ => congrArg (fun n => y (ix2 a n)) (Fin.ext ?_))
  show 128 * p.val + (64 * (l.val / 64) + j.val) = 64 * (k.val / 64) + j.val
  omega

theorem headMeans_apply (y : FVec Ideal S256x512 .f32) (a : Fin 256) (hy : ∀ k, Fin' (y (ix2 a k))) (k : Fin 512) :
    headMeans y (ix2 a k) = mean (fun j => y (ix2 a j)) k := by
  unfold headMeans
  rw [joined_apply]
  split
  · exact part_apply 0 _ y a hy k _ (by simp)
  · split
    · exact part_apply 1 _ y a hy k _ (by simp only [Fin.val_one]; omega)
    · split
      · exact part_apply 2 _ y a hy k _ (by simp only [Fin.val_two]; omega)
      · exact part_apply 3 _ y a hy k _ (by show k.val = 128 * 3 + (k.val - 128 - 128 - 128); omega)

theorem devs_apply (y : FVec Ideal S256x512 .f32) (a : Fin 256) (hy : ∀ k, Fin' (y (ix2 a k))) (k : Fin 512) :
    devs y (ix2 a k) = dev (fun j => y (ix2 a j)) k := by
  show y (ix2 a k) - headMeans y (ix2 a k) = _
  rw [headMeans_apply y a hy]
  rfl

theorem scaled_apply (y : FVec Ideal S256x512 .f32) (g : FVec Ideal S1x512 .f32) (a : Fin 256) (hy : ∀ k, Fin' (y (ix2 a k))) (k : Fin 512) :
    scaled y g (ix2 a k) = dev (fun j => y (ix2 a j)) k
      * Ideal.rsqrt (mean (fun l => dev (fun j => y (ix2 a j)) l * dev (fun j => y (ix2 a j)) l) k + Ideal.ofBits .f32 0x3A27C5AC#32) * g (ix2 0 k) := by
  have e : ∀ l, mulf (devs y) (devs y) (ix2 a l) = dev (fun j => y (ix2 a j)) l * dev (fun j => y (ix2 a j)) l := fun l => by
    show devs y (ix2 a l) * devs y (ix2 a l) = _
    rw [devs_apply y a hy]
  pointwise [scaled]
  rw [devs_apply y a hy, headMeans_apply _ a (fun l => by rw [e]; exact (dev_fin hy l).mul (dev_fin hy l))]
  simp only [e]

theorem scans_apply (x y : FVec Ideal S1x256x512 .bf16) (a : Fin 256) (k : Fin 512) :
    scans x y (ix2 a k) = x (ix3 0 a k) + y (ix3 0 a k) := by
  pointwise [scans]

theorem pay16_apply (z : FVec Ideal S256x512 .f32) (s : FVec Ideal S1x512 .f32) (bonus gate : FVec Ideal S1x256x512 .bf16)
    (a : Fin 256) (k : Fin 512) :
    k0_pay16 (F := Ideal) z s bonus gate (ix2 a k) = (z (ix2 a k) + s (ix2 0 k) + bonus (ix3 0 a k)) * gate (ix3 0 a k) := by
  pointwise [k0_pay16]

theorem pay26_apply (u : FVec Ideal S256x512 .bf16) (w : FVec Ideal S512x1024 .bf16) (a : Fin 256) (i : Fin 1024) :
    k0_pay26 (F := Ideal) u w (ix2 a i) = ∑ k : Fin 512, u (ix2 a k) * w (ix2 k i) := by
  pointwise [k0_pay26]

theorem pay28_apply (u : FVec Ideal S1x256x512 .bf16) (w : FVec Ideal S512x1024 .bf16) (a : Fin 256) (i : Fin 1024) :
    k0_pay28 (F := Ideal) u w (ix2 a i) = ∑ k : Fin 512, u (ix3 0 a k) * w (ix2 k i) := by
  pointwise [k0_pay28]

theorem pay30_apply (p q : FVec Ideal S256x1024 .f32) (ga gb h : FVec Ideal S1x256x1024 .f32) (wo : FVec Ideal S1024x1024 .bf16)
    (a : Fin 256) (l : Fin 1024) :
    k0_pay30 (F := Ideal) p q ga gb h wo (ix3 0 a l)
      = h (ix3 0 a l) + ∑ i : Fin 1024, (Ideal.logistic (ga (ix3 0 a i)) * p (ix2 a i) + Ideal.logistic (gb (ix3 0 a i)) * q (ix2 a i)) * wo (ix2 i l) := by
  pointwise [k0_pay30]

/-- A row of half a block. -/
theorem half_apply (x y bonus gate att : FVec Ideal S1x256x512 .bf16) (g s : FVec Ideal S1x512 .f32) (ga gb h : FVec Ideal S1x256x1024 .f32)
    (wa wb : FVec Ideal S512x1024 .bf16) (wo : FVec Ideal S1024x1024 .bf16) (a : Fin 256) (l : Fin 1024)
    (hx : ∀ k, Fin' (x (ix3 0 a k))) (hy : ∀ k, Fin' (y (ix3 0 a k))) :
    half x y bonus gate att g s ga gb h wa wb wo (ix3 0 a l)
      = row (fun k => x (ix3 0 a k) + y (ix3 0 a k)) (fun k => g (ix2 0 k)) (fun k => s (ix2 0 k)) (fun k => bonus (ix3 0 a k))
          (fun k => gate (ix3 0 a k)) (fun k => att (ix3 0 a k)) (fun i => ga (ix3 0 a i)) (fun i => gb (ix3 0 a i)) (fun i => h (ix3 0 a i))
          (fun k i => wa (ix2 k i)) (fun k i => wb (ix2 k i)) (fun i l => wo (ix2 i l)) l := by
  have hz : ∀ k, Fin' (scans x y (ix2 a k)) := fun k => by rw [scans_apply]; exact (hx k).add (hy k)
  unfold half branch
  rw [pay30_apply]
  simp only [pay26_apply, pay28_apply, pay16_apply, scaled_apply _ g a hz, scans_apply]
  rfl

/-! ## The payloads -/

variable (a b bonus gate att : FVec Ideal S1x256x512 .bf16) (g s : FVec Ideal S1x512 .f32) (ga gb h : FVec Ideal S1x256x1024 .f32)
    (wa wb : FVec Ideal S512x1024 .bf16) (wo : FVec Ideal S1024x1024 .bf16)

theorem means_eq : k0_pay7 (F := Ideal) k0_pay2 k0_pay3 k0_pay4 k0_pay5 k0_pay6 = means := rfl

theorem scaled_first : k0_pay15 (F := Ideal) means (k0_pay8 a b) (k0_pay9 k0_pay2 k0_pay3 k0_pay4 k0_pay5 k0_pay6 a b)
      (k0_pay10 k0_pay2 k0_pay3 k0_pay4 k0_pay5 k0_pay6 a b) (k0_pay11 k0_pay2 k0_pay3 k0_pay4 k0_pay5 k0_pay6 a b) (k0_pay13 a b) (k0_pay14 a b) g
    = scaled (scans a b) g := rfl

theorem devs_last : k0_pay24 (F := Ideal) means (k0_pay17 a b) (k0_pay18 means a b) (k0_pay19 means a b) (k0_pay22 a b) (k0_pay23 means a b)
    = devs (scans a b) := rfl

theorem var_last : k0_pay25 (F := Ideal) means (k0_pay17 a b) (k0_pay18 means a b) (k0_pay19 means a b) (k0_pay22 a b) (k0_pay23 means a b)
    = addf (headMeans (mulf (devs (scans a b)) (devs (scans a b)))) (broadcast S256x512 (Scalar.ofBits (F := Ideal) .f32 0x3A27C5AC#32)) := rfl

theorem proj_last (d v : FVec Ideal S256x512 .f32) : k0_pay27 (F := Ideal) d v g s bonus gate wa
    = k0_pay26 (k0_pay16 (F := Ideal) (mulf (mulf d (rsqrt v)) (broadcastTo S256x512 g broadcasts_S1x512_S256x512)) s bonus gate) wa := rfl

theorem out_last (p q : FVec Ideal S256x1024 .f32) : k0_pay1 (F := Ideal) (k0_pay31 p q ga gb h wo) = k0_pay30 p q ga gb h wo := rfl

end Cert.PostIdeal.Rows

end
-- ==== Proof.PostBlock.lean ====
/-
  What a point of the branches' call stores: the two halves of its block.
-/
module

public import proofs.«01_k».proof.Proof.PostCore

@[expose] public section

set_option maxRecDepth 16384

noncomputable section

open Idealize.ShloMosaic Idealize.ShloMosaic.TcCoe

namespace Cert.PostIdeal.Rows

open Cert.PostIdeal Cert.PostIdeal.Gen Cert.AttnMath Cert.PostSpec
open Cert.KernelIdeal.Attn (means)

/-! ## The halves of the blocks -/

abbrev rlo : Rect S1x512x512 := Rect.unit (s := S1x512x512) ![0, 0, 0] S1x256x512.size inb_S1x512x512_S1x256x512_0_0_0
abbrev rhi : Rect S1x512x512 := Rect.unit (s := S1x512x512) ![0, 256, 0] S1x256x512.size inb_S1x512x512_S1x256x512_0_256_0
abbrev wlo : Rect S1x512x1024 := Rect.unit (s := S1x512x1024) ![0, 0, 0] S1x256x1024.size inb_S1x512x1024_S1x256x1024_0_0_0
abbrev whi : Rect S1x512x1024 := Rect.unit (s := S1x512x1024) ![0, 256, 0] S1x256x1024.size inb_S1x512x1024_S1x256x1024_0_256_0

/-- Both halves of a block. -/
def pieces (p q : FVec Ideal S1x256x1024 .f32) : Vec Ideal S1x512x1024 .f32 := View.canon [⟨whi, q⟩, ⟨wlo, p⟩]

/-- The first half of a point's result. -/
def lower (x0 x1 x2 x3 x4 : Vec Ideal S1x512x512 .bf16) (x5 x6 x7 : Vec Ideal S1x512x1024 .f32) (x8 x9 : Vec Ideal S1x512 .f32)
    (x10 x11 : Vec Ideal S512x1024 .bf16) (x12 : Vec Ideal S1024x1024 .bf16) : FVec Ideal S1x256x1024 .f32 :=
  half (View.ld x0 rlo) (View.ld x1 rlo) (View.ld x3 rlo) (View.ld x2 rlo) (View.ld x4 rlo) x8 x9 (View.ld x5 wlo) (View.ld x6 wlo) (View.ld x7 wlo) x10 x11 x12

/-- … and the second. -/
def upper (x0 x1 x2 x3 x4 : Vec Ideal S1x512x512 .bf16) (x5 x6 x7 : Vec Ideal S1x512x1024 .f32) (x8 x9 : Vec Ideal S1x512 .f32)
    (x10 x11 : Vec Ideal S512x1024 .bf16) (x12 : Vec Ideal S1024x1024 .bf16) : FVec Ideal S1x256x1024 .f32 :=
  half (View.ld x0 rhi) (View.ld x1 rhi) (View.ld x3 rhi) (View.ld x2 rhi) (View.ld x4 rhi) x8 x9 (View.ld x5 whi) (View.ld x6 whi) (View.ld x7 whi) x10 x11 x12

theorem load_eq {s : Shape} {e : EltTy} (a : Memref sig .tc .vmem s e) (h : a.IsWhole) (r : Rect s) (x : Vec Ideal s e) :
    View.readAt (Elt Ideal) a.view r.toLoadRect (h.unread x) = View.ld x r := by
  rw [View.readAt_eq_ld, Memref.IsWhole.read_unread]

theorem load_whole {s : Shape} {e : EltTy} (a : Memref sig .tc .vmem s e) (h : a.IsWhole) (off : Fin s.rank → ℕ)
    (inb : ∀ i, off i + s.size i ≤ s.size i) (h0 : off = fun _ => 0) (x : Vec Ideal s e) :
    View.readAt (Elt Ideal) a.view (Rect.unit off s.size inb).toLoadRect (h.unread x) = x := by
  rw [load_eq, View.ld_unit_zero h0]

/-- What a point leaves is its two halves. -/
theorem block_eq (m : (ℓ : Loc nD τ sig) → Buf (Elt Ideal) ℓ) (c : Dev nD) (t : Fin cfg0.N) :
    outsAt0 m c t = pieces
      (lower (iblk m c 0 t) (iblk m c 1 t) (iblk m c 2 t) (iblk m c 3 t) (iblk m c 4 t) (X0_5 m c t) (X0_6 m c t) (iblk m c 7 t) (iblk m c 8 t)
        (iblk m c 9 t) (iblk m c 10 t) (iblk m c 11 t) (iblk m c 12 t))
      (upper (iblk m c 0 t) (iblk m c 1 t) (iblk m c 2 t) (iblk m c 3 t) (iblk m c 4 t) (X0_5 m c t) (X0_6 m c t) (iblk m c 7 t) (iblk m c 8 t)
        (iblk m c 9 t) (iblk m c 10 t) (iblk m c 11 t) (iblk m c 12 t)) := by
  unfold outsAt0 out0_A_13 kernelRun0_A
  dsimp only
  rw [View.read_writes_junk_eq_canon]
  unfold kernelRun0_A.sl.r_19 kernelRun0_A.sl.r_18 kernelRun0_A.sl.r_17 kernelRun0_A.sl.r_16 kernelRun0_A.sl.r_15 kernelRun0_A.sl.r_14
  unfold kernelRun0_A.sl.r_13 kernelRun0_A.sl.r_12 kernelRun0_A.sl.r_11 kernelRun0_A.sl.r_10 kernelRun0_A.sl.r_9 kernelRun0_A.sl.r_8 kernelRun0_A.sl.r_7
  unfold kernelRun0_A.sl.r_6 kernelRun0_A.sl.r_5 kernelRun0_A.sl.r_4 kernelRun0_A.sl.r_3 kernelRun0_A.sl.r_2 kernelRun0_A.sl.r_1 kernelRun0_A.sl.r
  rw [means_eq, out_last]
  simp only [scaled_first, devs_last, var_last, proj_last]
  have w8 := load_whole (ms0_8 t) (hs0_8 t) ![0, 0] inb_S1x512_S1x512_0_0 (by decide) (iblk m c 8 t)
  have w9 := load_whole (ms0_9 t) (hs0_9 t) ![0, 0] inb_S1x512_S1x512_0_0 (by decide) (iblk m c 9 t)
  have w10 := load_whole (ms0_10 t) (hs0_10 t) ![0, 0] inb_S512x1024_S512x1024_0_0 (by decide) (iblk m c 10 t)
  have w11 := load_whole (ms0_11 t) (hs0_11 t) ![0, 0] inb_S512x1024_S512x1024_0_0 (by decide) (iblk m c 11 t)
  have w12 := load_whole (ms0_12 t) (hs0_12 t) ![0, 0] inb_S1024x1024_S1024x1024_0_0 (by decide) (iblk m c 12 t)
  simp only [w8, w9, w10, w11, w12]
  simp only [load_eq]
  rfl

theorem pieces_apply (p q : FVec Ideal S1x256x1024 .f32) (a : Fin 512) (l : Fin 1024) :
    pieces p q (ix3 0 a l) = if h : a.val < 256 then p (ix3 0 ⟨a.val, h⟩ l) else q (ix3 0 ⟨a.val - 256, by omega⟩ l) := by
  unfold pieces
  canon_tiles x h
  · idx_vars x
    obtain rfl : x0 = 0 := Subsingleton.elim _ _
    have e : a.val = 256 + x1.val := by simpa using h1
    obtain rfl : l = x2 := Fin.ext (by simpa using h2)
    rw [dif_neg (by omega)]
    exact congrArg (fun k => q (ix3 0 k l)) (Fin.ext (by simp only; omega))
  · idx_vars x
    obtain rfl : x0 = 0 := Subsingleton.elim _ _
    have e : a.val = x1.val := by simpa using h1
    obtain rfl : l = x2 := Fin.ext (by simpa using h2)
    rw [dif_pos (by omega)]
    exact congrArg (fun k => p (ix3 0 k l)) (Fin.ext (by simp only; omega))

/-! ## At an index -/

section

variable (x0 x1 x2 x3 x4 : Vec Ideal S1x512x512 .bf16) (x5 x6 x7 : Vec Ideal S1x512x1024 .f32) (x8 x9 : Vec Ideal S1x512 .f32)
    (x10 x11 : Vec Ideal S512x1024 .bf16) (x12 : Vec Ideal S1024x1024 .bf16)

theorem rlo_apply (x : Vec Ideal S1x512x512 .bf16) (a : Fin 256) (k : Fin 512) :
    View.ld x rlo (ix3 0 a k) = x (ix3 0 ⟨a.val, by omega⟩ k) := by
  pointwise

theorem rhi_apply (x : Vec Ideal S1x512x512 .bf16) (a : Fin 256) (k : Fin 512) :
    View.ld x rhi (ix3 0 a k) = x (ix3 0 ⟨256 + a.val, by omega⟩ k) := by
  pointwise

theorem wlo_apply (x : Vec Ideal S1x512x1024 .f32) (a : Fin 256) (k : Fin 1024) :
    View.ld x wlo (ix3 0 a k) = x (ix3 0 ⟨a.val, by omega⟩ k) := by
  pointwise

theorem whi_apply (x : Vec Ideal S1x512x1024 .f32) (a : Fin 256) (k : Fin 1024) :
    View.ld x whi (ix3 0 a k) = x (ix3 0 ⟨256 + a.val, by omega⟩ k) := by
  pointwise

/-- A row of half a block, of rows given apart. -/
theorem half_row (x y bonus gate att : FVec Ideal S1x256x512 .bf16) (g s : FVec Ideal S1x512 .f32) (ga gb h : FVec Ideal S1x256x1024 .f32)
    (wa wb : FVec Ideal S512x1024 .bf16) (wo : FVec Ideal S1024x1024 .bf16) (a : Fin 256) (l : Fin 1024)
    (X Y U V W : Fin 512 → EReal) (A B H : Fin 1024 → EReal)
    (ex : ∀ k, x (ix3 0 a k) = X k) (ey : ∀ k, y (ix3 0 a k) = Y k) (eu : ∀ k, bonus (ix3 0 a k) = U k) (ev : ∀ k, gate (ix3 0 a k) = V k)
    (ew : ∀ k, att (ix3 0 a k) = W k) (ea : ∀ i, ga (ix3 0 a i) = A i) (eb : ∀ i, gb (ix3 0 a i) = B i) (eh : ∀ i, h (ix3 0 a i) = H i)
    (hx : ∀ k, Fin' (X k)) (hy : ∀ k, Fin' (Y k)) :
    half x y bonus gate att g s ga gb h wa wb wo (ix3 0 a l)
      = row (fun k => X k + Y k) (fun k => g (ix2 0 k)) (fun k => s (ix2 0 k)) U V W A B H
          (fun k i => wa (ix2 k i)) (fun k i => wb (ix2 k i)) (fun i l => wo (ix2 i l)) l := by
  rw [half_apply _ _ _ _ _ _ _ _ _ _ _ _ _ a l (fun k => by rw [ex]; exact hx k) (fun k => by rw [ey]; exact hy k)]
  simp only [ex, ey, eu, ev, ew, ea, eb, eh]

/-- A row of the block that a point leaves. -/
theorem block_apply (a : Fin 512) (l : Fin 1024) (h0 : ∀ k, Fin' (x0 (ix3 0 a k))) (h1 : ∀ k, Fin' (x1 (ix3 0 a k))) :
    pieces (lower x0 x1 x2 x3 x4 x5 x6 x7 x8 x9 x10 x11 x12) (upper x0 x1 x2 x3 x4 x5 x6 x7 x8 x9 x10 x11 x12) (ix3 0 a l)
      = row (fun k => x0 (ix3 0 a k) + x1 (ix3 0 a k)) (fun k => x8 (ix2 0 k)) (fun k => x9 (ix2 0 k)) (fun k => x3 (ix3 0 a k))
          (fun k => x2 (ix3 0 a k)) (fun k => x4 (ix3 0 a k)) (fun i => x5 (ix3 0 a i)) (fun i => x6 (ix3 0 a i)) (fun i => x7 (ix3 0 a i))
          (fun k i => x10 (ix2 k i)) (fun k i => x11 (ix2 k i)) (fun i l => x12 (ix2 i l)) l := by
  rw [pieces_apply]
  by_cases ha : a.val < 256
  · rw [dif_pos ha]
    unfold lower
    exact half_row _ _ _ _ _ _ _ _ _ _ _ _ _ ⟨a.val, ha⟩ l _ _ _ _ _ _ _ _ (rlo_apply x0 _) (rlo_apply x1 _) (rlo_apply x3 _) (rlo_apply x2 _)
      (rlo_apply x4 _) (wlo_apply x5 _) (wlo_apply x6 _) (wlo_apply x7 _) h0 h1
  · have e : (⟨256 + (a.val - 256), by omega⟩ : Fin 512) = a := Fin.ext (by simp only; omega)
    have er : ∀ (x : Vec Ideal S1x512x512 .bf16) (k : Fin 512), View.ld x rhi (ix3 0 (⟨a.val - 256, by omega⟩ : Fin 256) k) = x (ix3 0 a k) :=
      fun x k => (rhi_apply x _ k).trans (congrArg (fun n => x (ix3 0 n k)) e)
    have ew : ∀ (x : Vec Ideal S1x512x1024 .f32) (k : Fin 1024), View.ld x whi (ix3 0 (⟨a.val - 256, by omega⟩ : Fin 256) k) = x (ix3 0 a k) :=
      fun x k => (whi_apply x _ k).trans (congrArg (fun n => x (ix3 0 n k)) e)
    rw [dif_neg ha]
    unfold upper
    exact half_row _ _ _ _ _ _ _ _ _ _ _ _ _ ⟨a.val - 256, by omega⟩ l _ _ _ _ _ _ _ _ (er x0) (er x1) (er x3) (er x2) (er x4) (ew x5) (ew x6) (ew x7) h0 h1

end

end Cert.PostIdeal.Rows

end
-- ==== Proof.PostValue.lean ====
/-
  The array that the branches' call leaves, at an index.
-/
module

public import proofs.«01_k».proof.Proof.PostBlock
public import Idealize.ShloMosaic.Lib.Claim
public import Idealize.ShloMosaic.Lib.StableHlo.ReadAt

@[expose] public section

set_option maxRecDepth 16384

noncomputable section

open Idealize.ShloMosaic Idealize.ShloMosaic.TcCoe

namespace Cert.PostIdeal.Rows

open Cert.PostIdeal Cert.PostIdeal.Gen Cert.AttnMath Cert.PostSpec

variable (m : (ℓ : Loc nD τ sig) → Buf (Elt Ideal) ℓ) (c : Dev nD)

/-! ## Reads of the call's blocks -/

theorem idx : ∀ t : Fin cfg0.N,
    win0_0.index t = ![t.val / 8, t.val % 8, 0] ∧ win0_1.index t = ![t.val / 8, t.val % 8, 0]
    ∧ win0_2.index t = ![t.val / 8, t.val % 8, 0] ∧ win0_3.index t = ![t.val / 8, t.val % 8, 0]
    ∧ win0_4.index t = ![t.val / 8, t.val % 8, 0] ∧ win0_5.index t = ![t.val / 8, t.val % 8 + 1, 0]
    ∧ win0_6.index t = ![t.val / 8, t.val % 8 + 1, 1] ∧ win0_7.index t = ![t.val / 8, t.val % 8, 0]
    ∧ win0_8.index t = ![0, 0] ∧ win0_9.index t = ![0, 0] ∧ win0_10.index t = ![0, 0] ∧ win0_11.index t = ![0, 0]
    ∧ win0_12.index t = ![0, 0] ∧ win0_13.index t = ![t.val / 8, t.val % 8, 0] := by decide +kernel

variable (t : Fin cfg0.N)

theorem t_lt : t.val < 32 := t.isLt

/-- The batch of a point, and the rows of its blocks. -/
def bt : Fin 4 := ⟨t.val / 8, by have := t_lt t; omega⟩
def tok (a : Fin 512) : Fin 4096 := ⟨512 * (t.val % 8) + a.val, by omega⟩

theorem read0 (a k : Fin 512) : iblk m c 0 t (ix3 0 a k) = m ((c.tc : Thread nD τ).loc main_arg0) (ix3 (bt t) (tok t a) k) := by
  rw [← V_main_arg0 m c]
  blk_ext [iblk, idx t, bt, tok]

theorem read1 (a k : Fin 512) : iblk m c 1 t (ix3 0 a k) = m ((c.tc : Thread nD τ).loc main_arg1) (ix3 (bt t) (tok t a) k) := by
  rw [← V_main_arg1 m c]
  blk_ext [iblk, idx t, bt, tok]

theorem read2 (a k : Fin 512) : iblk m c 2 t (ix3 0 a k) = m ((c.tc : Thread nD τ).loc main_arg2) (ix3 (bt t) (tok t a) k) := by
  rw [← V_main_arg2 m c]
  blk_ext [iblk, idx t, bt, tok]

theorem read3 (a k : Fin 512) : iblk m c 3 t (ix3 0 a k) = m ((c.tc : Thread nD τ).loc main_arg3) (ix3 (bt t) (tok t a) k) := by
  rw [← V_main_arg3 m c]
  blk_ext [iblk, idx t, bt, tok]

theorem read4 (a k : Fin 512) : iblk m c 4 t (ix3 0 a k) = m ((c.tc : Thread nD τ).loc main_arg4) (ix3 (bt t) (tok t a) k) := by
  rw [← V_main_arg4 m c]
  blk_ext [iblk, idx t, bt, tok]

theorem read5 (a : Fin 512) (i : Fin 1024) : X0_5 m c t (ix3 0 a i)
    = m ((c.tc : Thread nD τ).loc main_arg5) (ix3 (bt t) ⟨512 + (tok t a).val, by omega⟩ ⟨i.val, by omega⟩) := by
  rw [← V_main_arg5 m c]
  unfold X0_5 Pipeline.Window.fill
  rw [dif_pos (moved0_5 t _)]
  blk_ext [iblk, idx t, bt, tok]

theorem read6 (a : Fin 512) (i : Fin 1024) : X0_6 m c t (ix3 0 a i)
    = m ((c.tc : Thread nD τ).loc main_arg5) (ix3 (bt t) ⟨512 + (tok t a).val, by omega⟩ ⟨1024 + i.val, by omega⟩) := by
  rw [← V_main_arg5 m c]
  unfold X0_6 Pipeline.Window.fill
  rw [dif_pos (moved0_6 t _)]
  blk_ext [iblk, idx t, bt, tok]

theorem read7 (a : Fin 512) (i : Fin 1024) : iblk m c 7 t (ix3 0 a i) = m ((c.tc : Thread nD τ).loc main_arg6) (ix3 (bt t) (tok t a) i) := by
  rw [← V_main_arg6 m c]
  blk_ext [iblk, idx t, bt, tok]

theorem read8 (k : Fin 512) : iblk m c 8 t (ix2 0 k) = m ((c.tc : Thread nD τ).loc main_arg7) (ix2 0 k) := by
  rw [← V_main_arg7 m c]
  blk_ext [iblk, idx t, bt, tok]

theorem read9 (k : Fin 512) : iblk m c 9 t (ix2 0 k) = m ((c.tc : Thread nD τ).loc main_arg8) (ix2 0 k) := by
  rw [← V_main_arg8 m c]
  blk_ext [iblk, idx t, bt, tok]

theorem read10 (k : Fin 512) (i : Fin 1024) : iblk m c 10 t (ix2 k i) = m ((c.tc : Thread nD τ).loc main_arg9) (ix2 k i) := by
  rw [← V_main_arg9 m c]
  blk_ext [iblk, idx t, bt, tok]

theorem read11 (k : Fin 512) (i : Fin 1024) : iblk m c 11 t (ix2 k i) = m ((c.tc : Thread nD τ).loc main_arg10) (ix2 k i) := by
  rw [← V_main_arg10 m c]
  blk_ext [iblk, idx t, bt, tok]

theorem read12 (i l : Fin 1024) : iblk m c 12 t (ix2 i l) = m ((c.tc : Thread nD τ).loc main_arg11) (ix2 i l) := by
  rw [← V_main_arg11 m c]
  blk_ext [iblk, idx t, bt, tok]

/-- The result after the call, as one function of the arguments, when the two scans are finite. -/
theorem final
    (h0 : ∀ (b : Fin 4) (r : Fin 4096) (k : Fin 512), Fin' (m ((c.tc : Thread nD τ).loc main_arg0) (ix3 b r k)))
    (h1 : ∀ (b : Fin 4) (r : Fin 4096) (k : Fin 512), Fin' (m ((c.tc : Thread nD τ).loc main_arg1) (ix3 b r k))) :
    (dats m 0 c).arrAt 13 cfg0.N = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11)) := by
  refine (dats m 0 c).arrAt_eq_of_covers 13 _ (by decide +kernel) fun t hf y => ?_
  blk_simp
  rw [after0_13]
  idx_vars y
  obtain rfl : y0 = 0 := Subsingleton.elim _ _
  have e : (win0_13.blk t).view.emb (ix3 (0 : Fin 1) y1 y2) = ix3 (bt t) (tok t y1) y2 := by
    blk_ext [iblk, V, idx t, bt, tok]
  refine Eq.trans ?_ (congrArg (out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11))) e).symm
  rw [block_eq, block_apply _ _ _ _ _ _ _ _ _ _ _ _ _ y1 y2 (fun k => by rw [read0 m c t]; exact h0 _ _ _) (fun k => by rw [read1 m c t]; exact h1 _ _ _)]
  simp only [read0 m c t, read1 m c t, read2 m c t, read3 m c t, read4 m c t, read5 m c t, read6 m c t, read7 m c t, read8 m c t, read9 m c t,
    read10 m c t, read11 m c t, read12 m c t]
  rfl

end Cert.PostIdeal.Rows

end
-- ==== Proof.PostRef.lean ====
/-
  The plain branches' block at an index.
-/
module

public import proofs.«01_k».proof.Proof.PostSpec
public import proofs.«01_k».proof.Proof.Gen.PostReferenceIdeal.Run

@[expose] public section

set_option maxRecDepth 16384

noncomputable section

open Idealize.ShloMosaic Idealize.ShloMosaic.TcCoe

namespace Cert.PostReferenceIdeal.Rows

open Cert.PostReferenceIdeal Cert.PostReferenceIdeal.Gen Cert.PostReferenceIdeal.Value Cert.AttnMath Cert.PostSpec

/-- The two scans' sum, by head. -/
def scans (x y : FVec Ideal S4x4096x512 .bf16) : FVec Ideal S4x4096x8x64 .f32 :=
  shapeCast _ (addf (extf .f32 x bitsLt_bf16_f32) (extf .f32 y bitsLt_bf16_f32)) shapeCasts_S4x4096x512_S4x4096x8x64

/-- Each head's mean. -/
def means (y : FVec Ideal S4x4096x8x64 .f32) : FVec Ideal S4x4096x8x1 .f32 :=
  Host.divf (broadcastInDim S4x4096x8x1 ![0, 1, 2] bcast_S4x4096x8_S4x4096x8x1_0_1_2 (Host.reduceAdd y (constant S_ .f32 0x00000000#32) reducesTo_S4x4096x8x64_S4x4096x8_d3 h_S_))
    (broadcastInDim S4x4096x8x1 ![] bcast_S_S4x4096x8x1 (constant S_ .f32 0x42800000#32))

def devs (y : FVec Ideal S4x4096x8x64 .f32) : FVec Ideal S4x4096x8x64 .f32 :=
  subf y (broadcastInDim S4x4096x8x64 ![0, 1, 2, 3] bcast_S4x4096x8x1_S4x4096x8x64_0_1_2_3 (means y))

/-- A row of gains, by head. -/
def byHead (g : FVec Ideal S1x512 .f32) : FVec Ideal S4x4096x8x64 .f32 :=
  broadcastInDim S4x4096x8x64 ![0, 1, 2, 3] bcast_S1x1x8x64_S4x4096x8x64_0_1_2_3 (broadcastInDim S1x1x8x64 ![2, 3] bcast_S8x64_S1x1x8x64_2_3 (shapeCast _ g shapeCasts_S1x512_S8x64))

/-- The deviations over the standard deviation, times the gain and plus the shift. -/
def normed (y : FVec Ideal S4x4096x8x64 .f32) (g s : FVec Ideal S1x512 .f32) : FVec Ideal S4x4096x8x64 .f32 :=
  addf (mulf (mulf (devs y) (broadcastInDim S4x4096x8x64 ![0, 1, 2, 3] bcast_S4x4096x8x1_S4x4096x8x64_0_1_2_3 (Host.rsqrt (addf (means (mulf (devs y) (devs y))) (broadcastInDim S4x4096x8x1 ![] bcast_S_S4x4096x8x1 (constant S_ .f32 0x3A27C5AC#32)))))) (byHead g)) (byHead s)

/-- The scan's branch before its projection. -/
def branch (z : FVec Ideal S4x4096x8x64 .f32) (bonus gate : FVec Ideal S4x4096x512 .bf16) : FVec Ideal S4x4096x512 .f32 :=
  mulf (shapeCast _ (addf z (shapeCast _ (extf .f32 bonus bitsLt_bf16_f32) shapeCasts_S4x4096x512_S4x4096x8x64)) shapeCasts_S4x4096x8x64_S4x4096x512) (extf .f32 gate bitsLt_bf16_f32)

def project (u : FVec Ideal S4x4096x512 .f32) (w : FVec Ideal S512x1024 .bf16) : FVec Ideal S4x4096x1024 .f32 :=
  Host.dotGeneral dot_S4x4096x512_S512x1024_S4x4096x1024_2_0_01_1_n_n none u (extf .f32 w bitsLt_bf16_f32)

/-- The logistic function. -/
def sigmoid (x : FVec Ideal S4x4096x1024 .f32) : FVec Ideal S4x4096x1024 .f32 :=
  Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf x)))

def gateA (x : FVec Ideal S4x4608x4864 .f32) : FVec Ideal S4x4096x1024 .f32 := extractStridedSlice S4x4096x1024 ![0, 512, 0] x slices_S4x4608x4864_S4x4096x1024_0_512_0
def gateB (x : FVec Ideal S4x4608x4864 .f32) : FVec Ideal S4x4096x1024 .f32 := extractStridedSlice S4x4096x1024 ![0, 512, 1024] x slices_S4x4608x4864_S4x4096x1024_0_512_1024

def total (h z : FVec Ideal S4x4096x1024 .f32) (w : FVec Ideal S1024x1024 .bf16) : FVec Ideal S4x4096x1024 .f32 :=
  addf h (Host.dotGeneral dot_S4x4096x1024_S1024x1024_S4x4096x1024_2_0_01_1_n_n none z (extf .f32 w bitsLt_bf16_f32))

variable (b : Fin 4) (r : Fin 4096)

theorem scans_apply (x y : FVec Ideal S4x4096x512 .bf16) (h : Fin 8) (n : Fin 64) :
    scans x y (ix4 b r h n) = x (ix3 b r ⟨h.val * 64 + n.val, by omega⟩) + y (ix3 b r ⟨h.val * 64 + n.val, by omega⟩) := by
  pointwise [scans]

theorem means_apply (y : FVec Ideal S4x4096x8x64 .f32) (h : Fin 8) :
    means y (ix4 b r h 0) = Ideal.div (∑ j : Fin 64, y (ix4 b r h j)) (Ideal.ofBits .f32 0x42800000#32) := by
  pointwise [means]

theorem devs_apply (y : FVec Ideal S4x4096x8x64 .f32) (h : Fin 8) (n : Fin 64) :
    devs y (ix4 b r h n) = y (ix4 b r h n) - means y (ix4 b r h 0) := by
  pointwise [devs]

theorem byHead_apply (g : FVec Ideal S1x512 .f32) (h : Fin 8) (n : Fin 64) :
    byHead g (ix4 b r h n) = g (ix2 0 ⟨h.val * 64 + n.val, by omega⟩) := by
  pointwise [byHead]

theorem normed_apply (y : FVec Ideal S4x4096x8x64 .f32) (g s : FVec Ideal S1x512 .f32) (h : Fin 8) (n : Fin 64) :
    normed y g s (ix4 b r h n) = devs y (ix4 b r h n) * Ideal.rsqrt (means (mulf (devs y) (devs y)) (ix4 b r h 0) + Ideal.ofBits .f32 0x3A27C5AC#32)
      * g (ix2 0 ⟨h.val * 64 + n.val, by omega⟩) + s (ix2 0 ⟨h.val * 64 + n.val, by omega⟩) := by
  pointwise [normed, byHead_apply]

theorem branch_apply (z : FVec Ideal S4x4096x8x64 .f32) (bonus gate : FVec Ideal S4x4096x512 .bf16) (k : Fin 512) :
    branch z bonus gate (ix3 b r k) = (z (ix4 b r (⟨k.val / 64, by omega⟩ : Fin 8) (⟨k.val % 64, by omega⟩ : Fin 64)) + bonus (ix3 b r k)) * gate (ix3 b r k) := by
  pointwise [branch]

theorem project_apply (u : FVec Ideal S4x4096x512 .f32) (w : FVec Ideal S512x1024 .bf16) (i : Fin 1024) :
    project u w (ix3 b r i) = ∑ k : Fin 512, u (ix3 b r k) * w (ix2 k i) := by
  pointwise [project]

theorem sigmoid_apply (x : FVec Ideal S4x4096x1024 .f32) (i : Fin 1024) : sigmoid x (ix3 b r i) = Ideal.logistic (x (ix3 b r i)) := by
  pointwise [sigmoid]
  rfl

theorem gateA_apply (x : FVec Ideal S4x4608x4864 .f32) (i : Fin 1024) :
    gateA x (ix3 b r i) = x (ix3 b ⟨512 + r.val, by omega⟩ ⟨i.val, by omega⟩) := by
  pointwise [gateA]

theorem gateB_apply (x : FVec Ideal S4x4608x4864 .f32) (i : Fin 1024) :
    gateB x (ix3 b r i) = x (ix3 b ⟨512 + r.val, by omega⟩ ⟨1024 + i.val, by omega⟩) := by
  pointwise [gateB]

theorem total_apply (h z : FVec Ideal S4x4096x1024 .f32) (w : FVec Ideal S1024x1024 .bf16) (l : Fin 1024) :
    total h z w (ix3 b r l) = h (ix3 b r l) + ∑ i : Fin 1024, z (ix3 b r i) * w (ix2 i l) := by
  pointwise [total]

/-- A head's mean and deviations, by lane. -/
theorem mean_eq (y : Fin 512 → EReal) (Y : FVec Ideal S4x4096x8x64 .f32)
    (hY : ∀ (h : Fin 8) (n : Fin 64), Y (ix4 b r h n) = y ⟨h.val * 64 + n.val, by omega⟩) (h : Fin 8) (k : Fin 512) (hk : k.val / 64 = h.val) :
    means Y (ix4 b r h 0) = mean y k := by
  rw [means_apply]
  unfold mean
  refine congrArg (fun z => Ideal.div z _) (Finset.sum_congr rfl fun j _ => ?_)
  rw [hY]
  exact congrArg y (Fin.ext (by show h.val * 64 + j.val = 64 * (k.val / 64) + j.val; rw [hk, mul_comm]))

theorem dev_eq (y : Fin 512 → EReal) (Y : FVec Ideal S4x4096x8x64 .f32)
    (hY : ∀ (h : Fin 8) (n : Fin 64), Y (ix4 b r h n) = y ⟨h.val * 64 + n.val, by omega⟩) (h : Fin 8) (n : Fin 64) :
    devs Y (ix4 b r h n) = dev y ⟨h.val * 64 + n.val, by omega⟩ := by
  rw [devs_apply, hY, mean_eq b r y Y hY h ⟨h.val * 64 + n.val, by omega⟩ (by show (h.val * 64 + n.val) / 64 = h.val; omega)]
  rfl

theorem gated_apply (y : Fin 512 → EReal) (Y : FVec Ideal S4x4096x8x64 .f32)
    (hY : ∀ (h : Fin 8) (n : Fin 64), Y (ix4 b r h n) = y ⟨h.val * 64 + n.val, by omega⟩) (g s : FVec Ideal S1x512 .f32)
    (bonus gate : FVec Ideal S4x4096x512 .bf16) (k : Fin 512) :
    branch (normed Y g s) bonus gate (ix3 b r k)
      = gated y (fun k => g (ix2 0 k)) (fun k => s (ix2 0 k)) (fun k => bonus (ix3 b r k)) (fun k => gate (ix3 b r k)) k := by
  have e : (⟨k.val / 64 * 64 + k.val % 64, by omega⟩ : Fin 512) = k := Fin.ext (by simp only; omega)
  have em : means (mulf (devs Y) (devs Y)) (ix4 b r (⟨k.val / 64, by omega⟩ : Fin 8) 0) = mean (fun j => dev y j * dev y j) k :=
    mean_eq b r _ _ (fun h n => by show devs Y (ix4 b r h n) * devs Y (ix4 b r h n) = _; rw [dev_eq b r y Y hY]) _ k rfl
  rw [branch_apply, normed_apply, dev_eq b r y Y hY, em]
  simp only [e]
  rfl

/-- The plain result. -/
theorem value (m : (ℓ : Loc nD τ sig) → Buf (Elt Ideal) ℓ) (c : Dev nD) :
    res_out0 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11)) := by
  have e : res_out0 m c = total (m ((c.tc : Thread nD τ).loc main_arg6))
      (addf (mulf (sigmoid (gateA (m ((c.tc : Thread nD τ).loc main_arg5))))
          (project (branch (normed (scans (m ((c.tc : Thread nD τ).loc main_arg0)) (m ((c.tc : Thread nD τ).loc main_arg1)))
            (m ((c.tc : Thread nD τ).loc main_arg7)) (m ((c.tc : Thread nD τ).loc main_arg8))) (m ((c.tc : Thread nD τ).loc main_arg3))
            (m ((c.tc : Thread nD τ).loc main_arg2))) (m ((c.tc : Thread nD τ).loc main_arg9))))
        (mulf (sigmoid (gateB (m ((c.tc : Thread nD τ).loc main_arg5))))
          (project (extf .f32 (m ((c.tc : Thread nD τ).loc main_arg4) : FVec Ideal S4x4096x512 .bf16) bitsLt_bf16_f32) (m ((c.tc : Thread nD τ).loc main_arg10)))))
      (m ((c.tc : Thread nD τ).loc main_arg11)) := rfl
  rw [e]
  funext j
  idx_vars j
  rw [total_apply]
  unfold out row
  refine congrArg₂ (fun u v : EReal => u + v) rfl (Finset.sum_congr rfl fun i _ => congrArg₂ (fun u v : EReal => u * v) ?_ rfl)
  show sigmoid _ (ix3 j0 j1 i) * project _ _ (ix3 j0 j1 i) + sigmoid _ (ix3 j0 j1 i) * project _ _ (ix3 j0 j1 i) = _
  rw [sigmoid_apply, sigmoid_apply, project_apply, project_apply, gateA_apply, gateB_apply]
  unfold merged
  refine congrArg₂ (fun u v : EReal => u + v) (congrArg₂ (fun u v : EReal => u * v) rfl (Finset.sum_congr rfl fun k _ => congrArg₂ (fun u v : EReal => u * v) ?_ rfl)) rfl
  exact gated_apply j0 j1 _ _ (fun h n => scans_apply j0 j1 _ _ h n) _ _ _ _ k

end Cert.PostReferenceIdeal.Rows

end
-- ==== Proof.PostClaims.lean ====
/-
  The claims of the branches' call: the reference's frame and the equality of the result.
-/
module

public import proofs.«01_k».proof.Proof.AttnPre
public import proofs.«01_k».proof.Proof.PostValue
public import proofs.«01_k».proof.Proof.PostRef
public import proofs.«01_k».proof.Proof.Gen.Pre_finite_scans
public import proofs.«01_k».proof.Proof.Gen.PostIdeal.Value
public import Idealize.ShloMosaic.Lib.Quiescent

@[expose] public section

set_option maxRecDepth 16384

noncomputable section

open Idealize.ShloMosaic Idealize.ShloMosaic.TcCoe

namespace Cert.Proof.PostClaims

theorem frame_reference : Cert.quiescent_PostReferenceIdeal := fun m ρ _ =>
  (θ_run Cert.PostReferenceIdeal.defs _ _).mono (fun r h => ⟨fun c => (h c).2, sem_eq_zero_of_no_sems (by decide) r.2⟩)
    (Cert.PostReferenceIdeal.Value.run (F := Ideal) m ρ)

theorem frame_reference_finite_scans : Cert.quiescent_PostReferenceIdeal_pre_finite_scans := fun m ρ _ => frame_reference m ρ trivial

theorem preserves : Cert.preserves_Post_PostIdeal := trivial

/-- The precondition, read at every index: the first scan … -/
theorem finite0 (m : (ℓ : Loc Cert.PostIdeal.nD Cert.PostIdeal.τ Cert.PostIdeal.sig) → Buf (Elt Ideal) ℓ)
    (hp : Cert.Pre_PostIdeal_finite_scans (hPre_finite_scans := Cert.Pre_finite_scans.Gen.facts) m) (c : Dev Cert.PostIdeal.nD)
    (b : Fin 4) (r : Fin 4096) (k : Fin 512) :
    Cert.AttnMath.Fin' (m ((c.tc : Thread _ _).loc Cert.PostIdeal.main_arg0) (ix3 b r k)) := by
  refine Cert.AttnMath.fin_of_abs ?_
  refine Eq.trans ?_ (congrFun (hp c).1 (ix3 b r k))
  pointwise [Cert.Pre_finite_scans.fn]

/-- … and the second. -/
theorem finite1 (m : (ℓ : Loc Cert.PostIdeal.nD Cert.PostIdeal.τ Cert.PostIdeal.sig) → Buf (Elt Ideal) ℓ)
    (hp : Cert.Pre_PostIdeal_finite_scans (hPre_finite_scans := Cert.Pre_finite_scans.Gen.facts) m) (c : Dev Cert.PostIdeal.nD)
    (b : Fin 4) (r : Fin 4096) (k : Fin 512) :
    Cert.AttnMath.Fin' (m ((c.tc : Thread _ _).loc Cert.PostIdeal.main_arg1) (ix3 b r k)) := by
  refine Cert.AttnMath.fin_of_abs ?_
  refine Eq.trans ?_ (congrFun (hp c).2 (ix3 b r k))
  pointwise [Cert.Pre_finite_scans.fn]

/-- Both programs end at `Cert.PostSpec.out` of the arguments. -/
theorem algebraic : Cert.algebraic_PostIdeal_PostReferenceIdeal_pre_finite_scans := by
  intro m ρ m' ρ' hp hagree
  refine ⟨fun c => (Cert.PostIdeal.Gen.dats m 0 c).arrAt 13 Cert.PostIdeal.cfg0.N, Cert.PostIdeal.Value.run_blocks m ρ, ?_⟩
  refine (θ_run Cert.PostReferenceIdeal.defs _ _).mono (fun r h c => ⟨(h c).1.trans ?_, (h c).2⟩)
    (Cert.PostReferenceIdeal.Value.run (F := Ideal) m' ρ')
  refine Eq.trans ?_ (Cert.PostIdeal.Rows.final m c (finite0 m hp c) (finite1 m hp c)).symm
  refine (Cert.PostReferenceIdeal.Rows.value m' c).trans ?_
  obtain ⟨h0, h1, h2, h3, h4, h5, h6, h7, h8, h9, h10, h11⟩ := hagree c
  simp only [← h0, ← h1, ← h2, ← h3, ← h4, ← h5, ← h6, ← h7, ← h8, ← h9, ← h10, ← h11]

end Cert.Proof.PostClaims

end
-- ==== Proof.lean ====
module

public import proofs.«01_k».proof.Defs
public import proofs.«01_k».proof.Proof.Gen.Pre_laid_out
public import proofs.«01_k».proof.Proof.Gen.Kernel.Frame
public import proofs.«01_k».proof.Proof.Gen.Kernel.Skeleton
public import proofs.«01_k».proof.Proof.Gen.KernelIdeal.Frame
public import proofs.«01_k».proof.Proof.Gen.KernelIdeal.Skeleton
public import proofs.«01_k».proof.Proof.Gen.ReferenceIdeal.Run
public import proofs.«01_k».proof.Proof.Gen.Ffn.Frame
public import proofs.«01_k».proof.Proof.Gen.FfnIdeal.Value
public import proofs.«01_k».proof.Proof.Gen.FfnReferenceIdeal.Run
public import proofs.«01_k».proof.Proof.Gen.InProj.Frame
public import proofs.«01_k».proof.Proof.Gen.InProjIdeal.Value
public import proofs.«01_k».proof.Proof.Gen.InProjReferenceIdeal.Run
public import proofs.«01_k».proof.Proof.Gen.Pre_finite_keys
public import proofs.«01_k».proof.Proof.Gen.Pre_finite_scans
public import proofs.«01_k».proof.Proof.Gen.KvPrep.Frame
public import proofs.«01_k».proof.Proof.Gen.KvPrepIdeal.Value
public import proofs.«01_k».proof.Proof.Gen.KvReferenceIdeal.Run
public import proofs.«01_k».proof.Proof.Gen.Post.Frame
public import proofs.«01_k».proof.Proof.Gen.PostIdeal.Value
public import proofs.«01_k».proof.Proof.Gen.PostReferenceIdeal.Run
public import proofs.«01_k».proof.Proof.MixBits.Frame
public import proofs.«01_k».proof.Proof.AttnClaims
public import proofs.«01_k».proof.Proof.SideClaims
public import proofs.«01_k».proof.Proof.KvClaims
public import proofs.«01_k».proof.Proof.PostClaims

@[expose] public section

noncomputable section

open Idealize.ShloMosaic

namespace Cert.Proof

/-- Every claim of the certificate. -/
theorem claim : Cert.Claim :=
  ⟨Cert.Kernel.Gen.facts, Cert.KernelIdeal.Gen.facts, Cert.ReferenceIdeal.Gen.facts, Cert.Ffn.Gen.facts, Cert.FfnIdeal.Gen.facts,
    Cert.FfnReferenceIdeal.Gen.facts, Cert.InProj.Gen.facts, Cert.InProjIdeal.Gen.facts, Cert.InProjReferenceIdeal.Gen.facts,
    Cert.KvPrep.Gen.facts, Cert.KvPrepIdeal.Gen.facts, Cert.KvReferenceIdeal.Gen.facts, Cert.Post.Gen.facts, Cert.PostIdeal.Gen.facts,
    Cert.PostReferenceIdeal.Gen.facts,
    Cert.Pre_laid_out.Gen.facts, Cert.Pre_finite_keys.Gen.facts, Cert.Pre_finite_scans.Gen.facts,
    fun m ρ _ => Cert.Kernel.Mix.frame m ρ,
    fun m ρ _ => Cert.KernelIdeal.Mix.frame m ρ,
    fun m ρ _ => Cert.KernelIdeal.Mix.frame m ρ,
    AttnClaims.frame_reference,
    AttnClaims.frame_reference_laid_out,
    fun m ρ _ => Cert.Ffn.Gen.frame m ρ,
    fun m ρ _ => Cert.FfnIdeal.Gen.frame m ρ,
    FfnClaims.frame_reference,
    fun m ρ _ => Cert.InProj.Gen.frame m ρ,
    fun m ρ _ => Cert.InProjIdeal.Gen.frame m ρ,
    InProjClaims.frame_reference,
    fun m ρ _ => Cert.KvPrep.Gen.frame m ρ,
    fun m ρ _ => Cert.KvPrepIdeal.Gen.frame m ρ,
    fun m ρ _ => Cert.KvPrepIdeal.Gen.frame m ρ,
    KvClaims.frame_reference,
    KvClaims.frame_reference_finite_keys,
    fun m ρ _ => Cert.Post.Gen.frame m ρ,
    fun m ρ _ => Cert.PostIdeal.Gen.frame m ρ,
    fun m ρ _ => Cert.PostIdeal.Gen.frame m ρ,
    PostClaims.frame_reference,
    PostClaims.frame_reference_finite_scans,
    AttnClaims.preserves,
    AttnClaims.algebraic,
    FfnClaims.preserves,
    FfnClaims.algebraic,
    InProjClaims.preserves,
    InProjClaims.algebraic,
    KvClaims.preserves,
    KvClaims.algebraic,
    PostClaims.preserves,
    PostClaims.algebraic⟩

end Cert.Proof

end
